-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_Hidden (m : (ℓ : Loc Cert.Hidden.nD Cert.Hidden.τ Cert.Hidden.sig) → Buf (Elt Bits) ℓ) : Prop :=
  True

def Pre_HiddenIdeal (m : (ℓ : Loc Cert.HiddenIdeal.nD Cert.HiddenIdeal.τ Cert.HiddenIdeal.sig) → Buf (Elt Ideal) ℓ) : Prop :=
  True

def Pre_HiddenReferenceIdeal (m : (ℓ : Loc Cert.HiddenReferenceIdeal.nD Cert.HiddenReferenceIdeal.τ Cert.HiddenReferenceIdeal.sig) → Buf (Elt Ideal) ℓ) : Prop :=
  True

def Pre_Final (m : (ℓ : Loc Cert.Final.nD Cert.Final.τ Cert.Final.sig) → Buf (Elt Bits) ℓ) : Prop :=
  True

def Pre_FinalIdeal (m : (ℓ : Loc Cert.FinalIdeal.nD Cert.FinalIdeal.τ Cert.FinalIdeal.sig) → Buf (Elt Ideal) ℓ) : Prop :=
  True

def Pre_FinalReferenceIdeal (m : (ℓ : Loc Cert.FinalReferenceIdeal.nD Cert.FinalReferenceIdeal.τ Cert.FinalReferenceIdeal.sig) → Buf (Elt Ideal) ℓ) : Prop :=
  True

def Pre_Experts (m : (ℓ : Loc Cert.Experts.nD Cert.Experts.τ Cert.Experts.sig) → Buf (Elt Bits) ℓ) : Prop :=
  True

def Pre_ExpertsIdeal (m : (ℓ : Loc Cert.ExpertsIdeal.nD Cert.ExpertsIdeal.τ Cert.ExpertsIdeal.sig) → Buf (Elt Ideal) ℓ) : Prop :=
  True

def Pre_ExpertsReferenceIdeal (m : (ℓ : Loc Cert.ExpertsReferenceIdeal.nD Cert.ExpertsReferenceIdeal.τ Cert.ExpertsReferenceIdeal.sig) → Buf (Elt Ideal) ℓ) : Prop :=
  True

def Pre_Select (m : (ℓ : Loc Cert.Select.nD Cert.Select.τ Cert.Select.sig) → Buf (Elt Bits) ℓ) : Prop :=
  True

def Pre_SelectIdeal (m : (ℓ : Loc Cert.SelectIdeal.nD Cert.SelectIdeal.τ Cert.SelectIdeal.sig) → Buf (Elt Ideal) ℓ) : Prop :=
  True

def Pre_SelectIdeal_finite3 [hPre_finite3 : Cert.Pre_finite3.Facts] (m : (ℓ : Loc Cert.SelectIdeal.nD Cert.SelectIdeal.τ Cert.SelectIdeal.sig) → Buf (Elt Ideal) ℓ) : Prop :=
  ∀ c : Dev Cert.SelectIdeal.nD,
    (Cert.Pre_finite3.fn (F := Ideal) (m ((c.tc : Thread Cert.SelectIdeal.nD Cert.SelectIdeal.τ).loc Cert.SelectIdeal.main_arg0)) (m ((c.tc : Thread Cert.SelectIdeal.nD Cert.SelectIdeal.τ).loc Cert.SelectIdeal.main_arg1)) (m ((c.tc : Thread Cert.SelectIdeal.nD Cert.SelectIdeal.τ).loc Cert.SelectIdeal.main_arg2))) = (fun _ => 1#1)

def Pre_SelectReferenceIdeal (m : (ℓ : Loc Cert.SelectReferenceIdeal.nD Cert.SelectReferenceIdeal.τ Cert.SelectReferenceIdeal.sig) → Buf (Elt Ideal) ℓ) : Prop :=
  True

def Pre_SelectReferenceIdeal_finite3 [hPre_finite3 : Cert.Pre_finite3.Facts] (m : (ℓ : Loc Cert.SelectReferenceIdeal.nD Cert.SelectReferenceIdeal.τ Cert.SelectReferenceIdeal.sig) → Buf (Elt Ideal) ℓ) : Prop :=
  ∀ c : Dev Cert.SelectReferenceIdeal.nD,
    (Cert.Pre_finite3.fn (F := Ideal) (m ((c.tc : Thread Cert.SelectReferenceIdeal.nD Cert.SelectReferenceIdeal.τ).loc Cert.SelectReferenceIdeal.main_arg0)) (m ((c.tc : Thread Cert.SelectReferenceIdeal.nD Cert.SelectReferenceIdeal.τ).loc Cert.SelectReferenceIdeal.main_arg1)) (m ((c.tc : Thread Cert.SelectReferenceIdeal.nD Cert.SelectReferenceIdeal.τ).loc Cert.SelectReferenceIdeal.main_arg2))) = (fun _ => 1#1)

def Pre_Route (m : (ℓ : Loc Cert.Route.nD Cert.Route.τ Cert.Route.sig) → Buf (Elt Bits) ℓ) : Prop :=
  True

def Pre_RouteIdeal (m : (ℓ : Loc Cert.RouteIdeal.nD Cert.RouteIdeal.τ Cert.RouteIdeal.sig) → Buf (Elt Ideal) ℓ) : Prop :=
  True

def Pre_RouteReferenceIdeal (m : (ℓ : Loc Cert.RouteReferenceIdeal.nD Cert.RouteReferenceIdeal.τ Cert.RouteReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Hidden [hHidden : Cert.Hidden.Facts] : Prop :=
  ∀ (m : (ℓ : Loc Cert.Hidden.nD Cert.Hidden.τ Cert.Hidden.sig) → Buf (Elt Bits) ℓ) (g : Dev Cert.Hidden.nD → PrngReg), Pre_Hidden m →
    θ_run (Cert.Hidden.defs (F := Bits)) (onTc (τ := Cert.Hidden.τ) (Cert.Hidden.main (F := Bits))) ⟨m, fun _ => 0, g⟩ (fun r => (∀ c : Dev Cert.Hidden.nD,
      r.2.mem ((c.tc : Thread Cert.Hidden.nD Cert.Hidden.τ).loc Cert.Hidden.main_arg0) = m ((c.tc : Thread Cert.Hidden.nD Cert.Hidden.τ).loc Cert.Hidden.main_arg0)
      ∧ r.2.mem ((c.tc : Thread Cert.Hidden.nD Cert.Hidden.τ).loc Cert.Hidden.main_arg1) = m ((c.tc : Thread Cert.Hidden.nD Cert.Hidden.τ).loc Cert.Hidden.main_arg1))
      ∧ r.2.sem = fun _ => 0)

def quiescent_HiddenIdeal [hHiddenIdeal : Cert.HiddenIdeal.Facts] : Prop :=
  ∀ (m : (ℓ : Loc Cert.HiddenIdeal.nD Cert.HiddenIdeal.τ Cert.HiddenIdeal.sig) → Buf (Elt Ideal) ℓ) (g : Dev Cert.HiddenIdeal.nD → PrngReg), Pre_HiddenIdeal m →
    θ_run (Cert.HiddenIdeal.defs (F := Ideal)) (onTc (τ := Cert.HiddenIdeal.τ) (Cert.HiddenIdeal.main (F := Ideal))) ⟨m, fun _ => 0, g⟩ (fun r => (∀ c : Dev Cert.HiddenIdeal.nD,
      r.2.mem ((c.tc : Thread Cert.HiddenIdeal.nD Cert.HiddenIdeal.τ).loc Cert.HiddenIdeal.main_arg0) = m ((c.tc : Thread Cert.HiddenIdeal.nD Cert.HiddenIdeal.τ).loc Cert.HiddenIdeal.main_arg0)
      ∧ r.2.mem ((c.tc : Thread Cert.HiddenIdeal.nD Cert.HiddenIdeal.τ).loc Cert.HiddenIdeal.main_arg1) = m ((c.tc : Thread Cert.HiddenIdeal.nD Cert.HiddenIdeal.τ).loc Cert.HiddenIdeal.main_arg1))
      ∧ r.2.sem = fun _ => 0)

def quiescent_HiddenReferenceIdeal [hHiddenReferenceIdeal : Cert.HiddenReferenceIdeal.Facts] : Prop :=
  ∀ (m : (ℓ : Loc Cert.HiddenReferenceIdeal.nD Cert.HiddenReferenceIdeal.τ Cert.HiddenReferenceIdeal.sig) → Buf (Elt Ideal) ℓ) (g : Dev Cert.HiddenReferenceIdeal.nD → PrngReg), Pre_HiddenReferenceIdeal m →
    θ_run (Cert.HiddenReferenceIdeal.defs (F := Ideal)) (onTc (τ := Cert.HiddenReferenceIdeal.τ) (Cert.HiddenReferenceIdeal.main (F := Ideal))) ⟨m, fun _ => 0, g⟩ (fun r => (∀ c : Dev Cert.HiddenReferenceIdeal.nD,
      r.2.mem ((c.tc : Thread Cert.HiddenReferenceIdeal.nD Cert.HiddenReferenceIdeal.τ).loc Cert.HiddenReferenceIdeal.main_arg0) = m ((c.tc : Thread Cert.HiddenReferenceIdeal.nD Cert.HiddenReferenceIdeal.τ).loc Cert.HiddenReferenceIdeal.main_arg0)
      ∧ r.2.mem ((c.tc : Thread Cert.HiddenReferenceIdeal.nD Cert.HiddenReferenceIdeal.τ).loc Cert.HiddenReferenceIdeal.main_arg1) = m ((c.tc : Thread Cert.HiddenReferenceIdeal.nD Cert.HiddenReferenceIdeal.τ).loc Cert.HiddenReferenceIdeal.main_arg1))
      ∧ r.2.sem = fun _ => 0)

def quiescent_Final [hFinal : Cert.Final.Facts] : Prop :=
  ∀ (m : (ℓ : Loc Cert.Final.nD Cert.Final.τ Cert.Final.sig) → Buf (Elt Bits) ℓ) (g : Dev Cert.Final.nD → PrngReg), Pre_Final m →
    θ_run (Cert.Final.defs (F := Bits)) (onTc (τ := Cert.Final.τ) (Cert.Final.main (F := Bits))) ⟨m, fun _ => 0, g⟩ (fun r => (∀ c : Dev Cert.Final.nD,
      r.2.mem ((c.tc : Thread Cert.Final.nD Cert.Final.τ).loc Cert.Final.main_arg0) = m ((c.tc : Thread Cert.Final.nD Cert.Final.τ).loc Cert.Final.main_arg0)
      ∧ r.2.mem ((c.tc : Thread Cert.Final.nD Cert.Final.τ).loc Cert.Final.main_arg1) = m ((c.tc : Thread Cert.Final.nD Cert.Final.τ).loc Cert.Final.main_arg1)
      ∧ r.2.mem ((c.tc : Thread Cert.Final.nD Cert.Final.τ).loc Cert.Final.main_arg2) = m ((c.tc : Thread Cert.Final.nD Cert.Final.τ).loc Cert.Final.main_arg2))
      ∧ r.2.sem = fun _ => 0)

def quiescent_FinalIdeal [hFinalIdeal : Cert.FinalIdeal.Facts] : Prop :=
  ∀ (m : (ℓ : Loc Cert.FinalIdeal.nD Cert.FinalIdeal.τ Cert.FinalIdeal.sig) → Buf (Elt Ideal) ℓ) (g : Dev Cert.FinalIdeal.nD → PrngReg), Pre_FinalIdeal m →
    θ_run (Cert.FinalIdeal.defs (F := Ideal)) (onTc (τ := Cert.FinalIdeal.τ) (Cert.FinalIdeal.main (F := Ideal))) ⟨m, fun _ => 0, g⟩ (fun r => (∀ c : Dev Cert.FinalIdeal.nD,
      r.2.mem ((c.tc : Thread Cert.FinalIdeal.nD Cert.FinalIdeal.τ).loc Cert.FinalIdeal.main_arg0) = m ((c.tc : Thread Cert.FinalIdeal.nD Cert.FinalIdeal.τ).loc Cert.FinalIdeal.main_arg0)
      ∧ r.2.mem ((c.tc : Thread Cert.FinalIdeal.nD Cert.FinalIdeal.τ).loc Cert.FinalIdeal.main_arg1) = m ((c.tc : Thread Cert.FinalIdeal.nD Cert.FinalIdeal.τ).loc Cert.FinalIdeal.main_arg1)
      ∧ r.2.mem ((c.tc : Thread Cert.FinalIdeal.nD Cert.FinalIdeal.τ).loc Cert.FinalIdeal.main_arg2) = m ((c.tc : Thread Cert.FinalIdeal.nD Cert.FinalIdeal.τ).loc Cert.FinalIdeal.main_arg2))
      ∧ r.2.sem = fun _ => 0)

def quiescent_FinalReferenceIdeal [hFinalReferenceIdeal : Cert.FinalReferenceIdeal.Facts] : Prop :=
  ∀ (m : (ℓ : Loc Cert.FinalReferenceIdeal.nD Cert.FinalReferenceIdeal.τ Cert.FinalReferenceIdeal.sig) → Buf (Elt Ideal) ℓ) (g : Dev Cert.FinalReferenceIdeal.nD → PrngReg), Pre_FinalReferenceIdeal m →
    θ_run (Cert.FinalReferenceIdeal.defs (F := Ideal)) (onTc (τ := Cert.FinalReferenceIdeal.τ) (Cert.FinalReferenceIdeal.main (F := Ideal))) ⟨m, fun _ => 0, g⟩ (fun r => (∀ c : Dev Cert.FinalReferenceIdeal.nD,
      r.2.mem ((c.tc : Thread Cert.FinalReferenceIdeal.nD Cert.FinalReferenceIdeal.τ).loc Cert.FinalReferenceIdeal.main_arg0) = m ((c.tc : Thread Cert.FinalReferenceIdeal.nD Cert.FinalReferenceIdeal.τ).loc Cert.FinalReferenceIdeal.main_arg0)
      ∧ r.2.mem ((c.tc : Thread Cert.FinalReferenceIdeal.nD Cert.FinalReferenceIdeal.τ).loc Cert.FinalReferenceIdeal.main_arg1) = m ((c.tc : Thread Cert.FinalReferenceIdeal.nD Cert.FinalReferenceIdeal.τ).loc Cert.FinalReferenceIdeal.main_arg1)
      ∧ r.2.mem ((c.tc : Thread Cert.FinalReferenceIdeal.nD Cert.FinalReferenceIdeal.τ).loc Cert.FinalReferenceIdeal.main_arg2) = m ((c.tc : Thread Cert.FinalReferenceIdeal.nD Cert.FinalReferenceIdeal.τ).loc Cert.FinalReferenceIdeal.main_arg2))
      ∧ r.2.sem = fun _ => 0)

def quiescent_Experts [hExperts : Cert.Experts.Facts] : Prop :=
  ∀ (m : (ℓ : Loc Cert.Experts.nD Cert.Experts.τ Cert.Experts.sig) → Buf (Elt Bits) ℓ) (g : Dev Cert.Experts.nD → PrngReg), Pre_Experts m →
    θ_run (Cert.Experts.defs (F := Bits)) (onTc (τ := Cert.Experts.τ) (Cert.Experts.main (F := Bits))) ⟨m, fun _ => 0, g⟩ (fun r => (∀ c : Dev Cert.Experts.nD,
      r.2.mem ((c.tc : Thread Cert.Experts.nD Cert.Experts.τ).loc Cert.Experts.main_arg0) = m ((c.tc : Thread Cert.Experts.nD Cert.Experts.τ).loc Cert.Experts.main_arg0)
      ∧ r.2.mem ((c.tc : Thread Cert.Experts.nD Cert.Experts.τ).loc Cert.Experts.main_arg1) = m ((c.tc : Thread Cert.Experts.nD Cert.Experts.τ).loc Cert.Experts.main_arg1)
      ∧ r.2.mem ((c.tc : Thread Cert.Experts.nD Cert.Experts.τ).loc Cert.Experts.main_arg2) = m ((c.tc : Thread Cert.Experts.nD Cert.Experts.τ).loc Cert.Experts.main_arg2)
      ∧ r.2.mem ((c.tc : Thread Cert.Experts.nD Cert.Experts.τ).loc Cert.Experts.main_arg3) = m ((c.tc : Thread Cert.Experts.nD Cert.Experts.τ).loc Cert.Experts.main_arg3))
      ∧ r.2.sem = fun _ => 0)

def quiescent_ExpertsIdeal [hExpertsIdeal : Cert.ExpertsIdeal.Facts] : Prop :=
  ∀ (m : (ℓ : Loc Cert.ExpertsIdeal.nD Cert.ExpertsIdeal.τ Cert.ExpertsIdeal.sig) → Buf (Elt Ideal) ℓ) (g : Dev Cert.ExpertsIdeal.nD → PrngReg), Pre_ExpertsIdeal m →
    θ_run (Cert.ExpertsIdeal.defs (F := Ideal)) (onTc (τ := Cert.ExpertsIdeal.τ) (Cert.ExpertsIdeal.main (F := Ideal))) ⟨m, fun _ => 0, g⟩ (fun r => (∀ c : Dev Cert.ExpertsIdeal.nD,
      r.2.mem ((c.tc : Thread Cert.ExpertsIdeal.nD Cert.ExpertsIdeal.τ).loc Cert.ExpertsIdeal.main_arg0) = m ((c.tc : Thread Cert.ExpertsIdeal.nD Cert.ExpertsIdeal.τ).loc Cert.ExpertsIdeal.main_arg0)
      ∧ r.2.mem ((c.tc : Thread Cert.ExpertsIdeal.nD Cert.ExpertsIdeal.τ).loc Cert.ExpertsIdeal.main_arg1) = m ((c.tc : Thread Cert.ExpertsIdeal.nD Cert.ExpertsIdeal.τ).loc Cert.ExpertsIdeal.main_arg1)
      ∧ r.2.mem ((c.tc : Thread Cert.ExpertsIdeal.nD Cert.ExpertsIdeal.τ).loc Cert.ExpertsIdeal.main_arg2) = m ((c.tc : Thread Cert.ExpertsIdeal.nD Cert.ExpertsIdeal.τ).loc Cert.ExpertsIdeal.main_arg2)
      ∧ r.2.mem ((c.tc : Thread Cert.ExpertsIdeal.nD Cert.ExpertsIdeal.τ).loc Cert.ExpertsIdeal.main_arg3) = m ((c.tc : Thread Cert.ExpertsIdeal.nD Cert.ExpertsIdeal.τ).loc Cert.ExpertsIdeal.main_arg3))
      ∧ r.2.sem = fun _ => 0)

def quiescent_ExpertsReferenceIdeal [hExpertsReferenceIdeal : Cert.ExpertsReferenceIdeal.Facts] : Prop :=
  ∀ (m : (ℓ : Loc Cert.ExpertsReferenceIdeal.nD Cert.ExpertsReferenceIdeal.τ Cert.ExpertsReferenceIdeal.sig) → Buf (Elt Ideal) ℓ) (g : Dev Cert.ExpertsReferenceIdeal.nD → PrngReg), Pre_ExpertsReferenceIdeal m →
    θ_run (Cert.ExpertsReferenceIdeal.defs (F := Ideal)) (onTc (τ := Cert.ExpertsReferenceIdeal.τ) (Cert.ExpertsReferenceIdeal.main (F := Ideal))) ⟨m, fun _ => 0, g⟩ (fun r => (∀ c : Dev Cert.ExpertsReferenceIdeal.nD,
      r.2.mem ((c.tc : Thread Cert.ExpertsReferenceIdeal.nD Cert.ExpertsReferenceIdeal.τ).loc Cert.ExpertsReferenceIdeal.main_arg0) = m ((c.tc : Thread Cert.ExpertsReferenceIdeal.nD Cert.ExpertsReferenceIdeal.τ).loc Cert.ExpertsReferenceIdeal.main_arg0)
      ∧ r.2.mem ((c.tc : Thread Cert.ExpertsReferenceIdeal.nD Cert.ExpertsReferenceIdeal.τ).loc Cert.ExpertsReferenceIdeal.main_arg1) = m ((c.tc : Thread Cert.ExpertsReferenceIdeal.nD Cert.ExpertsReferenceIdeal.τ).loc Cert.ExpertsReferenceIdeal.main_arg1)
      ∧ r.2.mem ((c.tc : Thread Cert.ExpertsReferenceIdeal.nD Cert.ExpertsReferenceIdeal.τ).loc Cert.ExpertsReferenceIdeal.main_arg2) = m ((c.tc : Thread Cert.ExpertsReferenceIdeal.nD Cert.ExpertsReferenceIdeal.τ).loc Cert.ExpertsReferenceIdeal.main_arg2)
      ∧ r.2.mem ((c.tc : Thread Cert.ExpertsReferenceIdeal.nD Cert.ExpertsReferenceIdeal.τ).loc Cert.ExpertsReferenceIdeal.main_arg3) = m ((c.tc : Thread Cert.ExpertsReferenceIdeal.nD Cert.ExpertsReferenceIdeal.τ).loc Cert.ExpertsReferenceIdeal.main_arg3))
      ∧ r.2.sem = fun _ => 0)

def quiescent_Select [hSelect : Cert.Select.Facts] : Prop :=
  ∀ (m : (ℓ : Loc Cert.Select.nD Cert.Select.τ Cert.Select.sig) → Buf (Elt Bits) ℓ) (g : Dev Cert.Select.nD → PrngReg), Pre_Select m →
    θ_run (Cert.Select.defs (F := Bits)) (onTc (τ := Cert.Select.τ) (Cert.Select.main (F := Bits))) ⟨m, fun _ => 0, g⟩ (fun r => (∀ c : Dev Cert.Select.nD,
      r.2.mem ((c.tc : Thread Cert.Select.nD Cert.Select.τ).loc Cert.Select.main_arg0) = m ((c.tc : Thread Cert.Select.nD Cert.Select.τ).loc Cert.Select.main_arg0)
      ∧ r.2.mem ((c.tc : Thread Cert.Select.nD Cert.Select.τ).loc Cert.Select.main_arg1) = m ((c.tc : Thread Cert.Select.nD Cert.Select.τ).loc Cert.Select.main_arg1)
      ∧ r.2.mem ((c.tc : Thread Cert.Select.nD Cert.Select.τ).loc Cert.Select.main_arg2) = m ((c.tc : Thread Cert.Select.nD Cert.Select.τ).loc Cert.Select.main_arg2))
      ∧ r.2.sem = fun _ => 0)

def quiescent_SelectIdeal [hSelectIdeal : Cert.SelectIdeal.Facts] : Prop :=
  ∀ (m : (ℓ : Loc Cert.SelectIdeal.nD Cert.SelectIdeal.τ Cert.SelectIdeal.sig) → Buf (Elt Ideal) ℓ) (g : Dev Cert.SelectIdeal.nD → PrngReg), Pre_SelectIdeal m →
    θ_run (Cert.SelectIdeal.defs (F := Ideal)) (onTc (τ := Cert.SelectIdeal.τ) (Cert.SelectIdeal.main (F := Ideal))) ⟨m, fun _ => 0, g⟩ (fun r => (∀ c : Dev Cert.SelectIdeal.nD,
      r.2.mem ((c.tc : Thread Cert.SelectIdeal.nD Cert.SelectIdeal.τ).loc Cert.SelectIdeal.main_arg0) = m ((c.tc : Thread Cert.SelectIdeal.nD Cert.SelectIdeal.τ).loc Cert.SelectIdeal.main_arg0)
      ∧ r.2.mem ((c.tc : Thread Cert.SelectIdeal.nD Cert.SelectIdeal.τ).loc Cert.SelectIdeal.main_arg1) = m ((c.tc : Thread Cert.SelectIdeal.nD Cert.SelectIdeal.τ).loc Cert.SelectIdeal.main_arg1)
      ∧ r.2.mem ((c.tc : Thread Cert.SelectIdeal.nD Cert.SelectIdeal.τ).loc Cert.SelectIdeal.main_arg2) = m ((c.tc : Thread Cert.SelectIdeal.nD Cert.SelectIdeal.τ).loc Cert.SelectIdeal.main_arg2))
      ∧ r.2.sem = fun _ => 0)

def quiescent_SelectIdeal_pre_finite3 [hSelectIdeal : Cert.SelectIdeal.Facts] [hPre_finite3 : Cert.Pre_finite3.Facts] : Prop :=
  ∀ (m : (ℓ : Loc Cert.SelectIdeal.nD Cert.SelectIdeal.τ Cert.SelectIdeal.sig) → Buf (Elt Ideal) ℓ) (g : Dev Cert.SelectIdeal.nD → PrngReg), Pre_SelectIdeal_finite3 m →
    θ_run (Cert.SelectIdeal.defs (F := Ideal)) (onTc (τ := Cert.SelectIdeal.τ) (Cert.SelectIdeal.main (F := Ideal))) ⟨m, fun _ => 0, g⟩ (fun r => (∀ c : Dev Cert.SelectIdeal.nD,
      r.2.mem ((c.tc : Thread Cert.SelectIdeal.nD Cert.SelectIdeal.τ).loc Cert.SelectIdeal.main_arg0) = m ((c.tc : Thread Cert.SelectIdeal.nD Cert.SelectIdeal.τ).loc Cert.SelectIdeal.main_arg0)
      ∧ r.2.mem ((c.tc : Thread Cert.SelectIdeal.nD Cert.SelectIdeal.τ).loc Cert.SelectIdeal.main_arg1) = m ((c.tc : Thread Cert.SelectIdeal.nD Cert.SelectIdeal.τ).loc Cert.SelectIdeal.main_arg1)
      ∧ r.2.mem ((c.tc : Thread Cert.SelectIdeal.nD Cert.SelectIdeal.τ).loc Cert.SelectIdeal.main_arg2) = m ((c.tc : Thread Cert.SelectIdeal.nD Cert.SelectIdeal.τ).loc Cert.SelectIdeal.main_arg2))
      ∧ r.2.sem = fun _ => 0)

def quiescent_SelectReferenceIdeal [hSelectReferenceIdeal : Cert.SelectReferenceIdeal.Facts] : Prop :=
  ∀ (m : (ℓ : Loc Cert.SelectReferenceIdeal.nD Cert.SelectReferenceIdeal.τ Cert.SelectReferenceIdeal.sig) → Buf (Elt Ideal) ℓ) (g : Dev Cert.SelectReferenceIdeal.nD → PrngReg), Pre_SelectReferenceIdeal m →
    θ_run (Cert.SelectReferenceIdeal.defs (F := Ideal)) (onTc (τ := Cert.SelectReferenceIdeal.τ) (Cert.SelectReferenceIdeal.main (F := Ideal))) ⟨m, fun _ => 0, g⟩ (fun r => (∀ c : Dev Cert.SelectReferenceIdeal.nD,
      r.2.mem ((c.tc : Thread Cert.SelectReferenceIdeal.nD Cert.SelectReferenceIdeal.τ).loc Cert.SelectReferenceIdeal.main_arg0) = m ((c.tc : Thread Cert.SelectReferenceIdeal.nD Cert.SelectReferenceIdeal.τ).loc Cert.SelectReferenceIdeal.main_arg0)
      ∧ r.2.mem ((c.tc : Thread Cert.SelectReferenceIdeal.nD Cert.SelectReferenceIdeal.τ).loc Cert.SelectReferenceIdeal.main_arg1) = m ((c.tc : Thread Cert.SelectReferenceIdeal.nD Cert.SelectReferenceIdeal.τ).loc Cert.SelectReferenceIdeal.main_arg1)
      ∧ r.2.mem ((c.tc : Thread Cert.SelectReferenceIdeal.nD Cert.SelectReferenceIdeal.τ).loc Cert.SelectReferenceIdeal.main_arg2) = m ((c.tc : Thread Cert.SelectReferenceIdeal.nD Cert.SelectReferenceIdeal.τ).loc Cert.SelectReferenceIdeal.main_arg2))
      ∧ r.2.sem = fun _ => 0)

def quiescent_SelectReferenceIdeal_pre_finite3 [hSelectReferenceIdeal : Cert.SelectReferenceIdeal.Facts] [hPre_finite3 : Cert.Pre_finite3.Facts] : Prop :=
  ∀ (m : (ℓ : Loc Cert.SelectReferenceIdeal.nD Cert.SelectReferenceIdeal.τ Cert.SelectReferenceIdeal.sig) → Buf (Elt Ideal) ℓ) (g : Dev Cert.SelectReferenceIdeal.nD → PrngReg), Pre_SelectReferenceIdeal_finite3 m →
    θ_run (Cert.SelectReferenceIdeal.defs (F := Ideal)) (onTc (τ := Cert.SelectReferenceIdeal.τ) (Cert.SelectReferenceIdeal.main (F := Ideal))) ⟨m, fun _ => 0, g⟩ (fun r => (∀ c : Dev Cert.SelectReferenceIdeal.nD,
      r.2.mem ((c.tc : Thread Cert.SelectReferenceIdeal.nD Cert.SelectReferenceIdeal.τ).loc Cert.SelectReferenceIdeal.main_arg0) = m ((c.tc : Thread Cert.SelectReferenceIdeal.nD Cert.SelectReferenceIdeal.τ).loc Cert.SelectReferenceIdeal.main_arg0)
      ∧ r.2.mem ((c.tc : Thread Cert.SelectReferenceIdeal.nD Cert.SelectReferenceIdeal.τ).loc Cert.SelectReferenceIdeal.main_arg1) = m ((c.tc : Thread Cert.SelectReferenceIdeal.nD Cert.SelectReferenceIdeal.τ).loc Cert.SelectReferenceIdeal.main_arg1)
      ∧ r.2.mem ((c.tc : Thread Cert.SelectReferenceIdeal.nD Cert.SelectReferenceIdeal.τ).loc Cert.SelectReferenceIdeal.main_arg2) = m ((c.tc : Thread Cert.SelectReferenceIdeal.nD Cert.SelectReferenceIdeal.τ).loc Cert.SelectReferenceIdeal.main_arg2))
      ∧ r.2.sem = fun _ => 0)

def quiescent_Route [hRoute : Cert.Route.Facts] : Prop :=
  ∀ (m : (ℓ : Loc Cert.Route.nD Cert.Route.τ Cert.Route.sig) → Buf (Elt Bits) ℓ) (g : Dev Cert.Route.nD → PrngReg), Pre_Route m →
    θ_run (Cert.Route.defs (F := Bits)) (onTc (τ := Cert.Route.τ) (Cert.Route.main (F := Bits))) ⟨m, fun _ => 0, g⟩ (fun r => (∀ c : Dev Cert.Route.nD,
      r.2.mem ((c.tc : Thread Cert.Route.nD Cert.Route.τ).loc Cert.Route.main_arg0) = m ((c.tc : Thread Cert.Route.nD Cert.Route.τ).loc Cert.Route.main_arg0)
      ∧ r.2.mem ((c.tc : Thread Cert.Route.nD Cert.Route.τ).loc Cert.Route.main_arg1) = m ((c.tc : Thread Cert.Route.nD Cert.Route.τ).loc Cert.Route.main_arg1))
      ∧ r.2.sem = fun _ => 0)

def quiescent_RouteIdeal [hRouteIdeal : Cert.RouteIdeal.Facts] : Prop :=
  ∀ (m : (ℓ : Loc Cert.RouteIdeal.nD Cert.RouteIdeal.τ Cert.RouteIdeal.sig) → Buf (Elt Ideal) ℓ) (g : Dev Cert.RouteIdeal.nD → PrngReg), Pre_RouteIdeal m →
    θ_run (Cert.RouteIdeal.defs (F := Ideal)) (onTc (τ := Cert.RouteIdeal.τ) (Cert.RouteIdeal.main (F := Ideal))) ⟨m, fun _ => 0, g⟩ (fun r => (∀ c : Dev Cert.RouteIdeal.nD,
      r.2.mem ((c.tc : Thread Cert.RouteIdeal.nD Cert.RouteIdeal.τ).loc Cert.RouteIdeal.main_arg0) = m ((c.tc : Thread Cert.RouteIdeal.nD Cert.RouteIdeal.τ).loc Cert.RouteIdeal.main_arg0)
      ∧ r.2.mem ((c.tc : Thread Cert.RouteIdeal.nD Cert.RouteIdeal.τ).loc Cert.RouteIdeal.main_arg1) = m ((c.tc : Thread Cert.RouteIdeal.nD Cert.RouteIdeal.τ).loc Cert.RouteIdeal.main_arg1))
      ∧ r.2.sem = fun _ => 0)

def quiescent_RouteReferenceIdeal [hRouteReferenceIdeal : Cert.RouteReferenceIdeal.Facts] : Prop :=
  ∀ (m : (ℓ : Loc Cert.RouteReferenceIdeal.nD Cert.RouteReferenceIdeal.τ Cert.RouteReferenceIdeal.sig) → Buf (Elt Ideal) ℓ) (g : Dev Cert.RouteReferenceIdeal.nD → PrngReg), Pre_RouteReferenceIdeal m →
    θ_run (Cert.RouteReferenceIdeal.defs (F := Ideal)) (onTc (τ := Cert.RouteReferenceIdeal.τ) (Cert.RouteReferenceIdeal.main (F := Ideal))) ⟨m, fun _ => 0, g⟩ (fun r => (∀ c : Dev Cert.RouteReferenceIdeal.nD,
      r.2.mem ((c.tc : Thread Cert.RouteReferenceIdeal.nD Cert.RouteReferenceIdeal.τ).loc Cert.RouteReferenceIdeal.main_arg0) = m ((c.tc : Thread Cert.RouteReferenceIdeal.nD Cert.RouteReferenceIdeal.τ).loc Cert.RouteReferenceIdeal.main_arg0)
      ∧ r.2.mem ((c.tc : Thread Cert.RouteReferenceIdeal.nD Cert.RouteReferenceIdeal.τ).loc Cert.RouteReferenceIdeal.main_arg1) = m ((c.tc : Thread Cert.RouteReferenceIdeal.nD Cert.RouteReferenceIdeal.τ).loc Cert.RouteReferenceIdeal.main_arg1))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v32) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Hidden_HiddenIdeal : Prop :=
  True

def algebraic_HiddenIdeal_HiddenReferenceIdeal [hHiddenIdeal : Cert.HiddenIdeal.Facts] [hHiddenReferenceIdeal : Cert.HiddenReferenceIdeal.Facts] : Prop :=
  ∀ (m : (ℓ : Loc Cert.HiddenIdeal.nD Cert.HiddenIdeal.τ Cert.HiddenIdeal.sig) → Buf (Elt Ideal) ℓ) (g : Dev Cert.HiddenIdeal.nD → PrngReg)
    (m' : (ℓ : Loc Cert.HiddenReferenceIdeal.nD Cert.HiddenReferenceIdeal.τ Cert.HiddenReferenceIdeal.sig) → Buf (Elt Ideal) ℓ) (g' : Dev Cert.HiddenReferenceIdeal.nD → PrngReg), Pre_HiddenIdeal m →
    (∀ c : Dev Cert.HiddenIdeal.nD,
      m' ((c.tc : Thread Cert.HiddenReferenceIdeal.nD Cert.HiddenReferenceIdeal.τ).loc Cert.HiddenReferenceIdeal.main_arg0) = m ((c.tc : Thread Cert.HiddenIdeal.nD Cert.HiddenIdeal.τ).loc Cert.HiddenIdeal.main_arg0)
      ∧ m' ((c.tc : Thread Cert.HiddenReferenceIdeal.nD Cert.HiddenReferenceIdeal.τ).loc Cert.HiddenReferenceIdeal.main_arg1) = m ((c.tc : Thread Cert.HiddenIdeal.nD Cert.HiddenIdeal.τ).loc Cert.HiddenIdeal.main_arg1)) →
    ∃ (v0 : (c : Dev Cert.HiddenIdeal.nD) → Buf (Elt Ideal) ((c.tc : Thread Cert.HiddenIdeal.nD Cert.HiddenIdeal.τ).loc Cert.HiddenIdeal.main_v20)),
      θ_run (Cert.HiddenIdeal.defs (F := Ideal)) (onTc (τ := Cert.HiddenIdeal.τ) (Cert.HiddenIdeal.main (F := Ideal))) ⟨m, fun _ => 0, g⟩ (fun r => ∀ c : Dev Cert.HiddenIdeal.nD,
          r.2.mem ((c.tc : Thread Cert.HiddenIdeal.nD Cert.HiddenIdeal.τ).loc Cert.HiddenIdeal.main_v20) = v0 c
          ∧ r.2.mem ((c.tc : Thread Cert.HiddenIdeal.nD Cert.HiddenIdeal.τ).loc Cert.HiddenIdeal.main_arg0) = m ((c.tc : Thread Cert.HiddenIdeal.nD Cert.HiddenIdeal.τ).loc Cert.HiddenIdeal.main_arg0)
          ∧ r.2.mem ((c.tc : Thread Cert.HiddenIdeal.nD Cert.HiddenIdeal.τ).loc Cert.HiddenIdeal.main_arg1) = m ((c.tc : Thread Cert.HiddenIdeal.nD Cert.HiddenIdeal.τ).loc Cert.HiddenIdeal.main_arg1))
      ∧ θ_run (Cert.HiddenReferenceIdeal.defs (F := Ideal)) (onTc (τ := Cert.HiddenReferenceIdeal.τ) (Cert.HiddenReferenceIdeal.main (F := Ideal))) ⟨m', fun _ => 0, g'⟩ (fun r => ∀ c : Dev Cert.HiddenReferenceIdeal.nD,
          r.2.mem ((c.tc : Thread Cert.HiddenReferenceIdeal.nD Cert.HiddenReferenceIdeal.τ).loc Cert.HiddenReferenceIdeal.main_v8) = v0 c
          ∧ r.2.mem ((c.tc : Thread Cert.HiddenReferenceIdeal.nD Cert.HiddenReferenceIdeal.τ).loc Cert.HiddenReferenceIdeal.main_arg0) = m' ((c.tc : Thread Cert.HiddenReferenceIdeal.nD Cert.HiddenReferenceIdeal.τ).loc Cert.HiddenReferenceIdeal.main_arg0)
          ∧ r.2.mem ((c.tc : Thread Cert.HiddenReferenceIdeal.nD Cert.HiddenReferenceIdeal.τ).loc Cert.HiddenReferenceIdeal.main_arg1) = m' ((c.tc : Thread Cert.HiddenReferenceIdeal.nD Cert.HiddenReferenceIdeal.τ).loc Cert.HiddenReferenceIdeal.main_arg1))

def preserves_Final_FinalIdeal : Prop :=
  True

def algebraic_FinalIdeal_FinalReferenceIdeal [hFinalIdeal : Cert.FinalIdeal.Facts] [hFinalReferenceIdeal : Cert.FinalReferenceIdeal.Facts] : Prop :=
  ∀ (m : (ℓ : Loc Cert.FinalIdeal.nD Cert.FinalIdeal.τ Cert.FinalIdeal.sig) → Buf (Elt Ideal) ℓ) (g : Dev Cert.FinalIdeal.nD → PrngReg)
    (m' : (ℓ : Loc Cert.FinalReferenceIdeal.nD Cert.FinalReferenceIdeal.τ Cert.FinalReferenceIdeal.sig) → Buf (Elt Ideal) ℓ) (g' : Dev Cert.FinalReferenceIdeal.nD → PrngReg), Pre_FinalIdeal m →
    (∀ c : Dev Cert.FinalIdeal.nD,
      m' ((c.tc : Thread Cert.FinalReferenceIdeal.nD Cert.FinalReferenceIdeal.τ).loc Cert.FinalReferenceIdeal.main_arg0) = m ((c.tc : Thread Cert.FinalIdeal.nD Cert.FinalIdeal.τ).loc Cert.FinalIdeal.main_arg0)
      ∧ m' ((c.tc : Thread Cert.FinalReferenceIdeal.nD Cert.FinalReferenceIdeal.τ).loc Cert.FinalReferenceIdeal.main_arg1) = m ((c.tc : Thread Cert.FinalIdeal.nD Cert.FinalIdeal.τ).loc Cert.FinalIdeal.main_arg1)
      ∧ m' ((c.tc : Thread Cert.FinalReferenceIdeal.nD Cert.FinalReferenceIdeal.τ).loc Cert.FinalReferenceIdeal.main_arg2) = m ((c.tc : Thread Cert.FinalIdeal.nD Cert.FinalIdeal.τ).loc Cert.FinalIdeal.main_arg2)) →
    ∃ (v0 : (c : Dev Cert.FinalIdeal.nD) → Buf (Elt Ideal) ((c.tc : Thread Cert.FinalIdeal.nD Cert.FinalIdeal.τ).loc Cert.FinalIdeal.main_v6)),
      θ_run (Cert.FinalIdeal.defs (F := Ideal)) (onTc (τ := Cert.FinalIdeal.τ) (Cert.FinalIdeal.main (F := Ideal))) ⟨m, fun _ => 0, g⟩ (fun r => ∀ c : Dev Cert.FinalIdeal.nD,
          r.2.mem ((c.tc : Thread Cert.FinalIdeal.nD Cert.FinalIdeal.τ).loc Cert.FinalIdeal.main_v6) = v0 c
          ∧ r.2.mem ((c.tc : Thread Cert.FinalIdeal.nD Cert.FinalIdeal.τ).loc Cert.FinalIdeal.main_arg0) = m ((c.tc : Thread Cert.FinalIdeal.nD Cert.FinalIdeal.τ).loc Cert.FinalIdeal.main_arg0)
          ∧ r.2.mem ((c.tc : Thread Cert.FinalIdeal.nD Cert.FinalIdeal.τ).loc Cert.FinalIdeal.main_arg1) = m ((c.tc : Thread Cert.FinalIdeal.nD Cert.FinalIdeal.τ).loc Cert.FinalIdeal.main_arg1)
          ∧ r.2.mem ((c.tc : Thread Cert.FinalIdeal.nD Cert.FinalIdeal.τ).loc Cert.FinalIdeal.main_arg2) = m ((c.tc : Thread Cert.FinalIdeal.nD Cert.FinalIdeal.τ).loc Cert.FinalIdeal.main_arg2))
      ∧ θ_run (Cert.FinalReferenceIdeal.defs (F := Ideal)) (onTc (τ := Cert.FinalReferenceIdeal.τ) (Cert.FinalReferenceIdeal.main (F := Ideal))) ⟨m', fun _ => 0, g'⟩ (fun r => ∀ c : Dev Cert.FinalReferenceIdeal.nD,
          r.2.mem ((c.tc : Thread Cert.FinalReferenceIdeal.nD Cert.FinalReferenceIdeal.τ).loc Cert.FinalReferenceIdeal.main_v28) = v0 c
          ∧ r.2.mem ((c.tc : Thread Cert.FinalReferenceIdeal.nD Cert.FinalReferenceIdeal.τ).loc Cert.FinalReferenceIdeal.main_arg0) = m' ((c.tc : Thread Cert.FinalReferenceIdeal.nD Cert.FinalReferenceIdeal.τ).loc Cert.FinalReferenceIdeal.main_arg0)
          ∧ r.2.mem ((c.tc : Thread Cert.FinalReferenceIdeal.nD Cert.FinalReferenceIdeal.τ).loc Cert.FinalReferenceIdeal.main_arg1) = m' ((c.tc : Thread Cert.FinalReferenceIdeal.nD Cert.FinalReferenceIdeal.τ).loc Cert.FinalReferenceIdeal.main_arg1)
          ∧ r.2.mem ((c.tc : Thread Cert.FinalReferenceIdeal.nD Cert.FinalReferenceIdeal.τ).loc Cert.FinalReferenceIdeal.main_arg2) = m' ((c.tc : Thread Cert.FinalReferenceIdeal.nD Cert.FinalReferenceIdeal.τ).loc Cert.FinalReferenceIdeal.main_arg2))

def preserves_Experts_ExpertsIdeal : Prop :=
  True

def algebraic_ExpertsIdeal_ExpertsReferenceIdeal [hExpertsIdeal : Cert.ExpertsIdeal.Facts] [hExpertsReferenceIdeal : Cert.ExpertsReferenceIdeal.Facts] : Prop :=
  ∀ (m : (ℓ : Loc Cert.ExpertsIdeal.nD Cert.ExpertsIdeal.τ Cert.ExpertsIdeal.sig) → Buf (Elt Ideal) ℓ) (g : Dev Cert.ExpertsIdeal.nD → PrngReg)
    (m' : (ℓ : Loc Cert.ExpertsReferenceIdeal.nD Cert.ExpertsReferenceIdeal.τ Cert.ExpertsReferenceIdeal.sig) → Buf (Elt Ideal) ℓ) (g' : Dev Cert.ExpertsReferenceIdeal.nD → PrngReg), Pre_ExpertsIdeal m →
    (∀ c : Dev Cert.ExpertsIdeal.nD,
      m' ((c.tc : Thread Cert.ExpertsReferenceIdeal.nD Cert.ExpertsReferenceIdeal.τ).loc Cert.ExpertsReferenceIdeal.main_arg0) = m ((c.tc : Thread Cert.ExpertsIdeal.nD Cert.ExpertsIdeal.τ).loc Cert.ExpertsIdeal.main_arg0)
      ∧ m' ((c.tc : Thread Cert.ExpertsReferenceIdeal.nD Cert.ExpertsReferenceIdeal.τ).loc Cert.ExpertsReferenceIdeal.main_arg1) = m ((c.tc : Thread Cert.ExpertsIdeal.nD Cert.ExpertsIdeal.τ).loc Cert.ExpertsIdeal.main_arg1)
      ∧ m' ((c.tc : Thread Cert.ExpertsReferenceIdeal.nD Cert.ExpertsReferenceIdeal.τ).loc Cert.ExpertsReferenceIdeal.main_arg2) = m ((c.tc : Thread Cert.ExpertsIdeal.nD Cert.ExpertsIdeal.τ).loc Cert.ExpertsIdeal.main_arg2)
      ∧ m' ((c.tc : Thread Cert.ExpertsReferenceIdeal.nD Cert.ExpertsReferenceIdeal.τ).loc Cert.ExpertsReferenceIdeal.main_arg3) = m ((c.tc : Thread Cert.ExpertsIdeal.nD Cert.ExpertsIdeal.τ).loc Cert.ExpertsIdeal.main_arg3)) →
    ∃ (v0 : (c : Dev Cert.ExpertsIdeal.nD) → Buf (Elt Ideal) ((c.tc : Thread Cert.ExpertsIdeal.nD Cert.ExpertsIdeal.τ).loc Cert.ExpertsIdeal.main_v5)),
      θ_run (Cert.ExpertsIdeal.defs (F := Ideal)) (onTc (τ := Cert.ExpertsIdeal.τ) (Cert.ExpertsIdeal.main (F := Ideal))) ⟨m, fun _ => 0, g⟩ (fun r => ∀ c : Dev Cert.ExpertsIdeal.nD,
          r.2.mem ((c.tc : Thread Cert.ExpertsIdeal.nD Cert.ExpertsIdeal.τ).loc Cert.ExpertsIdeal.main_v5) = v0 c
          ∧ r.2.mem ((c.tc : Thread Cert.ExpertsIdeal.nD Cert.ExpertsIdeal.τ).loc Cert.ExpertsIdeal.main_arg0) = m ((c.tc : Thread Cert.ExpertsIdeal.nD Cert.ExpertsIdeal.τ).loc Cert.ExpertsIdeal.main_arg0)
          ∧ r.2.mem ((c.tc : Thread Cert.ExpertsIdeal.nD Cert.ExpertsIdeal.τ).loc Cert.ExpertsIdeal.main_arg1) = m ((c.tc : Thread Cert.ExpertsIdeal.nD Cert.ExpertsIdeal.τ).loc Cert.ExpertsIdeal.main_arg1)
          ∧ r.2.mem ((c.tc : Thread Cert.ExpertsIdeal.nD Cert.ExpertsIdeal.τ).loc Cert.ExpertsIdeal.main_arg2) = m ((c.tc : Thread Cert.ExpertsIdeal.nD Cert.ExpertsIdeal.τ).loc Cert.ExpertsIdeal.main_arg2)
          ∧ r.2.mem ((c.tc : Thread Cert.ExpertsIdeal.nD Cert.ExpertsIdeal.τ).loc Cert.ExpertsIdeal.main_arg3) = m ((c.tc : Thread Cert.ExpertsIdeal.nD Cert.ExpertsIdeal.τ).loc Cert.ExpertsIdeal.main_arg3))
      ∧ θ_run (Cert.ExpertsReferenceIdeal.defs (F := Ideal)) (onTc (τ := Cert.ExpertsReferenceIdeal.τ) (Cert.ExpertsReferenceIdeal.main (F := Ideal))) ⟨m', fun _ => 0, g'⟩ (fun r => ∀ c : Dev Cert.ExpertsReferenceIdeal.nD,
          r.2.mem ((c.tc : Thread Cert.ExpertsReferenceIdeal.nD Cert.ExpertsReferenceIdeal.τ).loc Cert.ExpertsReferenceIdeal.main_v9) = v0 c
          ∧ r.2.mem ((c.tc : Thread Cert.ExpertsReferenceIdeal.nD Cert.ExpertsReferenceIdeal.τ).loc Cert.ExpertsReferenceIdeal.main_arg0) = m' ((c.tc : Thread Cert.ExpertsReferenceIdeal.nD Cert.ExpertsReferenceIdeal.τ).loc Cert.ExpertsReferenceIdeal.main_arg0)
          ∧ r.2.mem ((c.tc : Thread Cert.ExpertsReferenceIdeal.nD Cert.ExpertsReferenceIdeal.τ).loc Cert.ExpertsReferenceIdeal.main_arg1) = m' ((c.tc : Thread Cert.ExpertsReferenceIdeal.nD Cert.ExpertsReferenceIdeal.τ).loc Cert.ExpertsReferenceIdeal.main_arg1)
          ∧ r.2.mem ((c.tc : Thread Cert.ExpertsReferenceIdeal.nD Cert.ExpertsReferenceIdeal.τ).loc Cert.ExpertsReferenceIdeal.main_arg2) = m' ((c.tc : Thread Cert.ExpertsReferenceIdeal.nD Cert.ExpertsReferenceIdeal.τ).loc Cert.ExpertsReferenceIdeal.main_arg2)
          ∧ r.2.mem ((c.tc : Thread Cert.ExpertsReferenceIdeal.nD Cert.ExpertsReferenceIdeal.τ).loc Cert.ExpertsReferenceIdeal.main_arg3) = m' ((c.tc : Thread Cert.ExpertsReferenceIdeal.nD Cert.ExpertsReferenceIdeal.τ).loc Cert.ExpertsReferenceIdeal.main_arg3))

def preserves_Select_SelectIdeal : Prop :=
  True

def algebraic_SelectIdeal_SelectReferenceIdeal_pre_finite3 [hSelectIdeal : Cert.SelectIdeal.Facts] [hSelectReferenceIdeal : Cert.SelectReferenceIdeal.Facts] [hPre_finite3 : Cert.Pre_finite3.Facts] : Prop :=
  ∀ (m : (ℓ : Loc Cert.SelectIdeal.nD Cert.SelectIdeal.τ Cert.SelectIdeal.sig) → Buf (Elt Ideal) ℓ) (g : Dev Cert.SelectIdeal.nD → PrngReg)
    (m' : (ℓ : Loc Cert.SelectReferenceIdeal.nD Cert.SelectReferenceIdeal.τ Cert.SelectReferenceIdeal.sig) → Buf (Elt Ideal) ℓ) (g' : Dev Cert.SelectReferenceIdeal.nD → PrngReg), Pre_SelectIdeal_finite3 m →
    (∀ c : Dev Cert.SelectIdeal.nD,
      m' ((c.tc : Thread Cert.SelectReferenceIdeal.nD Cert.SelectReferenceIdeal.τ).loc Cert.SelectReferenceIdeal.main_arg0) = m ((c.tc : Thread Cert.SelectIdeal.nD Cert.SelectIdeal.τ).loc Cert.SelectIdeal.main_arg0)
      ∧ m' ((c.tc : Thread Cert.SelectReferenceIdeal.nD Cert.SelectReferenceIdeal.τ).loc Cert.SelectReferenceIdeal.main_arg1) = m ((c.tc : Thread Cert.SelectIdeal.nD Cert.SelectIdeal.τ).loc Cert.SelectIdeal.main_arg1)
      ∧ m' ((c.tc : Thread Cert.SelectReferenceIdeal.nD Cert.SelectReferenceIdeal.τ).loc Cert.SelectReferenceIdeal.main_arg2) = m ((c.tc : Thread Cert.SelectIdeal.nD Cert.SelectIdeal.τ).loc Cert.SelectIdeal.main_arg2)) →
    ∃ (v0 : (c : Dev Cert.SelectIdeal.nD) → Buf (Elt Ideal) ((c.tc : Thread Cert.SelectIdeal.nD Cert.SelectIdeal.τ).loc Cert.SelectIdeal.main_v11_0)),
      θ_run (Cert.SelectIdeal.defs (F := Ideal)) (onTc (τ := Cert.SelectIdeal.τ) (Cert.SelectIdeal.main (F := Ideal))) ⟨m, fun _ => 0, g⟩ (fun r => ∀ c : Dev Cert.SelectIdeal.nD,
          r.2.mem ((c.tc : Thread Cert.SelectIdeal.nD Cert.SelectIdeal.τ).loc Cert.SelectIdeal.main_v11_0) = v0 c
          ∧ r.2.mem ((c.tc : Thread Cert.SelectIdeal.nD Cert.SelectIdeal.τ).loc Cert.SelectIdeal.main_arg0) = m ((c.tc : Thread Cert.SelectIdeal.nD Cert.SelectIdeal.τ).loc Cert.SelectIdeal.main_arg0)
          ∧ r.2.mem ((c.tc : Thread Cert.SelectIdeal.nD Cert.SelectIdeal.τ).loc Cert.SelectIdeal.main_arg1) = m ((c.tc : Thread Cert.SelectIdeal.nD Cert.SelectIdeal.τ).loc Cert.SelectIdeal.main_arg1)
          ∧ r.2.mem ((c.tc : Thread Cert.SelectIdeal.nD Cert.SelectIdeal.τ).loc Cert.SelectIdeal.main_arg2) = m ((c.tc : Thread Cert.SelectIdeal.nD Cert.SelectIdeal.τ).loc Cert.SelectIdeal.main_arg2))
      ∧ θ_run (Cert.SelectReferenceIdeal.defs (F := Ideal)) (onTc (τ := Cert.SelectReferenceIdeal.τ) (Cert.SelectReferenceIdeal.main (F := Ideal))) ⟨m', fun _ => 0, g'⟩ (fun r => ∀ c : Dev Cert.SelectReferenceIdeal.nD,
          r.2.mem ((c.tc : Thread Cert.SelectReferenceIdeal.nD Cert.SelectReferenceIdeal.τ).loc Cert.SelectReferenceIdeal.main_v33) = v0 c
          ∧ r.2.mem ((c.tc : Thread Cert.SelectReferenceIdeal.nD Cert.SelectReferenceIdeal.τ).loc Cert.SelectReferenceIdeal.main_arg0) = m' ((c.tc : Thread Cert.SelectReferenceIdeal.nD Cert.SelectReferenceIdeal.τ).loc Cert.SelectReferenceIdeal.main_arg0)
          ∧ r.2.mem ((c.tc : Thread Cert.SelectReferenceIdeal.nD Cert.SelectReferenceIdeal.τ).loc Cert.SelectReferenceIdeal.main_arg1) = m' ((c.tc : Thread Cert.SelectReferenceIdeal.nD Cert.SelectReferenceIdeal.τ).loc Cert.SelectReferenceIdeal.main_arg1)
          ∧ r.2.mem ((c.tc : Thread Cert.SelectReferenceIdeal.nD Cert.SelectReferenceIdeal.τ).loc Cert.SelectReferenceIdeal.main_arg2) = m' ((c.tc : Thread Cert.SelectReferenceIdeal.nD Cert.SelectReferenceIdeal.τ).loc Cert.SelectReferenceIdeal.main_arg2))

def preserves_Route_RouteIdeal : Prop :=
  True

def algebraic_RouteIdeal_RouteReferenceIdeal [hRouteIdeal : Cert.RouteIdeal.Facts] [hRouteReferenceIdeal : Cert.RouteReferenceIdeal.Facts] : Prop :=
  ∀ (m : (ℓ : Loc Cert.RouteIdeal.nD Cert.RouteIdeal.τ Cert.RouteIdeal.sig) → Buf (Elt Ideal) ℓ) (g : Dev Cert.RouteIdeal.nD → PrngReg)
    (m' : (ℓ : Loc Cert.RouteReferenceIdeal.nD Cert.RouteReferenceIdeal.τ Cert.RouteReferenceIdeal.sig) → Buf (Elt Ideal) ℓ) (g' : Dev Cert.RouteReferenceIdeal.nD → PrngReg), Pre_RouteIdeal m →
    (∀ c : Dev Cert.RouteIdeal.nD,
      m' ((c.tc : Thread Cert.RouteReferenceIdeal.nD Cert.RouteReferenceIdeal.τ).loc Cert.RouteReferenceIdeal.main_arg0) = m ((c.tc : Thread Cert.RouteIdeal.nD Cert.RouteIdeal.τ).loc Cert.RouteIdeal.main_arg0)
      ∧ m' ((c.tc : Thread Cert.RouteReferenceIdeal.nD Cert.RouteReferenceIdeal.τ).loc Cert.RouteReferenceIdeal.main_arg1) = m ((c.tc : Thread Cert.RouteIdeal.nD Cert.RouteIdeal.τ).loc Cert.RouteIdeal.main_arg1)) →
    ∃ (v0 : (c : Dev Cert.RouteIdeal.nD) → Buf (Elt Ideal) ((c.tc : Thread Cert.RouteIdeal.nD Cert.RouteIdeal.τ).loc Cert.RouteIdeal.main_v0)),
      θ_run (Cert.RouteIdeal.defs (F := Ideal)) (onTc (τ := Cert.RouteIdeal.τ) (Cert.RouteIdeal.main (F := Ideal))) ⟨m, fun _ => 0, g⟩ (fun r => ∀ c : Dev Cert.RouteIdeal.nD,
          r.2.mem ((c.tc : Thread Cert.RouteIdeal.nD Cert.RouteIdeal.τ).loc Cert.RouteIdeal.main_v0) = v0 c
          ∧ r.2.mem ((c.tc : Thread Cert.RouteIdeal.nD Cert.RouteIdeal.τ).loc Cert.RouteIdeal.main_arg0) = m ((c.tc : Thread Cert.RouteIdeal.nD Cert.RouteIdeal.τ).loc Cert.RouteIdeal.main_arg0)
          ∧ r.2.mem ((c.tc : Thread Cert.RouteIdeal.nD Cert.RouteIdeal.τ).loc Cert.RouteIdeal.main_arg1) = m ((c.tc : Thread Cert.RouteIdeal.nD Cert.RouteIdeal.τ).loc Cert.RouteIdeal.main_arg1))
      ∧ θ_run (Cert.RouteReferenceIdeal.defs (F := Ideal)) (onTc (τ := Cert.RouteReferenceIdeal.τ) (Cert.RouteReferenceIdeal.main (F := Ideal))) ⟨m', fun _ => 0, g'⟩ (fun r => ∀ c : Dev Cert.RouteReferenceIdeal.nD,
          r.2.mem ((c.tc : Thread Cert.RouteReferenceIdeal.nD Cert.RouteReferenceIdeal.τ).loc Cert.RouteReferenceIdeal.main_v9) = v0 c
          ∧ r.2.mem ((c.tc : Thread Cert.RouteReferenceIdeal.nD Cert.RouteReferenceIdeal.τ).loc Cert.RouteReferenceIdeal.main_arg0) = m' ((c.tc : Thread Cert.RouteReferenceIdeal.nD Cert.RouteReferenceIdeal.τ).loc Cert.RouteReferenceIdeal.main_arg0)
          ∧ r.2.mem ((c.tc : Thread Cert.RouteReferenceIdeal.nD Cert.RouteReferenceIdeal.τ).loc Cert.RouteReferenceIdeal.main_arg1) = m' ((c.tc : Thread Cert.RouteReferenceIdeal.nD Cert.RouteReferenceIdeal.τ).loc Cert.RouteReferenceIdeal.main_arg1))

def Claim : Prop :=
  ∃ (hKernel : Cert.Kernel.Facts) (hKernelIdeal : Cert.KernelIdeal.Facts) (hReferenceIdeal : Cert.ReferenceIdeal.Facts) (hHidden : Cert.Hidden.Facts) (hHiddenIdeal : Cert.HiddenIdeal.Facts) (hHiddenReferenceIdeal : Cert.HiddenReferenceIdeal.Facts) (hFinal : Cert.Final.Facts) (hFinalIdeal : Cert.FinalIdeal.Facts) (hFinalReferenceIdeal : Cert.FinalReferenceIdeal.Facts) (hExperts : Cert.Experts.Facts) (hExpertsIdeal : Cert.ExpertsIdeal.Facts) (hExpertsReferenceIdeal : Cert.ExpertsReferenceIdeal.Facts) (hSelect : Cert.Select.Facts) (hSelectIdeal : Cert.SelectIdeal.Facts) (hSelectReferenceIdeal : Cert.SelectReferenceIdeal.Facts) (hRoute : Cert.Route.Facts) (hRouteIdeal : Cert.RouteIdeal.Facts) (hRouteReferenceIdeal : Cert.RouteReferenceIdeal.Facts) (hPre_finite : Cert.Pre_finite.Facts) (hPre_finite3 : Cert.Pre_finite3.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Hidden (hHidden := hHidden)
    ∧ quiescent_HiddenIdeal (hHiddenIdeal := hHiddenIdeal)
    ∧ quiescent_HiddenReferenceIdeal (hHiddenReferenceIdeal := hHiddenReferenceIdeal)
    ∧ quiescent_Final (hFinal := hFinal)
    ∧ quiescent_FinalIdeal (hFinalIdeal := hFinalIdeal)
    ∧ quiescent_FinalReferenceIdeal (hFinalReferenceIdeal := hFinalReferenceIdeal)
    ∧ quiescent_Experts (hExperts := hExperts)
    ∧ quiescent_ExpertsIdeal (hExpertsIdeal := hExpertsIdeal)
    ∧ quiescent_ExpertsReferenceIdeal (hExpertsReferenceIdeal := hExpertsReferenceIdeal)
    ∧ quiescent_Select (hSelect := hSelect)
    ∧ quiescent_SelectIdeal (hSelectIdeal := hSelectIdeal)
    ∧ quiescent_SelectIdeal_pre_finite3 (hSelectIdeal := hSelectIdeal) (hPre_finite3 := hPre_finite3)
    ∧ quiescent_SelectReferenceIdeal (hSelectReferenceIdeal := hSelectReferenceIdeal)
    ∧ quiescent_SelectReferenceIdeal_pre_finite3 (hSelectReferenceIdeal := hSelectReferenceIdeal) (hPre_finite3 := hPre_finite3)
    ∧ quiescent_Route (hRoute := hRoute)
    ∧ quiescent_RouteIdeal (hRouteIdeal := hRouteIdeal)
    ∧ quiescent_RouteReferenceIdeal (hRouteReferenceIdeal := hRouteReferenceIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_Hidden_HiddenIdeal
    ∧ algebraic_HiddenIdeal_HiddenReferenceIdeal (hHiddenIdeal := hHiddenIdeal) (hHiddenReferenceIdeal := hHiddenReferenceIdeal)
    ∧ preserves_Final_FinalIdeal
    ∧ algebraic_FinalIdeal_FinalReferenceIdeal (hFinalIdeal := hFinalIdeal) (hFinalReferenceIdeal := hFinalReferenceIdeal)
    ∧ preserves_Experts_ExpertsIdeal
    ∧ algebraic_ExpertsIdeal_ExpertsReferenceIdeal (hExpertsIdeal := hExpertsIdeal) (hExpertsReferenceIdeal := hExpertsReferenceIdeal)
    ∧ preserves_Select_SelectIdeal
    ∧ algebraic_SelectIdeal_SelectReferenceIdeal_pre_finite3 (hSelectIdeal := hSelectIdeal) (hSelectReferenceIdeal := hSelectReferenceIdeal) (hPre_finite3 := hPre_finite3)
    ∧ preserves_Route_RouteIdeal
    ∧ algebraic_RouteIdeal_RouteReferenceIdeal (hRouteIdeal := hRouteIdeal) (hRouteReferenceIdeal := hRouteReferenceIdeal)
-- ==== Pre_finite.lean ====
abbrev S2x8192x4x2x64 : Shape := ⟨5, ![2, 8192, 4, 2, 64]⟩
abbrev S2x8192x4x128 : Shape := ⟨4, ![2, 8192, 4, 128]⟩
abbrev S1 : Shape := ⟨1, ![1]⟩
abbrev S_ : Shape := ⟨0, ![]⟩

class Facts : Prop where
  bcast_S_S2x8192x4x2x64 : S_.BroadcastsInDim S2x8192x4x2x64 (![] : Fin 0 → Fin S2x8192x4x2x64.rank)
  reducesTo_S2x8192x4x2x64_S_d0_1_2_3_4 : S2x8192x4x2x64.ReducesTo [0, 1, 2, 3, 4] S_
  h_S_ : 0 < S_.numel
  bcast_S_S2x8192x4x128 : S_.BroadcastsInDim S2x8192x4x128 (![] : Fin 0 → Fin S2x8192x4x128.rank)
  reducesTo_S2x8192x4x128_S_d0_1_2_3 : S2x8192x4x128.ReducesTo [0, 1, 2, 3] S_
  bcast_S_S1 : S_.BroadcastsInDim S1 (![] : Fin 0 → Fin S1.rank)
  reducesTo_S1_S_d0 : S1.ReducesTo [0] S_

variable [Facts]

def fn_part1 {F : FTy → Type} [FloatOps F] (main_v13 : IVec S_ 1) (main_v16 : IVec S1 1) : IVec S_ 1 :=
  let main_c_5 : IVec S_ 1 := constantI S_ 1 1#1
  let main_v17 : IVec S_ 1 := (fun x v => Host.reduce IntOp.andi x v reducesTo_S1_S_d0 h_S_) main_v16 main_c_5
  let main_v18 : IVec S_ 1 := andi main_v13 main_v17
  main_v18

def fn {F : FTy → Type} [FloatOps F] (main_arg0 : FVec F S2x8192x4x2x64 .f32) (main_arg1 : FVec F S2x8192x4x2x64 .f32) (main_arg2 : FVec F S2x8192x4x128 .f32) (main_arg3 : FVec F S1 .f32) : IVec S_ 1 :=
  let main_v0 : FVec F S2x8192x4x2x64 .f32 := Host.absf main_arg0
  let main_cst : FVec F S_ .f32 := constant S_ .f32 0x7F800000#32
  let main_v1 : FVec F S2x8192x4x2x64 .f32 := broadcastInDim S2x8192x4x2x64 ![] bcast_S_S2x8192x4x2x64 main_cst
  let main_v2 : IVec S2x8192x4x2x64 1 := cmpf .olt main_v0 main_v1
  let main_c : IVec S_ 1 := constantI S_ 1 1#1
  let main_v3 : IVec S_ 1 := (fun x v => Host.reduce IntOp.andi x v reducesTo_S2x8192x4x2x64_S_d0_1_2_3_4 h_S_) main_v2 main_c
  let main_v4 : FVec F S2x8192x4x2x64 .f32 := Host.absf main_arg1
  let main_cst_0 : FVec F S_ .f32 := constant S_ .f32 0x7F800000#32
  let main_v5 : FVec F S2x8192x4x2x64 .f32 := broadcastInDim S2x8192x4x2x64 ![] bcast_S_S2x8192x4x2x64 main_cst_0
  let main_v6 : IVec S2x8192x4x2x64 1 := cmpf .olt main_v4 main_v5
  let main_c_1 : IVec S_ 1 := constantI S_ 1 1#1
  let main_v7 : IVec S_ 1 := (fun x v => Host.reduce IntOp.andi x v reducesTo_S2x8192x4x2x64_S_d0_1_2_3_4 h_S_) main_v6 main_c_1
  let main_v8 : IVec S_ 1 := andi main_v3 main_v7
  let main_v9 : FVec F S2x8192x4x128 .f32 := Host.absf main_arg2
  let main_cst_2 : FVec F S_ .f32 := constant S_ .f32 0x7F800000#32
  let main_v10 : FVec F S2x8192x4x128 .f32 := broadcastInDim S2x8192x4x128 ![] bcast_S_S2x8192x4x128 main_cst_2
  let main_v11 : IVec S2x8192x4x128 1 := cmpf .olt main_v9 main_v10
  let main_c_3 : IVec S_ 1 := constantI S_ 1 1#1
  let main_v12 : IVec S_ 1 := (fun x v => Host.reduce IntOp.andi x v reducesTo_S2x8192x4x128_S_d0_1_2_3 h_S_) main_v11 main_c_3
  let main_v13 : IVec S_ 1 := andi main_v8 main_v12
  let main_v14 : FVec F S1 .f32 := Host.absf main_arg3
  let main_cst_4 : FVec F S_ .f32 := constant S_ .f32 0x7F800000#32
  let main_v15 : FVec F S1 .f32 := broadcastInDim S1 ![] bcast_S_S1 main_cst_4
  let main_v16 : IVec S1 1 := cmpf .olt main_v14 main_v15
  fn_part1 (F := F) main_v13 main_v16
-- ==== Pre_finite3.lean ====
abbrev S2x8192x8x64 : Shape := ⟨4, ![2, 8192, 8, 64]⟩
abbrev S2x511x2x64 : Shape := ⟨4, ![2, 511, 2, 64]⟩
abbrev S_ : Shape := ⟨0, ![]⟩

class Facts : Prop where
  bcast_S_S2x8192x8x64 : S_.BroadcastsInDim S2x8192x8x64 (![] : Fin 0 → Fin S2x8192x8x64.rank)
  reducesTo_S2x8192x8x64_S_d0_1_2_3 : S2x8192x8x64.ReducesTo [0, 1, 2, 3] S_
  h_S_ : 0 < S_.numel
  bcast_S_S2x511x2x64 : S_.BroadcastsInDim S2x511x2x64 (![] : Fin 0 → Fin S2x511x2x64.rank)
  reducesTo_S2x511x2x64_S_d0_1_2_3 : S2x511x2x64.ReducesTo [0, 1, 2, 3] S_

variable [Facts]

def fn {F : FTy → Type} [FloatOps F] (main_arg0 : FVec F S2x8192x8x64 .f32) (main_arg1 : FVec F S2x511x2x64 .f32) (main_arg2 : FVec F S2x511x2x64 .f32) : IVec S_ 1 :=
  let main_v0 : FVec F S2x8192x8x64 .f32 := Host.absf main_arg0
  let main_cst : FVec F S_ .f32 := constant S_ .f32 0x7F800000#32
  let main_v1 : FVec F S2x8192x8x64 .f32 := broadcastInDim S2x8192x8x64 ![] bcast_S_S2x8192x8x64 main_cst
  let main_v2 : IVec S2x8192x8x64 1 := cmpf .olt main_v0 main_v1
  let main_c : IVec S_ 1 := constantI S_ 1 1#1
  let main_v3 : IVec S_ 1 := (fun x v => Host.reduce IntOp.andi x v reducesTo_S2x8192x8x64_S_d0_1_2_3 h_S_) main_v2 main_c
  let main_v4 : FVec F S2x511x2x64 .f32 := Host.absf main_arg1
  let main_cst_0 : FVec F S_ .f32 := constant S_ .f32 0x7F800000#32
  let main_v5 : FVec F S2x511x2x64 .f32 := broadcastInDim S2x511x2x64 ![] bcast_S_S2x511x2x64 main_cst_0
  let main_v6 : IVec S2x511x2x64 1 := cmpf .olt main_v4 main_v5
  let main_c_1 : IVec S_ 1 := constantI S_ 1 1#1
  let main_v7 : IVec S_ 1 := (fun x v => Host.reduce IntOp.andi x v reducesTo_S2x511x2x64_S_d0_1_2_3 h_S_) main_v6 main_c_1
  let main_v8 : IVec S_ 1 := andi main_v3 main_v7
  main_v8
-- ==== Kernel.lean ====
abbrev S2x8192x4x2x64 : Shape := ⟨5, ![2, 8192, 4, 2, 64]⟩
abbrev S2x8192x4x128 : Shape := ⟨4, ![2, 8192, 4, 128]⟩
abbrev S1 : Shape := ⟨1, ![1]⟩
abbrev S_ : Shape := ⟨0, ![]⟩
abbrev S2x4x2x8192x64 : Shape := ⟨5, ![2, 4, 2, 8192, 64]⟩
abbrev S2x8192x512 : Shape := ⟨3, ![2, 8192, 512]⟩
abbrev S1x1x2x512x64 : Shape := ⟨5, ![1, 1, 2, 512, 64]⟩
abbrev S1x512x128 : Shape := ⟨3, ![1, 512, 128]⟩
abbrev S2x512x1 : Shape := ⟨3, ![2, 512, 1]⟩
abbrev S2x512x128 : Shape := ⟨3, ![2, 512, 128]⟩
abbrev S512x128 : Shape := ⟨2, ![512, 128]⟩
abbrev S1x1x1x512x64 : Shape := ⟨5, ![1, 1, 1, 512, 64]⟩
abbrev S512x64 : Shape := ⟨2, ![512, 64]⟩
abbrev S512x512 : Shape := ⟨2, ![512, 512]⟩
abbrev S1x512x1 : Shape := ⟨3, ![1, 512, 1]⟩
abbrev S512x1 : Shape := ⟨2, ![512, 1]⟩
abbrev S512 : Shape := ⟨1, ![512]⟩

abbrev nBuf : Space → Nat
  | .hbm => 14
  | .vmem => 11
  | .smem => 1
  | _ => 0

abbrev bufTy : (tb : Table) → Fin (tcTables nBuf tb) → BufTy
  | .hbm, ⟨0, _⟩ => ⟨S2x8192x4x2x64, .f32⟩
  | .hbm, ⟨1, _⟩ => ⟨S2x8192x4x2x64, .f32⟩
  | .hbm, ⟨2, _⟩ => ⟨S2x8192x4x128, .f32⟩
  | .hbm, ⟨3, _⟩ => ⟨S1, .f32⟩
  | .hbm, ⟨4, _⟩ => ⟨S_, .f32⟩
  | .hbm, ⟨5, _⟩ => ⟨S2x8192x4x2x64, .f32⟩
  | .hbm, ⟨6, _⟩ => ⟨S2x8192x4x2x64, .f32⟩
  | .hbm, ⟨7, _⟩ => ⟨S2x8192x4x2x64, .bf16⟩
  | .hbm, ⟨8, _⟩ => ⟨S2x4x2x8192x64, .bf16⟩
  | .hbm, ⟨9, _⟩ => ⟨S2x8192x4x2x64, .bf16⟩
  | .hbm, ⟨10, _⟩ => ⟨S2x4x2x8192x64, .bf16⟩
  | .hbm, ⟨11, _⟩ => ⟨S2x8192x512, .f32⟩
  | .hbm, ⟨12, _⟩ => ⟨S2x8192x512, .bf16⟩
  | .hbm, ⟨13, _⟩ => ⟨S2x8192x512, .f32⟩
  | .local _ .vmem, ⟨0, _⟩ => ⟨S1x1x2x512x64, .bf16⟩
  | .local _ .vmem, ⟨1, _⟩ => ⟨S1x1x2x512x64, .bf16⟩
  | .local _ .vmem, ⟨2, _⟩ => ⟨S1x1x2x512x64, .bf16⟩
  | .local _ .vmem, ⟨3, _⟩ => ⟨S1x1x2x512x64, .bf16⟩
  | .local _ .vmem, ⟨4, _⟩ => ⟨S1x512x128, .bf16⟩
  | .local _ .vmem, ⟨5, _⟩ => ⟨S1x512x128, .bf16⟩
  | .local _ .vmem, ⟨6, _⟩ => ⟨S1x512x128, .f32⟩
  | .local _ .vmem, ⟨7, _⟩ => ⟨S1x512x128, .f32⟩
  | .local _ .vmem, ⟨8, _⟩ => ⟨S2x512x1, .f32⟩
  | .local _ .vmem, ⟨9, _⟩ => ⟨S2x512x1, .f32⟩
  | .local _ .vmem, ⟨10, _⟩ => ⟨S2x512x128, .f32⟩
  | .local _ .smem, ⟨0, _⟩ => ⟨S1, .f32⟩
  | _, _ => ⟨S2x8192x4x2x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .smem, ⟨0, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨4, ![2, 4, 16, 16], ![false, false, false, false]⟩

def k0_cond3 (i : grid0.Coords) : BitVec 1 :=
  let arg3 : BitVec 32 := BitVec.ofNat 32 (i 3).val
  let arg2 : BitVec 32 := BitVec.ofNat 32 (i 2).val
  let v6 : BitVec 1 := Scalar.cmpi .eq arg3 arg2
  let v7 : BitVec 32 := Scalar.extui v6
  let c0_i32_2 : BitVec 32 := 0#32
  let v8 : BitVec 1 := Scalar.cmpi .ne v7 c0_i32_2
  v8

def cc0_transform_0 (i : grid0.Coords) : Fin 1 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  ![c0_i32.toNat]

def cc0_transform_1 (i : grid0.Coords) : Fin 5 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  let c0_i32_1 : BitVec 32 := 0#32
  ![arg0.toNat, arg1.toNat, c0_i32.toNat, arg2.toNat, c0_i32_0.toNat]

def cc0_transform_2 (i : grid0.Coords) : Fin 5 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let v0 : BitVec 32 := Scalar.minsi arg3 arg2
  let c0_i32 : BitVec 32 := 0#32
  let c0_i32_0 : BitVec 32 := 0#32
  let c0_i32_1 : BitVec 32 := 0#32
  ![arg0.toNat, arg1.toNat, c0_i32.toNat, v0.toNat, c0_i32_0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let v0 : BitVec 32 := Scalar.minsi arg3 arg2
  let c0_i32 : BitVec 32 := 0#32
  ![arg0.toNat, v0.toNat, arg1.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg2.toNat, arg1.toNat]

abbrev stage0_0 : Fin 1 → Memref sig .tc .smem S1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false, false, false]

abbrev stage0_1 : Fin 2 → Memref sig .tc .vmem S1x1x2x512x64 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true, false]

abbrev stage0_2 : Fin 2 → Memref sig .tc .vmem S1x1x2x512x64 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true, true]

abbrev stage0_3 : Fin 2 → Memref sig .tc .vmem S1x512x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true, true]

abbrev stage0_4 : Fin 2 → Memref sig .tc .vmem S1x512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true, false]
-- ==== ReferenceIdeal.lean ====
abbrev S2x8192x4x2x64 : Shape := ⟨5, ![2, 8192, 4, 2, 64]⟩
abbrev S2x8192x4x128 : Shape := ⟨4, ![2, 8192, 4, 128]⟩
abbrev S1 : Shape := ⟨1, ![1]⟩
abbrev S8192 : Shape := ⟨1, ![8192]⟩
abbrev S2x4x2x8192x8192 : Shape := ⟨5, ![2, 4, 2, 8192, 8192]⟩
abbrev S_ : Shape := ⟨0, ![]⟩
abbrev S1x8192 : Shape := ⟨2, ![1, 8192]⟩
abbrev S8192x1 : Shape := ⟨2, ![8192, 1]⟩
abbrev S8192x8192 : Shape := ⟨2, ![8192, 8192]⟩
abbrev S2x4x2x8192 : Shape := ⟨4, ![2, 4, 2, 8192]⟩
abbrev S2x4x2x8192x1 : Shape := ⟨5, ![2, 4, 2, 8192, 1]⟩
abbrev S2x4x1x8192x8192 : Shape := ⟨5, ![2, 4, 1, 8192, 8192]⟩
abbrev S2x4x8192x8192 : Shape := ⟨4, ![2, 4, 8192, 8192]⟩
abbrev S1x1x1x1 : Shape := ⟨4, ![1, 1, 1, 1]⟩
abbrev S2x4x128x8192 : Shape := ⟨4, ![2, 4, 128, 8192]⟩
abbrev S2x8192x512 : Shape := ⟨3, ![2, 8192, 512]⟩

abbrev nBuf : Space → Nat
  | .hbm => 49
  | .vmem => 0
  | .smem => 0
  | _ => 0

abbrev bufTy : (tb : Table) → Fin (tcTables nBuf tb) → BufTy
  | .hbm, ⟨0, _⟩ => ⟨S2x8192x4x2x64, .f32⟩
  | .hbm, ⟨1, _⟩ => ⟨S2x8192x4x2x64, .f32⟩
  | .hbm, ⟨2, _⟩ => ⟨S2x8192x4x128, .f32⟩
  | .hbm, ⟨3, _⟩ => ⟨S1, .f32⟩
  | .hbm, ⟨4, _⟩ => ⟨S8192, .i32⟩
  | .hbm, ⟨5, _⟩ => ⟨S2x4x2x8192x8192, .f32⟩
  | .hbm, ⟨6, _⟩ => ⟨S_, .f32⟩
  | .hbm, ⟨7, _⟩ => ⟨S2x4x2x8192x8192, .f32⟩
  | .hbm, ⟨8, _⟩ => ⟨S2x4x2x8192x8192, .f32⟩
  | .hbm, ⟨9, _⟩ => ⟨S1x8192, .i32⟩
  | .hbm, ⟨10, _⟩ => ⟨S8192x1, .i32⟩
  | .hbm, ⟨11, _⟩ => ⟨S8192x8192, .i32⟩
  | .hbm, ⟨12, _⟩ => ⟨S8192x8192, .i32⟩
  | .hbm, ⟨13, _⟩ => ⟨S8192x8192, .i1⟩
  | .hbm, ⟨14, _⟩ => ⟨S_, .f32⟩
  | .hbm, ⟨15, _⟩ => ⟨S_, .f32⟩
  | .hbm, ⟨16, _⟩ => ⟨S2x4x2x8192x8192, .i1⟩
  | .hbm, ⟨17, _⟩ => ⟨S2x4x2x8192x8192, .f32⟩
  | .hbm, ⟨18, _⟩ => ⟨S2x4x2x8192x8192, .f32⟩
  | .hbm, ⟨19, _⟩ => ⟨S_, .f32⟩
  | .hbm, ⟨20, _⟩ => ⟨S2x4x2x8192, .f32⟩
  | .hbm, ⟨21, _⟩ => ⟨S_, .f32⟩
  | .hbm, ⟨22, _⟩ => ⟨S2x4x2x8192, .f32⟩
  | .hbm, ⟨23, _⟩ => ⟨S2x4x2x8192, .f32⟩
  | .hbm, ⟨24, _⟩ => ⟨S2x4x2x8192x1, .f32⟩
  | .hbm, ⟨25, _⟩ => ⟨S2x4x2x8192x8192, .f32⟩
  | .hbm, ⟨26, _⟩ => ⟨S2x4x2x8192x8192, .f32⟩
  | .hbm, ⟨27, _⟩ => ⟨S2x4x2x8192x8192, .f32⟩
  | .hbm, ⟨28, _⟩ => ⟨S_, .f32⟩
  | .hbm, ⟨29, _⟩ => ⟨S2x4x2x8192, .f32⟩
  | .hbm, ⟨30, _⟩ => ⟨S2x4x2x8192x1, .f32⟩
  | .hbm, ⟨31, _⟩ => ⟨S2x4x2x8192x8192, .f32⟩
  | .hbm, ⟨32, _⟩ => ⟨S2x4x2x8192x8192, .f32⟩
  | .hbm, ⟨33, _⟩ => ⟨S_, .f32⟩
  | .hbm, ⟨34, _⟩ => ⟨S_, .f32⟩
  | .hbm, ⟨35, _⟩ => ⟨S2x4x2x8192x8192, .i1⟩
  | .hbm, ⟨36, _⟩ => ⟨S2x4x2x8192x8192, .f32⟩
  | .hbm, ⟨37, _⟩ => ⟨S2x4x2x8192x8192, .f32⟩
  | .hbm, ⟨38, _⟩ => ⟨S2x4x1x8192x8192, .f32⟩
  | .hbm, ⟨39, _⟩ => ⟨S2x4x8192x8192, .f32⟩
  | .hbm, ⟨40, _⟩ => ⟨S2x4x1x8192x8192, .f32⟩
  | .hbm, ⟨41, _⟩ => ⟨S2x4x8192x8192, .f32⟩
  | .hbm, ⟨42, _⟩ => ⟨S1x1x1x1, .f32⟩
  | .hbm, ⟨43, _⟩ => ⟨S2x4x8192x8192, .f32⟩
  | .hbm, ⟨44, _⟩ => ⟨S2x4x8192x8192, .f32⟩
  | .hbm, ⟨45, _⟩ => ⟨S2x4x8192x8192, .f32⟩
  | .hbm, ⟨46, _⟩ => ⟨S2x4x128x8192, .f32⟩
  | .hbm, ⟨47, _⟩ => ⟨S2x8192x4x128, .f32⟩
  | .hbm, ⟨48, _⟩ => ⟨S2x8192x512, .f32⟩
  | _, _ => ⟨S2x8192x4x2x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst_0 : Ref sig .tc := ⟨.hbm, 14, rfl⟩
abbrev main_call0_v0 : Ref sig .tc := ⟨.hbm, 15, rfl⟩
abbrev main_call0_v1 : Ref sig .tc := ⟨.hbm, 16, rfl⟩
abbrev main_call0_v2 : Ref sig .tc := ⟨.hbm, 17, rfl⟩
abbrev main_v9 : Ref sig .tc := ⟨.hbm, 18, rfl⟩
abbrev main_cst_1 : Ref sig .tc := ⟨.hbm, 19, rfl⟩
abbrev main_v10 : Ref sig .tc := ⟨.hbm, 20, rfl⟩
abbrev main_cst_2 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_3 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_4 : Ref sig .tc := ⟨.hbm, 33, rfl⟩
abbrev main_call1_v0 : Ref sig .tc := ⟨.hbm, 34, rfl⟩
abbrev main_call1_v1 : Ref sig .tc := ⟨.hbm, 35, rfl⟩
abbrev main_call1_v2 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩

abbrev nD : Nat := 1
abbrev τ : Topo := Topo.v7x

variable {F : FTy → Type} [FloatOps F]
-- ==== Hidden.lean ====
abbrev S10240x128x2x64 : Shape := ⟨4, ![10240, 128, 2, 64]⟩
abbrev S2048x128 : Shape := ⟨2, ![2048, 128]⟩
abbrev S10240x2x64x128 : Shape := ⟨4, ![10240, 2, 64, 128]⟩
abbrev S10240x128x128 : Shape := ⟨3, ![10240, 128, 128]⟩
abbrev S1024x128 : Shape := ⟨2, ![1024, 128]⟩
abbrev S16x64x128 : Shape := ⟨3, ![16, 64, 128]⟩
abbrev S16x64x256 : Shape := ⟨3, ![16, 64, 256]⟩
abbrev S2x2 : Shape := ⟨2, ![2, 2]⟩
abbrev S_ : Shape := ⟨0, ![]⟩
abbrev S16x1x64x1x256 : Shape := ⟨5, ![16, 1, 64, 1, 256]⟩
abbrev S1x2x1x2x1 : Shape := ⟨5, ![1, 2, 1, 2, 1]⟩
abbrev S16x2x64x2x256 : Shape := ⟨5, ![16, 2, 64, 2, 256]⟩
abbrev S16x128x512 : Shape := ⟨3, ![16, 128, 512]⟩
abbrev S81920x512 : Shape := ⟨2, ![81920, 512]⟩
abbrev S32x128x128 : Shape := ⟨3, ![32, 128, 128]⟩
abbrev S256x512 : Shape := ⟨2, ![256, 512]⟩
abbrev S4096x128 : Shape := ⟨2, ![4096, 128]⟩
abbrev S1x128x128 : Shape := ⟨3, ![1, 128, 128]⟩
abbrev S128x128 : Shape := ⟨2, ![128, 128]⟩
abbrev S256x128 : Shape := ⟨2, ![256, 128]⟩
abbrev S1x128x512 : Shape := ⟨3, ![1, 128, 512]⟩
abbrev S128x512 : Shape := ⟨2, ![128, 512]⟩

abbrev nBuf : Space → Nat
  | .hbm => 24
  | .vmem => 6
  | .smem => 0
  | _ => 0

abbrev bufTy : (tb : Table) → Fin (tcTables nBuf tb) → BufTy
  | .hbm, ⟨0, _⟩ => ⟨S10240x128x2x64, .f32⟩
  | .hbm, ⟨1, _⟩ => ⟨S2048x128, .f32⟩
  | .hbm, ⟨2, _⟩ => ⟨S10240x2x64x128, .f32⟩
  | .hbm, ⟨3, _⟩ => ⟨S10240x128x128, .f32⟩
  | .hbm, ⟨4, _⟩ => ⟨S1024x128, .f32⟩
  | .hbm, ⟨5, _⟩ => ⟨S16x64x128, .f32⟩
  | .hbm, ⟨6, _⟩ => ⟨S1024x128, .f32⟩
  | .hbm, ⟨7, _⟩ => ⟨S16x64x128, .f32⟩
  | .hbm, ⟨8, _⟩ => ⟨S16x64x256, .f32⟩
  | .hbm, ⟨9, _⟩ => ⟨S2x2, .i32⟩
  | .hbm, ⟨10, _⟩ => ⟨S2x2, .i32⟩
  | .hbm, ⟨11, _⟩ => ⟨S_, .i32⟩
  | .hbm, ⟨12, _⟩ => ⟨S2x2, .i32⟩
  | .hbm, ⟨13, _⟩ => ⟨S2x2, .i32⟩
  | .hbm, ⟨14, _⟩ => ⟨S2x2, .i1⟩
  | .hbm, ⟨15, _⟩ => ⟨S2x2, .f32⟩
  | .hbm, ⟨16, _⟩ => ⟨S16x1x64x1x256, .f32⟩
  | .hbm, ⟨17, _⟩ => ⟨S1x2x1x2x1, .f32⟩
  | .hbm, ⟨18, _⟩ => ⟨S16x2x64x2x256, .f32⟩
  | .hbm, ⟨19, _⟩ => ⟨S16x2x64x2x256, .f32⟩
  | .hbm, ⟨20, _⟩ => ⟨S16x2x64x2x256, .f32⟩
  | .hbm, ⟨21, _⟩ => ⟨S16x128x512, .f32⟩
  | .hbm, ⟨22, _⟩ => ⟨S16x128x512, .bf16⟩
  | .hbm, ⟨23, _⟩ => ⟨S81920x512, .f32⟩
  | .local _ .vmem, ⟨0, _⟩ => ⟨S32x128x128, .f32⟩
  | .local _ .vmem, ⟨1, _⟩ => ⟨S32x128x128, .f32⟩
  | .local _ .vmem, ⟨2, _⟩ => ⟨S16x128x512, .bf16⟩
  | .local _ .vmem, ⟨3, _⟩ => ⟨S256x512, .f32⟩
  | .local _ .vmem, ⟨4, _⟩ => ⟨S256x512, .f32⟩
  | .local _ .vmem, ⟨5, _⟩ => ⟨S4096x128, .f32⟩
  | _, _ => ⟨S10240x128x2x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_c : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![320], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S32x128x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S16x128x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== HiddenReferenceIdeal.lean ====
abbrev S10240x128x2x64 : Shape := ⟨4, ![10240, 128, 2, 64]⟩
abbrev S2048x128 : Shape := ⟨2, ![2048, 128]⟩
abbrev S81920x16x2x64 : Shape := ⟨4, ![81920, 16, 2, 64]⟩
abbrev S81920x2x16x64 : Shape := ⟨4, ![81920, 2, 16, 64]⟩
abbrev S81920x2x1024 : Shape := ⟨3, ![81920, 2, 1024]⟩
abbrev S1024x128 : Shape := ⟨2, ![1024, 128]⟩
abbrev S81920x2x128 : Shape := ⟨3, ![81920, 2, 128]⟩
abbrev S81920x2x256 : Shape := ⟨3, ![81920, 2, 256]⟩
abbrev S81920x512 : Shape := ⟨2, ![81920, 512]⟩

abbrev nBuf : Space → Nat
  | .hbm => 11
  | .vmem => 0
  | .smem => 0
  | _ => 0

abbrev bufTy : (tb : Table) → Fin (tcTables nBuf tb) → BufTy
  | .hbm, ⟨0, _⟩ => ⟨S10240x128x2x64, .f32⟩
  | .hbm, ⟨1, _⟩ => ⟨S2048x128, .f32⟩
  | .hbm, ⟨2, _⟩ => ⟨S81920x16x2x64, .f32⟩
  | .hbm, ⟨3, _⟩ => ⟨S81920x2x16x64, .f32⟩
  | .hbm, ⟨4, _⟩ => ⟨S81920x2x1024, .f32⟩
  | .hbm, ⟨5, _⟩ => ⟨S1024x128, .f32⟩
  | .hbm, ⟨6, _⟩ => ⟨S81920x2x128, .f32⟩
  | .hbm, ⟨7, _⟩ => ⟨S1024x128, .f32⟩
  | .hbm, ⟨8, _⟩ => ⟨S81920x2x128, .f32⟩
  | .hbm, ⟨9, _⟩ => ⟨S81920x2x256, .f32⟩
  | .hbm, ⟨10, _⟩ => ⟨S81920x512, .f32⟩
  | _, _ => ⟨S10240x128x2x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩

abbrev nD : Nat := 1
abbrev τ : Topo := Topo.v7x

variable {F : FTy → Type} [FloatOps F]
-- ==== Final.lean ====
abbrev S2x8192x1024 : Shape := ⟨3, ![2, 8192, 1024]⟩
abbrev S128x8x1024 : Shape := ⟨3, ![128, 8, 1024]⟩
abbrev S1024 : Shape := ⟨1, ![1024]⟩
abbrev S16384x1024 : Shape := ⟨2, ![16384, 1024]⟩
abbrev S1024x1024 : Shape := ⟨2, ![1024, 1024]⟩
abbrev S17408x1024 : Shape := ⟨2, ![17408, 1024]⟩
abbrev S1x17408x1024 : Shape := ⟨3, ![1, 17408, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 10
  | .vmem => 5
  | .smem => 0
  | _ => 0

abbrev bufTy : (tb : Table) → Fin (tcTables nBuf tb) → BufTy
  | .hbm, ⟨0, _⟩ => ⟨S2x8192x1024, .f32⟩
  | .hbm, ⟨1, _⟩ => ⟨S128x8x1024, .f32⟩
  | .hbm, ⟨2, _⟩ => ⟨S1024, .f32⟩
  | .hbm, ⟨3, _⟩ => ⟨S16384x1024, .f32⟩
  | .hbm, ⟨4, _⟩ => ⟨S1024x1024, .f32⟩
  | .hbm, ⟨5, _⟩ => ⟨S17408x1024, .f32⟩
  | .hbm, ⟨6, _⟩ => ⟨S1x17408x1024, .f32⟩
  | .hbm, ⟨7, _⟩ => ⟨S17408x1024, .f32⟩
  | .hbm, ⟨8, _⟩ => ⟨S1x1024, .f32⟩
  | .hbm, ⟨9, _⟩ => ⟨S17408x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .f32⟩
  | .local _ .vmem, ⟨4, _⟩ => ⟨S512x1024, .f32⟩
  | _, _ => ⟨S2x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![34], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== FinalReferenceIdeal.lean ====
abbrev S2x8192x1024 : Shape := ⟨3, ![2, 8192, 1024]⟩
abbrev S128x8x1024 : Shape := ⟨3, ![128, 8, 1024]⟩
abbrev S1024 : Shape := ⟨1, ![1024]⟩
abbrev S_ : Shape := ⟨0, ![]⟩
abbrev S2x8192 : Shape := ⟨2, ![2, 8192]⟩
abbrev S2x8192x1 : Shape := ⟨3, ![2, 8192, 1]⟩
abbrev S1x1x1024 : Shape := ⟨3, ![1, 1, 1024]⟩
abbrev S128x8 : Shape := ⟨2, ![128, 8]⟩
abbrev S128x8x1 : Shape := ⟨3, ![128, 8, 1]⟩
abbrev S16384x1024 : Shape := ⟨2, ![16384, 1024]⟩
abbrev S1024x1024 : Shape := ⟨2, ![1024, 1024]⟩
abbrev S17408x1024 : Shape := ⟨2, ![17408, 1024]⟩

abbrev nBuf : Space → Nat
  | .hbm => 38
  | .vmem => 0
  | .smem => 0
  | _ => 0

abbrev bufTy : (tb : Table) → Fin (tcTables nBuf tb) → BufTy
  | .hbm, ⟨0, _⟩ => ⟨S2x8192x1024, .f32⟩
  | .hbm, ⟨1, _⟩ => ⟨S128x8x1024, .f32⟩
  | .hbm, ⟨2, _⟩ => ⟨S1024, .f32⟩
  | .hbm, ⟨3, _⟩ => ⟨S2x8192x1024, .f32⟩
  | .hbm, ⟨4, _⟩ => ⟨S_, .f32⟩
  | .hbm, ⟨5, _⟩ => ⟨S2x8192, .f32⟩
  | .hbm, ⟨6, _⟩ => ⟨S2x8192x1, .f32⟩
  | .hbm, ⟨7, _⟩ => ⟨S_, .f32⟩
  | .hbm, ⟨8, _⟩ => ⟨S2x8192x1, .f32⟩
  | .hbm, ⟨9, _⟩ => ⟨S2x8192x1, .f32⟩
  | .hbm, ⟨10, _⟩ => ⟨S_, .f32⟩
  | .hbm, ⟨11, _⟩ => ⟨S2x8192x1, .f32⟩
  | .hbm, ⟨12, _⟩ => ⟨S2x8192x1, .f32⟩
  | .hbm, ⟨13, _⟩ => ⟨S2x8192x1, .f32⟩
  | .hbm, ⟨14, _⟩ => ⟨S2x8192x1024, .f32⟩
  | .hbm, ⟨15, _⟩ => ⟨S2x8192x1024, .f32⟩
  | .hbm, ⟨16, _⟩ => ⟨S1x1x1024, .f32⟩
  | .hbm, ⟨17, _⟩ => ⟨S2x8192x1024, .f32⟩
  | .hbm, ⟨18, _⟩ => ⟨S2x8192x1024, .f32⟩
  | .hbm, ⟨19, _⟩ => ⟨S128x8x1024, .f32⟩
  | .hbm, ⟨20, _⟩ => ⟨S_, .f32⟩
  | .hbm, ⟨21, _⟩ => ⟨S128x8, .f32⟩
  | .hbm, ⟨22, _⟩ => ⟨S128x8x1, .f32⟩
  | .hbm, ⟨23, _⟩ => ⟨S_, .f32⟩
  | .hbm, ⟨24, _⟩ => ⟨S128x8x1, .f32⟩
  | .hbm, ⟨25, _⟩ => ⟨S128x8x1, .f32⟩
  | .hbm, ⟨26, _⟩ => ⟨S_, .f32⟩
  | .hbm, ⟨27, _⟩ => ⟨S128x8x1, .f32⟩
  | .hbm, ⟨28, _⟩ => ⟨S128x8x1, .f32⟩
  | .hbm, ⟨29, _⟩ => ⟨S128x8x1, .f32⟩
  | .hbm, ⟨30, _⟩ => ⟨S128x8x1024, .f32⟩
  | .hbm, ⟨31, _⟩ => ⟨S128x8x1024, .f32⟩
  | .hbm, ⟨32, _⟩ => ⟨S1x1x1024, .f32⟩
  | .hbm, ⟨33, _⟩ => ⟨S128x8x1024, .f32⟩
  | .hbm, ⟨34, _⟩ => ⟨S128x8x1024, .f32⟩
  | .hbm, ⟨35, _⟩ => ⟨S16384x1024, .f32⟩
  | .hbm, ⟨36, _⟩ => ⟨S1024x1024, .f32⟩
  | .hbm, ⟨37, _⟩ => ⟨S17408x1024, .f32⟩
  | _, _ => ⟨S2x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst_2 : Ref sig .tc := ⟨.hbm, 20, rfl⟩
abbrev main_v14 : Ref sig .tc := ⟨.hbm, 21, rfl⟩
abbrev main_v15 : Ref sig .tc := ⟨.hbm, 22, rfl⟩
abbrev main_cst_3 : Ref sig .tc := ⟨.hbm, 23, rfl⟩
abbrev main_v16 : Ref sig .tc := ⟨.hbm, 24, rfl⟩
abbrev main_v17 : Ref sig .tc := ⟨.hbm, 25, rfl⟩
abbrev main_cst_4 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩

abbrev nD : Nat := 1
abbrev τ : Topo := Topo.v7x

variable {F : FTy → Type} [FloatOps F]
-- ==== Experts.lean ====
abbrev S17408x1024 : Shape := ⟨2, ![17408, 1024]⟩
abbrev S16384x1024 : Shape := ⟨2, ![16384, 1024]⟩
abbrev S17408x16384 : Shape := ⟨2, ![17408, 16384]⟩
abbrev S1024x16384 : Shape := ⟨2, ![1024, 16384]⟩
abbrev S1024x1024 : Shape := ⟨2, ![1024, 1024]⟩

abbrev nBuf : Space → Nat
  | .hbm => 10
  | .vmem => 10
  | .smem => 0
  | _ => 0

abbrev bufTy : (tb : Table) → Fin (tcTables nBuf tb) → BufTy
  | .hbm, ⟨0, _⟩ => ⟨S17408x1024, .f32⟩
  | .hbm, ⟨1, _⟩ => ⟨S16384x1024, .f32⟩
  | .hbm, ⟨2, _⟩ => ⟨S16384x1024, .f32⟩
  | .hbm, ⟨3, _⟩ => ⟨S17408x16384, .f32⟩
  | .hbm, ⟨4, _⟩ => ⟨S17408x1024, .bf16⟩
  | .hbm, ⟨5, _⟩ => ⟨S16384x1024, .bf16⟩
  | .hbm, ⟨6, _⟩ => ⟨S1024x16384, .bf16⟩
  | .hbm, ⟨7, _⟩ => ⟨S16384x1024, .bf16⟩
  | .hbm, ⟨8, _⟩ => ⟨S17408x16384, .bf16⟩
  | .hbm, ⟨9, _⟩ => ⟨S17408x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x1024, .bf16⟩
  | .local _ .vmem, ⟨8, _⟩ => ⟨S1024x1024, .f32⟩
  | .local _ .vmem, ⟨9, _⟩ => ⟨S1024x1024, .f32⟩
  | _, _ => ⟨S17408x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![17, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== ExpertsReferenceIdeal.lean ====
abbrev S17408x1024 : Shape := ⟨2, ![17408, 1024]⟩
abbrev S16384x1024 : Shape := ⟨2, ![16384, 1024]⟩
abbrev S17408x16384 : Shape := ⟨2, ![17408, 16384]⟩
abbrev S_ : Shape := ⟨0, ![]⟩

abbrev nBuf : Space → Nat
  | .hbm => 16
  | .vmem => 0
  | .smem => 0
  | _ => 0

abbrev bufTy : (tb : Table) → Fin (tcTables nBuf tb) → BufTy
  | .hbm, ⟨0, _⟩ => ⟨S17408x1024, .f32⟩
  | .hbm, ⟨1, _⟩ => ⟨S16384x1024, .f32⟩
  | .hbm, ⟨2, _⟩ => ⟨S16384x1024, .f32⟩
  | .hbm, ⟨3, _⟩ => ⟨S17408x16384, .f32⟩
  | .hbm, ⟨4, _⟩ => ⟨S17408x16384, .f32⟩
  | .hbm, ⟨5, _⟩ => ⟨S_, .f32⟩
  | .hbm, ⟨6, _⟩ => ⟨S17408x16384, .f32⟩
  | .hbm, ⟨7, _⟩ => ⟨S17408x16384, .f32⟩
  | .hbm, ⟨8, _⟩ => ⟨S17408x16384, .f32⟩
  | .hbm, ⟨9, _⟩ => ⟨S_, .f32⟩
  | .hbm, ⟨10, _⟩ => ⟨S17408x16384, .f32⟩
  | .hbm, ⟨11, _⟩ => ⟨S17408x16384, .f32⟩
  | .hbm, ⟨12, _⟩ => ⟨S17408x16384, .f32⟩
  | .hbm, ⟨13, _⟩ => ⟨S17408x16384, .f32⟩
  | .hbm, ⟨14, _⟩ => ⟨S17408x16384, .f32⟩
  | .hbm, ⟨15, _⟩ => ⟨S17408x1024, .f32⟩
  | _, _ => ⟨S17408x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩

abbrev nD : Nat := 1
abbrev τ : Topo := Topo.v7x

variable {F : FTy → Type} [FloatOps F]
-- ==== Select.lean ====
abbrev S2x8192x8x64 : Shape := ⟨4, ![2, 8192, 8, 64]⟩
abbrev S2x511x2x64 : Shape := ⟨4, ![2, 511, 2, 64]⟩
abbrev S512x128 : Shape := ⟨2, ![512, 128]⟩
abbrev S_ : Shape := ⟨0, ![]⟩
abbrev S2x8192x2x4x64 : Shape := ⟨5, ![2, 8192, 2, 4, 64]⟩
abbrev S2x2x4x8192x64 : Shape := ⟨5, ![2, 2, 4, 8192, 64]⟩
abbrev S2x512x2x64 : Shape := ⟨4, ![2, 512, 2, 64]⟩
abbrev S2x2x512x64 : Shape := ⟨4, ![2, 2, 512, 64]⟩
abbrev S2x2x8192x128 : Shape := ⟨4, ![2, 2, 8192, 128]⟩
abbrev S1x1x4x256x64 : Shape := ⟨5, ![1, 1, 4, 256, 64]⟩
abbrev S1x1x512x64 : Shape := ⟨4, ![1, 1, 512, 64]⟩
abbrev S1x1x256x128 : Shape := ⟨4, ![1, 1, 256, 128]⟩
abbrev S256x1 : Shape := ⟨2, ![256, 1]⟩
abbrev S1x512 : Shape := ⟨2, ![1, 512]⟩
abbrev S256x512 : Shape := ⟨2, ![256, 512]⟩
abbrev S512x64 : Shape := ⟨2, ![512, 64]⟩
abbrev S1x1x1x256x64 : Shape := ⟨5, ![1, 1, 1, 256, 64]⟩
abbrev S256x64 : Shape := ⟨2, ![256, 64]⟩
abbrev S256 : Shape := ⟨1, ![256]⟩
abbrev S256x128 : Shape := ⟨2, ![256, 128]⟩
abbrev S1x128 : Shape := ⟨2, ![1, 128]⟩

abbrev nBuf : Space → Nat
  | .hbm => 22
  | .vmem => 11
  | .smem => 0
  | _ => 0

abbrev bufTy : (tb : Table) → Fin (tcTables nBuf tb) → BufTy
  | .hbm, ⟨0, _⟩ => ⟨S2x8192x8x64, .f32⟩
  | .hbm, ⟨1, _⟩ => ⟨S2x511x2x64, .f32⟩
  | .hbm, ⟨2, _⟩ => ⟨S2x511x2x64, .f32⟩
  | .hbm, ⟨3, _⟩ => ⟨S512x128, .f32⟩
  | .hbm, ⟨4, _⟩ => ⟨S_, .f32⟩
  | .hbm, ⟨5, _⟩ => ⟨S2x8192x8x64, .f32⟩
  | .hbm, ⟨6, _⟩ => ⟨S2x8192x8x64, .f32⟩
  | .hbm, ⟨7, _⟩ => ⟨S2x8192x8x64, .bf16⟩
  | .hbm, ⟨8, _⟩ => ⟨S2x8192x2x4x64, .bf16⟩
  | .hbm, ⟨9, _⟩ => ⟨S2x2x4x8192x64, .bf16⟩
  | .hbm, ⟨10, _⟩ => ⟨S_, .i32⟩
  | .hbm, ⟨11, _⟩ => ⟨S_, .f32⟩
  | .hbm, ⟨12, _⟩ => ⟨S2x512x2x64, .f32⟩
  | .hbm, ⟨13, _⟩ => ⟨S2x512x2x64, .bf16⟩
  | .hbm, ⟨14, _⟩ => ⟨S2x2x512x64, .bf16⟩
  | .hbm, ⟨15, _⟩ => ⟨S_, .i32⟩
  | .hbm, ⟨16, _⟩ => ⟨S_, .f32⟩
  | .hbm, ⟨17, _⟩ => ⟨S2x512x2x64, .f32⟩
  | .hbm, ⟨18, _⟩ => ⟨S2x512x2x64, .bf16⟩
  | .hbm, ⟨19, _⟩ => ⟨S2x2x512x64, .bf16⟩
  | .hbm, ⟨20, _⟩ => ⟨S2x2x4x8192x64, .f32⟩
  | .hbm, ⟨21, _⟩ => ⟨S2x2x8192x128, .bf16⟩
  | .local _ .vmem, ⟨0, _⟩ => ⟨S1x1x4x256x64, .bf16⟩
  | .local _ .vmem, ⟨1, _⟩ => ⟨S1x1x4x256x64, .bf16⟩
  | .local _ .vmem, ⟨2, _⟩ => ⟨S1x1x512x64, .bf16⟩
  | .local _ .vmem, ⟨3, _⟩ => ⟨S1x1x512x64, .bf16⟩
  | .local _ .vmem, ⟨4, _⟩ => ⟨S1x1x512x64, .bf16⟩
  | .local _ .vmem, ⟨5, _⟩ => ⟨S1x1x512x64, .bf16⟩
  | .local _ .vmem, ⟨6, _⟩ => ⟨S512x128, .f32⟩
  | .local _ .vmem, ⟨7, _⟩ => ⟨S1x1x4x256x64, .f32⟩
  | .local _ .vmem, ⟨8, _⟩ => ⟨S1x1x4x256x64, .f32⟩
  | .local _ .vmem, ⟨9, _⟩ => ⟨S1x1x256x128, .bf16⟩
  | .local _ .vmem, ⟨10, _⟩ => ⟨S1x1x256x128, .bf16⟩
  | _, _ => ⟨S2x8192x8x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_cst_0 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_c : Ref sig .tc := ⟨.hbm, 10, rfl⟩
abbrev main_call0_v0 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_c_1 : Ref sig .tc := ⟨.hbm, 15, rfl⟩
abbrev main_call1_v0 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11_0 : Ref sig .tc := ⟨.hbm, 20, rfl⟩
abbrev main_v11_1 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨3, ![2, 2, 32], ![false, false, false]⟩

def cc0_transform_0 (i : grid0.Coords) : Fin 5 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, arg2.toNat, c0_i32_0.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 5 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, arg2.toNat, c0_i32_0.toNat]

def cc0_transform_5 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

abbrev stage0_0 : Fin 2 → Memref sig .tc .vmem S1x1x4x256x64 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x1x512x64 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x1x512x64 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 1 → Memref sig .tc .vmem S512x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 2 → Memref sig .tc .vmem S1x1x4x256x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S1x1x256x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]
-- ==== SelectReferenceIdeal.lean ====
abbrev S2x8192x8x64 : Shape := ⟨4, ![2, 8192, 8, 64]⟩
abbrev S2x511x2x64 : Shape := ⟨4, ![2, 511, 2, 64]⟩
abbrev S2x8192x2x4x64 : Shape := ⟨5, ![2, 8192, 2, 4, 64]⟩
abbrev S2x2x511x8192x4 : Shape := ⟨5, ![2, 2, 511, 8192, 4]⟩
abbrev S2x8192x2x4x511 : Shape := ⟨5, ![2, 8192, 2, 4, 511]⟩
abbrev S_ : Shape := ⟨0, ![]⟩
abbrev S511 : Shape := ⟨1, ![511]⟩
abbrev S1x511 : Shape := ⟨2, ![1, 511]⟩
abbrev S8192 : Shape := ⟨1, ![8192]⟩
abbrev S8192x1 : Shape := ⟨2, ![8192, 1]⟩
abbrev S8192x511 : Shape := ⟨2, ![8192, 511]⟩
abbrev S1x8192x1x1x511 : Shape := ⟨5, ![1, 8192, 1, 1, 511]⟩
abbrev S2x8192x2x4 : Shape := ⟨4, ![2, 8192, 2, 4]⟩
abbrev S2x8192x2x4x1 : Shape := ⟨5, ![2, 8192, 2, 4, 1]⟩
abbrev S2x2x64x8192x4 : Shape := ⟨5, ![2, 2, 64, 8192, 4]⟩
abbrev S2x2x4x8192x64 : Shape := ⟨5, ![2, 2, 4, 8192, 64]⟩

abbrev nBuf : Space → Nat
  | .hbm => 52
  | .vmem => 0
  | .smem => 0
  | _ => 0

abbrev bufTy : (tb : Table) → Fin (tcTables nBuf tb) → BufTy
  | .hbm, ⟨0, _⟩ => ⟨S2x8192x8x64, .f32⟩
  | .hbm, ⟨1, _⟩ => ⟨S2x511x2x64, .f32⟩
  | .hbm, ⟨2, _⟩ => ⟨S2x511x2x64, .f32⟩
  | .hbm, ⟨3, _⟩ => ⟨S2x8192x2x4x64, .f32⟩
  | .hbm, ⟨4, _⟩ => ⟨S2x2x511x8192x4, .f32⟩
  | .hbm, ⟨5, _⟩ => ⟨S2x8192x2x4x511, .f32⟩
  | .hbm, ⟨6, _⟩ => ⟨S_, .f32⟩
  | .hbm, ⟨7, _⟩ => ⟨S2x8192x2x4x511, .f32⟩
  | .hbm, ⟨8, _⟩ => ⟨S2x8192x2x4x511, .f32⟩
  | .hbm, ⟨9, _⟩ => ⟨S511, .i32⟩
  | .hbm, ⟨10, _⟩ => ⟨S_, .i32⟩
  | .hbm, ⟨11, _⟩ => ⟨S511, .i32⟩
  | .hbm, ⟨12, _⟩ => ⟨S511, .i32⟩
  | .hbm, ⟨13, _⟩ => ⟨S_, .i32⟩
  | .hbm, ⟨14, _⟩ => ⟨S511, .i32⟩
  | .hbm, ⟨15, _⟩ => ⟨S511, .i32⟩
  | .hbm, ⟨16, _⟩ => ⟨S_, .i32⟩
  | .hbm, ⟨17, _⟩ => ⟨S511, .i32⟩
  | .hbm, ⟨18, _⟩ => ⟨S511, .i32⟩
  | .hbm, ⟨19, _⟩ => ⟨S1x511, .i32⟩
  | .hbm, ⟨20, _⟩ => ⟨S8192, .i32⟩
  | .hbm, ⟨21, _⟩ => ⟨S8192x1, .i32⟩
  | .hbm, ⟨22, _⟩ => ⟨S8192x511, .i32⟩
  | .hbm, ⟨23, _⟩ => ⟨S8192x511, .i32⟩
  | .hbm, ⟨24, _⟩ => ⟨S8192x511, .i1⟩
  | .hbm, ⟨25, _⟩ => ⟨S1x8192x1x1x511, .i1⟩
  | .hbm, ⟨26, _⟩ => ⟨S_, .f32⟩
  | .hbm, ⟨27, _⟩ => ⟨S_, .f32⟩
  | .hbm, ⟨28, _⟩ => ⟨S2x8192x2x4x511, .i1⟩
  | .hbm, ⟨29, _⟩ => ⟨S2x8192x2x4x511, .f32⟩
  | .hbm, ⟨30, _⟩ => ⟨S2x8192x2x4x511, .f32⟩
  | .hbm, ⟨31, _⟩ => ⟨S_, .f32⟩
  | .hbm, ⟨32, _⟩ => ⟨S2x8192x2x4, .f32⟩
  | .hbm, ⟨33, _⟩ => ⟨S_, .f32⟩
  | .hbm, ⟨34, _⟩ => ⟨S2x8192x2x4, .f32⟩
  | .hbm, ⟨35, _⟩ => ⟨S2x8192x2x4, .f32⟩
  | .hbm, ⟨36, _⟩ => ⟨S2x8192x2x4x1, .f32⟩
  | .hbm, ⟨37, _⟩ => ⟨S2x8192x2x4x511, .f32⟩
  | .hbm, ⟨38, _⟩ => ⟨S2x8192x2x4x511, .f32⟩
  | .hbm, ⟨39, _⟩ => ⟨S2x8192x2x4x511, .f32⟩
  | .hbm, ⟨40, _⟩ => ⟨S_, .f32⟩
  | .hbm, ⟨41, _⟩ => ⟨S2x8192x2x4, .f32⟩
  | .hbm, ⟨42, _⟩ => ⟨S2x8192x2x4x1, .f32⟩
  | .hbm, ⟨43, _⟩ => ⟨S2x8192x2x4x511, .f32⟩
  | .hbm, ⟨44, _⟩ => ⟨S2x8192x2x4x511, .f32⟩
  | .hbm, ⟨45, _⟩ => ⟨S_, .f32⟩
  | .hbm, ⟨46, _⟩ => ⟨S_, .f32⟩
  | .hbm, ⟨47, _⟩ => ⟨S2x8192x2x4x511, .i1⟩
  | .hbm, ⟨48, _⟩ => ⟨S2x8192x2x4x511, .f32⟩
  | .hbm, ⟨49, _⟩ => ⟨S2x8192x2x4x511, .f32⟩
  | .hbm, ⟨50, _⟩ => ⟨S2x2x64x8192x4, .f32⟩
  | .hbm, ⟨51, _⟩ => ⟨S2x2x4x8192x64, .f32⟩
  | _, _ => ⟨S2x8192x8x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_c : Ref sig .tc := ⟨.hbm, 10, rfl⟩
abbrev main_v6 : Ref sig .tc := ⟨.hbm, 11, rfl⟩
abbrev main_v7 : Ref sig .tc := ⟨.hbm, 12, rfl⟩
abbrev main_c_0 : Ref sig .tc := ⟨.hbm, 13, rfl⟩
abbrev main_v8 : Ref sig .tc := ⟨.hbm, 14, rfl⟩
abbrev main_v9 : Ref sig .tc := ⟨.hbm, 15, rfl⟩
abbrev main_c_1 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst_2 : Ref sig .tc := ⟨.hbm, 26, rfl⟩
abbrev main_call0_v0 : Ref sig .tc := ⟨.hbm, 27, rfl⟩
abbrev main_call0_v1 : Ref sig .tc := ⟨.hbm, 28, rfl⟩
abbrev main_call0_v2 : Ref sig .tc := ⟨.hbm, 29, rfl⟩
abbrev main_v19 : Ref sig .tc := ⟨.hbm, 30, rfl⟩
abbrev main_cst_3 : Ref sig .tc := ⟨.hbm, 31, rfl⟩
abbrev main_v20 : Ref sig .tc := ⟨.hbm, 32, rfl⟩
abbrev main_cst_4 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_cst_5 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_cst_6 : Ref sig .tc := ⟨.hbm, 45, rfl⟩
abbrev main_call1_v0 : Ref sig .tc := ⟨.hbm, 46, rfl⟩
abbrev main_call1_v1 : Ref sig .tc := ⟨.hbm, 47, rfl⟩
abbrev main_call1_v2 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩

abbrev nD : Nat := 1
abbrev τ : Topo := Topo.v7x

variable {F : FTy → Type} [FloatOps F]
-- ==== Route.lean ====
abbrev S17408x128 : Shape := ⟨2, ![17408, 128]⟩
abbrev S17408x16384 : Shape := ⟨2, ![17408, 16384]⟩
abbrev S256x128 : Shape := ⟨2, ![256, 128]⟩
abbrev S256x16384 : Shape := ⟨2, ![256, 16384]⟩
abbrev S128x128 : Shape := ⟨2, ![128, 128]⟩
abbrev S1x128 : Shape := ⟨2, ![1, 128]⟩
abbrev S1x128x128 : Shape := ⟨3, ![1, 128, 128]⟩
abbrev S8x128x128 : Shape := ⟨3, ![8, 128, 128]⟩
abbrev S128x8x128 : Shape := ⟨3, ![128, 8, 128]⟩
abbrev S1x8x128 : Shape := ⟨3, ![1, 8, 128]⟩
abbrev S8x128 : Shape := ⟨2, ![8, 128]⟩

abbrev nBuf : Space → Nat
  | .hbm => 3
  | .vmem => 6
  | .smem => 0
  | _ => 0

abbrev bufTy : (tb : Table) → Fin (tcTables nBuf tb) → BufTy
  | .hbm, ⟨0, _⟩ => ⟨S17408x128, .i32⟩
  | .hbm, ⟨1, _⟩ => ⟨S17408x128, .f32⟩
  | .hbm, ⟨2, _⟩ => ⟨S17408x16384, .bf16⟩
  | .local _ .vmem, ⟨0, _⟩ => ⟨S256x128, .i32⟩
  | .local _ .vmem, ⟨1, _⟩ => ⟨S256x128, .i32⟩
  | .local _ .vmem, ⟨2, _⟩ => ⟨S256x128, .f32⟩
  | .local _ .vmem, ⟨3, _⟩ => ⟨S256x128, .f32⟩
  | .local _ .vmem, ⟨4, _⟩ => ⟨S256x16384, .bf16⟩
  | .local _ .vmem, ⟨5, _⟩ => ⟨S256x16384, .bf16⟩
  | _, _ => ⟨S17408x128, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![68], ![false]⟩

@[reducible] def k0_t1_loop : Scf.Loop 32 :=
  let c0_i32 : BitVec 32 := 0#32
  let c32_i32 : BitVec 32 := 32#32
  let v1 : BitVec 32 := Scalar.addi c0_i32 c32_i32
  let c1_i32 : BitVec 32 := 1#32
  ⟨c0_i32, v1, c1_i32⟩
def k0_mult1 (k0_t1 : Fin k0_t1_loop.trips) : BitVec 32 :=
  let c0_i32 : BitVec 32 := 0#32
  let c1_i32 : BitVec 32 := 1#32
  let arg4 : BitVec 32 := Scf.iv c0_i32 c1_i32 k0_t1
  let c8_i32 : BitVec 32 := 8#32
  let v2 : BitVec 32 := Scalar.muli arg4 c8_i32
  v2
def k0_off1 (k0_t1 : Fin k0_t1_loop.trips) (c0_i32_1 : BitVec 32) : Fin 2 → Nat :=
  let c0_i32 : BitVec 32 := 0#32
  let c1_i32 : BitVec 32 := 1#32
  let arg4 : BitVec 32 := Scf.iv c0_i32 c1_i32 k0_t1
  let c8_i32 : BitVec 32 := 8#32
  let v2 : BitVec 32 := Scalar.muli arg4 c8_i32
  let v3 : BitVec 32 := v2
  let v4 : BitVec 32 := Scalar.addi v3 c0_i32_1
  let v5 : Index := Scalar.indexCast v4
  let c0 : Index := 0#32
  ![v5.toNat, 0]
def k0_off2 (k0_t1 : Fin k0_t1_loop.trips) : Fin 2 → Nat :=
  let c0_i32 : BitVec 32 := 0#32
  let c1_i32 : BitVec 32 := 1#32
  let arg4 : BitVec 32 := Scf.iv c0_i32 c1_i32 k0_t1
  let c8_i32 : BitVec 32 := 8#32
  let v2 : BitVec 32 := Scalar.muli arg4 c8_i32
  let v3 : BitVec 32 := v2
  let v489 : Index := Scalar.indexCast v3
  let c0_152 : Index := 0#32
  ![v489.toNat, 0]
def k0_off3 (k0_t1 : Fin k0_t1_loop.trips) : Fin 2 → Nat :=
  let c0_i32 : BitVec 32 := 0#32
  let c1_i32 : BitVec 32 := 1#32
  let arg4 : BitVec 32 := Scf.iv c0_i32 c1_i32 k0_t1
  let c8_i32 : BitVec 32 := 8#32
  let v2 : BitVec 32 := Scalar.muli arg4 c8_i32
  let v3 : BitVec 32 := v2
  let v494 : Index := Scalar.indexCast v3
  let c128 : Index := 128#32
  ![v494.toNat, 128]
def k0_off4 (k0_t1 : Fin k0_t1_loop.trips) : Fin 2 → Nat :=
  let c0_i32 : BitVec 32 := 0#32
  let c1_i32 : BitVec 32 := 1#32
  let arg4 : BitVec 32 := Scf.iv c0_i32 c1_i32 k0_t1
  let c8_i32 : BitVec 32 := 8#32
  let v2 : BitVec 32 := Scalar.muli arg4 c8_i32
  let v3 : BitVec 32 := v2
  let v499 : Index := Scalar.indexCast v3
  let c256 : Index := 256#32
  ![v499.toNat, 256]
def k0_off5 (k0_t1 : Fin k0_t1_loop.trips) : Fin 2 → Nat :=
  let c0_i32 : BitVec 32 := 0#32
  let c1_i32 : BitVec 32 := 1#32
  let arg4 : BitVec 32 := Scf.iv c0_i32 c1_i32 k0_t1
  let c8_i32 : BitVec 32 := 8#32
  let v2 : BitVec 32 := Scalar.muli arg4 c8_i32
  let v3 : BitVec 32 := v2
  let v504 : Index := Scalar.indexCast v3
  let c384 : Index := 384#32
  ![v504.toNat, 384]
def k0_off6 (k0_t1 : Fin k0_t1_loop.trips) : Fin 2 → Nat :=
  let c0_i32 : BitVec 32 := 0#32
  let c1_i32 : BitVec 32 := 1#32
  let arg4 : BitVec 32 := Scf.iv c0_i32 c1_i32 k0_t1
  let c8_i32 : BitVec 32 := 8#32
  let v2 : BitVec 32 := Scalar.muli arg4 c8_i32
  let v3 : BitVec 32 := v2
  let v509 : Index := Scalar.indexCast v3
  let c512 : Index := 512#32
  ![v509.toNat, 512]
def k0_off7 (k0_t1 : Fin k0_t1_loop.trips) : Fin 2 → Nat :=
  let c0_i32 : BitVec 32 := 0#32
  let c1_i32 : BitVec 32 := 1#32
  let arg4 : BitVec 32 := Scf.iv c0_i32 c1_i32 k0_t1
  let c8_i32 : BitVec 32 := 8#32
  let v2 : BitVec 32 := Scalar.muli arg4 c8_i32
  let v3 : BitVec 32 := v2
  let v514 : Index := Scalar.indexCast v3
  let c640 : Index := 640#32
  ![v514.toNat, 640]
def k0_off8 (k0_t1 : Fin k0_t1_loop.trips) : Fin 2 → Nat :=
  let c0_i32 : BitVec 32 := 0#32
  let c1_i32 : BitVec 32 := 1#32
  let arg4 : BitVec 32 := Scf.iv c0_i32 c1_i32 k0_t1
  let c8_i32 : BitVec 32 := 8#32
  let v2 : BitVec 32 := Scalar.muli arg4 c8_i32
  let v3 : BitVec 32 := v2
  let v519 : Index := Scalar.indexCast v3
  let c768 : Index := 768#32
  ![v519.toNat, 768]
def k0_off9 (k0_t1 : Fin k0_t1_loop.trips) : Fin 2 → Nat :=
  let c0_i32 : BitVec 32 := 0#32
  let c1_i32 : BitVec 32 := 1#32
  let arg4 : BitVec 32 := Scf.iv c0_i32 c1_i32 k0_t1
  let c8_i32 : BitVec 32 := 8#32
  let v2 : BitVec 32 := Scalar.muli arg4 c8_i32
  let v3 : BitVec 32 := v2
  let v524 : Index := Scalar.indexCast v3
  let c896 : Index := 896#32
  ![v524.toNat, 896]
def k0_off10 (k0_t1 : Fin k0_t1_loop.trips) : Fin 2 → Nat :=
  let c0_i32 : BitVec 32 := 0#32
  let c1_i32 : BitVec 32 := 1#32
  let arg4 : BitVec 32 := Scf.iv c0_i32 c1_i32 k0_t1
  let c8_i32 : BitVec 32 := 8#32
  let v2 : BitVec 32 := Scalar.muli arg4 c8_i32
  let v3 : BitVec 32 := v2
  let v529 : Index := Scalar.indexCast v3
  let c1024 : Index := 1024#32
  ![v529.toNat, 1024]
def k0_off11 (k0_t1 : Fin k0_t1_loop.trips) : Fin 2 → Nat :=
  let c0_i32 : BitVec 32 := 0#32
  let c1_i32 : BitVec 32 := 1#32
  let arg4 : BitVec 32 := Scf.iv c0_i32 c1_i32 k0_t1
  let c8_i32 : BitVec 32 := 8#32
  let v2 : BitVec 32 := Scalar.muli arg4 c8_i32
  let v3 : BitVec 32 := v2
  let v534 : Index := Scalar.indexCast v3
  let c1152 : Index := 1152#32
  ![v534.toNat, 1152]
def k0_off12 (k0_t1 : Fin k0_t1_loop.trips) : Fin 2 → Nat :=
  let c0_i32 : BitVec 32 := 0#32
  let c1_i32 : BitVec 32 := 1#32
  let arg4 : BitVec 32 := Scf.iv c0_i32 c1_i32 k0_t1
  let c8_i32 : BitVec 32 := 8#32
  let v2 : BitVec 32 := Scalar.muli arg4 c8_i32
  let v3 : BitVec 32 := v2
  let v539 : Index := Scalar.indexCast v3
  let c1280 : Index := 1280#32
  ![v539.toNat, 1280]
def k0_off13 (k0_t1 : Fin k0_t1_loop.trips) : Fin 2 → Nat :=
  let c0_i32 : BitVec 32 := 0#32
  let c1_i32 : BitVec 32 := 1#32
  let arg4 : BitVec 32 := Scf.iv c0_i32 c1_i32 k0_t1
  let c8_i32 : BitVec 32 := 8#32
  let v2 : BitVec 32 := Scalar.muli arg4 c8_i32
  let v3 : BitVec 32 := v2
  let v544 : Index := Scalar.indexCast v3
  let c1408 : Index := 1408#32
  ![v544.toNat, 1408]
def k0_off14 (k0_t1 : Fin k0_t1_loop.trips) : Fin 2 → Nat :=
  let c0_i32 : BitVec 32 := 0#32
  let c1_i32 : BitVec 32 := 1#32
  let arg4 : BitVec 32 := Scf.iv c0_i32 c1_i32 k0_t1
  let c8_i32 : BitVec 32 := 8#32
  let v2 : BitVec 32 := Scalar.muli arg4 c8_i32
  let v3 : BitVec 32 := v2
  let v549 : Index := Scalar.indexCast v3
  let c1536 : Index := 1536#32
  ![v549.toNat, 1536]
def k0_off15 (k0_t1 : Fin k0_t1_loop.trips) : Fin 2 → Nat :=
  let c0_i32 : BitVec 32 := 0#32
  let c1_i32 : BitVec 32 := 1#32
  let arg4 : BitVec 32 := Scf.iv c0_i32 c1_i32 k0_t1
  let c8_i32 : BitVec 32 := 8#32
  let v2 : BitVec 32 := Scalar.muli arg4 c8_i32
  let v3 : BitVec 32 := v2
  let v554 : Index := Scalar.indexCast v3
  let c1664 : Index := 1664#32
  ![v554.toNat, 1664]
def k0_off16 (k0_t1 : Fin k0_t1_loop.trips) : Fin 2 → Nat :=
  let c0_i32 : BitVec 32 := 0#32
  let c1_i32 : BitVec 32 := 1#32
  let arg4 : BitVec 32 := Scf.iv c0_i32 c1_i32 k0_t1
  let c8_i32 : BitVec 32 := 8#32
  let v2 : BitVec 32 := Scalar.muli arg4 c8_i32
  let v3 : BitVec 32 := v2
  let v559 : Index := Scalar.indexCast v3
  let c1792 : Index := 1792#32
  ![v559.toNat, 1792]
def k0_off17 (k0_t1 : Fin k0_t1_loop.trips) : Fin 2 → Nat :=
  let c0_i32 : BitVec 32 := 0#32
  let c1_i32 : BitVec 32 := 1#32
  let arg4 : BitVec 32 := Scf.iv c0_i32 c1_i32 k0_t1
  let c8_i32 : BitVec 32 := 8#32
  let v2 : BitVec 32 := Scalar.muli arg4 c8_i32
  let v3 : BitVec 32 := v2
  let v564 : Index := Scalar.indexCast v3
  let c1920 : Index := 1920#32
  ![v564.toNat, 1920]
def k0_off18 (k0_t1 : Fin k0_t1_loop.trips) : Fin 2 → Nat :=
  let c0_i32 : BitVec 32 := 0#32
  let c1_i32 : BitVec 32 := 1#32
  let arg4 : BitVec 32 := Scf.iv c0_i32 c1_i32 k0_t1
  let c8_i32 : BitVec 32 := 8#32
  let v2 : BitVec 32 := Scalar.muli arg4 c8_i32
  let v3 : BitVec 32 := v2
  let v569 : Index := Scalar.indexCast v3
  let c2048 : Index := 2048#32
  ![v569.toNat, 2048]
def k0_off19 (k0_t1 : Fin k0_t1_loop.trips) : Fin 2 → Nat :=
  let c0_i32 : BitVec 32 := 0#32
  let c1_i32 : BitVec 32 := 1#32
  let arg4 : BitVec 32 := Scf.iv c0_i32 c1_i32 k0_t1
  let c8_i32 : BitVec 32 := 8#32
  let v2 : BitVec 32 := Scalar.muli arg4 c8_i32
  let v3 : BitVec 32 := v2
  let v574 : Index := Scalar.indexCast v3
  let c2176 : Index := 2176#32
  ![v574.toNat, 2176]
def k0_off20 (k0_t1 : Fin k0_t1_loop.trips) : Fin 2 → Nat :=
  let c0_i32 : BitVec 32 := 0#32
  let c1_i32 : BitVec 32 := 1#32
  let arg4 : BitVec 32 := Scf.iv c0_i32 c1_i32 k0_t1
  let c8_i32 : BitVec 32 := 8#32
  let v2 : BitVec 32 := Scalar.muli arg4 c8_i32
  let v3 : BitVec 32 := v2
  let v579 : Index := Scalar.indexCast v3
  let c2304 : Index := 2304#32
  ![v579.toNat, 2304]
def k0_off21 (k0_t1 : Fin k0_t1_loop.trips) : Fin 2 → Nat :=
  let c0_i32 : BitVec 32 := 0#32
  let c1_i32 : BitVec 32 := 1#32
  let arg4 : BitVec 32 := Scf.iv c0_i32 c1_i32 k0_t1
  let c8_i32 : BitVec 32 := 8#32
  let v2 : BitVec 32 := Scalar.muli arg4 c8_i32
  let v3 : BitVec 32 := v2
  let v584 : Index := Scalar.indexCast v3
  let c2432 : Index := 2432#32
  ![v584.toNat, 2432]
def k0_off22 (k0_t1 : Fin k0_t1_loop.trips) : Fin 2 → Nat :=
  let c0_i32 : BitVec 32 := 0#32
  let c1_i32 : BitVec 32 := 1#32
  let arg4 : BitVec 32 := Scf.iv c0_i32 c1_i32 k0_t1
  let c8_i32 : BitVec 32 := 8#32
  let v2 : BitVec 32 := Scalar.muli arg4 c8_i32
  let v3 : BitVec 32 := v2
  let v589 : Index := Scalar.indexCast v3
  let c2560 : Index := 2560#32
  ![v589.toNat, 2560]
def k0_off23 (k0_t1 : Fin k0_t1_loop.trips) : Fin 2 → Nat :=
  let c0_i32 : BitVec 32 := 0#32
  let c1_i32 : BitVec 32 := 1#32
  let arg4 : BitVec 32 := Scf.iv c0_i32 c1_i32 k0_t1
  let c8_i32 : BitVec 32 := 8#32
  let v2 : BitVec 32 := Scalar.muli arg4 c8_i32
  let v3 : BitVec 32 := v2
  let v594 : Index := Scalar.indexCast v3
  let c2688 : Index := 2688#32
  ![v594.toNat, 2688]
def k0_off24 (k0_t1 : Fin k0_t1_loop.trips) : Fin 2 → Nat :=
  let c0_i32 : BitVec 32 := 0#32
  let c1_i32 : BitVec 32 := 1#32
  let arg4 : BitVec 32 := Scf.iv c0_i32 c1_i32 k0_t1
  let c8_i32 : BitVec 32 := 8#32
  let v2 : BitVec 32 := Scalar.muli arg4 c8_i32
  let v3 : BitVec 32 := v2
  let v599 : Index := Scalar.indexCast v3
  let c2816 : Index := 2816#32
  ![v599.toNat, 2816]
def k0_off25 (k0_t1 : Fin k0_t1_loop.trips) : Fin 2 → Nat :=
  let c0_i32 : BitVec 32 := 0#32
  let c1_i32 : BitVec 32 := 1#32
  let arg4 : BitVec 32 := Scf.iv c0_i32 c1_i32 k0_t1
  let c8_i32 : BitVec 32 := 8#32
  let v2 : BitVec 32 := Scalar.muli arg4 c8_i32
  let v3 : BitVec 32 := v2
  let v604 : Index := Scalar.indexCast v3
  let c2944 : Index := 2944#32
  ![v604.toNat, 2944]
def k0_off26 (k0_t1 : Fin k0_t1_loop.trips) : Fin 2 → Nat :=
  let c0_i32 : BitVec 32 := 0#32
  let c1_i32 : BitVec 32 := 1#32
  let arg4 : BitVec 32 := Scf.iv c0_i32 c1_i32 k0_t1
  let c8_i32 : BitVec 32 := 8#32
  let v2 : BitVec 32 := Scalar.muli arg4 c8_i32
  let v3 : BitVec 32 := v2
  let v609 : Index := Scalar.indexCast v3
  let c3072 : Index := 3072#32
  ![v609.toNat, 3072]
def k0_off27 (k0_t1 : Fin k0_t1_loop.trips) : Fin 2 → Nat :=
  let c0_i32 : BitVec 32 := 0#32
  let c1_i32 : BitVec 32 := 1#32
  let arg4 : BitVec 32 := Scf.iv c0_i32 c1_i32 k0_t1
  let c8_i32 : BitVec 32 := 8#32
  let v2 : BitVec 32 := Scalar.muli arg4 c8_i32
  let v3 : BitVec 32 := v2
  let v614 : Index := Scalar.indexCast v3
  let c3200 : Index := 3200#32
  ![v614.toNat, 3200]
def k0_off28 (k0_t1 : Fin k0_t1_loop.trips) : Fin 2 → Nat :=
  let c0_i32 : BitVec 32 := 0#32
  let c1_i32 : BitVec 32 := 1#32
  let arg4 : BitVec 32 := Scf.iv c0_i32 c1_i32 k0_t1
  let c8_i32 : BitVec 32 := 8#32
  let v2 : BitVec 32 := Scalar.muli arg4 c8_i32
  let v3 : BitVec 32 := v2
  let v619 : Index := Scalar.indexCast v3
  let c3328 : Index := 3328#32
  ![v619.toNat, 3328]
def k0_off29 (k0_t1 : Fin k0_t1_loop.trips) : Fin 2 → Nat :=
  let c0_i32 : BitVec 32 := 0#32
  let c1_i32 : BitVec 32 := 1#32
  let arg4 : BitVec 32 := Scf.iv c0_i32 c1_i32 k0_t1
  let c8_i32 : BitVec 32 := 8#32
  let v2 : BitVec 32 := Scalar.muli arg4 c8_i32
  let v3 : BitVec 32 := v2
  let v624 : Index := Scalar.indexCast v3
  let c3456 : Index := 3456#32
  ![v624.toNat, 3456]
def k0_off30 (k0_t1 : Fin k0_t1_loop.trips) : Fin 2 → Nat :=
  let c0_i32 : BitVec 32 := 0#32
  let c1_i32 : BitVec 32 := 1#32
  let arg4 : BitVec 32 := Scf.iv c0_i32 c1_i32 k0_t1
  let c8_i32 : BitVec 32 := 8#32
  let v2 : BitVec 32 := Scalar.muli arg4 c8_i32
  let v3 : BitVec 32 := v2
  let v629 : Index := Scalar.indexCast v3
  let c3584 : Index := 3584#32
  ![v629.toNat, 3584]
def k0_off31 (k0_t1 : Fin k0_t1_loop.trips) : Fin 2 → Nat :=
  let c0_i32 : BitVec 32 := 0#32
  let c1_i32 : BitVec 32 := 1#32
  let arg4 : BitVec 32 := Scf.iv c0_i32 c1_i32 k0_t1
  let c8_i32 : BitVec 32 := 8#32
  let v2 : BitVec 32 := Scalar.muli arg4 c8_i32
  let v3 : BitVec 32 := v2
  let v634 : Index := Scalar.indexCast v3
  let c3712 : Index := 3712#32
  ![v634.toNat, 3712]
def k0_off32 (k0_t1 : Fin k0_t1_loop.trips) : Fin 2 → Nat :=
  let c0_i32 : BitVec 32 := 0#32
  let c1_i32 : BitVec 32 := 1#32
  let arg4 : BitVec 32 := Scf.iv c0_i32 c1_i32 k0_t1
  let c8_i32 : BitVec 32 := 8#32
  let v2 : BitVec 32 := Scalar.muli arg4 c8_i32
  let v3 : BitVec 32 := v2
  let v639 : Index := Scalar.indexCast v3
  let c3840 : Index := 3840#32
  ![v639.toNat, 3840]
def k0_off33 (k0_t1 : Fin k0_t1_loop.trips) : Fin 2 → Nat :=
  let c0_i32 : BitVec 32 := 0#32
  let c1_i32 : BitVec 32 := 1#32
  let arg4 : BitVec 32 := Scf.iv c0_i32 c1_i32 k0_t1
  let c8_i32 : BitVec 32 := 8#32
  let v2 : BitVec 32 := Scalar.muli arg4 c8_i32
  let v3 : BitVec 32 := v2
  let v644 : Index := Scalar.indexCast v3
  let c3968 : Index := 3968#32
  ![v644.toNat, 3968]
def k0_off34 (k0_t1 : Fin k0_t1_loop.trips) : Fin 2 → Nat :=
  let c0_i32 : BitVec 32 := 0#32
  let c1_i32 : BitVec 32 := 1#32
  let arg4 : BitVec 32 := Scf.iv c0_i32 c1_i32 k0_t1
  let c8_i32 : BitVec 32 := 8#32
  let v2 : BitVec 32 := Scalar.muli arg4 c8_i32
  let v3 : BitVec 32 := v2
  let v649 : Index := Scalar.indexCast v3
  let c4096 : Index := 4096#32
  ![v649.toNat, 4096]
def k0_off35 (k0_t1 : Fin k0_t1_loop.trips) : Fin 2 → Nat :=
  let c0_i32 : BitVec 32 := 0#32
  let c1_i32 : BitVec 32 := 1#32
  let arg4 : BitVec 32 := Scf.iv c0_i32 c1_i32 k0_t1
  let c8_i32 : BitVec 32 := 8#32
  let v2 : BitVec 32 := Scalar.muli arg4 c8_i32
  let v3 : BitVec 32 := v2
  let v654 : Index := Scalar.indexCast v3
  let c4224 : Index := 4224#32
  ![v654.toNat, 4224]
def k0_off36 (k0_t1 : Fin k0_t1_loop.trips) : Fin 2 → Nat :=
  let c0_i32 : BitVec 32 := 0#32
  let c1_i32 : BitVec 32 := 1#32
  let arg4 : BitVec 32 := Scf.iv c0_i32 c1_i32 k0_t1
  let c8_i32 : BitVec 32 := 8#32
  let v2 : BitVec 32 := Scalar.muli arg4 c8_i32
  let v3 : BitVec 32 := v2
  let v659 : Index := Scalar.indexCast v3
  let c4352 : Index := 4352#32
  ![v659.toNat, 4352]
def k0_off37 (k0_t1 : Fin k0_t1_loop.trips) : Fin 2 → Nat :=
  let c0_i32 : BitVec 32 := 0#32
  let c1_i32 : BitVec 32 := 1#32
  let arg4 : BitVec 32 := Scf.iv c0_i32 c1_i32 k0_t1
  let c8_i32 : BitVec 32 := 8#32
  let v2 : BitVec 32 := Scalar.muli arg4 c8_i32
  let v3 : BitVec 32 := v2
  let v664 : Index := Scalar.indexCast v3
  let c4480 : Index := 4480#32
  ![v664.toNat, 4480]
def k0_off38 (k0_t1 : Fin k0_t1_loop.trips) : Fin 2 → Nat :=
  let c0_i32 : BitVec 32 := 0#32
  let c1_i32 : BitVec 32 := 1#32
  let arg4 : BitVec 32 := Scf.iv c0_i32 c1_i32 k0_t1
  let c8_i32 : BitVec 32 := 8#32
  let v2 : BitVec 32 := Scalar.muli arg4 c8_i32
  let v3 : BitVec 32 := v2
  let v669 : Index := Scalar.indexCast v3
  let c4608 : Index := 4608#32
  ![v669.toNat, 4608]
def k0_off39 (k0_t1 : Fin k0_t1_loop.trips) : Fin 2 → Nat :=
  let c0_i32 : BitVec 32 := 0#32
  let c1_i32 : BitVec 32 := 1#32
  let arg4 : BitVec 32 := Scf.iv c0_i32 c1_i32 k0_t1
  let c8_i32 : BitVec 32 := 8#32
  let v2 : BitVec 32 := Scalar.muli arg4 c8_i32
  let v3 : BitVec 32 := v2
  let v674 : Index := Scalar.indexCast v3
  let c4736 : Index := 4736#32
  ![v674.toNat, 4736]
def k0_off40 (k0_t1 : Fin k0_t1_loop.trips) : Fin 2 → Nat :=
  let c0_i32 : BitVec 32 := 0#32
  let c1_i32 : BitVec 32 := 1#32
  let arg4 : BitVec 32 := Scf.iv c0_i32 c1_i32 k0_t1
  let c8_i32 : BitVec 32 := 8#32
  let v2 : BitVec 32 := Scalar.muli arg4 c8_i32
  let v3 : BitVec 32 := v2
  let v679 : Index := Scalar.indexCast v3
  let c4864 : Index := 4864#32
  ![v679.toNat, 4864]
def k0_off41 (k0_t1 : Fin k0_t1_loop.trips) : Fin 2 → Nat :=
  let c0_i32 : BitVec 32 := 0#32
  let c1_i32 : BitVec 32 := 1#32
  let arg4 : BitVec 32 := Scf.iv c0_i32 c1_i32 k0_t1
  let c8_i32 : BitVec 32 := 8#32
  let v2 : BitVec 32 := Scalar.muli arg4 c8_i32
  let v3 : BitVec 32 := v2
  let v684 : Index := Scalar.indexCast v3
  let c4992 : Index := 4992#32
  ![v684.toNat, 4992]
def k0_off42 (k0_t1 : Fin k0_t1_loop.trips) : Fin 2 → Nat :=
  let c0_i32 : BitVec 32 := 0#32
  let c1_i32 : BitVec 32 := 1#32
  let arg4 : BitVec 32 := Scf.iv c0_i32 c1_i32 k0_t1
  let c8_i32 : BitVec 32 := 8#32
  let v2 : BitVec 32 := Scalar.muli arg4 c8_i32
  let v3 : BitVec 32 := v2
  let v689 : Index := Scalar.indexCast v3
  let c5120 : Index := 5120#32
  ![v689.toNat, 5120]
def k0_off43 (k0_t1 : Fin k0_t1_loop.trips) : Fin 2 → Nat :=
  let c0_i32 : BitVec 32 := 0#32
  let c1_i32 : BitVec 32 := 1#32
  let arg4 : BitVec 32 := Scf.iv c0_i32 c1_i32 k0_t1
  let c8_i32 : BitVec 32 := 8#32
  let v2 : BitVec 32 := Scalar.muli arg4 c8_i32
  let v3 : BitVec 32 := v2
  let v694 : Index := Scalar.indexCast v3
  let c5248 : Index := 5248#32
  ![v694.toNat, 5248]
def k0_off44 (k0_t1 : Fin k0_t1_loop.trips) : Fin 2 → Nat :=
  let c0_i32 : BitVec 32 := 0#32
  let c1_i32 : BitVec 32 := 1#32
  let arg4 : BitVec 32 := Scf.iv c0_i32 c1_i32 k0_t1
  let c8_i32 : BitVec 32 := 8#32
  let v2 : BitVec 32 := Scalar.muli arg4 c8_i32
  let v3 : BitVec 32 := v2
  let v699 : Index := Scalar.indexCast v3
  let c5376 : Index := 5376#32
  ![v699.toNat, 5376]
def k0_off45 (k0_t1 : Fin k0_t1_loop.trips) : Fin 2 → Nat :=
  let c0_i32 : BitVec 32 := 0#32
  let c1_i32 : BitVec 32 := 1#32
  let arg4 : BitVec 32 := Scf.iv c0_i32 c1_i32 k0_t1
  let c8_i32 : BitVec 32 := 8#32
  let v2 : BitVec 32 := Scalar.muli arg4 c8_i32
  let v3 : BitVec 32 := v2
  let v704 : Index := Scalar.indexCast v3
  let c5504 : Index := 5504#32
  ![v704.toNat, 5504]
def k0_off46 (k0_t1 : Fin k0_t1_loop.trips) : Fin 2 → Nat :=
  let c0_i32 : BitVec 32 := 0#32
  let c1_i32 : BitVec 32 := 1#32
  let arg4 : BitVec 32 := Scf.iv c0_i32 c1_i32 k0_t1
  let c8_i32 : BitVec 32 := 8#32
  let v2 : BitVec 32 := Scalar.muli arg4 c8_i32
  let v3 : BitVec 32 := v2
  let v709 : Index := Scalar.indexCast v3
  let c5632 : Index := 5632#32
  ![v709.toNat, 5632]
def k0_off47 (k0_t1 : Fin k0_t1_loop.trips) : Fin 2 → Nat :=
  let c0_i32 : BitVec 32 := 0#32
  let c1_i32 : BitVec 32 := 1#32
  let arg4 : BitVec 32 := Scf.iv c0_i32 c1_i32 k0_t1
  let c8_i32 : BitVec 32 := 8#32
  let v2 : BitVec 32 := Scalar.muli arg4 c8_i32
  let v3 : BitVec 32 := v2
  let v714 : Index := Scalar.indexCast v3
  let c5760 : Index := 5760#32
  ![v714.toNat, 5760]
def k0_off48 (k0_t1 : Fin k0_t1_loop.trips) : Fin 2 → Nat :=
  let c0_i32 : BitVec 32 := 0#32
  let c1_i32 : BitVec 32 := 1#32
  let arg4 : BitVec 32 := Scf.iv c0_i32 c1_i32 k0_t1
  let c8_i32 : BitVec 32 := 8#32
  let v2 : BitVec 32 := Scalar.muli arg4 c8_i32
  let v3 : BitVec 32 := v2
  let v719 : Index := Scalar.indexCast v3
  let c5888 : Index := 5888#32
  ![v719.toNat, 5888]
def k0_off49 (k0_t1 : Fin k0_t1_loop.trips) : Fin 2 → Nat :=
  let c0_i32 : BitVec 32 := 0#32
  let c1_i32 : BitVec 32 := 1#32
  let arg4 : BitVec 32 := Scf.iv c0_i32 c1_i32 k0_t1
  let c8_i32 : BitVec 32 := 8#32
  let v2 : BitVec 32 := Scalar.muli arg4 c8_i32
  let v3 : BitVec 32 := v2
  let v724 : Index := Scalar.indexCast v3
  let c6016 : Index := 6016#32
  ![v724.toNat, 6016]
def k0_off50 (k0_t1 : Fin k0_t1_loop.trips) : Fin 2 → Nat :=
  let c0_i32 : BitVec 32 := 0#32
  let c1_i32 : BitVec 32 := 1#32
  let arg4 : BitVec 32 := Scf.iv c0_i32 c1_i32 k0_t1
  let c8_i32 : BitVec 32 := 8#32
  let v2 : BitVec 32 := Scalar.muli arg4 c8_i32
  let v3 : BitVec 32 := v2
  let v729 : Index := Scalar.indexCast v3
  let c6144 : Index := 6144#32
  ![v729.toNat, 6144]
def k0_off51 (k0_t1 : Fin k0_t1_loop.trips) : Fin 2 → Nat :=
  let c0_i32 : BitVec 32 := 0#32
  let c1_i32 : BitVec 32 := 1#32
  let arg4 : BitVec 32 := Scf.iv c0_i32 c1_i32 k0_t1
  let c8_i32 : BitVec 32 := 8#32
  let v2 : BitVec 32 := Scalar.muli arg4 c8_i32
  let v3 : BitVec 32 := v2
  let v734 : Index := Scalar.indexCast v3
  let c6272 : Index := 6272#32
  ![v734.toNat, 6272]
def k0_off52 (k0_t1 : Fin k0_t1_loop.trips) : Fin 2 → Nat :=
  let c0_i32 : BitVec 32 := 0#32
  let c1_i32 : BitVec 32 := 1#32
  let arg4 : BitVec 32 := Scf.iv c0_i32 c1_i32 k0_t1
  let c8_i32 : BitVec 32 := 8#32
  let v2 : BitVec 32 := Scalar.muli arg4 c8_i32
  let v3 : BitVec 32 := v2
  let v739 : Index := Scalar.indexCast v3
  let c6400 : Index := 6400#32
  ![v739.toNat, 6400]
def k0_off53 (k0_t1 : Fin k0_t1_loop.trips) : Fin 2 → Nat :=
  let c0_i32 : BitVec 32 := 0#32
  let c1_i32 : BitVec 32 := 1#32
  let arg4 : BitVec 32 := Scf.iv c0_i32 c1_i32 k0_t1
  let c8_i32 : BitVec 32 := 8#32
  let v2 : BitVec 32 := Scalar.muli arg4 c8_i32
  let v3 : BitVec 32 := v2
  let v744 : Index := Scalar.indexCast v3
  let c6528 : Index := 6528#32
  ![v744.toNat, 6528]
def k0_off54 (k0_t1 : Fin k0_t1_loop.trips) : Fin 2 → Nat :=
  let c0_i32 : BitVec 32 := 0#32
  let c1_i32 : BitVec 32 := 1#32
  let arg4 : BitVec 32 := Scf.iv c0_i32 c1_i32 k0_t1
  let c8_i32 : BitVec 32 := 8#32
  let v2 : BitVec 32 := Scalar.muli arg4 c8_i32
  let v3 : BitVec 32 := v2
  let v749 : Index := Scalar.indexCast v3
  let c6656 : Index := 6656#32
  ![v749.toNat, 6656]
def k0_off55 (k0_t1 : Fin k0_t1_loop.trips) : Fin 2 → Nat :=
  let c0_i32 : BitVec 32 := 0#32
  let c1_i32 : BitVec 32 := 1#32
  let arg4 : BitVec 32 := Scf.iv c0_i32 c1_i32 k0_t1
  let c8_i32 : BitVec 32 := 8#32
  let v2 : BitVec 32 := Scalar.muli arg4 c8_i32
  let v3 : BitVec 32 := v2
  let v754 : Index := Scalar.indexCast v3
  let c6784 : Index := 6784#32
  ![v754.toNat, 6784]
def k0_off56 (k0_t1 : Fin k0_t1_loop.trips) : Fin 2 → Nat :=
  let c0_i32 : BitVec 32 := 0#32
  let c1_i32 : BitVec 32 := 1#32
  let arg4 : BitVec 32 := Scf.iv c0_i32 c1_i32 k0_t1
  let c8_i32 : BitVec 32 := 8#32
  let v2 : BitVec 32 := Scalar.muli arg4 c8_i32
  let v3 : BitVec 32 := v2
  let v759 : Index := Scalar.indexCast v3
  let c6912 : Index := 6912#32
  ![v759.toNat, 6912]
def k0_off57 (k0_t1 : Fin k0_t1_loop.trips) : Fin 2 → Nat :=
  let c0_i32 : BitVec 32 := 0#32
  let c1_i32 : BitVec 32 := 1#32
  let arg4 : BitVec 32 := Scf.iv c0_i32 c1_i32 k0_t1
  let c8_i32 : BitVec 32 := 8#32
  let v2 : BitVec 32 := Scalar.muli arg4 c8_i32
  let v3 : BitVec 32 := v2
  let v764 : Index := Scalar.indexCast v3
  let c7040 : Index := 7040#32
  ![v764.toNat, 7040]
def k0_off58 (k0_t1 : Fin k0_t1_loop.trips) : Fin 2 → Nat :=
  let c0_i32 : BitVec 32 := 0#32
  let c1_i32 : BitVec 32 := 1#32
  let arg4 : BitVec 32 := Scf.iv c0_i32 c1_i32 k0_t1
  let c8_i32 : BitVec 32 := 8#32
  let v2 : BitVec 32 := Scalar.muli arg4 c8_i32
  let v3 : BitVec 32 := v2
  let v769 : Index := Scalar.indexCast v3
  let c7168 : Index := 7168#32
  ![v769.toNat, 7168]
def k0_off59 (k0_t1 : Fin k0_t1_loop.trips) : Fin 2 → Nat :=
  let c0_i32 : BitVec 32 := 0#32
  let c1_i32 : BitVec 32 := 1#32
  let arg4 : BitVec 32 := Scf.iv c0_i32 c1_i32 k0_t1
  let c8_i32 : BitVec 32 := 8#32
  let v2 : BitVec 32 := Scalar.muli arg4 c8_i32
  let v3 : BitVec 32 := v2
  let v774 : Index := Scalar.indexCast v3
  let c7296 : Index := 7296#32
  ![v774.toNat, 7296]
def k0_off60 (k0_t1 : Fin k0_t1_loop.trips) : Fin 2 → Nat :=
  let c0_i32 : BitVec 32 := 0#32
  let c1_i32 : BitVec 32 := 1#32
  let arg4 : BitVec 32 := Scf.iv c0_i32 c1_i32 k0_t1
  let c8_i32 : BitVec 32 := 8#32
  let v2 : BitVec 32 := Scalar.muli arg4 c8_i32
  let v3 : BitVec 32 := v2
  let v779 : Index := Scalar.indexCast v3
  let c7424 : Index := 7424#32
  ![v779.toNat, 7424]
def k0_off61 (k0_t1 : Fin k0_t1_loop.trips) : Fin 2 → Nat :=
  let c0_i32 : BitVec 32 := 0#32
  let c1_i32 : BitVec 32 := 1#32
  let arg4 : BitVec 32 := Scf.iv c0_i32 c1_i32 k0_t1
  let c8_i32 : BitVec 32 := 8#32
  let v2 : BitVec 32 := Scalar.muli arg4 c8_i32
  let v3 : BitVec 32 := v2
  let v784 : Index := Scalar.indexCast v3
  let c7552 : Index := 7552#32
  ![v784.toNat, 7552]
def k0_off62 (k0_t1 : Fin k0_t1_loop.trips) : Fin 2 → Nat :=
  let c0_i32 : BitVec 32 := 0#32
  let c1_i32 : BitVec 32 := 1#32
  let arg4 : BitVec 32 := Scf.iv c0_i32 c1_i32 k0_t1
  let c8_i32 : BitVec 32 := 8#32
  let v2 : BitVec 32 := Scalar.muli arg4 c8_i32
  let v3 : BitVec 32 := v2
  let v789 : Index := Scalar.indexCast v3
  let c7680 : Index := 7680#32
  ![v789.toNat, 7680]
def k0_off63 (k0_t1 : Fin k0_t1_loop.trips) : Fin 2 → Nat :=
  let c0_i32 : BitVec 32 := 0#32
  let c1_i32 : BitVec 32 := 1#32
  let arg4 : BitVec 32 := Scf.iv c0_i32 c1_i32 k0_t1
  let c8_i32 : BitVec 32 := 8#32
  let v2 : BitVec 32 := Scalar.muli arg4 c8_i32
  let v3 : BitVec 32 := v2
  let v794 : Index := Scalar.indexCast v3
  let c7808 : Index := 7808#32
  ![v794.toNat, 7808]
def k0_off64 (k0_t1 : Fin k0_t1_loop.trips) : Fin 2 → Nat :=
  let c0_i32 : BitVec 32 := 0#32
  let c1_i32 : BitVec 32 := 1#32
  let arg4 : BitVec 32 := Scf.iv c0_i32 c1_i32 k0_t1
  let c8_i32 : BitVec 32 := 8#32
  let v2 : BitVec 32 := Scalar.muli arg4 c8_i32
  let v3 : BitVec 32 := v2
  let v799 : Index := Scalar.indexCast v3
  let c7936 : Index := 7936#32
  ![v799.toNat, 7936]
def k0_off65 (k0_t1 : Fin k0_t1_loop.trips) : Fin 2 → Nat :=
  let c0_i32 : BitVec 32 := 0#32
  let c1_i32 : BitVec 32 := 1#32
  let arg4 : BitVec 32 := Scf.iv c0_i32 c1_i32 k0_t1
  let c8_i32 : BitVec 32 := 8#32
  let v2 : BitVec 32 := Scalar.muli arg4 c8_i32
  let v3 : BitVec 32 := v2
  let v804 : Index := Scalar.indexCast v3
  let c8064 : Index := 8064#32
  ![v804.toNat, 8064]
def k0_off66 (k0_t1 : Fin k0_t1_loop.trips) : Fin 2 → Nat :=
  let c0_i32 : BitVec 32 := 0#32
  let c1_i32 : BitVec 32 := 1#32
  let arg4 : BitVec 32 := Scf.iv c0_i32 c1_i32 k0_t1
  let c8_i32 : BitVec 32 := 8#32
  let v2 : BitVec 32 := Scalar.muli arg4 c8_i32
  let v3 : BitVec 32 := v2
  let v809 : Index := Scalar.indexCast v3
  let c8192 : Index := 8192#32
  ![v809.toNat, 8192]
def k0_off67 (k0_t1 : Fin k0_t1_loop.trips) : Fin 2 → Nat :=
  let c0_i32 : BitVec 32 := 0#32
  let c1_i32 : BitVec 32 := 1#32
  let arg4 : BitVec 32 := Scf.iv c0_i32 c1_i32 k0_t1
  let c8_i32 : BitVec 32 := 8#32
  let v2 : BitVec 32 := Scalar.muli arg4 c8_i32
  let v3 : BitVec 32 := v2
  let v814 : Index := Scalar.indexCast v3
  let c8320 : Index := 8320#32
  ![v814.toNat, 8320]
def k0_off68 (k0_t1 : Fin k0_t1_loop.trips) : Fin 2 → Nat :=
  let c0_i32 : BitVec 32 := 0#32
  let c1_i32 : BitVec 32 := 1#32
  let arg4 : BitVec 32 := Scf.iv c0_i32 c1_i32 k0_t1
  let c8_i32 : BitVec 32 := 8#32
  let v2 : BitVec 32 := Scalar.muli arg4 c8_i32
  let v3 : BitVec 32 := v2
  let v819 : Index := Scalar.indexCast v3
  let c8448 : Index := 8448#32
  ![v819.toNat, 8448]
def k0_off69 (k0_t1 : Fin k0_t1_loop.trips) : Fin 2 → Nat :=
  let c0_i32 : BitVec 32 := 0#32
  let c1_i32 : BitVec 32 := 1#32
  let arg4 : BitVec 32 := Scf.iv c0_i32 c1_i32 k0_t1
  let c8_i32 : BitVec 32 := 8#32
  let v2 : BitVec 32 := Scalar.muli arg4 c8_i32
  let v3 : BitVec 32 := v2
  let v824 : Index := Scalar.indexCast v3
  let c8576 : Index := 8576#32
  ![v824.toNat, 8576]
def k0_off70 (k0_t1 : Fin k0_t1_loop.trips) : Fin 2 → Nat :=
  let c0_i32 : BitVec 32 := 0#32
  let c1_i32 : BitVec 32 := 1#32
  let arg4 : BitVec 32 := Scf.iv c0_i32 c1_i32 k0_t1
  let c8_i32 : BitVec 32 := 8#32
  let v2 : BitVec 32 := Scalar.muli arg4 c8_i32
  let v3 : BitVec 32 := v2
  let v829 : Index := Scalar.indexCast v3
  let c8704 : Index := 8704#32
  ![v829.toNat, 8704]
def k0_off71 (k0_t1 : Fin k0_t1_loop.trips) : Fin 2 → Nat :=
  let c0_i32 : BitVec 32 := 0#32
  let c1_i32 : BitVec 32 := 1#32
  let arg4 : BitVec 32 := Scf.iv c0_i32 c1_i32 k0_t1
  let c8_i32 : BitVec 32 := 8#32
  let v2 : BitVec 32 := Scalar.muli arg4 c8_i32
  let v3 : BitVec 32 := v2
  let v834 : Index := Scalar.indexCast v3
  let c8832 : Index := 8832#32
  ![v834.toNat, 8832]
def k0_off72 (k0_t1 : Fin k0_t1_loop.trips) : Fin 2 → Nat :=
  let c0_i32 : BitVec 32 := 0#32
  let c1_i32 : BitVec 32 := 1#32
  let arg4 : BitVec 32 := Scf.iv c0_i32 c1_i32 k0_t1
  let c8_i32 : BitVec 32 := 8#32
  let v2 : BitVec 32 := Scalar.muli arg4 c8_i32
  let v3 : BitVec 32 := v2
  let v839 : Index := Scalar.indexCast v3
  let c8960 : Index := 8960#32
  ![v839.toNat, 8960]
def k0_off73 (k0_t1 : Fin k0_t1_loop.trips) : Fin 2 → Nat :=
  let c0_i32 : BitVec 32 := 0#32
  let c1_i32 : BitVec 32 := 1#32
  let arg4 : BitVec 32 := Scf.iv c0_i32 c1_i32 k0_t1
  let c8_i32 : BitVec 32 := 8#32
  let v2 : BitVec 32 := Scalar.muli arg4 c8_i32
  let v3 : BitVec 32 := v2
  let v844 : Index := Scalar.indexCast v3
  let c9088 : Index := 9088#32
  ![v844.toNat, 9088]
def k0_off74 (k0_t1 : Fin k0_t1_loop.trips) : Fin 2 → Nat :=
  let c0_i32 : BitVec 32 := 0#32
  let c1_i32 : BitVec 32 := 1#32
  let arg4 : BitVec 32 := Scf.iv c0_i32 c1_i32 k0_t1
  let c8_i32 : BitVec 32 := 8#32
  let v2 : BitVec 32 := Scalar.muli arg4 c8_i32
  let v3 : BitVec 32 := v2
  let v849 : Index := Scalar.indexCast v3
  let c9216 : Index := 9216#32
  ![v849.toNat, 9216]
def k0_off75 (k0_t1 : Fin k0_t1_loop.trips) : Fin 2 → Nat :=
  let c0_i32 : BitVec 32 := 0#32
  let c1_i32 : BitVec 32 := 1#32
  let arg4 : BitVec 32 := Scf.iv c0_i32 c1_i32 k0_t1
  let c8_i32 : BitVec 32 := 8#32
  let v2 : BitVec 32 := Scalar.muli arg4 c8_i32
  let v3 : BitVec 32 := v2
  let v854 : Index := Scalar.indexCast v3
  let c9344 : Index := 9344#32
  ![v854.toNat, 9344]
def k0_off76 (k0_t1 : Fin k0_t1_loop.trips) : Fin 2 → Nat :=
  let c0_i32 : BitVec 32 := 0#32
  let c1_i32 : BitVec 32 := 1#32
  let arg4 : BitVec 32 := Scf.iv c0_i32 c1_i32 k0_t1
  let c8_i32 : BitVec 32 := 8#32
  let v2 : BitVec 32 := Scalar.muli arg4 c8_i32
  let v3 : BitVec 32 := v2
  let v859 : Index := Scalar.indexCast v3
  let c9472 : Index := 9472#32
  ![v859.toNat, 9472]
def k0_off77 (k0_t1 : Fin k0_t1_loop.trips) : Fin 2 → Nat :=
  let c0_i32 : BitVec 32 := 0#32
  let c1_i32 : BitVec 32 := 1#32
  let arg4 : BitVec 32 := Scf.iv c0_i32 c1_i32 k0_t1
  let c8_i32 : BitVec 32 := 8#32
  let v2 : BitVec 32 := Scalar.muli arg4 c8_i32
  let v3 : BitVec 32 := v2
  let v864 : Index := Scalar.indexCast v3
  let c9600 : Index := 9600#32
  ![v864.toNat, 9600]
def k0_off78 (k0_t1 : Fin k0_t1_loop.trips) : Fin 2 → Nat :=
  let c0_i32 : BitVec 32 := 0#32
  let c1_i32 : BitVec 32 := 1#32
  let arg4 : BitVec 32 := Scf.iv c0_i32 c1_i32 k0_t1
  let c8_i32 : BitVec 32 := 8#32
  let v2 : BitVec 32 := Scalar.muli arg4 c8_i32
  let v3 : BitVec 32 := v2
  let v869 : Index := Scalar.indexCast v3
  let c9728 : Index := 9728#32
  ![v869.toNat, 9728]
def k0_off79 (k0_t1 : Fin k0_t1_loop.trips) : Fin 2 → Nat :=
  let c0_i32 : BitVec 32 := 0#32
  let c1_i32 : BitVec 32 := 1#32
  let arg4 : BitVec 32 := Scf.iv c0_i32 c1_i32 k0_t1
  let c8_i32 : BitVec 32 := 8#32
  let v2 : BitVec 32 := Scalar.muli arg4 c8_i32
  let v3 : BitVec 32 := v2
  let v874 : Index := Scalar.indexCast v3
  let c9856 : Index := 9856#32
  ![v874.toNat, 9856]
def k0_off80 (k0_t1 : Fin k0_t1_loop.trips) : Fin 2 → Nat :=
  let c0_i32 : BitVec 32 := 0#32
  let c1_i32 : BitVec 32 := 1#32
  let arg4 : BitVec 32 := Scf.iv c0_i32 c1_i32 k0_t1
  let c8_i32 : BitVec 32 := 8#32
  let v2 : BitVec 32 := Scalar.muli arg4 c8_i32
  let v3 : BitVec 32 := v2
  let v879 : Index := Scalar.indexCast v3
  let c9984 : Index := 9984#32
  ![v879.toNat, 9984]
def k0_off81 (k0_t1 : Fin k0_t1_loop.trips) : Fin 2 → Nat :=
  let c0_i32 : BitVec 32 := 0#32
  let c1_i32 : BitVec 32 := 1#32
  let arg4 : BitVec 32 := Scf.iv c0_i32 c1_i32 k0_t1
  let c8_i32 : BitVec 32 := 8#32
  let v2 : BitVec 32 := Scalar.muli arg4 c8_i32
  let v3 : BitVec 32 := v2
  let v884 : Index := Scalar.indexCast v3
  let c10112 : Index := 10112#32
  ![v884.toNat, 10112]
def k0_off82 (k0_t1 : Fin k0_t1_loop.trips) : Fin 2 → Nat :=
  let c0_i32 : BitVec 32 := 0#32
  let c1_i32 : BitVec 32 := 1#32
  let arg4 : BitVec 32 := Scf.iv c0_i32 c1_i32 k0_t1
  let c8_i32 : BitVec 32 := 8#32
  let v2 : BitVec 32 := Scalar.muli arg4 c8_i32
  let v3 : BitVec 32 := v2
  let v889 : Index := Scalar.indexCast v3
  let c10240 : Index := 10240#32
  ![v889.toNat, 10240]
def k0_off83 (k0_t1 : Fin k0_t1_loop.trips) : Fin 2 → Nat :=
  let c0_i32 : BitVec 32 := 0#32
  let c1_i32 : BitVec 32 := 1#32
  let arg4 : BitVec 32 := Scf.iv c0_i32 c1_i32 k0_t1
  let c8_i32 : BitVec 32 := 8#32
  let v2 : BitVec 32 := Scalar.muli arg4 c8_i32
  let v3 : BitVec 32 := v2
  let v894 : Index := Scalar.indexCast v3
  let c10368 : Index := 10368#32
  ![v894.toNat, 10368]
def k0_off84 (k0_t1 : Fin k0_t1_loop.trips) : Fin 2 → Nat :=
  let c0_i32 : BitVec 32 := 0#32
  let c1_i32 : BitVec 32 := 1#32
  let arg4 : BitVec 32 := Scf.iv c0_i32 c1_i32 k0_t1
  let c8_i32 : BitVec 32 := 8#32
  let v2 : BitVec 32 := Scalar.muli arg4 c8_i32
  let v3 : BitVec 32 := v2
  let v899 : Index := Scalar.indexCast v3
  let c10496 : Index := 10496#32
  ![v899.toNat, 10496]
def k0_off85 (k0_t1 : Fin k0_t1_loop.trips) : Fin 2 → Nat :=
  let c0_i32 : BitVec 32 := 0#32
  let c1_i32 : BitVec 32 := 1#32
  let arg4 : BitVec 32 := Scf.iv c0_i32 c1_i32 k0_t1
  let c8_i32 : BitVec 32 := 8#32
  let v2 : BitVec 32 := Scalar.muli arg4 c8_i32
  let v3 : BitVec 32 := v2
  let v904 : Index := Scalar.indexCast v3
  let c10624 : Index := 10624#32
  ![v904.toNat, 10624]
def k0_off86 (k0_t1 : Fin k0_t1_loop.trips) : Fin 2 → Nat :=
  let c0_i32 : BitVec 32 := 0#32
  let c1_i32 : BitVec 32 := 1#32
  let arg4 : BitVec 32 := Scf.iv c0_i32 c1_i32 k0_t1
  let c8_i32 : BitVec 32 := 8#32
  let v2 : BitVec 32 := Scalar.muli arg4 c8_i32
  let v3 : BitVec 32 := v2
  let v909 : Index := Scalar.indexCast v3
  let c10752 : Index := 10752#32
  ![v909.toNat, 10752]
def k0_off87 (k0_t1 : Fin k0_t1_loop.trips) : Fin 2 → Nat :=
  let c0_i32 : BitVec 32 := 0#32
  let c1_i32 : BitVec 32 := 1#32
  let arg4 : BitVec 32 := Scf.iv c0_i32 c1_i32 k0_t1
  let c8_i32 : BitVec 32 := 8#32
  let v2 : BitVec 32 := Scalar.muli arg4 c8_i32
  let v3 : BitVec 32 := v2
  let v914 : Index := Scalar.indexCast v3
  let c10880 : Index := 10880#32
  ![v914.toNat, 10880]
def k0_off88 (k0_t1 : Fin k0_t1_loop.trips) : Fin 2 → Nat :=
  let c0_i32 : BitVec 32 := 0#32
  let c1_i32 : BitVec 32 := 1#32
  let arg4 : BitVec 32 := Scf.iv c0_i32 c1_i32 k0_t1
  let c8_i32 : BitVec 32 := 8#32
  let v2 : BitVec 32 := Scalar.muli arg4 c8_i32
  let v3 : BitVec 32 := v2
  let v919 : Index := Scalar.indexCast v3
  let c11008 : Index := 11008#32
  ![v919.toNat, 11008]
def k0_off89 (k0_t1 : Fin k0_t1_loop.trips) : Fin 2 → Nat :=
  let c0_i32 : BitVec 32 := 0#32
  let c1_i32 : BitVec 32 := 1#32
  let arg4 : BitVec 32 := Scf.iv c0_i32 c1_i32 k0_t1
  let c8_i32 : BitVec 32 := 8#32
  let v2 : BitVec 32 := Scalar.muli arg4 c8_i32
  let v3 : BitVec 32 := v2
  let v924 : Index := Scalar.indexCast v3
  let c11136 : Index := 11136#32
  ![v924.toNat, 11136]
def k0_off90 (k0_t1 : Fin k0_t1_loop.trips) : Fin 2 → Nat :=
  let c0_i32 : BitVec 32 := 0#32
  let c1_i32 : BitVec 32 := 1#32
  let arg4 : BitVec 32 := Scf.iv c0_i32 c1_i32 k0_t1
  let c8_i32 : BitVec 32 := 8#32
  let v2 : BitVec 32 := Scalar.muli arg4 c8_i32
  let v3 : BitVec 32 := v2
  let v929 : Index := Scalar.indexCast v3
  let c11264 : Index := 11264#32
  ![v929.toNat, 11264]
def k0_off91 (k0_t1 : Fin k0_t1_loop.trips) : Fin 2 → Nat :=
  let c0_i32 : BitVec 32 := 0#32
  let c1_i32 : BitVec 32 := 1#32
  let arg4 : BitVec 32 := Scf.iv c0_i32 c1_i32 k0_t1
  let c8_i32 : BitVec 32 := 8#32
  let v2 : BitVec 32 := Scalar.muli arg4 c8_i32
  let v3 : BitVec 32 := v2
  let v934 : Index := Scalar.indexCast v3
  let c11392 : Index := 11392#32
  ![v934.toNat, 11392]
def k0_off92 (k0_t1 : Fin k0_t1_loop.trips) : Fin 2 → Nat :=
  let c0_i32 : BitVec 32 := 0#32
  let c1_i32 : BitVec 32 := 1#32
  let arg4 : BitVec 32 := Scf.iv c0_i32 c1_i32 k0_t1
  let c8_i32 : BitVec 32 := 8#32
  let v2 : BitVec 32 := Scalar.muli arg4 c8_i32
  let v3 : BitVec 32 := v2
  let v939 : Index := Scalar.indexCast v3
  let c11520 : Index := 11520#32
  ![v939.toNat, 11520]
def k0_off93 (k0_t1 : Fin k0_t1_loop.trips) : Fin 2 → Nat :=
  let c0_i32 : BitVec 32 := 0#32
  let c1_i32 : BitVec 32 := 1#32
  let arg4 : BitVec 32 := Scf.iv c0_i32 c1_i32 k0_t1
  let c8_i32 : BitVec 32 := 8#32
  let v2 : BitVec 32 := Scalar.muli arg4 c8_i32
  let v3 : BitVec 32 := v2
  let v944 : Index := Scalar.indexCast v3
  let c11648 : Index := 11648#32
  ![v944.toNat, 11648]
def k0_off94 (k0_t1 : Fin k0_t1_loop.trips) : Fin 2 → Nat :=
  let c0_i32 : BitVec 32 := 0#32
  let c1_i32 : BitVec 32 := 1#32
  let arg4 : BitVec 32 := Scf.iv c0_i32 c1_i32 k0_t1
  let c8_i32 : BitVec 32 := 8#32
  let v2 : BitVec 32 := Scalar.muli arg4 c8_i32
  let v3 : BitVec 32 := v2
  let v949 : Index := Scalar.indexCast v3
  let c11776 : Index := 11776#32
  ![v949.toNat, 11776]
def k0_off95 (k0_t1 : Fin k0_t1_loop.trips) : Fin 2 → Nat :=
  let c0_i32 : BitVec 32 := 0#32
  let c1_i32 : BitVec 32 := 1#32
  let arg4 : BitVec 32 := Scf.iv c0_i32 c1_i32 k0_t1
  let c8_i32 : BitVec 32 := 8#32
  let v2 : BitVec 32 := Scalar.muli arg4 c8_i32
  let v3 : BitVec 32 := v2
  let v954 : Index := Scalar.indexCast v3
  let c11904 : Index := 11904#32
  ![v954.toNat, 11904]
def k0_off96 (k0_t1 : Fin k0_t1_loop.trips) : Fin 2 → Nat :=
  let c0_i32 : BitVec 32 := 0#32
  let c1_i32 : BitVec 32 := 1#32
  let arg4 : BitVec 32 := Scf.iv c0_i32 c1_i32 k0_t1
  let c8_i32 : BitVec 32 := 8#32
  let v2 : BitVec 32 := Scalar.muli arg4 c8_i32
  let v3 : BitVec 32 := v2
  let v959 : Index := Scalar.indexCast v3
  let c12032 : Index := 12032#32
  ![v959.toNat, 12032]
def k0_off97 (k0_t1 : Fin k0_t1_loop.trips) : Fin 2 → Nat :=
  let c0_i32 : BitVec 32 := 0#32
  let c1_i32 : BitVec 32 := 1#32
  let arg4 : BitVec 32 := Scf.iv c0_i32 c1_i32 k0_t1
  let c8_i32 : BitVec 32 := 8#32
  let v2 : BitVec 32 := Scalar.muli arg4 c8_i32
  let v3 : BitVec 32 := v2
  let v964 : Index := Scalar.indexCast v3
  let c12160 : Index := 12160#32
  ![v964.toNat, 12160]
def k0_off98 (k0_t1 : Fin k0_t1_loop.trips) : Fin 2 → Nat :=
  let c0_i32 : BitVec 32 := 0#32
  let c1_i32 : BitVec 32 := 1#32
  let arg4 : BitVec 32 := Scf.iv c0_i32 c1_i32 k0_t1
  let c8_i32 : BitVec 32 := 8#32
  let v2 : BitVec 32 := Scalar.muli arg4 c8_i32
  let v3 : BitVec 32 := v2
  let v969 : Index := Scalar.indexCast v3
  let c12288 : Index := 12288#32
  ![v969.toNat, 12288]
def k0_off99 (k0_t1 : Fin k0_t1_loop.trips) : Fin 2 → Nat :=
  let c0_i32 : BitVec 32 := 0#32
  let c1_i32 : BitVec 32 := 1#32
  let arg4 : BitVec 32 := Scf.iv c0_i32 c1_i32 k0_t1
  let c8_i32 : BitVec 32 := 8#32
  let v2 : BitVec 32 := Scalar.muli arg4 c8_i32
  let v3 : BitVec 32 := v2
  let v974 : Index := Scalar.indexCast v3
  let c12416 : Index := 12416#32
  ![v974.toNat, 12416]
def k0_off100 (k0_t1 : Fin k0_t1_loop.trips) : Fin 2 → Nat :=
  let c0_i32 : BitVec 32 := 0#32
  let c1_i32 : BitVec 32 := 1#32
  let arg4 : BitVec 32 := Scf.iv c0_i32 c1_i32 k0_t1
  let c8_i32 : BitVec 32 := 8#32
  let v2 : BitVec 32 := Scalar.muli arg4 c8_i32
  let v3 : BitVec 32 := v2
  let v979 : Index := Scalar.indexCast v3
  let c12544 : Index := 12544#32
  ![v979.toNat, 12544]
def k0_off101 (k0_t1 : Fin k0_t1_loop.trips) : Fin 2 → Nat :=
  let c0_i32 : BitVec 32 := 0#32
  let c1_i32 : BitVec 32 := 1#32
  let arg4 : BitVec 32 := Scf.iv c0_i32 c1_i32 k0_t1
  let c8_i32 : BitVec 32 := 8#32
  let v2 : BitVec 32 := Scalar.muli arg4 c8_i32
  let v3 : BitVec 32 := v2
  let v984 : Index := Scalar.indexCast v3
  let c12672 : Index := 12672#32
  ![v984.toNat, 12672]
def k0_off102 (k0_t1 : Fin k0_t1_loop.trips) : Fin 2 → Nat :=
  let c0_i32 : BitVec 32 := 0#32
  let c1_i32 : BitVec 32 := 1#32
  let arg4 : BitVec 32 := Scf.iv c0_i32 c1_i32 k0_t1
  let c8_i32 : BitVec 32 := 8#32
  let v2 : BitVec 32 := Scalar.muli arg4 c8_i32
  let v3 : BitVec 32 := v2
  let v989 : Index := Scalar.indexCast v3
  let c12800 : Index := 12800#32
  ![v989.toNat, 12800]
def k0_off103 (k0_t1 : Fin k0_t1_loop.trips) : Fin 2 → Nat :=
  let c0_i32 : BitVec 32 := 0#32
  let c1_i32 : BitVec 32 := 1#32
  let arg4 : BitVec 32 := Scf.iv c0_i32 c1_i32 k0_t1
  let c8_i32 : BitVec 32 := 8#32
  let v2 : BitVec 32 := Scalar.muli arg4 c8_i32
  let v3 : BitVec 32 := v2
  let v994 : Index := Scalar.indexCast v3
  let c12928 : Index := 12928#32
  ![v994.toNat, 12928]
def k0_off104 (k0_t1 : Fin k0_t1_loop.trips) : Fin 2 → Nat :=
  let c0_i32 : BitVec 32 := 0#32
  let c1_i32 : BitVec 32 := 1#32
  let arg4 : BitVec 32 := Scf.iv c0_i32 c1_i32 k0_t1
  let c8_i32 : BitVec 32 := 8#32
  let v2 : BitVec 32 := Scalar.muli arg4 c8_i32
  let v3 : BitVec 32 := v2
  let v999 : Index := Scalar.indexCast v3
  let c13056 : Index := 13056#32
  ![v999.toNat, 13056]
def k0_off105 (k0_t1 : Fin k0_t1_loop.trips) : Fin 2 → Nat :=
  let c0_i32 : BitVec 32 := 0#32
  let c1_i32 : BitVec 32 := 1#32
  let arg4 : BitVec 32 := Scf.iv c0_i32 c1_i32 k0_t1
  let c8_i32 : BitVec 32 := 8#32
  let v2 : BitVec 32 := Scalar.muli arg4 c8_i32
  let v3 : BitVec 32 := v2
  let v1004 : Index := Scalar.indexCast v3
  let c13184 : Index := 13184#32
  ![v1004.toNat, 13184]
def k0_off106 (k0_t1 : Fin k0_t1_loop.trips) : Fin 2 → Nat :=
  let c0_i32 : BitVec 32 := 0#32
  let c1_i32 : BitVec 32 := 1#32
  let arg4 : BitVec 32 := Scf.iv c0_i32 c1_i32 k0_t1
  let c8_i32 : BitVec 32 := 8#32
  let v2 : BitVec 32 := Scalar.muli arg4 c8_i32
  let v3 : BitVec 32 := v2
  let v1009 : Index := Scalar.indexCast v3
  let c13312 : Index := 13312#32
  ![v1009.toNat, 13312]
def k0_off107 (k0_t1 : Fin k0_t1_loop.trips) : Fin 2 → Nat :=
  let c0_i32 : BitVec 32 := 0#32
  let c1_i32 : BitVec 32 := 1#32
  let arg4 : BitVec 32 := Scf.iv c0_i32 c1_i32 k0_t1
  let c8_i32 : BitVec 32 := 8#32
  let v2 : BitVec 32 := Scalar.muli arg4 c8_i32
  let v3 : BitVec 32 := v2
  let v1014 : Index := Scalar.indexCast v3
  let c13440 : Index := 13440#32
  ![v1014.toNat, 13440]
def k0_off108 (k0_t1 : Fin k0_t1_loop.trips) : Fin 2 → Nat :=
  let c0_i32 : BitVec 32 := 0#32
  let c1_i32 : BitVec 32 := 1#32
  let arg4 : BitVec 32 := Scf.iv c0_i32 c1_i32 k0_t1
  let c8_i32 : BitVec 32 := 8#32
  let v2 : BitVec 32 := Scalar.muli arg4 c8_i32
  let v3 : BitVec 32 := v2
  let v1019 : Index := Scalar.indexCast v3
  let c13568 : Index := 13568#32
  ![v1019.toNat, 13568]
def k0_off109 (k0_t1 : Fin k0_t1_loop.trips) : Fin 2 → Nat :=
  let c0_i32 : BitVec 32 := 0#32
  let c1_i32 : BitVec 32 := 1#32
  let arg4 : BitVec 32 := Scf.iv c0_i32 c1_i32 k0_t1
  let c8_i32 : BitVec 32 := 8#32
  let v2 : BitVec 32 := Scalar.muli arg4 c8_i32
  let v3 : BitVec 32 := v2
  let v1024 : Index := Scalar.indexCast v3
  let c13696 : Index := 13696#32
  ![v1024.toNat, 13696]
def k0_off110 (k0_t1 : Fin k0_t1_loop.trips) : Fin 2 → Nat :=
  let c0_i32 : BitVec 32 := 0#32
  let c1_i32 : BitVec 32 := 1#32
  let arg4 : BitVec 32 := Scf.iv c0_i32 c1_i32 k0_t1
  let c8_i32 : BitVec 32 := 8#32
  let v2 : BitVec 32 := Scalar.muli arg4 c8_i32
  let v3 : BitVec 32 := v2
  let v1029 : Index := Scalar.indexCast v3
  let c13824 : Index := 13824#32
  ![v1029.toNat, 13824]
def k0_off111 (k0_t1 : Fin k0_t1_loop.trips) : Fin 2 → Nat :=
  let c0_i32 : BitVec 32 := 0#32
  let c1_i32 : BitVec 32 := 1#32
  let arg4 : BitVec 32 := Scf.iv c0_i32 c1_i32 k0_t1
  let c8_i32 : BitVec 32 := 8#32
  let v2 : BitVec 32 := Scalar.muli arg4 c8_i32
  let v3 : BitVec 32 := v2
  let v1034 : Index := Scalar.indexCast v3
  let c13952 : Index := 13952#32
  ![v1034.toNat, 13952]
def k0_off112 (k0_t1 : Fin k0_t1_loop.trips) : Fin 2 → Nat :=
  let c0_i32 : BitVec 32 := 0#32
  let c1_i32 : BitVec 32 := 1#32
  let arg4 : BitVec 32 := Scf.iv c0_i32 c1_i32 k0_t1
  let c8_i32 : BitVec 32 := 8#32
  let v2 : BitVec 32 := Scalar.muli arg4 c8_i32
  let v3 : BitVec 32 := v2
  let v1039 : Index := Scalar.indexCast v3
  let c14080 : Index := 14080#32
  ![v1039.toNat, 14080]
def k0_off113 (k0_t1 : Fin k0_t1_loop.trips) : Fin 2 → Nat :=
  let c0_i32 : BitVec 32 := 0#32
  let c1_i32 : BitVec 32 := 1#32
  let arg4 : BitVec 32 := Scf.iv c0_i32 c1_i32 k0_t1
  let c8_i32 : BitVec 32 := 8#32
  let v2 : BitVec 32 := Scalar.muli arg4 c8_i32
  let v3 : BitVec 32 := v2
  let v1044 : Index := Scalar.indexCast v3
  let c14208 : Index := 14208#32
  ![v1044.toNat, 14208]
def k0_off114 (k0_t1 : Fin k0_t1_loop.trips) : Fin 2 → Nat :=
  let c0_i32 : BitVec 32 := 0#32
  let c1_i32 : BitVec 32 := 1#32
  let arg4 : BitVec 32 := Scf.iv c0_i32 c1_i32 k0_t1
  let c8_i32 : BitVec 32 := 8#32
  let v2 : BitVec 32 := Scalar.muli arg4 c8_i32
  let v3 : BitVec 32 := v2
  let v1049 : Index := Scalar.indexCast v3
  let c14336 : Index := 14336#32
  ![v1049.toNat, 14336]
def k0_off115 (k0_t1 : Fin k0_t1_loop.trips) : Fin 2 → Nat :=
  let c0_i32 : BitVec 32 := 0#32
  let c1_i32 : BitVec 32 := 1#32
  let arg4 : BitVec 32 := Scf.iv c0_i32 c1_i32 k0_t1
  let c8_i32 : BitVec 32 := 8#32
  let v2 : BitVec 32 := Scalar.muli arg4 c8_i32
  let v3 : BitVec 32 := v2
  let v1054 : Index := Scalar.indexCast v3
  let c14464 : Index := 14464#32
  ![v1054.toNat, 14464]
def k0_off116 (k0_t1 : Fin k0_t1_loop.trips) : Fin 2 → Nat :=
  let c0_i32 : BitVec 32 := 0#32
  let c1_i32 : BitVec 32 := 1#32
  let arg4 : BitVec 32 := Scf.iv c0_i32 c1_i32 k0_t1
  let c8_i32 : BitVec 32 := 8#32
  let v2 : BitVec 32 := Scalar.muli arg4 c8_i32
  let v3 : BitVec 32 := v2
  let v1059 : Index := Scalar.indexCast v3
  let c14592 : Index := 14592#32
  ![v1059.toNat, 14592]
def k0_off117 (k0_t1 : Fin k0_t1_loop.trips) : Fin 2 → Nat :=
  let c0_i32 : BitVec 32 := 0#32
  let c1_i32 : BitVec 32 := 1#32
  let arg4 : BitVec 32 := Scf.iv c0_i32 c1_i32 k0_t1
  let c8_i32 : BitVec 32 := 8#32
  let v2 : BitVec 32 := Scalar.muli arg4 c8_i32
  let v3 : BitVec 32 := v2
  let v1064 : Index := Scalar.indexCast v3
  let c14720 : Index := 14720#32
  ![v1064.toNat, 14720]
def k0_off118 (k0_t1 : Fin k0_t1_loop.trips) : Fin 2 → Nat :=
  let c0_i32 : BitVec 32 := 0#32
  let c1_i32 : BitVec 32 := 1#32
  let arg4 : BitVec 32 := Scf.iv c0_i32 c1_i32 k0_t1
  let c8_i32 : BitVec 32 := 8#32
  let v2 : BitVec 32 := Scalar.muli arg4 c8_i32
  let v3 : BitVec 32 := v2
  let v1069 : Index := Scalar.indexCast v3
  let c14848 : Index := 14848#32
  ![v1069.toNat, 14848]
def k0_off119 (k0_t1 : Fin k0_t1_loop.trips) : Fin 2 → Nat :=
  let c0_i32 : BitVec 32 := 0#32
  let c1_i32 : BitVec 32 := 1#32
  let arg4 : BitVec 32 := Scf.iv c0_i32 c1_i32 k0_t1
  let c8_i32 : BitVec 32 := 8#32
  let v2 : BitVec 32 := Scalar.muli arg4 c8_i32
  let v3 : BitVec 32 := v2
  let v1074 : Index := Scalar.indexCast v3
  let c14976 : Index := 14976#32
  ![v1074.toNat, 14976]
def k0_off120 (k0_t1 : Fin k0_t1_loop.trips) : Fin 2 → Nat :=
  let c0_i32 : BitVec 32 := 0#32
  let c1_i32 : BitVec 32 := 1#32
  let arg4 : BitVec 32 := Scf.iv c0_i32 c1_i32 k0_t1
  let c8_i32 : BitVec 32 := 8#32
  let v2 : BitVec 32 := Scalar.muli arg4 c8_i32
  let v3 : BitVec 32 := v2
  let v1079 : Index := Scalar.indexCast v3
  let c15104 : Index := 15104#32
  ![v1079.toNat, 15104]
def k0_off121 (k0_t1 : Fin k0_t1_loop.trips) : Fin 2 → Nat :=
  let c0_i32 : BitVec 32 := 0#32
  let c1_i32 : BitVec 32 := 1#32
  let arg4 : BitVec 32 := Scf.iv c0_i32 c1_i32 k0_t1
  let c8_i32 : BitVec 32 := 8#32
  let v2 : BitVec 32 := Scalar.muli arg4 c8_i32
  let v3 : BitVec 32 := v2
  let v1084 : Index := Scalar.indexCast v3
  let c15232 : Index := 15232#32
  ![v1084.toNat, 15232]
def k0_off122 (k0_t1 : Fin k0_t1_loop.trips) : Fin 2 → Nat :=
  let c0_i32 : BitVec 32 := 0#32
  let c1_i32 : BitVec 32 := 1#32
  let arg4 : BitVec 32 := Scf.iv c0_i32 c1_i32 k0_t1
  let c8_i32 : BitVec 32 := 8#32
  let v2 : BitVec 32 := Scalar.muli arg4 c8_i32
  let v3 : BitVec 32 := v2
  let v1089 : Index := Scalar.indexCast v3
  let c15360 : Index := 15360#32
  ![v1089.toNat, 15360]
def k0_off123 (k0_t1 : Fin k0_t1_loop.trips) : Fin 2 → Nat :=
  let c0_i32 : BitVec 32 := 0#32
  let c1_i32 : BitVec 32 := 1#32
  let arg4 : BitVec 32 := Scf.iv c0_i32 c1_i32 k0_t1
  let c8_i32 : BitVec 32 := 8#32
  let v2 : BitVec 32 := Scalar.muli arg4 c8_i32
  let v3 : BitVec 32 := v2
  let v1094 : Index := Scalar.indexCast v3
  let c15488 : Index := 15488#32
  ![v1094.toNat, 15488]
def k0_off124 (k0_t1 : Fin k0_t1_loop.trips) : Fin 2 → Nat :=
  let c0_i32 : BitVec 32 := 0#32
  let c1_i32 : BitVec 32 := 1#32
  let arg4 : BitVec 32 := Scf.iv c0_i32 c1_i32 k0_t1
  let c8_i32 : BitVec 32 := 8#32
  let v2 : BitVec 32 := Scalar.muli arg4 c8_i32
  let v3 : BitVec 32 := v2
  let v1099 : Index := Scalar.indexCast v3
  let c15616 : Index := 15616#32
  ![v1099.toNat, 15616]
def k0_off125 (k0_t1 : Fin k0_t1_loop.trips) : Fin 2 → Nat :=
  let c0_i32 : BitVec 32 := 0#32
  let c1_i32 : BitVec 32 := 1#32
  let arg4 : BitVec 32 := Scf.iv c0_i32 c1_i32 k0_t1
  let c8_i32 : BitVec 32 := 8#32
  let v2 : BitVec 32 := Scalar.muli arg4 c8_i32
  let v3 : BitVec 32 := v2
  let v1104 : Index := Scalar.indexCast v3
  let c15744 : Index := 15744#32
  ![v1104.toNat, 15744]
def k0_off126 (k0_t1 : Fin k0_t1_loop.trips) : Fin 2 → Nat :=
  let c0_i32 : BitVec 32 := 0#32
  let c1_i32 : BitVec 32 := 1#32
  let arg4 : BitVec 32 := Scf.iv c0_i32 c1_i32 k0_t1
  let c8_i32 : BitVec 32 := 8#32
  let v2 : BitVec 32 := Scalar.muli arg4 c8_i32
  let v3 : BitVec 32 := v2
  let v1109 : Index := Scalar.indexCast v3
  let c15872 : Index := 15872#32
  ![v1109.toNat, 15872]
def k0_off127 (k0_t1 : Fin k0_t1_loop.trips) : Fin 2 → Nat :=
  let c0_i32 : BitVec 32 := 0#32
  let c1_i32 : BitVec 32 := 1#32
  let arg4 : BitVec 32 := Scf.iv c0_i32 c1_i32 k0_t1
  let c8_i32 : BitVec 32 := 8#32
  let v2 : BitVec 32 := Scalar.muli arg4 c8_i32
  let v3 : BitVec 32 := v2
  let v1114 : Index := Scalar.indexCast v3
  let c16000 : Index := 16000#32
  ![v1114.toNat, 16000]
def k0_off128 (k0_t1 : Fin k0_t1_loop.trips) : Fin 2 → Nat :=
  let c0_i32 : BitVec 32 := 0#32
  let c1_i32 : BitVec 32 := 1#32
  let arg4 : BitVec 32 := Scf.iv c0_i32 c1_i32 k0_t1
  let c8_i32 : BitVec 32 := 8#32
  let v2 : BitVec 32 := Scalar.muli arg4 c8_i32
  let v3 : BitVec 32 := v2
  let v1119 : Index := Scalar.indexCast v3
  let c16128 : Index := 16128#32
  ![v1119.toNat, 16128]
def k0_off129 (k0_t1 : Fin k0_t1_loop.trips) : Fin 2 → Nat :=
  let c0_i32 : BitVec 32 := 0#32
  let c1_i32 : BitVec 32 := 1#32
  let arg4 : BitVec 32 := Scf.iv c0_i32 c1_i32 k0_t1
  let c8_i32 : BitVec 32 := 8#32
  let v2 : BitVec 32 := Scalar.muli arg4 c8_i32
  let v3 : BitVec 32 := v2
  let v1124 : Index := Scalar.indexCast v3
  let c16256 : Index := 16256#32
  ![v1124.toNat, 16256]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x128 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x16384 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== RouteReferenceIdeal.lean ====
abbrev S17408x128 : Shape := ⟨2, ![17408, 128]⟩
abbrev S17408x128x1 : Shape := ⟨3, ![17408, 128, 1]⟩
abbrev S16384 : Shape := ⟨1, ![16384]⟩
abbrev S1x1x16384 : Shape := ⟨3, ![1, 1, 16384]⟩
abbrev S17408x128x16384 : Shape := ⟨3, ![17408, 128, 16384]⟩
abbrev S_ : Shape := ⟨0, ![]⟩
abbrev S17408x16384 : Shape := ⟨2, ![17408, 16384]⟩

abbrev nBuf : Space → Nat
  | .hbm => 17
  | .vmem => 0
  | .smem => 0
  | _ => 0

abbrev bufTy : (tb : Table) → Fin (tcTables nBuf tb) → BufTy
  | .hbm, ⟨0, _⟩ => ⟨S17408x128, .i32⟩
  | .hbm, ⟨1, _⟩ => ⟨S17408x128, .f32⟩
  | .hbm, ⟨2, _⟩ => ⟨S17408x128x1, .i32⟩
  | .hbm, ⟨3, _⟩ => ⟨S16384, .i32⟩
  | .hbm, ⟨4, _⟩ => ⟨S1x1x16384, .i32⟩
  | .hbm, ⟨5, _⟩ => ⟨S17408x128x16384, .i32⟩
  | .hbm, ⟨6, _⟩ => ⟨S17408x128x16384, .i32⟩
  | .hbm, ⟨7, _⟩ => ⟨S17408x128x16384, .i1⟩
  | .hbm, ⟨8, _⟩ => ⟨S17408x128x1, .f32⟩
  | .hbm, ⟨9, _⟩ => ⟨S_, .f32⟩
  | .hbm, ⟨10, _⟩ => ⟨S_, .f32⟩
  | .hbm, ⟨11, _⟩ => ⟨S17408x128x16384, .f32⟩
  | .hbm, ⟨12, _⟩ => ⟨S17408x128x16384, .f32⟩
  | .hbm, ⟨13, _⟩ => ⟨S17408x128x16384, .f32⟩
  | .hbm, ⟨14, _⟩ => ⟨S_, .f32⟩
  | .hbm, ⟨15, _⟩ => ⟨S17408x16384, .f32⟩
  | .hbm, ⟨16, _⟩ => ⟨S17408x16384, .bf16⟩
  | _, _ => ⟨S17408x128, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_cst : Ref sig .tc := ⟨.hbm, 9, rfl⟩
abbrev main_call0_v0 : Ref sig .tc := ⟨.hbm, 10, rfl⟩
abbrev main_call0_v1 : Ref sig .tc := ⟨.hbm, 11, rfl⟩
abbrev main_call0_v2 : Ref sig .tc := ⟨.hbm, 12, rfl⟩
abbrev main_v7 : Ref sig .tc := ⟨.hbm, 13, rfl⟩
abbrev main_cst_0 : Ref sig .tc := ⟨.hbm, 14, rfl⟩
abbrev main_v8 : Ref sig .tc := ⟨.hbm, 15, rfl⟩
abbrev main_v9 : Ref sig .tc := ⟨.hbm, 16, rfl⟩

abbrev nD : Nat := 1
abbrev τ : Topo := Topo.v7x

variable {F : FTy → Type} [FloatOps F]
-- ==== Proof.Points.lean ====
/-
  What the runs of the differential-attention body are stated over: the three branch conditions in closed form over
  the grid's points (`j = 0`, `j < i`, `j = i`), the staging and scratch memrefs, and the launch's invariant with the
  three scratch buffers spelt as memrefs.
-/
module

public import proofs.«01_k».proof.Proof.Gen.KernelIdeal.Frame
public import proofs.«01_k».proof.Proof.Gen.KernelIdeal.Skeleton

@[expose] public section

set_option maxRecDepth 16384

noncomputable section

namespace Cert.KernelIdeal.Diff

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's branch conditions -/

/-- The condition of the body's `scf.if` 0 (`k0_h1`), from the grid coordinates (the skeleton's scalar
    chain substituted). -/
abbrev cond0_0 (i : grid0.Coords) : Prop := (Scalar.cmpi .ne (Scalar.extui (Scalar.cmpi .eq (BitVec.ofNat 32 (i 3).val) 0#32)) 0#32) = 1#1
/-- It holds at the points ≡ 0 (mod 16) — by arithmetic of the point. -/
theorem hcond0_0 : ∀ t : Fin cfg0.N, cond0_0 (grid0.coords t) ↔ t.val % 16 = 0 :=
  (fun t => by
    have ht : t.val < 2048 := Nat.lt_of_lt_of_eq t.isLt N_0
    have e0 : (grid0.coords t 0).val = t.val / 1024 % 2 := Pipeline.Grid.coords_val t 0 (by decide) rfl
    have e1 : (grid0.coords t 1).val = t.val / 256 % 4 := Pipeline.Grid.coords_val t 1 (by decide) rfl
    have e2 : (grid0.coords t 2).val = t.val / 16 % 16 := Pipeline.Grid.coords_val t 2 (by decide) rfl
    have e3 : (grid0.coords t 3).val = t.val / 1 % 16 := Pipeline.Grid.coords_val t 3 (by decide) rfl
    simp only [cond0_0, e0, e1, e2, e3]
    word_cmp
   : ∀ t : Fin grid0.N, cond0_0 (grid0.coords t) ↔ t.val % 16 = 0)

/-- The condition of the body's `scf.if` 1 (`k0_h2`), from the grid coordinates (the skeleton's scalar
    chain substituted). -/
abbrev cond0_1 (i : grid0.Coords) : Prop := (Scalar.cmpi .ne (Scalar.extui (Scalar.cmpi .slt (BitVec.ofNat 32 (i 3).val) (BitVec.ofNat 32 (i 2).val))) 0#32) = 1#1
/-- It holds at the points whose coordinates have i3 + 1 ≤ i2 — decided over the grid. -/
theorem hcond0_1 : ∀ t : Fin cfg0.N, cond0_1 (grid0.coords t) ↔ t.val % 16 + 1 ≤ t.val / 16 % 16 :=
  (by decide +kernel : ∀ t : Fin grid0.N, cond0_1 (grid0.coords t) ↔ t.val % 16 + 1 ≤ t.val / 16 % 16)

/-- The condition of the body's `scf.if` 2 (`k0_h3`), from the grid coordinates (the skeleton's scalar
    chain substituted). -/
abbrev cond0_2 (i : grid0.Coords) : Prop := k0_cond3 i = 1#1
/-- It holds at the points whose coordinates have i2 = i3 — decided over the grid. -/
theorem hcond0_2 : ∀ t : Fin cfg0.N, cond0_2 (grid0.coords t) ↔ t.val / 16 % 16 = t.val % 16 :=
  (by decide +kernel : ∀ t : Fin grid0.N, cond0_2 (grid0.coords t) ↔ t.val / 16 % 16 = t.val % 16)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Window 3 is never idle (an input). -/
theorem liveAt0_3 : ∀ t : Fin cfg0.N, cfg0.idle 3 (grid0.coords t) = false := fun _ => rfl
/-! ## The kernel body on any staging memrefs: a subtype the run finds -/

/-- Each window's current staging memref at point `t`, spelled as the pipeline passes it (`bodyAt0`), and its wholeness. -/
abbrev ms0_0 (t : Fin cfg0.N) : Memref sig .tc .smem S1 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x1x2x512x64 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x1x2x512x64 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x512x128 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x512x128 .f32 := win0_4.stage (cfg0.slots t 4)
abbrev hs0_4 (t : Fin cfg0.N) : (ms0_4 t).IsWhole := hstage0_4 ((cfg0.slots t 4).cast nbuf0_4)
/-- The scratch operands: whole scoped buffers of the kernel's own, passed beside the windows. -/
abbrev scM0_0 : Memref sig .tc .vmem S2x512x1 .f32 := Memref.whole cc0_scratch0
abbrev scM0_1 : Memref sig .tc .vmem S2x512x1 .f32 := Memref.whole cc0_scratch1
abbrev scM0_2 : Memref sig .tc .vmem S2x512x128 .f32 := Memref.whole cc0_scratch2
/-- The scratch `arg9` the kernel carries between points, as a view: what it holds is stated through it. -/
abbrev VS0_0 : View sig .tc .vmem S2x512x1 .f32 := scM0_0.view
/-- The scratch `arg10` the kernel carries between points, as a view: what it holds is stated through it. -/
abbrev VS0_1 : View sig .tc .vmem S2x512x1 .f32 := scM0_1.view
/-- The scratch `arg11` the kernel carries between points, as a view: what it holds is stated through it. -/
abbrev VS0_2 : View sig .tc .vmem S2x512x128 .f32 := scM0_2.view

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d)) ∗ (∃ r, prngReg c r)) := by
  unfold Pipeline.ΦA; rw [scopedRest0_eq]; simp only [scM0_0, scM0_1, scM0_2, owns_whole]; try rfl

end Cert.KernelIdeal.Diff

end
-- ==== Proof.RunA.lean ====
/-
  The body's run at the points where j = 0 = i: the staged inputs are handed back as they were, the output's buffer
  with the pieces its one store writes, and the scratch buffers with the pieces stored into them.
-/
module

public import proofs.«01_k».proof.Proof.Points

@[expose] public section

set_option maxRecDepth 16384

noncomputable section

namespace Cert.KernelIdeal.Diff

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body where j = 0 = i, with the pieces each buffer it stores into ends with (the last store first).
    The run finds them; the scratch buffers are owned at their contents where the body reads what they held. -/
noncomputable def runA (c : Dev nD) (i : grid0.Coords) (arg4 : Memref sig .tc .smem S1 .f32) (harg4 : arg4.IsWhole) (arg5 : Memref sig .tc .vmem S1x1x2x512x64 .bf16) (harg5 : arg5.IsWhole) (arg6 : Memref sig .tc .vmem S1x1x2x512x64 .bf16) (harg6 : arg6.IsWhole) (arg7 : Memref sig .tc .vmem S1x512x128 .bf16) (harg7 : arg7.IsWhole) (arg8 : Memref sig .tc .vmem S1x512x128 .f32) (harg8 : arg8.IsWhole) (arg9 : Memref sig .tc .vmem S2x512x1 .f32) (harg9 : arg9.IsWhole) (arg10 : Memref sig .tc .vmem S2x512x1 .f32) (harg10 : arg10.IsWhole) (arg11 : Memref sig .tc .vmem S2x512x128 .f32) (harg11 : arg11.IsWhole) (hc0 : cond0_0 i) (hc1 : ¬cond0_1 i) (hc2 : cond0_2 i)
    (x0 : Vec F S1 .f32) (x1 : Vec F S1x1x2x512x64 .bf16) (x2 : Vec F S1x1x2x512x64 .bf16) (x3 : Vec F S1x512x128 .bf16) :
    Σ' (L4 : List (View.Piece (Elt F) S1x512x128 .f32)), Σ' (LS0 : List (View.Piece (Elt F) S2x512x1 .f32)), Σ' (LS1 : List (View.Piece (Elt F) S2x512x1 .f32)), { LS2 : List (View.Piece (Elt F) S2x512x128 .f32) //
      ∀ (E : Set ℕ) (K : PUnit → sProp 𝕄),
        iprop(owns (c : Thread nD τ) arg4 fullShare x0 ∗ owns (c : Thread nD τ) arg5 fullShare x1 ∗ owns (c : Thread nD τ) arg6 fullShare x2 ∗ owns (c : Thread nD τ) arg7 fullShare x3 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d)
            ∗ (iprop(owns (c : Thread nD τ) arg4 fullShare x0 ∗ owns (c : Thread nD τ) arg5 fullShare x1 ∗ owns (c : Thread nD τ) arg6 fullShare x2 ∗ owns (c : Thread nD τ) arg7 fullShare x3 ∗ (∃ f, arg8.view.loc (c : Thread nD τ) ↦[arg8.view.set]{fullShare} arg8.view.writes (Elt F) f L4) ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1) ∗ (∃ f, arg11.view.loc (c : Thread nD τ) ↦[arg11.view.set]{fullShare} arg11.view.writes (Elt F) f LS2)) -∗ K ⟨⟩))
          ⊢ wp frame (wpE (defs₀ (F := F)) Variants.none c none) E (cc0_diff_attention i arg4 harg4 arg5 harg5 arg6 harg6 arg7 harg7 arg8 harg8 arg9 harg9 arg10 harg10 arg11 harg11) K } := by
  refine ⟨?_, ?_, ?_, ?_, fun E K => ?run⟩
  case run =>
    simp only [cc0_diff_attention_eq_skeleton]; unfold cc0_diff_attention_skel
    simp only [k0_part3_eq_skeleton, k0_part4_eq_skeleton, k0_part5_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%ds0, %fs0, -, HS0⟩, ⟨%ds1, %fs1, -, HS1⟩, ⟨%ds2, %fs2, -, HS2⟩, Hk⟩
    obtain rfl := harg4.eq_unread hf0; obtain rfl := harg5.eq_unread hf1; obtain rfl := harg6.eq_unread hf2; obtain rfl := harg7.eq_unread hf3
    sl_exec (disch := first | sl_exact hc0 | sl_exact hc1 | sl_exact hc2)
    sl_step
    iapply Hk
    isplitl [H0]
    · iexists _; isplitr; · ipureintro; exact harg4.read_unread _
      iexact H0
    isplitl [H1]
    · iexists _; isplitr; · ipureintro; exact harg5.read_unread _
      iexact H1
    isplitl [H2]
    · iexists _; isplitr; · ipureintro; exact harg6.read_unread _
      iexact H2
    isplitl [H3]
    · iexists _; isplitr; · ipureintro; exact harg7.read_unread _
      iexact H3
    isplitl [H4]; · iexists _; iexact H4
    isplitl [HS0]; · iexists _; iexact HS0
    isplitl [HS1]; · iexists _; iexact HS1
    iexists _; iexact HS2

end Cert.KernelIdeal.Diff

end
-- ==== Proof.RunB.lean ====
/-
  The body's run at the points where j > i: the staged inputs are handed back as they were, the output's buffer
  untouched, and the scratch buffers untouched.
-/
module

public import proofs.«01_k».proof.Proof.RunA

@[expose] public section

set_option maxRecDepth 16384

noncomputable section

namespace Cert.KernelIdeal.Diff

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body where j > i: it stores nothing, and every buffer is handed back as it was. -/
noncomputable def runB (c : Dev nD) (i : grid0.Coords) (arg4 : Memref sig .tc .smem S1 .f32) (harg4 : arg4.IsWhole) (arg5 : Memref sig .tc .vmem S1x1x2x512x64 .bf16) (harg5 : arg5.IsWhole) (arg6 : Memref sig .tc .vmem S1x1x2x512x64 .bf16) (harg6 : arg6.IsWhole) (arg7 : Memref sig .tc .vmem S1x512x128 .bf16) (harg7 : arg7.IsWhole) (arg8 : Memref sig .tc .vmem S1x512x128 .f32) (harg8 : arg8.IsWhole) (arg9 : Memref sig .tc .vmem S2x512x1 .f32) (harg9 : arg9.IsWhole) (arg10 : Memref sig .tc .vmem S2x512x1 .f32) (harg10 : arg10.IsWhole) (arg11 : Memref sig .tc .vmem S2x512x128 .f32) (harg11 : arg11.IsWhole) (hc0 : ¬cond0_0 i) (hc1 : ¬cond0_1 i) (hc2 : ¬cond0_2 i)
    (x0 : Vec F S1 .f32) (x1 : Vec F S1x1x2x512x64 .bf16) (x2 : Vec F S1x1x2x512x64 .bf16) (x3 : Vec F S1x512x128 .bf16) (y : Vec F S1x512x128 .f32) (xs0 : Vec F S2x512x1 .f32) (xs1 : Vec F S2x512x1 .f32) (xs2 : Vec F S2x512x128 .f32) :
    Σ' (LS0 : List (View.Piece (Elt F) S2x512x1 .f32)), Σ' (LS1 : List (View.Piece (Elt F) S2x512x1 .f32)), { LS2 : List (View.Piece (Elt F) S2x512x128 .f32) //
      ∀ (E : Set ℕ) (K : PUnit → sProp 𝕄),
        iprop(owns (c : Thread nD τ) arg4 fullShare x0 ∗ owns (c : Thread nD τ) arg5 fullShare x1 ∗ owns (c : Thread nD τ) arg6 fullShare x2 ∗ owns (c : Thread nD τ) arg7 fullShare x3 ∗ owns (c : Thread nD τ) arg8 fullShare y ∗ owns (c : Thread nD τ) arg9 fullShare xs0 ∗ owns (c : Thread nD τ) arg10 fullShare xs1 ∗ owns (c : Thread nD τ) arg11 fullShare xs2
            ∗ (iprop(owns (c : Thread nD τ) arg4 fullShare x0 ∗ owns (c : Thread nD τ) arg5 fullShare x1 ∗ owns (c : Thread nD τ) arg6 fullShare x2 ∗ owns (c : Thread nD τ) arg7 fullShare x3 ∗ owns (c : Thread nD τ) arg8 fullShare y ∗ owns (c : Thread nD τ) arg9 fullShare xs0 ∗ owns (c : Thread nD τ) arg10 fullShare xs1 ∗ owns (c : Thread nD τ) arg11 fullShare xs2) -∗ K ⟨⟩))
          ⊢ wp frame (wpE (defs₀ (F := F)) Variants.none c none) E (cc0_diff_attention i arg4 harg4 arg5 harg5 arg6 harg6 arg7 harg7 arg8 harg8 arg9 harg9 arg10 harg10 arg11 harg11) K } := by
  refine ⟨[], [], [], fun E K => ?run⟩
  case run =>
    simp only [cc0_diff_attention_eq_skeleton]; unfold cc0_diff_attention_skel
    unfold owns
    iintro ⟨⟨%f0, %hf0, H0⟩, ⟨%f1, %hf1, H1⟩, ⟨%f2, %hf2, H2⟩, ⟨%f3, %hf3, H3⟩, ⟨%f4, %hf4, H4⟩, ⟨%fs0, %hfs0, HS0⟩, ⟨%fs1, %hfs1, HS1⟩, ⟨%fs2, %hfs2, HS2⟩, Hk⟩
    obtain rfl := harg4.eq_unread hf0; obtain rfl := harg5.eq_unread hf1; obtain rfl := harg6.eq_unread hf2; obtain rfl := harg7.eq_unread hf3; obtain rfl := harg8.eq_unread hf4; obtain rfl := harg9.eq_unread hfs0; obtain rfl := harg10.eq_unread hfs1; obtain rfl := harg11.eq_unread hfs2
    sl_exec (disch := first | sl_exact hc0 | sl_exact hc1 | sl_exact hc2)
    sl_step
    iapply Hk
    isplitl [H0]
    · iexists _; isplitr; · ipureintro; exact harg4.read_unread _
      iexact H0
    isplitl [H1]
    · iexists _; isplitr; · ipureintro; exact harg5.read_unread _
      iexact H1
    isplitl [H2]
    · iexists _; isplitr; · ipureintro; exact harg6.read_unread _
      iexact H2
    isplitl [H3]
    · iexists _; isplitr; · ipureintro; exact harg7.read_unread _
      iexact H3
    isplitl [H4]
    · iexists _; isplitr; · ipureintro; exact harg8.read_unread _
      iexact H4
    isplitl [HS0]
    · iexists _; isplitr; · ipureintro; exact harg9.read_unread _
      iexact HS0
    isplitl [HS1]
    · iexists _; isplitr; · ipureintro; exact harg10.read_unread _
      iexact HS1
    iexists _; isplitr; · ipureintro; exact harg11.read_unread _
    iexact HS2

end Cert.KernelIdeal.Diff

end
-- ==== Proof.RunC.lean ====
/-
  The body's run at the points where j = 0 < i: the staged inputs are handed back as they were, the output's buffer
  untouched, and the scratch buffers with the pieces stored into them.
-/
module

public import proofs.«01_k».proof.Proof.RunB

@[expose] public section

set_option maxRecDepth 16384

noncomputable section

namespace Cert.KernelIdeal.Diff

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body where j = 0 < i, with the pieces each buffer it stores into ends with (the last store first).
    The run finds them; the scratch buffers are owned at their contents where the body reads what they held. -/
noncomputable def runC (c : Dev nD) (i : grid0.Coords) (arg4 : Memref sig .tc .smem S1 .f32) (harg4 : arg4.IsWhole) (arg5 : Memref sig .tc .vmem S1x1x2x512x64 .bf16) (harg5 : arg5.IsWhole) (arg6 : Memref sig .tc .vmem S1x1x2x512x64 .bf16) (harg6 : arg6.IsWhole) (arg7 : Memref sig .tc .vmem S1x512x128 .bf16) (harg7 : arg7.IsWhole) (arg8 : Memref sig .tc .vmem S1x512x128 .f32) (harg8 : arg8.IsWhole) (arg9 : Memref sig .tc .vmem S2x512x1 .f32) (harg9 : arg9.IsWhole) (arg10 : Memref sig .tc .vmem S2x512x1 .f32) (harg10 : arg10.IsWhole) (arg11 : Memref sig .tc .vmem S2x512x128 .f32) (harg11 : arg11.IsWhole) (hc0 : cond0_0 i) (hc1 : cond0_1 i) (hc2 : ¬cond0_2 i)
    (x0 : Vec F S1 .f32) (x1 : Vec F S1x1x2x512x64 .bf16) (x2 : Vec F S1x1x2x512x64 .bf16) (x3 : Vec F S1x512x128 .bf16) (y : Vec F S1x512x128 .f32) :
    Σ' (LS0 : List (View.Piece (Elt F) S2x512x1 .f32)), Σ' (LS1 : List (View.Piece (Elt F) S2x512x1 .f32)), { LS2 : List (View.Piece (Elt F) S2x512x128 .f32) //
      ∀ (E : Set ℕ) (K : PUnit → sProp 𝕄),
        iprop(owns (c : Thread nD τ) arg4 fullShare x0 ∗ owns (c : Thread nD τ) arg5 fullShare x1 ∗ owns (c : Thread nD τ) arg6 fullShare x2 ∗ owns (c : Thread nD τ) arg7 fullShare x3 ∗ owns (c : Thread nD τ) arg8 fullShare y ∗ (∃ d, owns (c : Thread nD τ) arg9 fullShare d) ∗ (∃ d, owns (c : Thread nD τ) arg10 fullShare d) ∗ (∃ d, owns (c : Thread nD τ) arg11 fullShare d)
            ∗ (iprop(owns (c : Thread nD τ) arg4 fullShare x0 ∗ owns (c : Thread nD τ) arg5 fullShare x1 ∗ owns (c : Thread nD τ) arg6 fullShare x2 ∗ owns (c : Thread nD τ) arg7 fullShare x3 ∗ owns (c : Thread nD τ) arg8 fullShare y ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1) ∗ (∃ f, arg11.view.loc (c : Thread nD τ) ↦[arg11.view.set]{fullShare} arg11.view.writes (Elt F) f LS2)) -∗ K ⟨⟩))
          ⊢ wp frame (wpE (defs₀ (F := F)) Variants.none c none) E (cc0_diff_attention i arg4 harg4 arg5 harg5 arg6 harg6 arg7 harg7 arg8 harg8 arg9 harg9 arg10 harg10 arg11 harg11) K } := by
  refine ⟨?_, ?_, ?_, fun E K => ?run⟩
  case run =>
    simp only [cc0_diff_attention_eq_skeleton]; unfold cc0_diff_attention_skel
    simp only [k0_part1_eq_skeleton, k0_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%ds0, %fs0, -, HS0⟩, ⟨%ds1, %fs1, -, HS1⟩, ⟨%ds2, %fs2, -, HS2⟩, Hk⟩
    obtain rfl := harg4.eq_unread hf0; obtain rfl := harg5.eq_unread hf1; obtain rfl := harg6.eq_unread hf2; obtain rfl := harg7.eq_unread hf3; obtain rfl := harg8.eq_unread hf4
    sl_exec (disch := first | sl_exact hc0 | sl_exact hc1 | sl_exact hc2)
    sl_step
    iapply Hk
    isplitl [H0]
    · iexists _; isplitr; · ipureintro; exact harg4.read_unread _
      iexact H0
    isplitl [H1]
    · iexists _; isplitr; · ipureintro; exact harg5.read_unread _
      iexact H1
    isplitl [H2]
    · iexists _; isplitr; · ipureintro; exact harg6.read_unread _
      iexact H2
    isplitl [H3]
    · iexists _; isplitr; · ipureintro; exact harg7.read_unread _
      iexact H3
    isplitl [H4]
    · iexists _; isplitr; · ipureintro; exact harg8.read_unread _
      iexact H4
    isplitl [HS0]; · iexists _; iexact HS0
    isplitl [HS1]; · iexists _; iexact HS1
    iexists _; iexact HS2

end Cert.KernelIdeal.Diff

end
-- ==== Proof.RunD.lean ====
/-
  The body's run at the points where 0 < j = i: the staged inputs are handed back as they were, the output's buffer
  with the pieces its one store writes, and the scratch buffers with the pieces stored into them.
-/
module

public import proofs.«01_k».proof.Proof.RunC

@[expose] public section

set_option maxRecDepth 16384

noncomputable section

namespace Cert.KernelIdeal.Diff

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1200000 in
/-- The body where 0 < j = i, with the pieces each buffer it stores into ends with (the last store first).
    The run finds them; the scratch buffers are owned at their contents where the body reads what they held. -/
noncomputable def runD (c : Dev nD) (i : grid0.Coords) (arg4 : Memref sig .tc .smem S1 .f32) (harg4 : arg4.IsWhole) (arg5 : Memref sig .tc .vmem S1x1x2x512x64 .bf16) (harg5 : arg5.IsWhole) (arg6 : Memref sig .tc .vmem S1x1x2x512x64 .bf16) (harg6 : arg6.IsWhole) (arg7 : Memref sig .tc .vmem S1x512x128 .bf16) (harg7 : arg7.IsWhole) (arg8 : Memref sig .tc .vmem S1x512x128 .f32) (harg8 : arg8.IsWhole) (arg9 : Memref sig .tc .vmem S2x512x1 .f32) (harg9 : arg9.IsWhole) (arg10 : Memref sig .tc .vmem S2x512x1 .f32) (harg10 : arg10.IsWhole) (arg11 : Memref sig .tc .vmem S2x512x128 .f32) (harg11 : arg11.IsWhole) (hc0 : ¬cond0_0 i) (hc1 : ¬cond0_1 i) (hc2 : cond0_2 i)
    (x0 : Vec F S1 .f32) (x1 : Vec F S1x1x2x512x64 .bf16) (x2 : Vec F S1x1x2x512x64 .bf16) (x3 : Vec F S1x512x128 .bf16) (xs0 : Vec F S2x512x1 .f32) (xs1 : Vec F S2x512x1 .f32) (xs2 : Vec F S2x512x128 .f32) :
    Σ' (L4 : List (View.Piece (Elt F) S1x512x128 .f32)), Σ' (LS0 : List (View.Piece (Elt F) S2x512x1 .f32)), Σ' (LS1 : List (View.Piece (Elt F) S2x512x1 .f32)), { LS2 : List (View.Piece (Elt F) S2x512x128 .f32) //
      ∀ (E : Set ℕ) (K : PUnit → sProp 𝕄),
        iprop(owns (c : Thread nD τ) arg4 fullShare x0 ∗ owns (c : Thread nD τ) arg5 fullShare x1 ∗ owns (c : Thread nD τ) arg6 fullShare x2 ∗ owns (c : Thread nD τ) arg7 fullShare x3 ∗ (∃ d, owns (c : Thread nD τ) arg8 fullShare d) ∗ owns (c : Thread nD τ) arg9 fullShare xs0 ∗ owns (c : Thread nD τ) arg10 fullShare xs1 ∗ owns (c : Thread nD τ) arg11 fullShare xs2
            ∗ (iprop(owns (c : Thread nD τ) arg4 fullShare x0 ∗ owns (c : Thread nD τ) arg5 fullShare x1 ∗ owns (c : Thread nD τ) arg6 fullShare x2 ∗ owns (c : Thread nD τ) arg7 fullShare x3 ∗ (∃ f, arg8.view.loc (c : Thread nD τ) ↦[arg8.view.set]{fullShare} arg8.view.writes (Elt F) f L4) ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1) ∗ (∃ f, arg11.view.loc (c : Thread nD τ) ↦[arg11.view.set]{fullShare} arg11.view.writes (Elt F) f LS2)) -∗ K ⟨⟩))
          ⊢ wp frame (wpE (defs₀ (F := F)) Variants.none c none) E (cc0_diff_attention i arg4 harg4 arg5 harg5 arg6 harg6 arg7 harg7 arg8 harg8 arg9 harg9 arg10 harg10 arg11 harg11) K } := by
  refine ⟨?_, ?_, ?_, ?_, fun E K => ?run⟩
  case run =>
    simp only [cc0_diff_attention_eq_skeleton]; unfold cc0_diff_attention_skel
    simp only [k0_part3_eq_skeleton, k0_part4_eq_skeleton, k0_part5_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%fs0, %hfs0, HS0⟩, ⟨%fs1, %hfs1, HS1⟩, ⟨%fs2, %hfs2, HS2⟩, Hk⟩
    obtain rfl := harg4.eq_unread hf0; obtain rfl := harg5.eq_unread hf1; obtain rfl := harg6.eq_unread hf2; obtain rfl := harg7.eq_unread hf3; obtain rfl := harg9.eq_unread hfs0; obtain rfl := harg10.eq_unread hfs1; obtain rfl := harg11.eq_unread hfs2
    sl_exec (disch := first | sl_exact hc0 | sl_exact hc1 | sl_exact hc2)
    sl_step
    iapply Hk
    isplitl [H0]
    · iexists _; isplitr; · ipureintro; exact harg4.read_unread _
      iexact H0
    isplitl [H1]
    · iexists _; isplitr; · ipureintro; exact harg5.read_unread _
      iexact H1
    isplitl [H2]
    · iexists _; isplitr; · ipureintro; exact harg6.read_unread _
      iexact H2
    isplitl [H3]
    · iexists _; isplitr; · ipureintro; exact harg7.read_unread _
      iexact H3
    isplitl [H4]; · iexists _; iexact H4
    isplitl [HS0]; · iexists _; iexact HS0
    isplitl [HS1]; · iexists _; iexact HS1
    iexists _; iexact HS2

end Cert.KernelIdeal.Diff

end
-- ==== Proof.RunE.lean ====
/-
  The body's run at the points where 0 < j < i: the staged inputs are handed back as they were, the output's buffer
  untouched, and the scratch buffers with the pieces stored into them.
-/
module

public import proofs.«01_k».proof.Proof.RunD

@[expose] public section

set_option maxRecDepth 16384

noncomputable section

namespace Cert.KernelIdeal.Diff

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1200000 in
/-- The body where 0 < j < i, with the pieces each buffer it stores into ends with (the last store first).
    The run finds them; the scratch buffers are owned at their contents where the body reads what they held. -/
noncomputable def runE (c : Dev nD) (i : grid0.Coords) (arg4 : Memref sig .tc .smem S1 .f32) (harg4 : arg4.IsWhole) (arg5 : Memref sig .tc .vmem S1x1x2x512x64 .bf16) (harg5 : arg5.IsWhole) (arg6 : Memref sig .tc .vmem S1x1x2x512x64 .bf16) (harg6 : arg6.IsWhole) (arg7 : Memref sig .tc .vmem S1x512x128 .bf16) (harg7 : arg7.IsWhole) (arg8 : Memref sig .tc .vmem S1x512x128 .f32) (harg8 : arg8.IsWhole) (arg9 : Memref sig .tc .vmem S2x512x1 .f32) (harg9 : arg9.IsWhole) (arg10 : Memref sig .tc .vmem S2x512x1 .f32) (harg10 : arg10.IsWhole) (arg11 : Memref sig .tc .vmem S2x512x128 .f32) (harg11 : arg11.IsWhole) (hc0 : ¬cond0_0 i) (hc1 : cond0_1 i) (hc2 : ¬cond0_2 i)
    (x0 : Vec F S1 .f32) (x1 : Vec F S1x1x2x512x64 .bf16) (x2 : Vec F S1x1x2x512x64 .bf16) (x3 : Vec F S1x512x128 .bf16) (y : Vec F S1x512x128 .f32) (xs0 : Vec F S2x512x1 .f32) (xs1 : Vec F S2x512x1 .f32) (xs2 : Vec F S2x512x128 .f32) :
    Σ' (LS0 : List (View.Piece (Elt F) S2x512x1 .f32)), Σ' (LS1 : List (View.Piece (Elt F) S2x512x1 .f32)), { LS2 : List (View.Piece (Elt F) S2x512x128 .f32) //
      ∀ (E : Set ℕ) (K : PUnit → sProp 𝕄),
        iprop(owns (c : Thread nD τ) arg4 fullShare x0 ∗ owns (c : Thread nD τ) arg5 fullShare x1 ∗ owns (c : Thread nD τ) arg6 fullShare x2 ∗ owns (c : Thread nD τ) arg7 fullShare x3 ∗ owns (c : Thread nD τ) arg8 fullShare y ∗ owns (c : Thread nD τ) arg9 fullShare xs0 ∗ owns (c : Thread nD τ) arg10 fullShare xs1 ∗ owns (c : Thread nD τ) arg11 fullShare xs2
            ∗ (iprop(owns (c : Thread nD τ) arg4 fullShare x0 ∗ owns (c : Thread nD τ) arg5 fullShare x1 ∗ owns (c : Thread nD τ) arg6 fullShare x2 ∗ owns (c : Thread nD τ) arg7 fullShare x3 ∗ owns (c : Thread nD τ) arg8 fullShare y ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1) ∗ (∃ f, arg11.view.loc (c : Thread nD τ) ↦[arg11.view.set]{fullShare} arg11.view.writes (Elt F) f LS2)) -∗ K ⟨⟩))
          ⊢ wp frame (wpE (defs₀ (F := F)) Variants.none c none) E (cc0_diff_attention i arg4 harg4 arg5 harg5 arg6 harg6 arg7 harg7 arg8 harg8 arg9 harg9 arg10 harg10 arg11 harg11) K } := by
  refine ⟨?_, ?_, ?_, fun E K => ?run⟩
  case run =>
    simp only [cc0_diff_attention_eq_skeleton]; unfold cc0_diff_attention_skel
    simp only [k0_part1_eq_skeleton, k0_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%fs0, %hfs0, HS0⟩, ⟨%fs1, %hfs1, HS1⟩, ⟨%fs2, %hfs2, HS2⟩, Hk⟩
    obtain rfl := harg4.eq_unread hf0; obtain rfl := harg5.eq_unread hf1; obtain rfl := harg6.eq_unread hf2; obtain rfl := harg7.eq_unread hf3; obtain rfl := harg8.eq_unread hf4; obtain rfl := harg9.eq_unread hfs0; obtain rfl := harg10.eq_unread hfs1; obtain rfl := harg11.eq_unread hfs2
    sl_exec (disch := first | sl_exact hc0 | sl_exact hc1 | sl_exact hc2)
    sl_step
    iapply Hk
    isplitl [H0]
    · iexists _; isplitr; · ipureintro; exact harg4.read_unread _
      iexact H0
    isplitl [H1]
    · iexists _; isplitr; · ipureintro; exact harg5.read_unread _
      iexact H1
    isplitl [H2]
    · iexists _; isplitr; · ipureintro; exact harg6.read_unread _
      iexact H2
    isplitl [H3]
    · iexists _; isplitr; · ipureintro; exact harg7.read_unread _
      iexact H3
    isplitl [H4]
    · iexists _; isplitr; · ipureintro; exact harg8.read_unread _
      iexact H4
    isplitl [HS0]; · iexists _; iexact HS0
    isplitl [HS1]; · iexists _; iexact HS1
    iexists _; iexact HS2

end Cert.KernelIdeal.Diff

end
-- ==== Proof.Step.lean ====
/-
  What one grid point computes, as functions: a map's running state (its row maximum, row sum and weighted sum of
  values), the two steps (an unmasked key block, the diagonal block), the two maps' states side by side in the scratch
  buffers, and the output block.
-/
module

public import proofs.«01_k».proof.Proof.RunE
public import Idealize.ShloMosaic.Lib.Pipeline.ReadBack
public import Idealize.ShloMosaic.Lib.Pipeline.Value

@[expose] public section

set_option maxRecDepth 16384

noncomputable section

namespace Cert.KernelIdeal.Diff

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem hz3 : (![0, 0, 0] : Fin 3 → Nat) = fun _ => 0 := funext fun a => by fin_cases a <;> rfl

/-! ## The halves of the scratch buffers and of the staged blocks -/

abbrev RM0 : Rect S2x512x1 := Rect.unit ![0, 0, 0] ![1, 512, 1] inb_S2x512x1_S1x512x1_0_0_0
abbrev RM1 : Rect S2x512x1 := Rect.unit ![1, 0, 0] ![1, 512, 1] inb_S2x512x1_S1x512x1_1_0_0
abbrev RA0 : Rect S2x512x128 := Rect.unit ![0, 0, 0] ![1, 512, 128] inb_S2x512x128_S1x512x128_0_0_0
abbrev RA1 : Rect S2x512x128 := Rect.unit ![1, 0, 0] ![1, 512, 128] inb_S2x512x128_S1x512x128_1_0_0
abbrev RQ0 : Rect S1x1x2x512x64 := Rect.unit ![0, 0, 0, 0, 0] ![1, 1, 1, 512, 64] inb_S1x1x2x512x64_S1x1x1x512x64_0_0_0_0_0
abbrev RQ1 : Rect S1x1x2x512x64 := Rect.unit ![0, 0, 1, 0, 0] ![1, 1, 1, 512, 64] inb_S1x1x2x512x64_S1x1x1x512x64_0_0_1_0_0

/-- Contents of a column scratch buffer from its two maps' halves. -/
def colPair (a b : Vec F S1x512x1 .f32) : Vec F S2x512x1 .f32 := View.canon [⟨RM1, b⟩, ⟨RM0, a⟩]
/-- Contents of the weighted sums' scratch buffer from its two maps' halves. -/
def accPair (a b : Vec F S1x512x128 .f32) : Vec F S2x512x128 .f32 := View.canon [⟨RA1, b⟩, ⟨RA0, a⟩]

theorem col_cover (a b : Vec F S1x512x1 .f32) (L : List (View.Piece (Elt F) S2x512x1 .f32)) (y : S2x512x1.Idx) :
    ∃ p ∈ ((⟨RM1, b⟩ :: ⟨RM0, a⟩ :: L : List (View.Piece (Elt F) S2x512x1 .f32))), y ∈ p.1.set := by
  obtain ⟨p, hp, h⟩ := View.cover_of_tiledL ([⟨RM1, b⟩, ⟨RM0, a⟩] : List (View.Piece (Elt F) S2x512x1 .f32)) S1x512x1.size (by sl_kernel_rfl) y
  exact ⟨p, by simp only [List.mem_cons, List.not_mem_nil, or_false] at hp ⊢; tauto, h⟩
theorem acc_cover (a b : Vec F S1x512x128 .f32) (L : List (View.Piece (Elt F) S2x512x128 .f32)) (y : S2x512x128.Idx) :
    ∃ p ∈ ((⟨RA1, b⟩ :: ⟨RA0, a⟩ :: L : List (View.Piece (Elt F) S2x512x128 .f32))), y ∈ p.1.set := by
  obtain ⟨p, hp, h⟩ := View.cover_of_tiledL ([⟨RA1, b⟩, ⟨RA0, a⟩] : List (View.Piece (Elt F) S2x512x128 .f32)) S1x512x128.size (by sl_kernel_rfl) y
  exact ⟨p, by simp only [List.mem_cons, List.not_mem_nil, or_false] at hp ⊢; tauto, h⟩

/-- Two stores of the halves leave the pair, whatever was stored before. -/
theorem col_canon (a b : Vec F S1x512x1 .f32) (L : List (View.Piece (Elt F) S2x512x1 .f32)) :
    View.canon (⟨RM1, b⟩ :: ⟨RM0, a⟩ :: L) = colPair a b := by
  funext y
  unfold colPair
  by_cases h1 : y ∈ RM1.set
  · obtain ⟨x, rfl⟩ := RM1.exists_idx_of_mem h1
    exact (View.canon_cons_emb RM1 b _ x).trans (View.canon_cons_emb RM1 b _ x).symm
  · refine (View.canon_cons_of_not_mem ⟨RM1, b⟩ _ h1).trans (Eq.trans ?_ (View.canon_cons_of_not_mem ⟨RM1, b⟩ _ h1).symm)
    have h0 : y ∈ RM0.set := by
      obtain ⟨p, hp, h⟩ := col_cover a b [] y
      simp only [List.mem_cons, List.not_mem_nil, or_false] at hp
      rcases hp with rfl | rfl
      · exact absurd h h1
      · exact h
    obtain ⟨x, rfl⟩ := RM0.exists_idx_of_mem h0
    exact (View.canon_cons_emb RM0 a _ x).trans (View.canon_cons_emb RM0 a _ x).symm
theorem acc_canon (a b : Vec F S1x512x128 .f32) (L : List (View.Piece (Elt F) S2x512x128 .f32)) :
    View.canon (⟨RA1, b⟩ :: ⟨RA0, a⟩ :: L) = accPair a b := by
  funext y
  unfold accPair
  by_cases h1 : y ∈ RA1.set
  · obtain ⟨x, rfl⟩ := RA1.exists_idx_of_mem h1
    exact (View.canon_cons_emb RA1 b _ x).trans (View.canon_cons_emb RA1 b _ x).symm
  · refine (View.canon_cons_of_not_mem ⟨RA1, b⟩ _ h1).trans (Eq.trans ?_ (View.canon_cons_of_not_mem ⟨RA1, b⟩ _ h1).symm)
    have h0 : y ∈ RA0.set := by
      obtain ⟨p, hp, h⟩ := acc_cover a b [] y
      simp only [List.mem_cons, List.not_mem_nil, or_false] at hp
      rcases hp with rfl | rfl
      · exact absurd h h1
      · exact h
    obtain ⟨x, rfl⟩ := RA0.exists_idx_of_mem h0
    exact (View.canon_cons_emb RA0 a _ x).trans (View.canon_cons_emb RA0 a _ x).symm

theorem ld_col0 (a b : Vec F S1x512x1 .f32) : View.ld (colPair a b) RM0 = a := by
  funext j
  exact (View.canon_cons_of_not_mem ⟨RM1, b⟩ [⟨RM0, a⟩] (LoadRect.idx_not_mem_of_disj (p := RM1) (B := RM0.toLoadRect) (by decide) j)).trans (View.canon_cons_emb RM0 a [] j)
theorem ld_col1 (a b : Vec F S1x512x1 .f32) : View.ld (colPair a b) RM1 = b := by
  funext j
  exact View.canon_cons_emb RM1 b _ j
theorem ld_acc0 (a b : Vec F S1x512x128 .f32) : View.ld (accPair a b) RA0 = a := by
  funext j
  exact (View.canon_cons_of_not_mem ⟨RA1, b⟩ [⟨RA0, a⟩] (LoadRect.idx_not_mem_of_disj (p := RA1) (B := RA0.toLoadRect) (by decide) j)).trans (View.canon_cons_emb RA0 a [] j)
theorem ld_acc1 (a b : Vec F S1x512x128 .f32) : View.ld (accPair a b) RA1 = b := by
  funext j
  exact View.canon_cons_emb RA1 b _ j

/-- The value blocks' whole rectangle. -/
abbrev RV : Rect S1x512x128 := Rect.unit ![0, 0, 0] ![1, 512, 128] inb_S1x512x128_S1x512x128_0_0_0

theorem ld_whole {e : EltTy} (x : Vec F S1x512x128 e) : View.ld x RV = x := by
  exact View.ld_unit_zero (S := S1x512x128) hz3 _ x
/-- One whole store reads back as what was stored. -/
theorem read_out {sp : Space} (v : View sig .tc sp S1x512x128 .f32) (f) (w : Vec F S1x512x128 .f32) :
    v.read (Elt F) (v.writes (Elt F) f [⟨RV, w⟩]) = w := by
  rw [View.read_writes_eq_canon _ _ _ (fun y => View.cover_of_wholeMem _ (by sl_whole_mem) y)]
  exact View.canon_unit_zero (S := S1x512x128) hz3 _ _

/-! A load of one half after a fill of the whole buffer reads the fill. -/

theorem fill_col0 {sp : Space} (v : View sig .tc sp S2x512x1 .f32) (w : Vec F S2x512x1 .f32) :
    v.readCov [⟨Rect.unit ![0, 0, 0] ![2, 512, 1] inb_S2x512x1_S2x512x1_0_0_0, w⟩] RM0.toLoadRect = View.ld w RM0 :=
  View.readCov_fill (s := S2x512x1) v inb_S2x512x1_S2x512x1_0_0_0 w [] RM0 (fun a => by fin_cases a <;> rfl)
theorem fill_col1 {sp : Space} (v : View sig .tc sp S2x512x1 .f32) (w : Vec F S2x512x1 .f32) :
    v.readCov [⟨Rect.unit ![0, 0, 0] ![2, 512, 1] inb_S2x512x1_S2x512x1_0_0_0, w⟩] RM1.toLoadRect = View.ld w RM1 :=
  View.readCov_fill (s := S2x512x1) v inb_S2x512x1_S2x512x1_0_0_0 w [] RM1 (fun a => by fin_cases a <;> rfl)
theorem fill_acc0 {sp : Space} (v : View sig .tc sp S2x512x128 .f32) (w : Vec F S2x512x128 .f32) :
    v.readCov [⟨Rect.unit ![0, 0, 0] ![2, 512, 128] inb_S2x512x128_S2x512x128_0_0_0, w⟩] RA0.toLoadRect = View.ld w RA0 :=
  View.readCov_fill (s := S2x512x128) v inb_S2x512x128_S2x512x128_0_0_0 w [] RA0 (fun a => by fin_cases a <;> rfl)
theorem fill_acc1 {sp : Space} (v : View sig .tc sp S2x512x128 .f32) (w : Vec F S2x512x128 .f32) :
    v.readCov [⟨Rect.unit ![0, 0, 0] ![2, 512, 128] inb_S2x512x128_S2x512x128_0_0_0, w⟩] RA1.toLoadRect = View.ld w RA1 :=
  View.readCov_fill (s := S2x512x128) v inb_S2x512x128_S2x512x128_0_0_0 w [] RA1 (fun a => by fin_cases a <;> rfl)

/-! ## One map's step -/

variable (F) in
/-- One map's running state over a block of 512 query rows: the maximum, the sum, the weighted sum of values. -/
structure MS where
  m : Vec F S1x512x1 .f32
  l : Vec F S1x512x1 .f32
  a : Vec F S1x512x128 .f32

/-- The state a row of query blocks starts from. -/
def MS.init : MS F := ⟨View.ld (k0_pay1 (F := F)) RM0, View.ld (k0_pay2 (F := F)) RM0, View.ld (k0_pay3 (F := F)) RA0⟩
/-- The step over a key block wholly before the queries. -/
def MS.stepU (q k : Vec F S1x1x1x512x64 .bf16) (v : Vec F S1x512x128 .bf16) (s : MS F) : MS F :=
  ⟨k0_pay18 (k0_pay11 q k s.m), k0_pay14 q k s.m s.l, k0_pay17 (k0_pay13 q k s.m) (k0_pay15 v q k s.m) (k0_pay16 s.a)⟩
/-- The step over the key block on the diagonal. -/
def MS.stepM (q k : Vec F S1x1x1x512x64 .bf16) (v : Vec F S1x512x128 .bf16) (s : MS F) : MS F :=
  ⟨k0_pay34 (k0_pay29 q k s.m), k0_pay32 q k s.m s.l, k0_pay33 (k0_pay25 v) (k0_pay30 q k s.m) (k0_pay31 q k s.m) s.a⟩

/-! The second map's stored values are the first map's functions of its own blocks and state. -/

theorem second_init_m : (View.ld (k0_pay1 (F := F)) RM1 : Vec F S1x512x1 .f32) = (View.ld (k0_pay1 (F := F)) RM0 : Vec F S1x512x1 .f32) := rfl
theorem second_init_l : (View.ld (k0_pay2 (F := F)) RM1 : Vec F S1x512x1 .f32) = (View.ld (k0_pay2 (F := F)) RM0 : Vec F S1x512x1 .f32) := rfl
theorem second_init_a : (View.ld (k0_pay3 (F := F)) RA1 : Vec F S1x512x128 .f32) = (View.ld (k0_pay3 (F := F)) RA0 : Vec F S1x512x128 .f32) := rfl

section
variable (q k : Vec F S1x1x1x512x64 .bf16) (v : Vec F S1x512x128 .bf16) (m l : Vec F S1x512x1 .f32) (a : Vec F S1x512x128 .f32)

theorem secondU_m : k0_pay6 (k0_pay21 q k m) = k0_pay18 (k0_pay11 q k m) := rfl
theorem secondU_l : k0_pay4 (k0_pay24 q k m l) = k0_pay14 q k m l := rfl
theorem secondU_a : k0_pay5 (k0_pay8 v) (k0_pay22 q k m) (k0_pay23 q k m) a
    = k0_pay17 (k0_pay13 q k m) (k0_pay15 v q k m) (k0_pay16 a) := rfl
theorem secondM_m : k0_pay42 (k0_pay37 k0_pay26 q k m) = k0_pay34 (k0_pay29 q k m) := rfl
theorem secondM_l : k0_pay40 (k0_pay35 m) (k0_pay37 k0_pay26 q k m) (k0_pay38 k0_pay26 q k m) l = k0_pay32 q k m l := rfl
theorem secondM_a : k0_pay41 (k0_pay25 v) (k0_pay35 m) (k0_pay37 k0_pay26 q k m) (k0_pay38 k0_pay26 q k m) a
    = k0_pay33 (k0_pay25 v) (k0_pay30 q k m) (k0_pay31 q k m) a := rfl
end

variable (F) in
/-- Both maps' states. -/
structure PS where
  s0 : MS F
  s1 : MS F

def PS.init : PS F := ⟨MS.init, MS.init⟩
def PS.stepU (q k : Vec F S1x1x2x512x64 .bf16) (v : Vec F S1x512x128 .bf16) (s : PS F) : PS F :=
  ⟨s.s0.stepU (View.ld q RQ0) (View.ld k RQ0) v, s.s1.stepU (View.ld q RQ1) (View.ld k RQ1) v⟩
def PS.stepM (q k : Vec F S1x1x2x512x64 .bf16) (v : Vec F S1x512x128 .bf16) (s : PS F) : PS F :=
  ⟨s.s0.stepM (View.ld q RQ0) (View.ld k RQ0) v, s.s1.stepM (View.ld q RQ1) (View.ld k RQ1) v⟩
/-- The scratch buffers' contents at a state. -/
def PS.cm (s : PS F) : Vec F S2x512x1 .f32 := colPair s.s0.m s.s1.m
def PS.cl (s : PS F) : Vec F S2x512x1 .f32 := colPair s.s0.l s.s1.l
def PS.ca (s : PS F) : Vec F S2x512x128 .f32 := accPair s.s0.a s.s1.a
/-- The one index of lambda's array. -/
def ixLam : S1.Idx := fun a => ⟨0, by fin_cases a; decide⟩
theorem ld_lam (x : Vec F S1 .f32) (h) : View.ld x (Rect.unit ![0] ![1] inb_S1_S1_0) (Shape.Idx.first h) = x ixLam := by
  show x _ = x ixLam
  congr 1
  funext a; apply Fin.ext; fin_cases a; rfl
/-- The output block at a state: the first map's average less lambda times the second's. -/
def PS.out (lam : Vec F S1 .f32) (s : PS F) : Vec F S1x512x128 .f32 :=
  k0_pay7 (lam ixLam) (k0_pay43 s.s0.a s.s0.l) s.s1.a s.s1.l

end Cert.KernelIdeal.Diff

end
-- ==== Proof.BodyA.lean ====
/-
  The body's triple at each kind of grid point with every buffer's contents in closed form: the pieces the runs found,
  read back as the state functions of Step.lean.
-/
module

public import proofs.«01_k».proof.Proof.Step

@[expose] public section

set_option maxRecDepth 16384

noncomputable section

namespace Cert.KernelIdeal.Diff

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body where j = 0 = i -/

theorem readA_m (c : Dev nD) (i : grid0.Coords) (arg4 : Memref sig .tc .smem S1 .f32) (harg4 : arg4.IsWhole) (arg5 : Memref sig .tc .vmem S1x1x2x512x64 .bf16) (harg5 : arg5.IsWhole) (arg6 : Memref sig .tc .vmem S1x1x2x512x64 .bf16) (harg6 : arg6.IsWhole) (arg7 : Memref sig .tc .vmem S1x512x128 .bf16) (harg7 : arg7.IsWhole) (arg8 : Memref sig .tc .vmem S1x512x128 .f32) (harg8 : arg8.IsWhole) (arg9 : Memref sig .tc .vmem S2x512x1 .f32) (harg9 : arg9.IsWhole) (arg10 : Memref sig .tc .vmem S2x512x1 .f32) (harg10 : arg10.IsWhole) (arg11 : Memref sig .tc .vmem S2x512x128 .f32) (harg11 : arg11.IsWhole) (hc0 : cond0_0 i) (hc1 : ¬cond0_1 i) (hc2 : cond0_2 i)
    (x0 : Vec F S1 .f32) (x1 : Vec F S1x1x2x512x64 .bf16) (x2 : Vec F S1x1x2x512x64 .bf16) (x3 : Vec F S1x512x128 .bf16) (f) :
    arg9.view.read (Elt F) (arg9.view.writes (Elt F) f (runA c i arg4 harg4 arg5 harg5 arg6 harg6 arg7 harg7 arg8 harg8 arg9 harg9 arg10 harg10 arg11 harg11 hc0 hc1 hc2 x0 x1 x2 x3).2.1) = PS.cm (PS.stepM x1 x2 x3 PS.init) := by
  unfold runA
  dsimp only
  sl_unfold_words
  rw [View.read_writes_eq_canon _ _ _ (fun y => col_cover _ _ _ y), col_canon]
  simp only [View.readAt_eq_ld, harg4.read_unread, harg5.read_unread, harg6.read_unread, harg7.read_unread, harg9.read_unread, harg10.read_unread, harg11.read_unread, PS.cm, PS.cl, PS.ca, ld_col0, ld_col1, ld_acc0, ld_acc1, ld_whole, View.readCov_cons_toLoadRect, View.readCov_skip _ RM1 _ _ RM0.toLoadRect (by decide), View.readCov_skip _ RM0 _ _ RM1.toLoadRect (by decide), View.readCov_skip _ RA1 _ _ RA0.toLoadRect (by decide), View.readCov_skip _ RA0 _ _ RA1.toLoadRect (by decide), fill_col0, fill_col1, fill_acc0, fill_acc1, second_init_m, second_init_l, second_init_a, secondM_m, secondM_l, secondM_a, PS.stepM, MS.stepM, PS.init, MS.init]
theorem readA_l (c : Dev nD) (i : grid0.Coords) (arg4 : Memref sig .tc .smem S1 .f32) (harg4 : arg4.IsWhole) (arg5 : Memref sig .tc .vmem S1x1x2x512x64 .bf16) (harg5 : arg5.IsWhole) (arg6 : Memref sig .tc .vmem S1x1x2x512x64 .bf16) (harg6 : arg6.IsWhole) (arg7 : Memref sig .tc .vmem S1x512x128 .bf16) (harg7 : arg7.IsWhole) (arg8 : Memref sig .tc .vmem S1x512x128 .f32) (harg8 : arg8.IsWhole) (arg9 : Memref sig .tc .vmem S2x512x1 .f32) (harg9 : arg9.IsWhole) (arg10 : Memref sig .tc .vmem S2x512x1 .f32) (harg10 : arg10.IsWhole) (arg11 : Memref sig .tc .vmem S2x512x128 .f32) (harg11 : arg11.IsWhole) (hc0 : cond0_0 i) (hc1 : ¬cond0_1 i) (hc2 : cond0_2 i)
    (x0 : Vec F S1 .f32) (x1 : Vec F S1x1x2x512x64 .bf16) (x2 : Vec F S1x1x2x512x64 .bf16) (x3 : Vec F S1x512x128 .bf16) (f) :
    arg10.view.read (Elt F) (arg10.view.writes (Elt F) f (runA c i arg4 harg4 arg5 harg5 arg6 harg6 arg7 harg7 arg8 harg8 arg9 harg9 arg10 harg10 arg11 harg11 hc0 hc1 hc2 x0 x1 x2 x3).2.2.1) = PS.cl (PS.stepM x1 x2 x3 PS.init) := by
  unfold runA
  dsimp only
  sl_unfold_words
  rw [View.read_writes_eq_canon _ _ _ (fun y => col_cover _ _ _ y), col_canon]
  simp only [View.readAt_eq_ld, harg4.read_unread, harg5.read_unread, harg6.read_unread, harg7.read_unread, harg9.read_unread, harg10.read_unread, harg11.read_unread, PS.cm, PS.cl, PS.ca, ld_col0, ld_col1, ld_acc0, ld_acc1, ld_whole, View.readCov_cons_toLoadRect, View.readCov_skip _ RM1 _ _ RM0.toLoadRect (by decide), View.readCov_skip _ RM0 _ _ RM1.toLoadRect (by decide), View.readCov_skip _ RA1 _ _ RA0.toLoadRect (by decide), View.readCov_skip _ RA0 _ _ RA1.toLoadRect (by decide), fill_col0, fill_col1, fill_acc0, fill_acc1, second_init_m, second_init_l, second_init_a, secondM_m, secondM_l, secondM_a, PS.stepM, MS.stepM, PS.init, MS.init]
theorem readA_a (c : Dev nD) (i : grid0.Coords) (arg4 : Memref sig .tc .smem S1 .f32) (harg4 : arg4.IsWhole) (arg5 : Memref sig .tc .vmem S1x1x2x512x64 .bf16) (harg5 : arg5.IsWhole) (arg6 : Memref sig .tc .vmem S1x1x2x512x64 .bf16) (harg6 : arg6.IsWhole) (arg7 : Memref sig .tc .vmem S1x512x128 .bf16) (harg7 : arg7.IsWhole) (arg8 : Memref sig .tc .vmem S1x512x128 .f32) (harg8 : arg8.IsWhole) (arg9 : Memref sig .tc .vmem S2x512x1 .f32) (harg9 : arg9.IsWhole) (arg10 : Memref sig .tc .vmem S2x512x1 .f32) (harg10 : arg10.IsWhole) (arg11 : Memref sig .tc .vmem S2x512x128 .f32) (harg11 : arg11.IsWhole) (hc0 : cond0_0 i) (hc1 : ¬cond0_1 i) (hc2 : cond0_2 i)
    (x0 : Vec F S1 .f32) (x1 : Vec F S1x1x2x512x64 .bf16) (x2 : Vec F S1x1x2x512x64 .bf16) (x3 : Vec F S1x512x128 .bf16) (f) :
    arg11.view.read (Elt F) (arg11.view.writes (Elt F) f (runA c i arg4 harg4 arg5 harg5 arg6 harg6 arg7 harg7 arg8 harg8 arg9 harg9 arg10 harg10 arg11 harg11 hc0 hc1 hc2 x0 x1 x2 x3).2.2.2.1) = PS.ca (PS.stepM x1 x2 x3 PS.init) := by
  unfold runA
  dsimp only
  sl_unfold_words
  rw [View.read_writes_eq_canon _ _ _ (fun y => acc_cover _ _ _ y), acc_canon]
  simp only [View.readAt_eq_ld, harg4.read_unread, harg5.read_unread, harg6.read_unread, harg7.read_unread, harg9.read_unread, harg10.read_unread, harg11.read_unread, PS.cm, PS.cl, PS.ca, ld_col0, ld_col1, ld_acc0, ld_acc1, ld_whole, View.readCov_cons_toLoadRect, View.readCov_skip _ RM1 _ _ RM0.toLoadRect (by decide), View.readCov_skip _ RM0 _ _ RM1.toLoadRect (by decide), View.readCov_skip _ RA1 _ _ RA0.toLoadRect (by decide), View.readCov_skip _ RA0 _ _ RA1.toLoadRect (by decide), fill_col0, fill_col1, fill_acc0, fill_acc1, second_init_m, second_init_l, second_init_a, secondM_m, secondM_l, secondM_a, PS.stepM, MS.stepM, PS.init, MS.init]
theorem readA_o (c : Dev nD) (i : grid0.Coords) (arg4 : Memref sig .tc .smem S1 .f32) (harg4 : arg4.IsWhole) (arg5 : Memref sig .tc .vmem S1x1x2x512x64 .bf16) (harg5 : arg5.IsWhole) (arg6 : Memref sig .tc .vmem S1x1x2x512x64 .bf16) (harg6 : arg6.IsWhole) (arg7 : Memref sig .tc .vmem S1x512x128 .bf16) (harg7 : arg7.IsWhole) (arg8 : Memref sig .tc .vmem S1x512x128 .f32) (harg8 : arg8.IsWhole) (arg9 : Memref sig .tc .vmem S2x512x1 .f32) (harg9 : arg9.IsWhole) (arg10 : Memref sig .tc .vmem S2x512x1 .f32) (harg10 : arg10.IsWhole) (arg11 : Memref sig .tc .vmem S2x512x128 .f32) (harg11 : arg11.IsWhole) (hc0 : cond0_0 i) (hc1 : ¬cond0_1 i) (hc2 : cond0_2 i)
    (x0 : Vec F S1 .f32) (x1 : Vec F S1x1x2x512x64 .bf16) (x2 : Vec F S1x1x2x512x64 .bf16) (x3 : Vec F S1x512x128 .bf16) (f) :
    arg8.view.read (Elt F) (arg8.view.writes (Elt F) f (runA c i arg4 harg4 arg5 harg5 arg6 harg6 arg7 harg7 arg8 harg8 arg9 harg9 arg10 harg10 arg11 harg11 hc0 hc1 hc2 x0 x1 x2 x3).1) = PS.out x0 (PS.stepM x1 x2 x3 PS.init) := by
  unfold runA
  dsimp only
  sl_unfold_words
  rw [read_out]
  simp only [View.readAt_eq_ld, harg4.read_unread, harg5.read_unread, harg6.read_unread, harg7.read_unread, harg9.read_unread, harg10.read_unread, harg11.read_unread, PS.cm, PS.cl, PS.ca, ld_col0, ld_col1, ld_acc0, ld_acc1, ld_whole, View.readCov_cons_toLoadRect, View.readCov_skip _ RM1 _ _ RM0.toLoadRect (by decide), View.readCov_skip _ RM0 _ _ RM1.toLoadRect (by decide), View.readCov_skip _ RA1 _ _ RA0.toLoadRect (by decide), View.readCov_skip _ RA0 _ _ RA1.toLoadRect (by decide), fill_col0, fill_col1, fill_acc0, fill_acc1, second_init_m, second_init_l, second_init_a, secondM_m, secondM_l, secondM_a, PS.stepM, MS.stepM, PS.init, MS.init, PS.out]
  exact congrArg (fun t => k0_pay7 t _ _ _) (ld_lam x0 _)

set_option maxHeartbeats 800000 in
/-- The body where j = 0 = i, in closed form: from the staged blocks to the state one step on, the output block written. -/
theorem bodyA (c : Dev nD) (i : grid0.Coords) (arg4 : Memref sig .tc .smem S1 .f32) (harg4 : arg4.IsWhole) (arg5 : Memref sig .tc .vmem S1x1x2x512x64 .bf16) (harg5 : arg5.IsWhole) (arg6 : Memref sig .tc .vmem S1x1x2x512x64 .bf16) (harg6 : arg6.IsWhole) (arg7 : Memref sig .tc .vmem S1x512x128 .bf16) (harg7 : arg7.IsWhole) (arg8 : Memref sig .tc .vmem S1x512x128 .f32) (harg8 : arg8.IsWhole) (arg9 : Memref sig .tc .vmem S2x512x1 .f32) (harg9 : arg9.IsWhole) (arg10 : Memref sig .tc .vmem S2x512x1 .f32) (harg10 : arg10.IsWhole) (arg11 : Memref sig .tc .vmem S2x512x128 .f32) (harg11 : arg11.IsWhole) (hc0 : cond0_0 i) (hc1 : ¬cond0_1 i) (hc2 : cond0_2 i)
    (x0 : Vec F S1 .f32) (x1 : Vec F S1x1x2x512x64 .bf16) (x2 : Vec F S1x1x2x512x64 .bf16) (x3 : Vec F S1x512x128 .bf16) (E : Set ℕ) (K : PUnit → sProp 𝕄) :
    iprop(owns (c : Thread nD τ) arg4 fullShare x0 ∗ owns (c : Thread nD τ) arg5 fullShare x1 ∗ owns (c : Thread nD τ) arg6 fullShare x2 ∗ owns (c : Thread nD τ) arg7 fullShare x3 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d)
        ∗ (iprop(owns (c : Thread nD τ) arg4 fullShare x0 ∗ owns (c : Thread nD τ) arg5 fullShare x1 ∗ owns (c : Thread nD τ) arg6 fullShare x2 ∗ owns (c : Thread nD τ) arg7 fullShare x3 ∗ owns (c : Thread nD τ) arg8 fullShare (PS.out x0 (PS.stepM x1 x2 x3 PS.init)) ∗ owns (c : Thread nD τ) arg9 fullShare (PS.cm (PS.stepM x1 x2 x3 PS.init)) ∗ owns (c : Thread nD τ) arg10 fullShare (PS.cl (PS.stepM x1 x2 x3 PS.init)) ∗ owns (c : Thread nD τ) arg11 fullShare (PS.ca (PS.stepM x1 x2 x3 PS.init))) -∗ K ⟨⟩))
      ⊢ wp frame (wpE (defs₀ (F := F)) Variants.none c none) E (cc0_diff_attention i arg4 harg4 arg5 harg5 arg6 harg6 arg7 harg7 arg8 harg8 arg9 harg9 arg10 harg10 arg11 harg11) K := by
  iintro ⟨H0, H1, H2, H3, ⟨%d4, H4⟩, ⟨%e0, HS0⟩, ⟨%e1, HS1⟩, ⟨%e2, HS2⟩, Hk⟩
  iapply ((runA c i arg4 harg4 arg5 harg5 arg6 harg6 arg7 harg7 arg8 harg8 arg9 harg9 arg10 harg10 arg11 harg11 hc0 hc1 hc2 x0 x1 x2 x3).2.2.2.2 E K)
  isplitl [H0]; · iexact H0
  isplitl [H1]; · iexact H1
  isplitl [H2]; · iexact H2
  isplitl [H3]; · iexact H3
  isplitl [H4]; · iexists _; iexact H4
  isplitl [HS0]; · iexists _; iexact HS0
  isplitl [HS1]; · iexists _; iexact HS1
  isplitl [HS2]; · iexists _; iexact HS2
  iintro ⟨H0, H1, H2, H3, ⟨%f4, H4⟩, ⟨%f0, HS0⟩, ⟨%f1, HS1⟩, ⟨%f2, HS2⟩⟩
  iapply Hk
  isplitl [H0]; · iexact H0
  isplitl [H1]; · iexact H1
  isplitl [H2]; · iexact H2
  isplitl [H3]; · iexact H3
  isplitl [H4]
  · unfold owns; iexists _; isplitr
    swap; · iexact H4
    ipureintro; exact readA_o c i arg4 harg4 arg5 harg5 arg6 harg6 arg7 harg7 arg8 harg8 arg9 harg9 arg10 harg10 arg11 harg11 hc0 hc1 hc2 x0 x1 x2 x3 _
  isplitl [HS0]
  · unfold owns; iexists _; isplitr
    swap; · iexact HS0
    ipureintro; exact readA_m c i arg4 harg4 arg5 harg5 arg6 harg6 arg7 harg7 arg8 harg8 arg9 harg9 arg10 harg10 arg11 harg11 hc0 hc1 hc2 x0 x1 x2 x3 _
  isplitl [HS1]
  · unfold owns; iexists _; isplitr
    swap; · iexact HS1
    ipureintro; exact readA_l c i arg4 harg4 arg5 harg5 arg6 harg6 arg7 harg7 arg8 harg8 arg9 harg9 arg10 harg10 arg11 harg11 hc0 hc1 hc2 x0 x1 x2 x3 _
  unfold owns; iexists _; isplitr
  swap; · iexact HS2
  ipureintro; exact readA_a c i arg4 harg4 arg5 harg5 arg6 harg6 arg7 harg7 arg8 harg8 arg9 harg9 arg10 harg10 arg11 harg11 hc0 hc1 hc2 x0 x1 x2 x3 _

end Cert.KernelIdeal.Diff

end
-- ==== Proof.BodyC.lean ====
/-
  The body's triple at each kind of grid point with every buffer's contents in closed form: the pieces the runs found,
  read back as the state functions of Step.lean.
-/
module

public import proofs.«01_k».proof.Proof.Step

@[expose] public section

set_option maxRecDepth 16384

noncomputable section

namespace Cert.KernelIdeal.Diff

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body where j = 0 < i -/

theorem readC_m (c : Dev nD) (i : grid0.Coords) (arg4 : Memref sig .tc .smem S1 .f32) (harg4 : arg4.IsWhole) (arg5 : Memref sig .tc .vmem S1x1x2x512x64 .bf16) (harg5 : arg5.IsWhole) (arg6 : Memref sig .tc .vmem S1x1x2x512x64 .bf16) (harg6 : arg6.IsWhole) (arg7 : Memref sig .tc .vmem S1x512x128 .bf16) (harg7 : arg7.IsWhole) (arg8 : Memref sig .tc .vmem S1x512x128 .f32) (harg8 : arg8.IsWhole) (arg9 : Memref sig .tc .vmem S2x512x1 .f32) (harg9 : arg9.IsWhole) (arg10 : Memref sig .tc .vmem S2x512x1 .f32) (harg10 : arg10.IsWhole) (arg11 : Memref sig .tc .vmem S2x512x128 .f32) (harg11 : arg11.IsWhole) (hc0 : cond0_0 i) (hc1 : cond0_1 i) (hc2 : ¬cond0_2 i)
    (x0 : Vec F S1 .f32) (x1 : Vec F S1x1x2x512x64 .bf16) (x2 : Vec F S1x1x2x512x64 .bf16) (x3 : Vec F S1x512x128 .bf16) (y : Vec F S1x512x128 .f32) (f) :
    arg9.view.read (Elt F) (arg9.view.writes (Elt F) f (runC c i arg4 harg4 arg5 harg5 arg6 harg6 arg7 harg7 arg8 harg8 arg9 harg9 arg10 harg10 arg11 harg11 hc0 hc1 hc2 x0 x1 x2 x3 y).1) = PS.cm (PS.stepU x1 x2 x3 PS.init) := by
  unfold runC
  dsimp only
  sl_unfold_words
  rw [View.read_writes_eq_canon _ _ _ (fun y => col_cover _ _ _ y), col_canon]
  simp only [View.readAt_eq_ld, harg4.read_unread, harg5.read_unread, harg6.read_unread, harg7.read_unread, harg9.read_unread, harg10.read_unread, harg11.read_unread, PS.cm, PS.cl, PS.ca, ld_col0, ld_col1, ld_acc0, ld_acc1, ld_whole, View.readCov_cons_toLoadRect, View.readCov_skip _ RM1 _ _ RM0.toLoadRect (by decide), View.readCov_skip _ RM0 _ _ RM1.toLoadRect (by decide), View.readCov_skip _ RA1 _ _ RA0.toLoadRect (by decide), View.readCov_skip _ RA0 _ _ RA1.toLoadRect (by decide), fill_col0, fill_col1, fill_acc0, fill_acc1, second_init_m, second_init_l, second_init_a, secondU_m, secondU_l, secondU_a, PS.stepU, MS.stepU, PS.init, MS.init]
theorem readC_l (c : Dev nD) (i : grid0.Coords) (arg4 : Memref sig .tc .smem S1 .f32) (harg4 : arg4.IsWhole) (arg5 : Memref sig .tc .vmem S1x1x2x512x64 .bf16) (harg5 : arg5.IsWhole) (arg6 : Memref sig .tc .vmem S1x1x2x512x64 .bf16) (harg6 : arg6.IsWhole) (arg7 : Memref sig .tc .vmem S1x512x128 .bf16) (harg7 : arg7.IsWhole) (arg8 : Memref sig .tc .vmem S1x512x128 .f32) (harg8 : arg8.IsWhole) (arg9 : Memref sig .tc .vmem S2x512x1 .f32) (harg9 : arg9.IsWhole) (arg10 : Memref sig .tc .vmem S2x512x1 .f32) (harg10 : arg10.IsWhole) (arg11 : Memref sig .tc .vmem S2x512x128 .f32) (harg11 : arg11.IsWhole) (hc0 : cond0_0 i) (hc1 : cond0_1 i) (hc2 : ¬cond0_2 i)
    (x0 : Vec F S1 .f32) (x1 : Vec F S1x1x2x512x64 .bf16) (x2 : Vec F S1x1x2x512x64 .bf16) (x3 : Vec F S1x512x128 .bf16) (y : Vec F S1x512x128 .f32) (f) :
    arg10.view.read (Elt F) (arg10.view.writes (Elt F) f (runC c i arg4 harg4 arg5 harg5 arg6 harg6 arg7 harg7 arg8 harg8 arg9 harg9 arg10 harg10 arg11 harg11 hc0 hc1 hc2 x0 x1 x2 x3 y).2.1) = PS.cl (PS.stepU x1 x2 x3 PS.init) := by
  unfold runC
  dsimp only
  sl_unfold_words
  rw [View.read_writes_eq_canon _ _ _ (fun y => col_cover _ _ _ y), col_canon]
  simp only [View.readAt_eq_ld, harg4.read_unread, harg5.read_unread, harg6.read_unread, harg7.read_unread, harg9.read_unread, harg10.read_unread, harg11.read_unread, PS.cm, PS.cl, PS.ca, ld_col0, ld_col1, ld_acc0, ld_acc1, ld_whole, View.readCov_cons_toLoadRect, View.readCov_skip _ RM1 _ _ RM0.toLoadRect (by decide), View.readCov_skip _ RM0 _ _ RM1.toLoadRect (by decide), View.readCov_skip _ RA1 _ _ RA0.toLoadRect (by decide), View.readCov_skip _ RA0 _ _ RA1.toLoadRect (by decide), fill_col0, fill_col1, fill_acc0, fill_acc1, second_init_m, second_init_l, second_init_a, secondU_m, secondU_l, secondU_a, PS.stepU, MS.stepU, PS.init, MS.init]
theorem readC_a (c : Dev nD) (i : grid0.Coords) (arg4 : Memref sig .tc .smem S1 .f32) (harg4 : arg4.IsWhole) (arg5 : Memref sig .tc .vmem S1x1x2x512x64 .bf16) (harg5 : arg5.IsWhole) (arg6 : Memref sig .tc .vmem S1x1x2x512x64 .bf16) (harg6 : arg6.IsWhole) (arg7 : Memref sig .tc .vmem S1x512x128 .bf16) (harg7 : arg7.IsWhole) (arg8 : Memref sig .tc .vmem S1x512x128 .f32) (harg8 : arg8.IsWhole) (arg9 : Memref sig .tc .vmem S2x512x1 .f32) (harg9 : arg9.IsWhole) (arg10 : Memref sig .tc .vmem S2x512x1 .f32) (harg10 : arg10.IsWhole) (arg11 : Memref sig .tc .vmem S2x512x128 .f32) (harg11 : arg11.IsWhole) (hc0 : cond0_0 i) (hc1 : cond0_1 i) (hc2 : ¬cond0_2 i)
    (x0 : Vec F S1 .f32) (x1 : Vec F S1x1x2x512x64 .bf16) (x2 : Vec F S1x1x2x512x64 .bf16) (x3 : Vec F S1x512x128 .bf16) (y : Vec F S1x512x128 .f32) (f) :
    arg11.view.read (Elt F) (arg11.view.writes (Elt F) f (runC c i arg4 harg4 arg5 harg5 arg6 harg6 arg7 harg7 arg8 harg8 arg9 harg9 arg10 harg10 arg11 harg11 hc0 hc1 hc2 x0 x1 x2 x3 y).2.2.1) = PS.ca (PS.stepU x1 x2 x3 PS.init) := by
  unfold runC
  dsimp only
  sl_unfold_words
  rw [View.read_writes_eq_canon _ _ _ (fun y => acc_cover _ _ _ y), acc_canon]
  simp only [View.readAt_eq_ld, harg4.read_unread, harg5.read_unread, harg6.read_unread, harg7.read_unread, harg9.read_unread, harg10.read_unread, harg11.read_unread, PS.cm, PS.cl, PS.ca, ld_col0, ld_col1, ld_acc0, ld_acc1, ld_whole, View.readCov_cons_toLoadRect, View.readCov_skip _ RM1 _ _ RM0.toLoadRect (by decide), View.readCov_skip _ RM0 _ _ RM1.toLoadRect (by decide), View.readCov_skip _ RA1 _ _ RA0.toLoadRect (by decide), View.readCov_skip _ RA0 _ _ RA1.toLoadRect (by decide), fill_col0, fill_col1, fill_acc0, fill_acc1, second_init_m, second_init_l, second_init_a, secondU_m, secondU_l, secondU_a, PS.stepU, MS.stepU, PS.init, MS.init]

set_option maxHeartbeats 800000 in
/-- The body where j = 0 < i, in closed form: from the staged blocks to the state one step on, the output's buffer untouched. -/
theorem bodyC (c : Dev nD) (i : grid0.Coords) (arg4 : Memref sig .tc .smem S1 .f32) (harg4 : arg4.IsWhole) (arg5 : Memref sig .tc .vmem S1x1x2x512x64 .bf16) (harg5 : arg5.IsWhole) (arg6 : Memref sig .tc .vmem S1x1x2x512x64 .bf16) (harg6 : arg6.IsWhole) (arg7 : Memref sig .tc .vmem S1x512x128 .bf16) (harg7 : arg7.IsWhole) (arg8 : Memref sig .tc .vmem S1x512x128 .f32) (harg8 : arg8.IsWhole) (arg9 : Memref sig .tc .vmem S2x512x1 .f32) (harg9 : arg9.IsWhole) (arg10 : Memref sig .tc .vmem S2x512x1 .f32) (harg10 : arg10.IsWhole) (arg11 : Memref sig .tc .vmem S2x512x128 .f32) (harg11 : arg11.IsWhole) (hc0 : cond0_0 i) (hc1 : cond0_1 i) (hc2 : ¬cond0_2 i)
    (x0 : Vec F S1 .f32) (x1 : Vec F S1x1x2x512x64 .bf16) (x2 : Vec F S1x1x2x512x64 .bf16) (x3 : Vec F S1x512x128 .bf16) (y : Vec F S1x512x128 .f32) (E : Set ℕ) (K : PUnit → sProp 𝕄) :
    iprop(owns (c : Thread nD τ) arg4 fullShare x0 ∗ owns (c : Thread nD τ) arg5 fullShare x1 ∗ owns (c : Thread nD τ) arg6 fullShare x2 ∗ owns (c : Thread nD τ) arg7 fullShare x3 ∗ owns (c : Thread nD τ) arg8 fullShare y ∗ (∃ d, owns (c : Thread nD τ) arg9 fullShare d) ∗ (∃ d, owns (c : Thread nD τ) arg10 fullShare d) ∗ (∃ d, owns (c : Thread nD τ) arg11 fullShare d)
        ∗ (iprop(owns (c : Thread nD τ) arg4 fullShare x0 ∗ owns (c : Thread nD τ) arg5 fullShare x1 ∗ owns (c : Thread nD τ) arg6 fullShare x2 ∗ owns (c : Thread nD τ) arg7 fullShare x3 ∗ owns (c : Thread nD τ) arg8 fullShare y ∗ owns (c : Thread nD τ) arg9 fullShare (PS.cm (PS.stepU x1 x2 x3 PS.init)) ∗ owns (c : Thread nD τ) arg10 fullShare (PS.cl (PS.stepU x1 x2 x3 PS.init)) ∗ owns (c : Thread nD τ) arg11 fullShare (PS.ca (PS.stepU x1 x2 x3 PS.init))) -∗ K ⟨⟩))
      ⊢ wp frame (wpE (defs₀ (F := F)) Variants.none c none) E (cc0_diff_attention i arg4 harg4 arg5 harg5 arg6 harg6 arg7 harg7 arg8 harg8 arg9 harg9 arg10 harg10 arg11 harg11) K := by
  iintro ⟨H0, H1, H2, H3, H4, ⟨%e0, HS0⟩, ⟨%e1, HS1⟩, ⟨%e2, HS2⟩, Hk⟩
  iapply ((runC c i arg4 harg4 arg5 harg5 arg6 harg6 arg7 harg7 arg8 harg8 arg9 harg9 arg10 harg10 arg11 harg11 hc0 hc1 hc2 x0 x1 x2 x3 y).2.2.2 E K)
  isplitl [H0]; · iexact H0
  isplitl [H1]; · iexact H1
  isplitl [H2]; · iexact H2
  isplitl [H3]; · iexact H3
  isplitl [H4]; · iexact H4
  isplitl [HS0]; · iexists _; iexact HS0
  isplitl [HS1]; · iexists _; iexact HS1
  isplitl [HS2]; · iexists _; iexact HS2
  iintro ⟨H0, H1, H2, H3, H4, ⟨%f0, HS0⟩, ⟨%f1, HS1⟩, ⟨%f2, HS2⟩⟩
  iapply Hk
  isplitl [H0]; · iexact H0
  isplitl [H1]; · iexact H1
  isplitl [H2]; · iexact H2
  isplitl [H3]; · iexact H3
  isplitl [H4]; · iexact H4
  isplitl [HS0]
  · unfold owns; iexists _; isplitr
    swap; · iexact HS0
    ipureintro; exact readC_m c i arg4 harg4 arg5 harg5 arg6 harg6 arg7 harg7 arg8 harg8 arg9 harg9 arg10 harg10 arg11 harg11 hc0 hc1 hc2 x0 x1 x2 x3 y _
  isplitl [HS1]
  · unfold owns; iexists _; isplitr
    swap; · iexact HS1
    ipureintro; exact readC_l c i arg4 harg4 arg5 harg5 arg6 harg6 arg7 harg7 arg8 harg8 arg9 harg9 arg10 harg10 arg11 harg11 hc0 hc1 hc2 x0 x1 x2 x3 y _
  unfold owns; iexists _; isplitr
  swap; · iexact HS2
  ipureintro; exact readC_a c i arg4 harg4 arg5 harg5 arg6 harg6 arg7 harg7 arg8 harg8 arg9 harg9 arg10 harg10 arg11 harg11 hc0 hc1 hc2 x0 x1 x2 x3 y _

end Cert.KernelIdeal.Diff

end
-- ==== Proof.BodyD.lean ====
/-
  The body's triple at each kind of grid point with every buffer's contents in closed form: the pieces the runs found,
  read back as the state functions of Step.lean.
-/
module

public import proofs.«01_k».proof.Proof.Step

@[expose] public section

set_option maxRecDepth 16384

noncomputable section

namespace Cert.KernelIdeal.Diff

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body where 0 < j = i -/

theorem readD_m (c : Dev nD) (i : grid0.Coords) (arg4 : Memref sig .tc .smem S1 .f32) (harg4 : arg4.IsWhole) (arg5 : Memref sig .tc .vmem S1x1x2x512x64 .bf16) (harg5 : arg5.IsWhole) (arg6 : Memref sig .tc .vmem S1x1x2x512x64 .bf16) (harg6 : arg6.IsWhole) (arg7 : Memref sig .tc .vmem S1x512x128 .bf16) (harg7 : arg7.IsWhole) (arg8 : Memref sig .tc .vmem S1x512x128 .f32) (harg8 : arg8.IsWhole) (arg9 : Memref sig .tc .vmem S2x512x1 .f32) (harg9 : arg9.IsWhole) (arg10 : Memref sig .tc .vmem S2x512x1 .f32) (harg10 : arg10.IsWhole) (arg11 : Memref sig .tc .vmem S2x512x128 .f32) (harg11 : arg11.IsWhole) (hc0 : ¬cond0_0 i) (hc1 : ¬cond0_1 i) (hc2 : cond0_2 i)
    (x0 : Vec F S1 .f32) (x1 : Vec F S1x1x2x512x64 .bf16) (x2 : Vec F S1x1x2x512x64 .bf16) (x3 : Vec F S1x512x128 .bf16) (s : PS F) (f) :
    arg9.view.read (Elt F) (arg9.view.writes (Elt F) f (runD c i arg4 harg4 arg5 harg5 arg6 harg6 arg7 harg7 arg8 harg8 arg9 harg9 arg10 harg10 arg11 harg11 hc0 hc1 hc2 x0 x1 x2 x3 s.cm s.cl s.ca).2.1) = PS.cm (PS.stepM x1 x2 x3 s) := by
  unfold runD
  dsimp only
  sl_unfold_words
  rw [View.read_writes_eq_canon _ _ _ (fun y => col_cover _ _ _ y), col_canon]
  simp only [View.readAt_eq_ld, harg4.read_unread, harg5.read_unread, harg6.read_unread, harg7.read_unread, harg9.read_unread, harg10.read_unread, harg11.read_unread, PS.cm, PS.cl, PS.ca, ld_col0, ld_col1, ld_acc0, ld_acc1, ld_whole, View.readCov_cons_toLoadRect, View.readCov_skip _ RM1 _ _ RM0.toLoadRect (by decide), View.readCov_skip _ RM0 _ _ RM1.toLoadRect (by decide), View.readCov_skip _ RA1 _ _ RA0.toLoadRect (by decide), View.readCov_skip _ RA0 _ _ RA1.toLoadRect (by decide), fill_col0, fill_col1, fill_acc0, fill_acc1, second_init_m, second_init_l, second_init_a, secondM_m, secondM_l, secondM_a, PS.stepM, MS.stepM, PS.init, MS.init]
theorem readD_l (c : Dev nD) (i : grid0.Coords) (arg4 : Memref sig .tc .smem S1 .f32) (harg4 : arg4.IsWhole) (arg5 : Memref sig .tc .vmem S1x1x2x512x64 .bf16) (harg5 : arg5.IsWhole) (arg6 : Memref sig .tc .vmem S1x1x2x512x64 .bf16) (harg6 : arg6.IsWhole) (arg7 : Memref sig .tc .vmem S1x512x128 .bf16) (harg7 : arg7.IsWhole) (arg8 : Memref sig .tc .vmem S1x512x128 .f32) (harg8 : arg8.IsWhole) (arg9 : Memref sig .tc .vmem S2x512x1 .f32) (harg9 : arg9.IsWhole) (arg10 : Memref sig .tc .vmem S2x512x1 .f32) (harg10 : arg10.IsWhole) (arg11 : Memref sig .tc .vmem S2x512x128 .f32) (harg11 : arg11.IsWhole) (hc0 : ¬cond0_0 i) (hc1 : ¬cond0_1 i) (hc2 : cond0_2 i)
    (x0 : Vec F S1 .f32) (x1 : Vec F S1x1x2x512x64 .bf16) (x2 : Vec F S1x1x2x512x64 .bf16) (x3 : Vec F S1x512x128 .bf16) (s : PS F) (f) :
    arg10.view.read (Elt F) (arg10.view.writes (Elt F) f (runD c i arg4 harg4 arg5 harg5 arg6 harg6 arg7 harg7 arg8 harg8 arg9 harg9 arg10 harg10 arg11 harg11 hc0 hc1 hc2 x0 x1 x2 x3 s.cm s.cl s.ca).2.2.1) = PS.cl (PS.stepM x1 x2 x3 s) := by
  unfold runD
  dsimp only
  sl_unfold_words
  rw [View.read_writes_eq_canon _ _ _ (fun y => col_cover _ _ _ y), col_canon]
  simp only [View.readAt_eq_ld, harg4.read_unread, harg5.read_unread, harg6.read_unread, harg7.read_unread, harg9.read_unread, harg10.read_unread, harg11.read_unread, PS.cm, PS.cl, PS.ca, ld_col0, ld_col1, ld_acc0, ld_acc1, ld_whole, View.readCov_cons_toLoadRect, View.readCov_skip _ RM1 _ _ RM0.toLoadRect (by decide), View.readCov_skip _ RM0 _ _ RM1.toLoadRect (by decide), View.readCov_skip _ RA1 _ _ RA0.toLoadRect (by decide), View.readCov_skip _ RA0 _ _ RA1.toLoadRect (by decide), fill_col0, fill_col1, fill_acc0, fill_acc1, second_init_m, second_init_l, second_init_a, secondM_m, secondM_l, secondM_a, PS.stepM, MS.stepM, PS.init, MS.init]
theorem readD_a (c : Dev nD) (i : grid0.Coords) (arg4 : Memref sig .tc .smem S1 .f32) (harg4 : arg4.IsWhole) (arg5 : Memref sig .tc .vmem S1x1x2x512x64 .bf16) (harg5 : arg5.IsWhole) (arg6 : Memref sig .tc .vmem S1x1x2x512x64 .bf16) (harg6 : arg6.IsWhole) (arg7 : Memref sig .tc .vmem S1x512x128 .bf16) (harg7 : arg7.IsWhole) (arg8 : Memref sig .tc .vmem S1x512x128 .f32) (harg8 : arg8.IsWhole) (arg9 : Memref sig .tc .vmem S2x512x1 .f32) (harg9 : arg9.IsWhole) (arg10 : Memref sig .tc .vmem S2x512x1 .f32) (harg10 : arg10.IsWhole) (arg11 : Memref sig .tc .vmem S2x512x128 .f32) (harg11 : arg11.IsWhole) (hc0 : ¬cond0_0 i) (hc1 : ¬cond0_1 i) (hc2 : cond0_2 i)
    (x0 : Vec F S1 .f32) (x1 : Vec F S1x1x2x512x64 .bf16) (x2 : Vec F S1x1x2x512x64 .bf16) (x3 : Vec F S1x512x128 .bf16) (s : PS F) (f) :
    arg11.view.read (Elt F) (arg11.view.writes (Elt F) f (runD c i arg4 harg4 arg5 harg5 arg6 harg6 arg7 harg7 arg8 harg8 arg9 harg9 arg10 harg10 arg11 harg11 hc0 hc1 hc2 x0 x1 x2 x3 s.cm s.cl s.ca).2.2.2.1) = PS.ca (PS.stepM x1 x2 x3 s) := by
  unfold runD
  dsimp only
  sl_unfold_words
  rw [View.read_writes_eq_canon _ _ _ (fun y => acc_cover _ _ _ y), acc_canon]
  simp only [View.readAt_eq_ld, harg4.read_unread, harg5.read_unread, harg6.read_unread, harg7.read_unread, harg9.read_unread, harg10.read_unread, harg11.read_unread, PS.cm, PS.cl, PS.ca, ld_col0, ld_col1, ld_acc0, ld_acc1, ld_whole, View.readCov_cons_toLoadRect, View.readCov_skip _ RM1 _ _ RM0.toLoadRect (by decide), View.readCov_skip _ RM0 _ _ RM1.toLoadRect (by decide), View.readCov_skip _ RA1 _ _ RA0.toLoadRect (by decide), View.readCov_skip _ RA0 _ _ RA1.toLoadRect (by decide), fill_col0, fill_col1, fill_acc0, fill_acc1, second_init_m, second_init_l, second_init_a, secondM_m, secondM_l, secondM_a, PS.stepM, MS.stepM, PS.init, MS.init]
theorem readD_o (c : Dev nD) (i : grid0.Coords) (arg4 : Memref sig .tc .smem S1 .f32) (harg4 : arg4.IsWhole) (arg5 : Memref sig .tc .vmem S1x1x2x512x64 .bf16) (harg5 : arg5.IsWhole) (arg6 : Memref sig .tc .vmem S1x1x2x512x64 .bf16) (harg6 : arg6.IsWhole) (arg7 : Memref sig .tc .vmem S1x512x128 .bf16) (harg7 : arg7.IsWhole) (arg8 : Memref sig .tc .vmem S1x512x128 .f32) (harg8 : arg8.IsWhole) (arg9 : Memref sig .tc .vmem S2x512x1 .f32) (harg9 : arg9.IsWhole) (arg10 : Memref sig .tc .vmem S2x512x1 .f32) (harg10 : arg10.IsWhole) (arg11 : Memref sig .tc .vmem S2x512x128 .f32) (harg11 : arg11.IsWhole) (hc0 : ¬cond0_0 i) (hc1 : ¬cond0_1 i) (hc2 : cond0_2 i)
    (x0 : Vec F S1 .f32) (x1 : Vec F S1x1x2x512x64 .bf16) (x2 : Vec F S1x1x2x512x64 .bf16) (x3 : Vec F S1x512x128 .bf16) (s : PS F) (f) :
    arg8.view.read (Elt F) (arg8.view.writes (Elt F) f (runD c i arg4 harg4 arg5 harg5 arg6 harg6 arg7 harg7 arg8 harg8 arg9 harg9 arg10 harg10 arg11 harg11 hc0 hc1 hc2 x0 x1 x2 x3 s.cm s.cl s.ca).1) = PS.out x0 (PS.stepM x1 x2 x3 s) := by
  unfold runD
  dsimp only
  sl_unfold_words
  rw [read_out]
  simp only [View.readAt_eq_ld, harg4.read_unread, harg5.read_unread, harg6.read_unread, harg7.read_unread, harg9.read_unread, harg10.read_unread, harg11.read_unread, PS.cm, PS.cl, PS.ca, ld_col0, ld_col1, ld_acc0, ld_acc1, ld_whole, View.readCov_cons_toLoadRect, View.readCov_skip _ RM1 _ _ RM0.toLoadRect (by decide), View.readCov_skip _ RM0 _ _ RM1.toLoadRect (by decide), View.readCov_skip _ RA1 _ _ RA0.toLoadRect (by decide), View.readCov_skip _ RA0 _ _ RA1.toLoadRect (by decide), fill_col0, fill_col1, fill_acc0, fill_acc1, second_init_m, second_init_l, second_init_a, secondM_m, secondM_l, secondM_a, PS.stepM, MS.stepM, PS.init, MS.init, PS.out]
  exact congrArg (fun t => k0_pay7 t _ _ _) (ld_lam x0 _)

set_option maxHeartbeats 800000 in
/-- The body where 0 < j = i, in closed form: from the staged blocks and the state so far to the state one step on, the output block written. -/
theorem bodyD (c : Dev nD) (i : grid0.Coords) (arg4 : Memref sig .tc .smem S1 .f32) (harg4 : arg4.IsWhole) (arg5 : Memref sig .tc .vmem S1x1x2x512x64 .bf16) (harg5 : arg5.IsWhole) (arg6 : Memref sig .tc .vmem S1x1x2x512x64 .bf16) (harg6 : arg6.IsWhole) (arg7 : Memref sig .tc .vmem S1x512x128 .bf16) (harg7 : arg7.IsWhole) (arg8 : Memref sig .tc .vmem S1x512x128 .f32) (harg8 : arg8.IsWhole) (arg9 : Memref sig .tc .vmem S2x512x1 .f32) (harg9 : arg9.IsWhole) (arg10 : Memref sig .tc .vmem S2x512x1 .f32) (harg10 : arg10.IsWhole) (arg11 : Memref sig .tc .vmem S2x512x128 .f32) (harg11 : arg11.IsWhole) (hc0 : ¬cond0_0 i) (hc1 : ¬cond0_1 i) (hc2 : cond0_2 i)
    (x0 : Vec F S1 .f32) (x1 : Vec F S1x1x2x512x64 .bf16) (x2 : Vec F S1x1x2x512x64 .bf16) (x3 : Vec F S1x512x128 .bf16) (s : PS F) (E : Set ℕ) (K : PUnit → sProp 𝕄) :
    iprop(owns (c : Thread nD τ) arg4 fullShare x0 ∗ owns (c : Thread nD τ) arg5 fullShare x1 ∗ owns (c : Thread nD τ) arg6 fullShare x2 ∗ owns (c : Thread nD τ) arg7 fullShare x3 ∗ (∃ d, owns (c : Thread nD τ) arg8 fullShare d) ∗ owns (c : Thread nD τ) arg9 fullShare s.cm ∗ owns (c : Thread nD τ) arg10 fullShare s.cl ∗ owns (c : Thread nD τ) arg11 fullShare s.ca
        ∗ (iprop(owns (c : Thread nD τ) arg4 fullShare x0 ∗ owns (c : Thread nD τ) arg5 fullShare x1 ∗ owns (c : Thread nD τ) arg6 fullShare x2 ∗ owns (c : Thread nD τ) arg7 fullShare x3 ∗ owns (c : Thread nD τ) arg8 fullShare (PS.out x0 (PS.stepM x1 x2 x3 s)) ∗ owns (c : Thread nD τ) arg9 fullShare (PS.cm (PS.stepM x1 x2 x3 s)) ∗ owns (c : Thread nD τ) arg10 fullShare (PS.cl (PS.stepM x1 x2 x3 s)) ∗ owns (c : Thread nD τ) arg11 fullShare (PS.ca (PS.stepM x1 x2 x3 s))) -∗ K ⟨⟩))
      ⊢ wp frame (wpE (defs₀ (F := F)) Variants.none c none) E (cc0_diff_attention i arg4 harg4 arg5 harg5 arg6 harg6 arg7 harg7 arg8 harg8 arg9 harg9 arg10 harg10 arg11 harg11) K := by
  iintro ⟨H0, H1, H2, H3, ⟨%d4, H4⟩, HS0, HS1, HS2, Hk⟩
  iapply ((runD c i arg4 harg4 arg5 harg5 arg6 harg6 arg7 harg7 arg8 harg8 arg9 harg9 arg10 harg10 arg11 harg11 hc0 hc1 hc2 x0 x1 x2 x3 s.cm s.cl s.ca).2.2.2.2 E K)
  isplitl [H0]; · iexact H0
  isplitl [H1]; · iexact H1
  isplitl [H2]; · iexact H2
  isplitl [H3]; · iexact H3
  isplitl [H4]; · iexists _; iexact H4
  isplitl [HS0]; · iexact HS0
  isplitl [HS1]; · iexact HS1
  isplitl [HS2]; · iexact HS2
  iintro ⟨H0, H1, H2, H3, ⟨%f4, H4⟩, ⟨%f0, HS0⟩, ⟨%f1, HS1⟩, ⟨%f2, HS2⟩⟩
  iapply Hk
  isplitl [H0]; · iexact H0
  isplitl [H1]; · iexact H1
  isplitl [H2]; · iexact H2
  isplitl [H3]; · iexact H3
  isplitl [H4]
  · unfold owns; iexists _; isplitr
    swap; · iexact H4
    ipureintro; exact readD_o c i arg4 harg4 arg5 harg5 arg6 harg6 arg7 harg7 arg8 harg8 arg9 harg9 arg10 harg10 arg11 harg11 hc0 hc1 hc2 x0 x1 x2 x3 s _
  isplitl [HS0]
  · unfold owns; iexists _; isplitr
    swap; · iexact HS0
    ipureintro; exact readD_m c i arg4 harg4 arg5 harg5 arg6 harg6 arg7 harg7 arg8 harg8 arg9 harg9 arg10 harg10 arg11 harg11 hc0 hc1 hc2 x0 x1 x2 x3 s _
  isplitl [HS1]
  · unfold owns; iexists _; isplitr
    swap; · iexact HS1
    ipureintro; exact readD_l c i arg4 harg4 arg5 harg5 arg6 harg6 arg7 harg7 arg8 harg8 arg9 harg9 arg10 harg10 arg11 harg11 hc0 hc1 hc2 x0 x1 x2 x3 s _
  unfold owns; iexists _; isplitr
  swap; · iexact HS2
  ipureintro; exact readD_a c i arg4 harg4 arg5 harg5 arg6 harg6 arg7 harg7 arg8 harg8 arg9 harg9 arg10 harg10 arg11 harg11 hc0 hc1 hc2 x0 x1 x2 x3 s _

end Cert.KernelIdeal.Diff

end
-- ==== Proof.BodyE.lean ====
/-
  The body's triple at each kind of grid point with every buffer's contents in closed form: the pieces the runs found,
  read back as the state functions of Step.lean.
-/
module

public import proofs.«01_k».proof.Proof.Step

@[expose] public section

set_option maxRecDepth 16384

noncomputable section

namespace Cert.KernelIdeal.Diff

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body where 0 < j < i -/

theorem readE_m (c : Dev nD) (i : grid0.Coords) (arg4 : Memref sig .tc .smem S1 .f32) (harg4 : arg4.IsWhole) (arg5 : Memref sig .tc .vmem S1x1x2x512x64 .bf16) (harg5 : arg5.IsWhole) (arg6 : Memref sig .tc .vmem S1x1x2x512x64 .bf16) (harg6 : arg6.IsWhole) (arg7 : Memref sig .tc .vmem S1x512x128 .bf16) (harg7 : arg7.IsWhole) (arg8 : Memref sig .tc .vmem S1x512x128 .f32) (harg8 : arg8.IsWhole) (arg9 : Memref sig .tc .vmem S2x512x1 .f32) (harg9 : arg9.IsWhole) (arg10 : Memref sig .tc .vmem S2x512x1 .f32) (harg10 : arg10.IsWhole) (arg11 : Memref sig .tc .vmem S2x512x128 .f32) (harg11 : arg11.IsWhole) (hc0 : ¬cond0_0 i) (hc1 : cond0_1 i) (hc2 : ¬cond0_2 i)
    (x0 : Vec F S1 .f32) (x1 : Vec F S1x1x2x512x64 .bf16) (x2 : Vec F S1x1x2x512x64 .bf16) (x3 : Vec F S1x512x128 .bf16) (y : Vec F S1x512x128 .f32) (s : PS F) (f) :
    arg9.view.read (Elt F) (arg9.view.writes (Elt F) f (runE c i arg4 harg4 arg5 harg5 arg6 harg6 arg7 harg7 arg8 harg8 arg9 harg9 arg10 harg10 arg11 harg11 hc0 hc1 hc2 x0 x1 x2 x3 y s.cm s.cl s.ca).1) = PS.cm (PS.stepU x1 x2 x3 s) := by
  unfold runE
  dsimp only
  sl_unfold_words
  rw [View.read_writes_eq_canon _ _ _ (fun y => col_cover _ _ _ y), col_canon]
  simp only [View.readAt_eq_ld, harg4.read_unread, harg5.read_unread, harg6.read_unread, harg7.read_unread, harg9.read_unread, harg10.read_unread, harg11.read_unread, PS.cm, PS.cl, PS.ca, ld_col0, ld_col1, ld_acc0, ld_acc1, ld_whole, View.readCov_cons_toLoadRect, View.readCov_skip _ RM1 _ _ RM0.toLoadRect (by decide), View.readCov_skip _ RM0 _ _ RM1.toLoadRect (by decide), View.readCov_skip _ RA1 _ _ RA0.toLoadRect (by decide), View.readCov_skip _ RA0 _ _ RA1.toLoadRect (by decide), fill_col0, fill_col1, fill_acc0, fill_acc1, second_init_m, second_init_l, second_init_a, secondU_m, secondU_l, secondU_a, PS.stepU, MS.stepU, PS.init, MS.init]
theorem readE_l (c : Dev nD) (i : grid0.Coords) (arg4 : Memref sig .tc .smem S1 .f32) (harg4 : arg4.IsWhole) (arg5 : Memref sig .tc .vmem S1x1x2x512x64 .bf16) (harg5 : arg5.IsWhole) (arg6 : Memref sig .tc .vmem S1x1x2x512x64 .bf16) (harg6 : arg6.IsWhole) (arg7 : Memref sig .tc .vmem S1x512x128 .bf16) (harg7 : arg7.IsWhole) (arg8 : Memref sig .tc .vmem S1x512x128 .f32) (harg8 : arg8.IsWhole) (arg9 : Memref sig .tc .vmem S2x512x1 .f32) (harg9 : arg9.IsWhole) (arg10 : Memref sig .tc .vmem S2x512x1 .f32) (harg10 : arg10.IsWhole) (arg11 : Memref sig .tc .vmem S2x512x128 .f32) (harg11 : arg11.IsWhole) (hc0 : ¬cond0_0 i) (hc1 : cond0_1 i) (hc2 : ¬cond0_2 i)
    (x0 : Vec F S1 .f32) (x1 : Vec F S1x1x2x512x64 .bf16) (x2 : Vec F S1x1x2x512x64 .bf16) (x3 : Vec F S1x512x128 .bf16) (y : Vec F S1x512x128 .f32) (s : PS F) (f) :
    arg10.view.read (Elt F) (arg10.view.writes (Elt F) f (runE c i arg4 harg4 arg5 harg5 arg6 harg6 arg7 harg7 arg8 harg8 arg9 harg9 arg10 harg10 arg11 harg11 hc0 hc1 hc2 x0 x1 x2 x3 y s.cm s.cl s.ca).2.1) = PS.cl (PS.stepU x1 x2 x3 s) := by
  unfold runE
  dsimp only
  sl_unfold_words
  rw [View.read_writes_eq_canon _ _ _ (fun y => col_cover _ _ _ y), col_canon]
  simp only [View.readAt_eq_ld, harg4.read_unread, harg5.read_unread, harg6.read_unread, harg7.read_unread, harg9.read_unread, harg10.read_unread, harg11.read_unread, PS.cm, PS.cl, PS.ca, ld_col0, ld_col1, ld_acc0, ld_acc1, ld_whole, View.readCov_cons_toLoadRect, View.readCov_skip _ RM1 _ _ RM0.toLoadRect (by decide), View.readCov_skip _ RM0 _ _ RM1.toLoadRect (by decide), View.readCov_skip _ RA1 _ _ RA0.toLoadRect (by decide), View.readCov_skip _ RA0 _ _ RA1.toLoadRect (by decide), fill_col0, fill_col1, fill_acc0, fill_acc1, second_init_m, second_init_l, second_init_a, secondU_m, secondU_l, secondU_a, PS.stepU, MS.stepU, PS.init, MS.init]
theorem readE_a (c : Dev nD) (i : grid0.Coords) (arg4 : Memref sig .tc .smem S1 .f32) (harg4 : arg4.IsWhole) (arg5 : Memref sig .tc .vmem S1x1x2x512x64 .bf16) (harg5 : arg5.IsWhole) (arg6 : Memref sig .tc .vmem S1x1x2x512x64 .bf16) (harg6 : arg6.IsWhole) (arg7 : Memref sig .tc .vmem S1x512x128 .bf16) (harg7 : arg7.IsWhole) (arg8 : Memref sig .tc .vmem S1x512x128 .f32) (harg8 : arg8.IsWhole) (arg9 : Memref sig .tc .vmem S2x512x1 .f32) (harg9 : arg9.IsWhole) (arg10 : Memref sig .tc .vmem S2x512x1 .f32) (harg10 : arg10.IsWhole) (arg11 : Memref sig .tc .vmem S2x512x128 .f32) (harg11 : arg11.IsWhole) (hc0 : ¬cond0_0 i) (hc1 : cond0_1 i) (hc2 : ¬cond0_2 i)
    (x0 : Vec F S1 .f32) (x1 : Vec F S1x1x2x512x64 .bf16) (x2 : Vec F S1x1x2x512x64 .bf16) (x3 : Vec F S1x512x128 .bf16) (y : Vec F S1x512x128 .f32) (s : PS F) (f) :
    arg11.view.read (Elt F) (arg11.view.writes (Elt F) f (runE c i arg4 harg4 arg5 harg5 arg6 harg6 arg7 harg7 arg8 harg8 arg9 harg9 arg10 harg10 arg11 harg11 hc0 hc1 hc2 x0 x1 x2 x3 y s.cm s.cl s.ca).2.2.1) = PS.ca (PS.stepU x1 x2 x3 s) := by
  unfold runE
  dsimp only
  sl_unfold_words
  rw [View.read_writes_eq_canon _ _ _ (fun y => acc_cover _ _ _ y), acc_canon]
  simp only [View.readAt_eq_ld, harg4.read_unread, harg5.read_unread, harg6.read_unread, harg7.read_unread, harg9.read_unread, harg10.read_unread, harg11.read_unread, PS.cm, PS.cl, PS.ca, ld_col0, ld_col1, ld_acc0, ld_acc1, ld_whole, View.readCov_cons_toLoadRect, View.readCov_skip _ RM1 _ _ RM0.toLoadRect (by decide), View.readCov_skip _ RM0 _ _ RM1.toLoadRect (by decide), View.readCov_skip _ RA1 _ _ RA0.toLoadRect (by decide), View.readCov_skip _ RA0 _ _ RA1.toLoadRect (by decide), fill_col0, fill_col1, fill_acc0, fill_acc1, second_init_m, second_init_l, second_init_a, secondU_m, secondU_l, secondU_a, PS.stepU, MS.stepU, PS.init, MS.init]

set_option maxHeartbeats 800000 in
/-- The body where 0 < j < i, in closed form: from the staged blocks and the state so far to the state one step on, the output's buffer untouched. -/
theorem bodyE (c : Dev nD) (i : grid0.Coords) (arg4 : Memref sig .tc .smem S1 .f32) (harg4 : arg4.IsWhole) (arg5 : Memref sig .tc .vmem S1x1x2x512x64 .bf16) (harg5 : arg5.IsWhole) (arg6 : Memref sig .tc .vmem S1x1x2x512x64 .bf16) (harg6 : arg6.IsWhole) (arg7 : Memref sig .tc .vmem S1x512x128 .bf16) (harg7 : arg7.IsWhole) (arg8 : Memref sig .tc .vmem S1x512x128 .f32) (harg8 : arg8.IsWhole) (arg9 : Memref sig .tc .vmem S2x512x1 .f32) (harg9 : arg9.IsWhole) (arg10 : Memref sig .tc .vmem S2x512x1 .f32) (harg10 : arg10.IsWhole) (arg11 : Memref sig .tc .vmem S2x512x128 .f32) (harg11 : arg11.IsWhole) (hc0 : ¬cond0_0 i) (hc1 : cond0_1 i) (hc2 : ¬cond0_2 i)
    (x0 : Vec F S1 .f32) (x1 : Vec F S1x1x2x512x64 .bf16) (x2 : Vec F S1x1x2x512x64 .bf16) (x3 : Vec F S1x512x128 .bf16) (y : Vec F S1x512x128 .f32) (s : PS F) (E : Set ℕ) (K : PUnit → sProp 𝕄) :
    iprop(owns (c : Thread nD τ) arg4 fullShare x0 ∗ owns (c : Thread nD τ) arg5 fullShare x1 ∗ owns (c : Thread nD τ) arg6 fullShare x2 ∗ owns (c : Thread nD τ) arg7 fullShare x3 ∗ owns (c : Thread nD τ) arg8 fullShare y ∗ owns (c : Thread nD τ) arg9 fullShare s.cm ∗ owns (c : Thread nD τ) arg10 fullShare s.cl ∗ owns (c : Thread nD τ) arg11 fullShare s.ca
        ∗ (iprop(owns (c : Thread nD τ) arg4 fullShare x0 ∗ owns (c : Thread nD τ) arg5 fullShare x1 ∗ owns (c : Thread nD τ) arg6 fullShare x2 ∗ owns (c : Thread nD τ) arg7 fullShare x3 ∗ owns (c : Thread nD τ) arg8 fullShare y ∗ owns (c : Thread nD τ) arg9 fullShare (PS.cm (PS.stepU x1 x2 x3 s)) ∗ owns (c : Thread nD τ) arg10 fullShare (PS.cl (PS.stepU x1 x2 x3 s)) ∗ owns (c : Thread nD τ) arg11 fullShare (PS.ca (PS.stepU x1 x2 x3 s))) -∗ K ⟨⟩))
      ⊢ wp frame (wpE (defs₀ (F := F)) Variants.none c none) E (cc0_diff_attention i arg4 harg4 arg5 harg5 arg6 harg6 arg7 harg7 arg8 harg8 arg9 harg9 arg10 harg10 arg11 harg11) K := by
  iintro ⟨H0, H1, H2, H3, H4, HS0, HS1, HS2, Hk⟩
  iapply ((runE c i arg4 harg4 arg5 harg5 arg6 harg6 arg7 harg7 arg8 harg8 arg9 harg9 arg10 harg10 arg11 harg11 hc0 hc1 hc2 x0 x1 x2 x3 y s.cm s.cl s.ca).2.2.2 E K)
  isplitl [H0]; · iexact H0
  isplitl [H1]; · iexact H1
  isplitl [H2]; · iexact H2
  isplitl [H3]; · iexact H3
  isplitl [H4]; · iexact H4
  isplitl [HS0]; · iexact HS0
  isplitl [HS1]; · iexact HS1
  isplitl [HS2]; · iexact HS2
  iintro ⟨H0, H1, H2, H3, H4, ⟨%f0, HS0⟩, ⟨%f1, HS1⟩, ⟨%f2, HS2⟩⟩
  iapply Hk
  isplitl [H0]; · iexact H0
  isplitl [H1]; · iexact H1
  isplitl [H2]; · iexact H2
  isplitl [H3]; · iexact H3
  isplitl [H4]; · iexact H4
  isplitl [HS0]
  · unfold owns; iexists _; isplitr
    swap; · iexact HS0
    ipureintro; exact readE_m c i arg4 harg4 arg5 harg5 arg6 harg6 arg7 harg7 arg8 harg8 arg9 harg9 arg10 harg10 arg11 harg11 hc0 hc1 hc2 x0 x1 x2 x3 y s _
  isplitl [HS1]
  · unfold owns; iexists _; isplitr
    swap; · iexact HS1
    ipureintro; exact readE_l c i arg4 harg4 arg5 harg5 arg6 harg6 arg7 harg7 arg8 harg8 arg9 harg9 arg10 harg10 arg11 harg11 hc0 hc1 hc2 x0 x1 x2 x3 y s _
  unfold owns; iexists _; isplitr
  swap; · iexact HS2
  ipureintro; exact readE_a c i arg4 harg4 arg5 harg5 arg6 harg6 arg7 harg7 arg8 harg8 arg9 harg9 arg10 harg10 arg11 harg11 hc0 hc1 hc2 x0 x1 x2 x3 y s _

end Cert.KernelIdeal.Diff

end
-- ==== Proof.Body.lean ====
/-
  The body's triple at each kind of grid point with every buffer's contents in closed form: the pieces the runs found,
  read back as the state functions of Step.lean.
-/
module

public import proofs.«01_k».proof.Proof.BodyA
public import proofs.«01_k».proof.Proof.BodyC
public import proofs.«01_k».proof.Proof.BodyD
public import proofs.«01_k».proof.Proof.BodyE

@[expose] public section

set_option maxRecDepth 16384

noncomputable section

namespace Cert.KernelIdeal.Diff

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

end Cert.KernelIdeal.Diff

end
-- ==== Proof.Run.lean ====
/-
  The kernel's run with its values: a row of query blocks' state after each key block, the invariant that names the
  scratch buffers' contents within a row, the body's obligation at every grid point, the run, and the argument arrays
  unchanged.
-/
module

public import proofs.«01_k».proof.Proof.Body
public import Idealize.ShloMosaic.Lib.Pipeline.TableIdle
public import Idealize.ShloMosaic.Lib.Claim

@[expose] public section

set_option maxRecDepth 16384

noncomputable section

namespace Cert.KernelIdeal.Diff

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## A row's state -/

/-- One point's step of a row's state: a whole key block before the diagonal, the diagonal block, or nothing. -/
def stepAt (c : Dev nD) (t : Fin cfg0.N) (s : PS F) : PS F :=
  if t.val % 16 + 1 ≤ t.val / 16 % 16 then s.stepU (iblk m c 1 t) (iblk m c 2 t) (iblk m c 3 t)
  else if t.val / 16 % 16 = t.val % 16 then s.stepM (iblk m c 1 t) (iblk m c 2 t) (iblk m c 3 t)
  else s

/-- The state of row `r` (the grid points `16 r … 16 r + 15`) before its `j`-th point. -/
def st (c : Dev nD) (r : ℕ) : ℕ → PS F
  | 0 => PS.init
  | j + 1 => if h : r * 16 + j < cfg0.N then stepAt m c ⟨r * 16 + j, h⟩ (st c r j) else st c r j

/-- A point takes its row's state one step on. -/
theorem st_succ (c : Dev nD) (t : Fin cfg0.N) :
    st m c (t.val / 16) (t.val % 16 + 1) = stepAt m c t (st m c (t.val / 16) (t.val % 16)) := by
  have e : t.val / 16 * 16 + t.val % 16 = t.val := by omega
  show (if h : t.val / 16 * 16 + t.val % 16 < cfg0.N then stepAt m c ⟨t.val / 16 * 16 + t.val % 16, h⟩ (st m c (t.val / 16) (t.val % 16)) else _) = _
  rw [dif_pos (lt_of_eq_of_lt e t.isLt)]
  exact congrArg (fun u => stepAt m c u (st m c (t.val / 16) (t.val % 16))) (Fin.ext e)

/-- The block a row of points leaves for the output: the one stored at its diagonal point. -/
def rowOut (c : Dev nD) (r : ℕ) : Vec F S1x512x128 .f32 :=
  PS.out (iblk m c 0 ⟨0, by rw [show cfg0.N = 2048 from N_0]; decide⟩) (st m c r (r % 16 + 1))

/-! ## The invariant and the proof data -/

/-- The scratch buffers at a state, beside the generator register. -/
def scAt (c : Dev nD) (s : PS F) : sProp 𝕄 :=
  iprop(iprop(owns (c : Thread nD τ) scM0_0 fullShare s.cm ∗ owns (c : Thread nD τ) scM0_1 fullShare s.cl ∗ owns (c : Thread nD τ) scM0_2 fullShare s.ca) ∗ (∃ r, prngReg c r))

/-- Before point `n`: at a row's start the scratch buffers at anything, within a row at the row's state. -/
def PhiS (c : Dev nD) (n : ℕ) : sProp 𝕄 :=
  if n % 16 = 0 then Pipeline.ΦA spec0 c else scAt c (st m c (n / 16) (n % 16))

theorem scAt_forget (c : Dev nD) (s : PS F) : (scAt c s : sProp 𝕄) ⊢ Pipeline.ΦA spec0 c := by
  unfold scAt
  rw [PhiA0_eq]
  iintro ⟨⟨HS0, HS1, HS2⟩, Hg⟩
  isplitl [HS0 HS1 HS2]
  · isplitl [HS0]
    · iexists _; iexact HS0
    isplitl [HS1]
    · iexists _; iexact HS1
    iexists _; iexact HS2
  iexact Hg

/-- The scratch buffers at the state after point `t` are the invariant before the next point. -/
theorem PhiS_intro (c : Dev nD) (t : Fin cfg0.N) :
    (scAt c (stepAt m c t (st m c (t.val / 16) (t.val % 16))) : sProp 𝕄) ⊢ PhiS m c (t.val + 1) := by
  unfold PhiS
  by_cases h : (t.val + 1) % 16 = 0
  · rw [if_pos h]; exact scAt_forget c _
  · rw [if_neg h, ← st_succ, show (t.val + 1) / 16 = t.val / 16 by omega, show (t.val + 1) % 16 = t.val % 16 + 1 by omega]

/-- The proof data of the pipeline on core `c`: the inputs' buffers at their blocks, the output's at its row's block. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => rowOut m c (t.val / 16)
  Φ t := PhiS m c t.val
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = rowOut m c (t.val / 16) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-! ## The output's buffer away from the diagonal -/

/-- The output is left alone off the diagonal, -/
theorem idle4_of (t : Fin cfg0.N) (h : ¬ t.val / 16 % 16 = t.val % 16) : cfg0.idle 4 (grid0.coords t) = true := by
  show (!(k0_cond3 (grid0.coords t) == 1#1)) = true
  rw [Bool.not_eq_true', beq_eq_false_iff_ne]
  exact fun e => h ((hcond0_2 t).mp e)
/-- and stored on it. -/
theorem live4_of (t : Fin cfg0.N) (h : t.val / 16 % 16 = t.val % 16) : cfg0.idle 4 (grid0.coords t) = false := by
  show (!(k0_cond3 (grid0.coords t) == 1#1)) = false
  rw [Bool.not_eq_false', beq_iff_eq]
  exact (hcond0_2 t).mpr h

/-- Nothing of a row's has been stored up to its diagonal point. -/
theorem fresh4 (n : ℕ) (hn : n ≤ cfg0.N) : cfg0.fresh 4 n = decide (n % 16 ≤ n / 16 % 16) :=
  cfg0.fresh_tab 4 (fun n => decide (n % 16 ≤ n / 16 % 16)) (by decide) (fun t => by
    have hf := flush0_4 t
    by_cases hd : t.val / 16 % 16 = t.val % 16
    · rw [live4_of t hd, Bool.false_and, Bool.or_false, Bool.eq_iff_iff, hf, decide_eq_true_iff]
      by_cases h15 : t.val % 16 = 15
      · exact iff_of_true (by omega) h15
      · have e : (t.val + 1) / 16 = t.val / 16 := by omega
        rw [e]; omega
    · rw [idle4_of t hd, Bool.true_and, Bool.eq_iff_iff, Bool.or_eq_true, hf, decide_eq_true_iff, decide_eq_true_iff]
      by_cases h15 : t.val % 16 = 15
      · exact iff_of_true (by omega) (Or.inl h15)
      · have e : (t.val + 1) / 16 = t.val / 16 := by omega
        rw [e]; omega) n hn

/-- What the body finds in the output's buffer: anything up to the diagonal, the row's block past it. -/
theorem before0_4 (c : Dev nD) (t : Fin cfg0.N) (d) :
    (dats m 0 c).before 4 t d = if t.val % 16 ≤ t.val / 16 % 16 then d else rowOut m c (t.val / 16) := by
  rw [(dats m 0 c).before_out_traj 4 rfl (fun _ _ => rfl) (fun t ht hi hfr => by
    rw [after0_4, after0_4]
    rw [fresh4 _ (Nat.le_of_lt t.isLt), decide_eq_false_iff_not] at hfr
    exact congrArg (rowOut m c) (by show t.val / 16 = (t.val - 1) / 16; omega)) t.val t rfl d, fresh4 _ (Nat.le_of_lt t.isLt)]
  by_cases h : t.val % 16 ≤ t.val / 16 % 16
  · rw [if_pos h, if_pos (decide_eq_true h)]
  · rw [if_neg h, if_neg (by rw [decide_eq_true_iff]; exact h), after0_4]
    exact congrArg (rowOut m c) (by show (t.val - 1) / 16 = t.val / 16; omega)

/-- Off the diagonal the output's buffer goes back as it was found. -/
theorem leaves4_idle (c : Dev nD) (t : Fin cfg0.N) (h : ¬ t.val / 16 % 16 = t.val % 16) (d) :
    (owns (c : Thread nD τ) (ms0_4 t) fullShare ((dats m 0 c).before 4 t d) : sProp 𝕄) ⊢ (dats m 0 c).leavesExact 4 t := by
  have hf := flush0_4 t
  cases hfl : (cfg0.win 4).flush t
  · rw [Dat.leavesExact_idle _ 4 t (idle4_of t h) hfl]
    iintro H; iexists d; iexact H
  · have h15 : t.val % 16 = 15 := hf.mp hfl
    have e : (dats m 0 c).leavesExact 4 t = owns (c : Thread nD τ) (ms0_4 t) fullShare ((dats m 0 c).after 4 t) := by
      unfold Dat.leavesExact; rw [idle4_of t h, hfl]
    rw [e, before0_4, if_neg (by omega), after0_4]
/-- On the diagonal it is left at the row's block. -/
theorem leaves4_live (c : Dev nD) (t : Fin cfg0.N) (h : t.val / 16 % 16 = t.val % 16) :
    (owns (c : Thread nD τ) (ms0_4 t) fullShare (rowOut m c (t.val / 16)) : sProp 𝕄) ⊢ (dats m 0 c).leavesExact 4 t := by
  have e : (dats m 0 c).leavesExact 4 t = owns (c : Thread nD τ) (ms0_4 t) fullShare ((dats m 0 c).after 4 t) := by
    unfold Dat.leavesExact; rw [live4_of t h]
  rw [e, after0_4]

theorem rowOut_diag (c : Dev nD) (t : Fin cfg0.N) (h : t.val / 16 % 16 = t.val % 16) :
    PS.out (iblk m c 0 t) ((st m c (t.val / 16) (t.val % 16)).stepM (iblk m c 1 t) (iblk m c 2 t) (iblk m c 3 t)) = rowOut m c (t.val / 16) := by
  unfold rowOut
  rw [h, st_succ, stepAt, if_neg (by omega), if_pos h]
  rfl

/-! ## The body obligation -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t ∗ (dats m 0 c).leavesExact 1 t ∗ (dats m 0 c).leavesExact 2 t
    ∗ (dats m 0 c).leavesExact 3 t ∗ (dats m 0 c).leavesExact 4 t)

set_option maxHeartbeats 4000000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).owesAt () t.succ = (dats m 0 c).owesAt () t.castSucc from rfl]
  rw [show (dats m 0 c).Φ t.succ = PhiS m c (t.val + 1) from rfl, show (dats m 0 c).Φ t.castSucc = PhiS m c t.val from rfl]
  rw [show (dats m 0 c).leavesExact 0 t = owns (c : Thread nD τ) (ms0_0 t) fullShare (iblk m c 0 t) from by
    unfold Dat.leavesExact; rw [liveAt0_0 t, after0_0]]
  rw [show (dats m 0 c).leavesExact 1 t = owns (c : Thread nD τ) (ms0_1 t) fullShare (iblk m c 1 t) from by
    unfold Dat.leavesExact; rw [liveAt0_1 t, after0_1]]
  rw [show (dats m 0 c).leavesExact 2 t = owns (c : Thread nD τ) (ms0_2 t) fullShare (iblk m c 2 t) from by
    unfold Dat.leavesExact; rw [liveAt0_2 t, after0_2]]
  rw [show (dats m 0 c).leavesExact 3 t = owns (c : Thread nD τ) (ms0_3 t) fullShare (iblk m c 3 t) from by
    unfold Dat.leavesExact; rw [liveAt0_3 t, after0_3]]
  by_cases h0 : t.val % 16 = 0
  · by_cases h1 : t.val % 16 + 1 ≤ t.val / 16 % 16
    · have h2 : ¬ t.val / 16 % 16 = t.val % 16 := by omega
      have e0 : st m c (t.val / 16) (t.val % 16) = PS.init := by rw [h0]; rfl
      have e1 : stepAt m c t (st m c (t.val / 16) (t.val % 16)) = (PS.init.stepU (iblk m c 1 t) (iblk m c 2 t) (iblk m c 3 t)) := by rw [stepAt, if_pos h1, e0]
      have hP := PhiS_intro m c t
      rw [e1] at hP
      rw [show PhiS m c t.val = Pipeline.ΦA spec0 c from if_pos h0, PhiA0_eq]
      unfold scAt at hP
      iintro ⟨⟨⟨⟨%y0, HS0⟩, ⟨%y1, HS1⟩, ⟨%y2, HS2⟩⟩, Hg⟩, Ho, ⟨%d0, H0⟩, ⟨%d1, H1⟩, ⟨%d2, H2⟩, ⟨%d3, H3⟩, ⟨%d4, H4⟩⟩
      iapply (bodyC c (grid0.coords t) _ _ _ _ _ _ _ _ _ _ _ _ _ _ _ _ ((hcond0_0 t).mpr h0) ((hcond0_1 t).mpr h1) (fun h => h2 ((hcond0_2 t).mp h)) (iblk m c 0 t) (iblk m c 1 t) (iblk m c 2 t) (iblk m c 3 t) ((dats m 0 c).before 4 t d4) Set.univ _)
      isplitl [H0]; · iexact H0
      isplitl [H1]; · iexact H1
      isplitl [H2]; · iexact H2
      isplitl [H3]; · iexact H3
      isplitl [H4]; · iexact H4
      isplitl [HS0]; · iexists _; iexact HS0
      isplitl [HS1]; · iexists _; iexact HS1
      isplitl [HS2]; · iexists _; iexact HS2
      iintro ⟨H0, H1, H2, H3, H4, HS0, HS1, HS2⟩
      isplitl [HS0 HS1 HS2 Hg]
      · iapply hP
        isplitl [HS0 HS1 HS2]
        · isplitl [HS0]; · iexact HS0
          isplitl [HS1]; · iexact HS1
          iexact HS2
        iexact Hg
      isplitl [Ho]; · iexact Ho
      isplitl [H0]; · iexact H0
      isplitl [H1]; · iexact H1
      isplitl [H2]; · iexact H2
      isplitl [H3]; · iexact H3
      iapply (leaves4_idle m c t h2 d4)
      iexact H4
    · have h2 : t.val / 16 % 16 = t.val % 16 := by omega
      have e0 : st m c (t.val / 16) (t.val % 16) = PS.init := by rw [h0]; rfl
      have e1 : stepAt m c t (st m c (t.val / 16) (t.val % 16)) = (PS.init.stepM (iblk m c 1 t) (iblk m c 2 t) (iblk m c 3 t)) := by rw [stepAt, if_neg h1, if_pos h2, e0]
      have hP := PhiS_intro m c t
      rw [e1] at hP
      rw [show PhiS m c t.val = Pipeline.ΦA spec0 c from if_pos h0, PhiA0_eq]
      unfold scAt at hP
      iintro ⟨⟨⟨⟨%y0, HS0⟩, ⟨%y1, HS1⟩, ⟨%y2, HS2⟩⟩, Hg⟩, Ho, ⟨%d0, H0⟩, ⟨%d1, H1⟩, ⟨%d2, H2⟩, ⟨%d3, H3⟩, ⟨%d4, H4⟩⟩
      iapply (bodyA c (grid0.coords t) _ _ _ _ _ _ _ _ _ _ _ _ _ _ _ _ ((hcond0_0 t).mpr h0) (fun h => h1 ((hcond0_1 t).mp h)) ((hcond0_2 t).mpr h2) (iblk m c 0 t) (iblk m c 1 t) (iblk m c 2 t) (iblk m c 3 t) Set.univ _)
      isplitl [H0]; · iexact H0
      isplitl [H1]; · iexact H1
      isplitl [H2]; · iexact H2
      isplitl [H3]; · iexact H3
      isplitl [H4]; · iexists _; iexact H4
      isplitl [HS0]; · iexists _; iexact HS0
      isplitl [HS1]; · iexists _; iexact HS1
      isplitl [HS2]; · iexists _; iexact HS2
      iintro ⟨H0, H1, H2, H3, H4, HS0, HS1, HS2⟩
      isplitl [HS0 HS1 HS2 Hg]
      · iapply hP
        isplitl [HS0 HS1 HS2]
        · isplitl [HS0]; · iexact HS0
          isplitl [HS1]; · iexact HS1
          iexact HS2
        iexact Hg
      isplitl [Ho]; · iexact Ho
      isplitl [H0]; · iexact H0
      isplitl [H1]; · iexact H1
      isplitl [H2]; · iexact H2
      isplitl [H3]; · iexact H3
      have e2 := rowOut_diag m c t h2
      rw [e0] at e2
      rw [e2]
      iapply (leaves4_live m c t h2)
      iexact H4
  · by_cases h1 : t.val % 16 + 1 ≤ t.val / 16 % 16
    · have h2 : ¬ t.val / 16 % 16 = t.val % 16 := by omega
      have e1 : stepAt m c t (st m c (t.val / 16) (t.val % 16)) = ((st m c (t.val / 16) (t.val % 16)).stepU (iblk m c 1 t) (iblk m c 2 t) (iblk m c 3 t)) := by rw [stepAt, if_pos h1]
      have hP := PhiS_intro m c t
      rw [e1] at hP
      rw [show PhiS m c t.val = scAt c (st m c (t.val / 16) (t.val % 16)) from if_neg h0]
      unfold scAt at hP ⊢
      iintro ⟨⟨⟨HS0, HS1, HS2⟩, Hg⟩, Ho, ⟨%d0, H0⟩, ⟨%d1, H1⟩, ⟨%d2, H2⟩, ⟨%d3, H3⟩, ⟨%d4, H4⟩⟩
      iapply (bodyE c (grid0.coords t) _ _ _ _ _ _ _ _ _ _ _ _ _ _ _ _ (fun h => h0 ((hcond0_0 t).mp h)) ((hcond0_1 t).mpr h1) (fun h => h2 ((hcond0_2 t).mp h)) (iblk m c 0 t) (iblk m c 1 t) (iblk m c 2 t) (iblk m c 3 t) ((dats m 0 c).before 4 t d4) (st m c (t.val / 16) (t.val % 16)) Set.univ _)
      isplitl [H0]; · iexact H0
      isplitl [H1]; · iexact H1
      isplitl [H2]; · iexact H2
      isplitl [H3]; · iexact H3
      isplitl [H4]; · iexact H4
      isplitl [HS0]; · iexact HS0
      isplitl [HS1]; · iexact HS1
      isplitl [HS2]; · iexact HS2
      iintro ⟨H0, H1, H2, H3, H4, HS0, HS1, HS2⟩
      isplitl [HS0 HS1 HS2 Hg]
      · iapply hP
        isplitl [HS0 HS1 HS2]
        · isplitl [HS0]; · iexact HS0
          isplitl [HS1]; · iexact HS1
          iexact HS2
        iexact Hg
      isplitl [Ho]; · iexact Ho
      isplitl [H0]; · iexact H0
      isplitl [H1]; · iexact H1
      isplitl [H2]; · iexact H2
      isplitl [H3]; · iexact H3
      iapply (leaves4_idle m c t h2 d4)
      iexact H4
    · by_cases h2 : t.val / 16 % 16 = t.val % 16
      · have e1 : stepAt m c t (st m c (t.val / 16) (t.val % 16)) = ((st m c (t.val / 16) (t.val % 16)).stepM (iblk m c 1 t) (iblk m c 2 t) (iblk m c 3 t)) := by rw [stepAt, if_neg h1, if_pos h2]
        have hP := PhiS_intro m c t
        rw [e1] at hP
        rw [show PhiS m c t.val = scAt c (st m c (t.val / 16) (t.val % 16)) from if_neg h0]
        unfold scAt at hP ⊢
        iintro ⟨⟨⟨HS0, HS1, HS2⟩, Hg⟩, Ho, ⟨%d0, H0⟩, ⟨%d1, H1⟩, ⟨%d2, H2⟩, ⟨%d3, H3⟩, ⟨%d4, H4⟩⟩
        iapply (bodyD c (grid0.coords t) _ _ _ _ _ _ _ _ _ _ _ _ _ _ _ _ (fun h => h0 ((hcond0_0 t).mp h)) (fun h => h1 ((hcond0_1 t).mp h)) ((hcond0_2 t).mpr h2) (iblk m c 0 t) (iblk m c 1 t) (iblk m c 2 t) (iblk m c 3 t) (st m c (t.val / 16) (t.val % 16)) Set.univ _)
        isplitl [H0]; · iexact H0
        isplitl [H1]; · iexact H1
        isplitl [H2]; · iexact H2
        isplitl [H3]; · iexact H3
        isplitl [H4]; · iexists _; iexact H4
        isplitl [HS0]; · iexact HS0
        isplitl [HS1]; · iexact HS1
        isplitl [HS2]; · iexact HS2
        iintro ⟨H0, H1, H2, H3, H4, HS0, HS1, HS2⟩
        isplitl [HS0 HS1 HS2 Hg]
        · iapply hP
          isplitl [HS0 HS1 HS2]
          · isplitl [HS0]; · iexact HS0
            isplitl [HS1]; · iexact HS1
            iexact HS2
          iexact Hg
        isplitl [Ho]; · iexact Ho
        isplitl [H0]; · iexact H0
        isplitl [H1]; · iexact H1
        isplitl [H2]; · iexact H2
        isplitl [H3]; · iexact H3
        have e2 := rowOut_diag m c t h2
        rw [e2]
        iapply (leaves4_live m c t h2)
        iexact H4
      · have e1 : stepAt m c t (st m c (t.val / 16) (t.val % 16)) = (st m c (t.val / 16) (t.val % 16)) := by rw [stepAt, if_neg h1, if_neg h2]
        have hP := PhiS_intro m c t
        rw [e1] at hP
        rw [show PhiS m c t.val = scAt c (st m c (t.val / 16) (t.val % 16)) from if_neg h0]
        unfold scAt at hP ⊢
        iintro ⟨⟨⟨HS0, HS1, HS2⟩, Hg⟩, Ho, ⟨%d0, H0⟩, ⟨%d1, H1⟩, ⟨%d2, H2⟩, ⟨%d3, H3⟩, ⟨%d4, H4⟩⟩
        iapply ((runB c (grid0.coords t) _ _ _ _ _ _ _ _ _ _ _ _ _ _ _ _ (fun h => h0 ((hcond0_0 t).mp h)) (fun h => h1 ((hcond0_1 t).mp h)) (fun h => h2 ((hcond0_2 t).mp h)) (iblk m c 0 t) (iblk m c 1 t) (iblk m c 2 t) (iblk m c 3 t) ((dats m 0 c).before 4 t d4) (st m c (t.val / 16) (t.val % 16)).cm (st m c (t.val / 16) (t.val % 16)).cl (st m c (t.val / 16) (t.val % 16)).ca).2.2.2 Set.univ _)
        isplitl [H0]; · iexact H0
        isplitl [H1]; · iexact H1
        isplitl [H2]; · iexact H2
        isplitl [H3]; · iexact H3
        isplitl [H4]; · iexact H4
        isplitl [HS0]; · iexact HS0
        isplitl [HS1]; · iexact HS1
        isplitl [HS2]; · iexact HS2
        iintro ⟨H0, H1, H2, H3, H4, HS0, HS1, HS2⟩
        isplitl [HS0 HS1 HS2 Hg]
        · iapply hP
          isplitl [HS0 HS1 HS2]
          · isplitl [HS0]; · iexact HS0
            isplitl [HS1]; · iexact HS1
            iexact HS2
          iexact Hg
        isplitl [Ho]; · iexact Ho
        isplitl [H0]; · iexact H0
        isplitl [H1]; · iexact H1
        isplitl [H2]; · iexact H2
        isplitl [H3]; · iexact H3
        iapply (leaves4_idle m c t h2 d4)
        iexact H4

/-- The body table's row at point `t` is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The body obligation at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hin (c : Dev nD) : Pipeline.ΦA spec0 c ⊢ (dats m 0 c).Φ 0 := by
  rw [show (dats m 0 c).Φ 0 = PhiS m c 0 from rfl, PhiS, if_pos rfl]

theorem hout (c : Dev nD) : (dats m 0 c).Φ (Fin.last cfg0.N) ⊢ Pipeline.ΦA spec0 c := by
  rw [show (dats m 0 c).Φ (Fin.last cfg0.N) = PhiS m c cfg0.N from rfl, PhiS, if_pos (by rw [show cfg0.N = 2048 from N_0])]

/-! ## The run and the frame -/

set_option backward.isDefEq.respectTransparency.types false in
/-- The launch: every array at its final contents, every other buffer as the region found it, no counter left. -/
theorem run_main : θ_run defs (onTc (τ := τ) (main (F := F))) (s₀ m ρ) (fun r => Pipeline.FramePost cfgs (dats m) 0 (V m) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- Every weakly fair execution ends, the arguments unchanged and no counter left. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (frame_of m ρ (dats m) (A_eq m) ((θ_run defs _ _).mono (fun _ h => h.1) (run_main m ρ)))
    ((θ_run defs _ _).mono (fun _ h => h.2) (run_main m ρ))

end Cert.KernelIdeal.Diff

end
-- ==== Proof.Bits.lean ====
/-
  The kernel's own frame. The idealization's program is the kernel's, line for line, so the two body tables are equal:
  first the parts of the body, then the body, then the table. The idealization's frame, stated for any float values,
  is then the kernel's at the machine's values.
-/
module

public import proofs.«01_k».proof.Defs
public import proofs.«01_k».proof.Proof.Gen.Kernel
public import proofs.«01_k».proof.Proof.Run

@[expose] public section

set_option maxRecDepth 16384

namespace Cert.Kernel.Diff

open Idealize.ShloMosaic Idealize.SL.Sem

section
variable {F : FTy → Type} [FloatOps F] [Cert.Kernel.Facts] [Cert.KernelIdeal.Facts]

/-- The body's first part is the idealization's. -/
theorem k0_part1_eq : Cert.Kernel.k0_part1 (F := F) = Cert.KernelIdeal.k0_part1 (F := F) := rfl

/-- The body's second part is the idealization's. -/
theorem k0_part2_eq : Cert.Kernel.k0_part2 (F := F) = Cert.KernelIdeal.k0_part2 (F := F) := rfl

/-- The body's third part is the idealization's. -/
theorem k0_part3_eq : Cert.Kernel.k0_part3 (F := F) = Cert.KernelIdeal.k0_part3 (F := F) := rfl

/-- The body's fourth part is the idealization's. -/
theorem k0_part4_eq : Cert.Kernel.k0_part4 (F := F) = Cert.KernelIdeal.k0_part4 (F := F) := rfl

/-- The body's fifth part is the idealization's. -/
theorem k0_part5_eq : Cert.Kernel.k0_part5 (F := F) = Cert.KernelIdeal.k0_part5 (F := F) := rfl

/-- The body is the idealization's. -/
theorem cc0_diff_attention_eq : Cert.Kernel.cc0_diff_attention (F := F) = Cert.KernelIdeal.cc0_diff_attention (F := F) := rfl

/-- The body table is the idealization's. -/
theorem defs₀_eq : Cert.Kernel.defs₀ (F := F) = Cert.KernelIdeal.defs₀ (F := F) := by
  unfold Cert.Kernel.defs₀ Cert.KernelIdeal.defs₀
  refine congrArg Defs.onTc ?_
  funext l x
  match l, x with
  | 0, (t, s) =>
    exact congrFun (congrFun (congrFun (congrFun (congrFun (congrFun (congrFun (congrFun (congrFun (congrFun (congrFun
      (congrFun (congrFun (congrFun (congrFun (congrFun (congrFun cc0_diff_attention_eq _) _) _) _) _) _) _) _) _) _) _)
      _) _) _) _) _) _

/-- The table with the pipeline's own labels is the idealization's. -/
theorem defs_eq : Cert.Kernel.defs (F := F) = Cert.KernelIdeal.defs (F := F) :=
  congrArg (Pipeline.defs (Cert.Kernel.pcfgs (F := F))) defs₀_eq

/-- The host's program is the idealization's. -/
theorem main_eq : Cert.Kernel.main (F := F) = Cert.KernelIdeal.main (F := F) := rfl

end

/-- A run's statement over the idealization's table and program is one over the kernel's. -/
theorem transfer [Cert.Kernel.Facts] [Cert.KernelIdeal.Facts] {σ Q}
    (h : θ_run (Cert.KernelIdeal.defs (F := Bits)) (onTc (τ := Cert.KernelIdeal.τ) (Cert.KernelIdeal.main (F := Bits)))
      σ Q) :
    θ_run (Cert.Kernel.defs (F := Bits)) (onTc (τ := Cert.Kernel.τ) (Cert.Kernel.main (F := Bits))) σ Q :=
  Eq.mpr (congrArg (fun d => θ_run d (onTc (τ := Cert.Kernel.τ) (Cert.Kernel.main (F := Bits))) σ Q) defs_eq) h

/-- The kernel ends with its arguments unchanged and every counter at zero. -/
theorem frame : Cert.quiescent_Kernel (hKernel := Cert.Kernel.Gen.facts) :=
  fun m g _ => transfer (Cert.KernelIdeal.Diff.frame (F := Bits) m g)

end Cert.Kernel.Diff

end
-- ==== Proof.Soft.lean ====
/-
  The arithmetic of the running softmax, free of any program: a row's maximum, sum and weighted sum of values over the
  keys met so far, as extended reals, taken one block of keys further; and the quotient at the end, which does not
  depend on the maximum.
-/
module

public import Idealize.ShloMosaic.Lib.Pointwise
public import Mathlib.Analysis.SpecialFunctions.Exp

@[expose] public section

noncomputable section

namespace Cert.Soft

open Idealize.ShloMosaic
open scoped BigOperators

/-- The average of the values `y` over the keys below `n`, weighted by the exponentials of the scores `x`. -/
def avg (x y : ℕ → ℝ) (n : ℕ) : ℝ :=
  (∑ k ∈ Finset.range n, Real.exp (x k) * y k) / ∑ k ∈ Finset.range n, Real.exp (x k)

/-- The weights' sum with the scores shifted by `c` is the sum times `exp (-c)`; -/
theorem sum_shift (x : ℕ → ℝ) (c : ℝ) (n : ℕ) :
    ∑ k ∈ Finset.range n, Real.exp (x k - c) = (∑ k ∈ Finset.range n, Real.exp (x k)) * Real.exp (-c) := by
  rw [Finset.sum_mul]
  exact Finset.sum_congr rfl fun k _ => by rw [← Real.exp_add, sub_eq_add_neg]
/-- so is the weighted sum of the values. -/
theorem wsum_shift (x y : ℕ → ℝ) (c : ℝ) (n : ℕ) :
    ∑ k ∈ Finset.range n, Real.exp (x k - c) * y k = (∑ k ∈ Finset.range n, Real.exp (x k) * y k) * Real.exp (-c) := by
  rw [Finset.sum_mul]
  exact Finset.sum_congr rfl fun k _ => by rw [sub_eq_add_neg, Real.exp_add]; ring

/-- Over at least one key the weights' sum is positive. -/
theorem sum_pos (x : ℕ → ℝ) (c : ℝ) {n : ℕ} (hn : 0 < n) : 0 < ∑ k ∈ Finset.range n, Real.exp (x k - c) :=
  Finset.sum_pos (fun _ _ => Real.exp_pos _) ⟨0, Finset.mem_range.mpr hn⟩

/-- The quotient of the two shifted sums is the average, whatever the shift. -/
theorem avg_shift (x y : ℕ → ℝ) (c : ℝ) (n : ℕ) :
    (∑ k ∈ Finset.range n, Real.exp (x k - c) * y k) / ∑ k ∈ Finset.range n, Real.exp (x k - c) = avg x y n := by
  rw [sum_shift, wsum_shift, avg]
  exact mul_div_mul_right _ _ (Real.exp_pos _).ne'

/-- A finite sum of reals, summed as extended reals. -/
theorem coe_sum {ι : Type} (s : Finset ι) (f : ι → ℝ) : ((∑ k ∈ s, f k : ℝ) : EReal) = ∑ k ∈ s, (f k : EReal) := by
  classical
  induction s using Finset.induction_on with
  | empty => simp
  | insert a s ha ih => rw [Finset.sum_insert ha, Finset.sum_insert ha, EReal.coe_add, ih]

/-- The maximum of a real and finitely many values, each below `⊤`, is a real. -/
theorem max_fold_real {ι : Type} (s : Finset ι) (μ : ℝ) (z : ι → EReal) (hz : ∀ k, z k ≠ ⊤) :
    ∃ ν : ℝ, max (μ : EReal) (Finset.fold max ⊥ z s) = (ν : EReal) := by
  classical
  induction s using Finset.induction_on with
  | empty => exact ⟨μ, by rw [Finset.fold_empty, max_eq_left bot_le]⟩
  | insert a s ha ih =>
    obtain ⟨ν, hν⟩ := ih
    rw [Finset.fold_insert ha, max_left_comm, hν]
    rcases le_total (z a) ν with h | h
    · exact ⟨ν, max_eq_right h⟩
    · rw [max_eq_left h]
      have hb : z a ≠ ⊥ := fun e => by rw [e] at h; exact absurd (le_bot_iff.mp h) (EReal.coe_ne_bot ν)
      exact ⟨(z a).toReal, (EReal.coe_toReal (hz a) hb).symm⟩

/-- A row after the keys below `n`: its maximum some real, its sum and its weighted sum of the values `y` the shifted
    sums at that real. -/
def After (x y : ℕ → ℝ) (n : ℕ) (m l a : EReal) : Prop :=
  ∃ μ : ℝ, m = μ ∧ l = ((∑ k ∈ Finset.range n, Real.exp (x k - μ) : ℝ) : EReal)
    ∧ a = ((∑ k ∈ Finset.range n, Real.exp (x k - μ) * y k : ℝ) : EReal)

/-- Before any key: a real for the maximum, zero for the sums. -/
theorem After.zero (x y : ℕ → ℝ) (μ : ℝ) : After x y 0 μ 0 0 := ⟨μ, rfl, by simp, by simp⟩

/-- The exponential of a difference of reals. -/
theorem exp_sub_coe (a b : ℝ) : Ideal.exp ((a : EReal) - (b : EReal)) = ((Real.exp (a - b) : ℝ) : EReal) := by
  rw [← EReal.coe_sub, Ideal.exp_coe]

/-- The rescaled sum and the next keys' make the next sum. -/
theorem sum_next (x y : ℕ → ℝ) (n K : ℕ) (μ ν : ℝ) :
    Real.exp (μ - ν) * (∑ k ∈ Finset.range n, Real.exp (x k - μ) * y k) + ∑ c ∈ Finset.range K, Real.exp (x (n + c) - ν) * y (n + c)
      = ∑ k ∈ Finset.range (n + K), Real.exp (x k - ν) * y k := by
  rw [Finset.sum_range_add, Finset.mul_sum]
  congr 1
  exact Finset.sum_congr rfl fun k _ => by rw [← mul_assoc, ← Real.exp_add]; congr 2; ring

/-- A sum over the first `K` of `N` places, the rest zero. -/
theorem sum_masked (N K : ℕ) (hK : K ≤ N) (f : ℕ → ℝ) :
    ∑ c : Fin N, (if c.val < K then f c.val else 0) = ∑ c ∈ Finset.range K, f c := by
  rw [Fin.sum_univ_eq_sum_range (fun c => if c < K then f c else 0) N, ← Finset.sum_filter]
  congr 1
  ext c
  simp only [Finset.mem_filter, Finset.mem_range]
  omega

/-- One block of `N` keys from key `n` on, of which the first `K` count: the new maximum is over any values `z` below
    `⊤`, the weights are the exponentials at the keys that count and zero elsewhere. -/
theorem After.step {x y : ℕ → ℝ} {n : ℕ} {m l a : EReal} (H : After x y n m l a) {N : ℕ} (K : ℕ) (hK : K ≤ N)
    (z p v : Fin N → EReal) (hz : ∀ c, z c ≠ ⊤)
    (hp : ∀ c, p c = if c.val < K then Ideal.exp ((x (n + c.val) : EReal) - max m (Finset.fold max ⊥ z Finset.univ)) else 0)
    (hv : ∀ c, v c = (y (n + c.val) : EReal)) :
    After x y (n + K) (max m (Finset.fold max ⊥ z Finset.univ))
      (Ideal.exp (m - max m (Finset.fold max ⊥ z Finset.univ)) * l + ∑ c, p c)
      (Ideal.exp (m - max m (Finset.fold max ⊥ z Finset.univ)) * a + ∑ c, p c * v c) := by
  obtain ⟨μ, rfl, rfl, rfl⟩ := H
  obtain ⟨ν, hν⟩ := max_fold_real Finset.univ μ z hz
  rw [hν] at hp ⊢
  have hp' : ∀ c, p c = ((if c.val < K then Real.exp (x (n + c.val) - ν) else 0 : ℝ) : EReal) := fun c => by
    rw [hp c]
    split
    · rw [exp_sub_coe]
    · rw [EReal.coe_zero]
  refine ⟨ν, rfl, ?_, ?_⟩
  · rw [exp_sub_coe, Finset.sum_congr rfl fun c _ => hp' c, ← coe_sum, ← EReal.coe_mul, ← EReal.coe_add,
      sum_masked N K hK fun c => Real.exp (x (n + c) - ν)]
    have := sum_next x (fun _ => 1) n K μ ν
    simp only [mul_one] at this
    rw [this]
  · rw [exp_sub_coe, Finset.sum_congr rfl fun c _ => show p c * v c = ((if c.val < K then Real.exp (x (n + c.val) - ν) * y (n + c.val) else 0 : ℝ) : EReal) from by
        rw [hp' c, hv c, ← EReal.coe_mul, ite_mul, zero_mul], ← coe_sum, ← EReal.coe_mul, ← EReal.coe_add,
      sum_masked N K hK fun c => Real.exp (x (n + c) - ν) * y (n + c), sum_next]

/-- At the end the weighted sum over the sum is the average. -/
theorem After.div {x y : ℕ → ℝ} {n : ℕ} (hn : 0 < n) {m l a : EReal} (H : After x y n m l a) :
    Ideal.div a l = ((avg x y n : ℝ) : EReal) := by
  obtain ⟨μ, rfl, rfl, rfl⟩ := H
  rw [Ideal.div_coe (sum_pos x μ hn).ne', ← EReal.coe_mul, mul_one_div, avg_shift]

/-- A whole row's softmax, its scores past key `q` at `⊥`: over its own maximum, each weight over the weights' sum, the
    weights past key `q` dropped, is the average's weight. -/
theorem softmax_row {N : ℕ} (x : ℕ → ℝ) (q : ℕ) (hq : q < N) (s : Fin N → EReal)
    (hs : ∀ c, s c = if c.val ≤ q then (x c.val : EReal) else ⊥) (c : Fin N) :
    (if c.val ≤ q then Ideal.div (Ideal.exp (s c - Finset.fold max ⊥ s Finset.univ))
        (∑ d, Ideal.exp (s d - Finset.fold max ⊥ s Finset.univ)) else 0)
      = ((if c.val ≤ q then Real.exp (x c.val) / ∑ k ∈ Finset.range (q + 1), Real.exp (x k) else 0 : ℝ) : EReal) := by
  classical
  obtain ⟨μ, hμ⟩ : ∃ μ : ℝ, Finset.fold max ⊥ s Finset.univ = (μ : EReal) := by
    obtain ⟨μ, h⟩ := max_fold_real Finset.univ (x q) s (fun c => by rw [hs c]; split <;> simp)
    refine ⟨μ, h ▸ (max_eq_right ?_).symm⟩
    rw [Finset.le_fold_max]
    exact Or.inr ⟨⟨q, hq⟩, Finset.mem_univ _, by rw [hs, if_pos le_rfl]⟩
  rw [hμ]
  have he : ∀ d, Ideal.exp (s d - (μ : EReal)) = ((if d.val < q + 1 then Real.exp (x d.val - μ) else 0 : ℝ) : EReal) := fun d => by
    rw [hs d]
    by_cases h : d.val ≤ q
    · rw [if_pos h, if_pos (by omega), exp_sub_coe]
    · rw [if_neg h, if_neg (by omega), EReal.bot_sub, EReal.coe_zero]; exact Ideal.exp_bot
  rw [Finset.sum_congr rfl fun d _ => he d, ← coe_sum, sum_masked N (q + 1) hq fun d => Real.exp (x d - μ), he c]
  split
  · rw [if_pos (by omega), Ideal.div_coe (sum_pos x μ (Nat.succ_pos q)).ne', ← EReal.coe_mul, mul_one_div, sum_shift,
      sub_eq_add_neg, Real.exp_add, mul_div_mul_right _ _ (Real.exp_pos _).ne']
  · rw [EReal.coe_zero]

end Cert.Soft

end
-- ==== Proof.Elem.lean ====
/-
  The kernel's two steps read element by element over the extended reals: each takes a row's running maximum, sum and
  weighted sum one block of keys further, in the sense of `Soft.After`.
-/
module

public import proofs.«01_k».proof.Proof.Step
public import proofs.«01_k».proof.Proof.Soft
public import Idealize.ShloMosaic.Lib.Pointwise

@[expose] public section

set_option maxRecDepth 16384

noncomputable section

namespace Cert.KernelIdeal.Diff

open Cert.KernelIdeal Cert.KernelIdeal.Gen Cert.Soft
open Idealize.ShloMosaic
open scoped BigOperators

/-- The word of minus infinity, -/
theorem word_bot : Ideal.ofBits .f32 0xFF800000#32 = ⊥ := by simp [Ideal.ofBits, Ideal.ieee]
/-- of the scale, -/
theorem word_eighth : Ideal.ofBits .f32 0x3E000000#32 = ((1 / 8 : ℝ) : EReal) := by
  simp [Ideal.ofBits, Ideal.ieee, -EReal.coe_mul]; norm_num
/-- and the kernel's mask value, a real. -/
theorem word_mask : ∃ μ : ℝ, Ideal.ofBits .f32 0xF149F2CA#32 = (μ : EReal) := by
  simp [Ideal.ofBits, Ideal.ieee, -EReal.coe_mul]
  exact ⟨_, (EReal.coe_neg _).symm⟩

section
variable (q k : Vec Ideal S1x1x1x512x64 .bf16) (v : Vec Ideal S1x512x128 .bf16) (s : MS Ideal) (r : Fin 512) (e : Fin 128)

/-- The score of row `r` against column `c` of the two blocks. -/
def score (c : Fin 512) : EReal := ∑ d : Fin 64, q (ix5 0 0 0 r d) * k (ix5 0 0 0 c d)

/-- The column is not past the row, as the diagonal block's mask word. -/
def below (c : Fin 512) : BitVec 1 := IntOp.cmpi .sle (BitVec.ofNat 32 c.val) (BitVec.ofNat 32 r.val)
theorem below_iff (c : Fin 512) : below r c = 1#1 ↔ c.val ≤ r.val := by
  have hc := c.isLt
  have hr := r.isLt
  unfold below
  rw [IntOp.cmpi_sle]
  rw [BitVec.toInt_eq_toNat_of_lt (by rw [BitVec.toNat_ofNat]; omega), BitVec.toInt_eq_toNat_of_lt (by rw [BitVec.toNat_ofNat]; omega),
    BitVec.toNat_ofNat, BitVec.toNat_ofNat, Nat.mod_eq_of_lt (by omega), Nat.mod_eq_of_lt (by omega), Int.ofNat_le]
/-- A choice by the mask word. -/
theorem select_below (c : Fin 512) (a b : EReal) : (Scalar.select (below r c) a b : EReal) = if c.val ≤ r.val then a else b := by
  unfold Scalar.select
  by_cases h : c.val ≤ r.val
  · rw [if_pos h]; exact if_pos ((below_iff r c).mpr h)
  · rw [if_neg h]; exact if_neg fun h' => h ((below_iff r c).mp h')

/-- The new maximum of a step over a whole block, -/
def topU : EReal := max (s.m (ix3 0 r 0)) (Finset.fold max ⊥ (score q k r) Finset.univ)
/-- and over the diagonal block. -/
def topM : EReal := max (s.m (ix3 0 r 0)) (Finset.fold max ⊥ (fun c => Scalar.select (below r c) (score q k r c) (Ideal.ofBits .f32 0xF149F2CA#32)) Finset.univ)

theorem pay9_at (c : Fin 512) : k0_pay9 q k (ix2 r c) = score q k r c := by
  pointwise [k0_pay9]; rfl
theorem pay11_at : k0_pay11 q k s.m (ix2 r 0) = topU q k s r := by
  pointwise [k0_pay11, k0_pay10]
  simp only [pay9_at]
  rw [word_bot]; rfl
theorem pay28_at (c : Fin 512) : k0_pay28 q k (ix2 r c) = Scalar.select (below r c) (score q k r c) (Ideal.ofBits .f32 0xF149F2CA#32) := by
  pointwise [k0_pay28, k0_pay26]; rfl
theorem pay29_at : k0_pay29 q k s.m (ix2 r 0) = topM q k s r := by
  pointwise [k0_pay29, k0_pay27]
  simp only [pay28_at]
  rw [word_bot]; rfl
theorem pay26_at (c : Fin 512) : k0_pay26 (ix2 r c) = below r c := by
  pointwise [k0_pay26]; rfl

theorem stepU_m : (s.stepU q k v).m (ix3 0 r 0) = topU q k s r := by
  pointwise [MS.stepU, k0_pay18]
  exact pay11_at q k s r
theorem stepU_l : (s.stepU q k v).l (ix3 0 r 0)
    = Ideal.exp (s.m (ix3 0 r 0) - topU q k s r) * s.l (ix3 0 r 0) + ∑ c, Ideal.exp (score q k r c - topU q k s r) := by
  pointwise [MS.stepU, k0_pay14, k0_pay13, k0_pay12, k0_pay10]
  simp only [pay9_at, pay11_at]
theorem stepU_a : (s.stepU q k v).a (ix3 0 r e)
    = Ideal.exp (s.m (ix3 0 r 0) - topU q k s r) * s.a (ix3 0 r e) + ∑ c, Ideal.exp (score q k r c - topU q k s r) * v (ix3 0 c e) := by
  pointwise [MS.stepU, k0_pay17, k0_pay13, k0_pay15, k0_pay16, k0_pay8, k0_pay12, k0_pay10]
  simp only [pay9_at, pay11_at]

theorem stepM_m : (s.stepM q k v).m (ix3 0 r 0) = topM q k s r := by
  pointwise [MS.stepM, k0_pay34]
  exact pay29_at q k s r
theorem stepM_l : (s.stepM q k v).l (ix3 0 r 0)
    = Ideal.exp (s.m (ix3 0 r 0) - topM q k s r) * s.l (ix3 0 r 0)
      + ∑ c, Scalar.select (below r c) (Ideal.exp (Scalar.select (below r c) (score q k r c) (Ideal.ofBits .f32 0xF149F2CA#32) - topM q k s r)) 0 := by
  pointwise [MS.stepM, k0_pay32, k0_pay31, k0_pay30, k0_pay27]
  simp only [pay28_at, pay29_at, pay26_at]
theorem stepM_a : (s.stepM q k v).a (ix3 0 r e)
    = Ideal.exp (s.m (ix3 0 r 0) - topM q k s r) * s.a (ix3 0 r e)
      + ∑ c, Scalar.select (below r c) (Ideal.exp (Scalar.select (below r c) (score q k r c) (Ideal.ofBits .f32 0xF149F2CA#32) - topM q k s r)) 0 * v (ix3 0 c e) := by
  pointwise [MS.stepM, k0_pay33, k0_pay31, k0_pay30, k0_pay25, k0_pay27]
  simp only [pay28_at, pay29_at, pay26_at]

variable {q k v s r e}
variable {x y : ℕ → ℝ} {n : ℕ}

/-- A map's state has row `r`'s maximum, sum and weighted sum of column `e` of the values after the keys below `n`. -/
def MS.After (s : MS Ideal) (r : Fin 512) (e : Fin 128) (x y : ℕ → ℝ) (n : ℕ) : Prop :=
  Soft.After x y n (s.m (ix3 0 r 0)) (s.l (ix3 0 r 0)) (s.a (ix3 0 r e))

/-- The starting state has met no key. -/
theorem init_after (r : Fin 512) (e : Fin 128) (x y : ℕ → ℝ) : (MS.init : MS Ideal).After r e x y 0 := by
  obtain ⟨μ, h⟩ := word_mask
  have e0 : (MS.init : MS Ideal).m (ix3 0 r 0) = (μ : EReal) := by
    pointwise [MS.init, k0_pay1]; exact h
  have e1 : (MS.init : MS Ideal).l (ix3 0 r 0) = 0 := by pointwise [MS.init, k0_pay2]
  have e2 : (MS.init : MS Ideal).a (ix3 0 r e) = 0 := by pointwise [MS.init, k0_pay3]
  unfold MS.After
  rw [e0, e1, e2]
  exact Soft.After.zero x y μ

/-- A step over a whole block meets its 512 keys. -/
theorem stepU_after (H : s.After r e x y n) (hs : ∀ c : Fin 512, score q k r c = (x (n + c.val) : EReal))
    (hv : ∀ c : Fin 512, v (ix3 0 c e) = (y (n + c.val) : EReal)) : (s.stepU q k v).After r e x y (n + 512) := by
  unfold MS.After
  rw [stepU_m, stepU_l, stepU_a]
  refine Soft.After.step H 512 le_rfl (score q k r) (fun c => Ideal.exp (score q k r c - topU q k s r)) (fun c => v (ix3 0 c e)) (fun c => ?_) (fun c => ?_) hv
  · rw [hs]; exact EReal.coe_ne_top _
  · rw [if_pos c.isLt, hs]; rfl

/-- A step over the diagonal block meets its keys up to the row. -/
theorem stepM_after (H : s.After r e x y n) (hs : ∀ c : Fin 512, score q k r c = (x (n + c.val) : EReal))
    (hv : ∀ c : Fin 512, v (ix3 0 c e) = (y (n + c.val) : EReal)) : (s.stepM q k v).After r e x y (n + (r.val + 1)) := by
  unfold MS.After
  rw [stepM_m, stepM_l, stepM_a]
  obtain ⟨μ, hμ⟩ := word_mask
  refine Soft.After.step H (r.val + 1) r.isLt (fun c => Scalar.select (below r c) (score q k r c) (Ideal.ofBits .f32 0xF149F2CA#32))
    (fun c => Scalar.select (below r c) (Ideal.exp (Scalar.select (below r c) (score q k r c) (Ideal.ofBits .f32 0xF149F2CA#32) - topM q k s r)) 0)
    (fun c => v (ix3 0 c e)) (fun c => ?_) (fun c => ?_) hv
  · rw [select_below]
    split
    · rw [hs]; exact EReal.coe_ne_top _
    · rw [hμ]; exact EReal.coe_ne_top _
  · rw [select_below, select_below]
    by_cases h : c.val ≤ r.val
    · rw [if_pos h, if_pos h, if_pos (by omega), hs]; rfl
    · rw [if_neg h, if_neg (by omega)]
end

/-- The output block from two finished states: the first map's average less lambda times the second's. -/
theorem out_at (lam : Vec Ideal S1 .f32) (s : PS Ideal) (r : Fin 512) (e : Fin 128) {x0 x1 y : ℕ → ℝ} {n : ℕ} (hn : 0 < n)
    {lr : ℝ} (hl : lam ixLam = (lr : EReal)) (H0 : s.s0.After r e x0 y n) (H1 : s.s1.After r e x1 y n) :
    PS.out lam s (ix3 0 r e) = ((avg x0 y n - lr * avg x1 y n : ℝ) : EReal) := by
  pointwise [PS.out, k0_pay43, k0_pay7]
  rw [Soft.After.div hn H0, Soft.After.div hn H1, hl, EReal.coe_sub, EReal.coe_mul]

end Cert.KernelIdeal.Diff

end
-- ==== Proof.Blocks.lean ====
/-
  The staged blocks read element by element: at point `t = ((b * 4 + h) * 16 + i) * 16 + j` the query block is rows
  `512 i …` of the scaled queries, the key and value blocks rows `512 j …` (up to the diagonal) of the keys and values.
-/
module

public import proofs.«01_k».proof.Proof.Run
public import proofs.«01_k».proof.Proof.Elem

@[expose] public section

set_option maxRecDepth 16384

noncomputable section

namespace Cert.KernelIdeal.Diff

open Cert.KernelIdeal Cert.KernelIdeal.Gen
open Idealize.ShloMosaic Idealize.ShloMosaic.TcCoe

variable {F : FTy → Type} [FloatOps F]
variable (m : (ℓ : Loc nD τ sig) → Buf (Elt F) ℓ)

/-! ## The windows' block indices -/

theorem index1 : ∀ t : Fin cfg0.N, win0_1.index t 0 = t.val / 1024 % 2 ∧ win0_1.index t 1 = t.val / 256 % 4
    ∧ win0_1.index t 2 = 0 ∧ win0_1.index t 3 = t.val / 16 % 16 ∧ win0_1.index t 4 = 0 :=
  (by decide +kernel : ∀ t : Fin grid0.N, win0_1.index t 0 = t.val / 1024 % 2 ∧ win0_1.index t 1 = t.val / 256 % 4
    ∧ win0_1.index t 2 = 0 ∧ win0_1.index t 3 = t.val / 16 % 16 ∧ win0_1.index t 4 = 0)
theorem index2 : ∀ t : Fin cfg0.N, t.val % 16 ≤ t.val / 16 % 16 → win0_2.index t 0 = t.val / 1024 % 2 ∧ win0_2.index t 1 = t.val / 256 % 4
    ∧ win0_2.index t 2 = 0 ∧ win0_2.index t 3 = t.val % 16 ∧ win0_2.index t 4 = 0 :=
  (by decide +kernel : ∀ t : Fin grid0.N, t.val % 16 ≤ t.val / 16 % 16 → win0_2.index t 0 = t.val / 1024 % 2 ∧ win0_2.index t 1 = t.val / 256 % 4
    ∧ win0_2.index t 2 = 0 ∧ win0_2.index t 3 = t.val % 16 ∧ win0_2.index t 4 = 0)
theorem index3 : ∀ t : Fin cfg0.N, t.val % 16 ≤ t.val / 16 % 16 → win0_3.index t 0 = t.val / 1024 % 2 ∧ win0_3.index t 1 = t.val % 16
    ∧ win0_3.index t 2 = t.val / 256 % 4 :=
  (by decide +kernel : ∀ t : Fin grid0.N, t.val % 16 ≤ t.val / 16 % 16 → win0_3.index t 0 = t.val / 1024 % 2 ∧ win0_3.index t 1 = t.val % 16
    ∧ win0_3.index t 2 = t.val / 256 % 4)
theorem index4 : ∀ t : Fin cfg0.N, win0_4.index t 0 = t.val / 1024 % 2 ∧ win0_4.index t 1 = t.val / 16 % 16
    ∧ win0_4.index t 2 = t.val / 256 % 4 :=
  (by decide +kernel : ∀ t : Fin grid0.N, win0_4.index t 0 = t.val / 1024 % 2 ∧ win0_4.index t 1 = t.val / 16 % 16
    ∧ win0_4.index t 2 = t.val / 256 % 4)

/-! ## The arrays the windows read -/

/-- The scaled queries, laid out by head and map, -/
theorem V_q (c : Dev nD) : V m c main_v3 = (transpose S2x4x2x8192x64 [0, 2, 3, 1, 4]
    (truncf .bf16 (mulf (m ((c : Thread nD τ).loc main_arg0) : FVec F S2x8192x4x2x64 .f32) (broadcastInDim S2x8192x4x2x64 ![] bcast_S_S2x8192x4x2x64 (constant S_ .f32 0x3E000000#32))) bitsLt_bf16_f32)
    transposes_S2x8192x4x2x64_S2x4x2x8192x64_0_2_3_1_4 : FVec F S2x4x2x8192x64 .bf16) := by
  unfold V; simp only [hostOps0]; after_results_simp <;> rfl
/-- the keys, laid out alike, -/
theorem V_k (c : Dev nD) : V m c main_v5 = (transpose S2x4x2x8192x64 [0, 2, 3, 1, 4]
    (truncf .bf16 (m ((c : Thread nD τ).loc main_arg1) : FVec F S2x8192x4x2x64 .f32) bitsLt_bf16_f32)
    transposes_S2x8192x4x2x64_S2x4x2x8192x64_0_2_3_1_4 : FVec F S2x4x2x8192x64 .bf16) := by
  unfold V; simp only [hostOps0]; after_results_simp <;> rfl
/-- and the values. -/
theorem V_v (c : Dev nD) : V m c main_v7 = (truncf .bf16 (shapeCast S2x8192x512 (m ((c : Thread nD τ).loc main_arg2) : FVec F S2x8192x4x128 .f32) shapeCasts_S2x8192x4x128_S2x8192x512) bitsLt_bf16_f32 : FVec F S2x8192x512 .bf16) := by
  unfold V; simp only [hostOps0]; after_results_simp <;> rfl

/-! ## The blocks -/

theorem iblk_q (c : Dev nD) (t : Fin cfg0.N) (mp : Fin 2) (r : Fin 512) (d : Fin 64) (b : Fin 2) (h : Fin 4) (q : Fin 8192)
    (hb : b.val = t.val / 1024 % 2) (hh : h.val = t.val / 256 % 4) (hq : q.val = t.val / 16 % 16 * 512 + r.val) :
    (iblk m c 1 t : Vec F S1x1x2x512x64 .bf16) (ix5 0 0 mp r d) = V m c main_v3 (ix5 b h mp q d) := by
  unfold iblk
  rw [View.read_apply]
  show V m c main_v3 _ = V m c main_v3 _
  congr 1
  obtain ⟨h0, h1, h2, h3, h4⟩ := index1 t
  funext a
  apply Fin.ext
  match a with
  | ⟨0, _⟩ => show win0_1.index t 0 * 1 + 1 * 0 = b.val; omega
  | ⟨1, _⟩ => show win0_1.index t 1 * 1 + 1 * 0 = h.val; omega
  | ⟨2, _⟩ => show win0_1.index t 2 * 2 + 1 * mp.val = mp.val; omega
  | ⟨3, _⟩ => show win0_1.index t 3 * 512 + 1 * r.val = q.val; omega
  | ⟨4, _⟩ => show win0_1.index t 4 * 64 + 1 * d.val = d.val; omega

theorem iblk_k (c : Dev nD) (t : Fin cfg0.N) (ht : t.val % 16 ≤ t.val / 16 % 16) (mp : Fin 2) (r : Fin 512) (d : Fin 64) (b : Fin 2) (h : Fin 4) (q : Fin 8192)
    (hb : b.val = t.val / 1024 % 2) (hh : h.val = t.val / 256 % 4) (hq : q.val = t.val % 16 * 512 + r.val) :
    (iblk m c 2 t : Vec F S1x1x2x512x64 .bf16) (ix5 0 0 mp r d) = V m c main_v5 (ix5 b h mp q d) := by
  unfold iblk
  rw [View.read_apply]
  show V m c main_v5 _ = V m c main_v5 _
  congr 1
  obtain ⟨h0, h1, h2, h3, h4⟩ := index2 t ht
  funext a
  apply Fin.ext
  match a with
  | ⟨0, _⟩ => show win0_2.index t 0 * 1 + 1 * 0 = b.val; omega
  | ⟨1, _⟩ => show win0_2.index t 1 * 1 + 1 * 0 = h.val; omega
  | ⟨2, _⟩ => show win0_2.index t 2 * 2 + 1 * mp.val = mp.val; omega
  | ⟨3, _⟩ => show win0_2.index t 3 * 512 + 1 * r.val = q.val; omega
  | ⟨4, _⟩ => show win0_2.index t 4 * 64 + 1 * d.val = d.val; omega

theorem iblk_v (c : Dev nD) (t : Fin cfg0.N) (ht : t.val % 16 ≤ t.val / 16 % 16) (r : Fin 512) (e : Fin 128) (b : Fin 2) (q : Fin 8192) (w : Fin 512)
    (hb : b.val = t.val / 1024 % 2) (hq : q.val = t.val % 16 * 512 + r.val) (hw : w.val = t.val / 256 % 4 * 128 + e.val) :
    (iblk m c 3 t : Vec F S1x512x128 .bf16) (ix3 0 r e) = V m c main_v7 (ix3 b q w) := by
  unfold iblk
  rw [View.read_apply]
  show V m c main_v7 _ = V m c main_v7 _
  congr 1
  obtain ⟨h0, h1, h2⟩ := index3 t ht
  funext a
  apply Fin.ext
  match a with
  | ⟨0, _⟩ => show win0_3.index t 0 * 1 + 1 * 0 = b.val; omega
  | ⟨1, _⟩ => show win0_3.index t 1 * 512 + 1 * r.val = q.val; omega
  | ⟨2, _⟩ => show win0_3.index t 2 * 128 + 1 * e.val = w.val; omega

theorem iblk_lam (c : Dev nD) (t : Fin cfg0.N) : (iblk m c 0 t : Vec F S1 .f32) ixLam = (m ((c : Thread nD τ).loc main_arg3) : FVec F S1 .f32) (ix1 0) := by
  unfold iblk
  rw [View.read_apply]
  show V m c main_arg3 _ = _
  rw [V_main_arg3]
  congr 1
  funext a
  apply Fin.ext
  match a with
  | ⟨0, _⟩ => rfl

/-! ## The result array -/

/-- The result array: row `q` of head `h` from row-block `(b, h, q / 512)`'s output block. -/
def outArr (c : Dev nD) : FVec F S2x8192x512 .f32 := fun i =>
  rowOut m c ((((i 0).val * 4 + (i 2).val / 128) * 16 + (i 1).val / 512))
    (ix3 0 ⟨(i 1).val % 512, Nat.mod_lt _ (by decide)⟩ ⟨(i 2).val % 128, Nat.mod_lt _ (by decide)⟩)

/-- What is written back at the last point of a row of points is the row's block of the result array. -/
theorem flushed_eq (c : Dev nD) (t : Fin cfg0.N) (hf : (cfg0.win 4).flush t = true) :
    (dats m 0 c).flushed 4 t = ((cfg0.win 4).blk t).view.read (Elt F) (outArr m c) := by
  have hN : t.val < 2048 := Nat.lt_of_lt_of_eq t.isLt N_0
  show (cfg0.win 4).cut (grid0.coords t) ((dats m 0 c).after 4 t) = _
  rw [after0_4]
  funext j
  rw [View.read_apply]
  obtain ⟨h0, h1, h2⟩ := index4 t
  have j0 : (j 0).val < 1 := (j 0).isLt
  have j1 : (j 1).val < 512 := (j 1).isLt
  have j2 : (j 2).val < 128 := (j 2).isLt
  have e0 : (((cfg0.win 4).blk t).view.emb j 0).val = win0_4.index t 0 * 1 + 1 * (j 0).val := rfl
  have e1 : (((cfg0.win 4).blk t).view.emb j 1).val = win0_4.index t 1 * 512 + 1 * (j 1).val := rfl
  have e2 : (((cfg0.win 4).blk t).view.emb j 2).val = win0_4.index t 2 * 128 + 1 * (j 2).val := rfl
  show rowOut m c (t.val / 16) _ = rowOut m c _ _
  congr 1
  · rw [e0, e1, e2]; omega
  · funext a
    apply Fin.ext
    match a with
    | ⟨0, _⟩ => show (j 0).val = 0; omega
    | ⟨1, _⟩ => show (j 1).val = (((cfg0.win 4).blk t).view.emb j 1).val % 512; rw [e1]; omega
    | ⟨2, _⟩ => show (j 2).val = (((cfg0.win 4).blk t).view.emb j 2).val % 128; rw [e2]; omega

/-- So the output array ends at the result array. -/
theorem final_o (c : Dev nD) : (dats m 0 c).arrAt 4 cfg0.N = outArr m c :=
  (dats m 0 c).arrAt_eq_of_cover 4 (outArr m c) (flushed_eq m c) fun i => by
    have i0 : (i 0 : Nat) < 2 := (i 0).isLt
    have i1 : (i 1 : Nat) < 8192 := (i 1).isLt
    have i2 : (i 2 : Nat) < 512 := (i 2).isLt
    have hN : ((((i 0).val * 4 + (i 2).val / 128) * 16 + (i 1).val / 512)) * 16 + 15 < cfg0.N := by
      rw [show cfg0.N = 2048 from N_0]; omega
    refine ⟨⟨_, hN⟩, (flush0_4 _).mpr (by show (_ * 16 + 15) % 16 = 15; omega), ?_⟩
    obtain ⟨h0, h1, h2⟩ := index4 ⟨_, hN⟩
    show i ∈ ((View.whole main_v8).slice (win0_4.rect ⟨_, hN⟩)).set
    rw [View.set_slice_whole, Rect.mem_set_unit]
    intro a
    match a with
    | ⟨0, _⟩ => show win0_4.index ⟨_, hN⟩ 0 * 1 ≤ (i 0 : Nat) ∧ (i 0 : Nat) < win0_4.index ⟨_, hN⟩ 0 * 1 + 1
                rw [h0]; dsimp only; omega
    | ⟨1, _⟩ => show win0_4.index ⟨_, hN⟩ 1 * 512 ≤ (i 1 : Nat) ∧ (i 1 : Nat) < win0_4.index ⟨_, hN⟩ 1 * 512 + 512
                rw [h1]; dsimp only; omega
    | ⟨2, _⟩ => show win0_4.index ⟨_, hN⟩ 2 * 128 ≤ (i 2 : Nat) ∧ (i 2 : Nat) < win0_4.index ⟨_, hN⟩ 2 * 128 + 128
                rw [h2]; dsimp only; omega

/-- The run, read: the result at the result array, the arguments unchanged. -/
theorem run (ρ : Dev nD → PrngReg) : θ_run defs (onTc (τ := τ) (main (F := F))) ⟨m, fun _ => 0, ρ⟩ fun r => ∀ c : Dev nD,
      r.2.mem ((c.tc : Thread nD τ).loc main_v8) = outArr m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  by
  have hv : θ_run defs (onTc (τ := τ) (main (F := F))) ⟨m, fun _ => 0, ρ⟩ fun r => ∀ c : Dev nD,
      r.2.mem ((c.tc : Thread nD τ).loc main_v8) = outArr m c :=
    (θ_run defs _ _).mono (fun _ h c => ((h.1 c).1 4).trans (final_o m c)) (run_main m ρ)
  exact (θ_run defs _ _).mono (fun _ h c => ⟨h.1 c, h.2.1 c⟩) (θ_run_and hv (frame m ρ))

end Cert.KernelIdeal.Diff

end
-- ==== Proof.Attn.lean ====
/-
  The real number both programs compute: for a batch, a query, a head and a column, the first map's causal softmax
  average of the values less lambda times the second map's.
-/
module

public import proofs.«01_k».proof.Proof.Soft

@[expose] public section

noncomputable section

namespace Cert.Soft

open Idealize.ShloMosaic
open scoped BigOperators

/-- The queries' and keys' shape: batch, position, head, map, feature; -/
abbrev SQ : Shape := ⟨5, ![2, 8192, 4, 2, 64]⟩
/-- the values': batch, position, head, column; -/
abbrev SV : Shape := ⟨4, ![2, 8192, 4, 128]⟩
/-- lambda's. -/
abbrev SL : Shape := ⟨1, ![1]⟩

/-- Every element of an array is a real number. -/
def Real {S : Shape} (X : FVec Ideal S .f32) : Prop := ∀ i, ∃ x : ℝ, X i = (x : EReal)

theorem Real.coe {S : Shape} {X : FVec Ideal S .f32} (h : Real X) (i : S.Idx) : X i = ((EReal.toReal (X i) : ℝ) : EReal) := by
  obtain ⟨x, hx⟩ := h i
  rw [hx, EReal.toReal_coe]

/-- A position given as a number. -/
def pos (k : ℕ) : Fin 8192 := ⟨k % 8192, Nat.mod_lt _ (by decide)⟩

/-- Query `q`'s score against key `k`: their inner product over eight. -/
def qk (Q K : FVec Ideal SQ .f32) (b : Fin 2) (h : Fin 4) (mp : Fin 2) (q : Fin 8192) (k : ℕ) : ℝ :=
  ∑ d : Fin 64, EReal.toReal (Q (ix5 b q h mp d)) * (1 / 8) * EReal.toReal (K (ix5 b (pos k) h mp d))

/-- Key `k`'s value in a column. -/
def vl (V : FVec Ideal SV .f32) (b : Fin 2) (h : Fin 4) (e : Fin 128) (k : ℕ) : ℝ := EReal.toReal (V (ix4 b (pos k) h e))

/-- The differential attention: over the keys up to the query, the first map's average less lambda times the second's. -/
def attn (Q K : FVec Ideal SQ .f32) (V : FVec Ideal SV .f32) (L : FVec Ideal SL .f32) (b : Fin 2) (q : Fin 8192) (h : Fin 4) (e : Fin 128) : ℝ :=
  avg (qk Q K b h 0 q) (vl V b h e) (q.val + 1) - EReal.toReal (L (ix1 0)) * avg (qk Q K b h 1 q) (vl V b h e) (q.val + 1)

end Cert.Soft

end
-- ==== Proof.Value.lean ====
/-
  What the kernel's result array holds, for real arguments: at every batch, query, head and column the differential
  attention. A row of query blocks' state is followed from key block to key block.
-/
module

public import proofs.«01_k».proof.Proof.Blocks
public import proofs.«01_k».proof.Proof.Attn

@[expose] public section

set_option maxRecDepth 16384

noncomputable section

namespace Cert.KernelIdeal.Diff

open Cert.KernelIdeal Cert.KernelIdeal.Gen Cert.Soft
open Idealize.ShloMosaic Idealize.ShloMosaic.TcCoe
open scoped BigOperators

variable (m : (ℓ : Loc nD τ sig) → Buf (Elt Ideal) ℓ) (c : Dev nD)

/-- The arguments. -/
abbrev aQ : FVec Ideal SQ .f32 := m ((c : Thread nD τ).loc main_arg0)
abbrev aK : FVec Ideal SQ .f32 := m ((c : Thread nD τ).loc main_arg1)
abbrev aV : FVec Ideal SV .f32 := m ((c : Thread nD τ).loc main_arg2)
abbrev aL : FVec Ideal SL .f32 := m ((c : Thread nD τ).loc main_arg3)

/-- The staged arrays at an index: the query over eight, -/
theorem arr_q (b : Fin 2) (h : Fin 4) (mp : Fin 2) (q : Fin 8192) (d : Fin 64) :
    (V m c main_v3 : FVec Ideal S2x4x2x8192x64 .bf16) (ix5 b h mp q d) = aQ m c (ix5 b q h mp d) * ((1 / 8 : ℝ) : EReal) := by
  rw [V_q]
  pointwise
  rw [word_eighth]
/-- the key, -/
theorem arr_k (b : Fin 2) (h : Fin 4) (mp : Fin 2) (q : Fin 8192) (d : Fin 64) :
    (V m c main_v5 : FVec Ideal S2x4x2x8192x64 .bf16) (ix5 b h mp q d) = aK m c (ix5 b q h mp d) := by
  rw [V_k]
  pointwise
/-- the value. -/
theorem arr_v (b : Fin 2) (q : Fin 8192) (w : Fin 512) (h : Fin 4) (e : Fin 128) (hw : w.val = h.val * 128 + e.val) :
    (V m c main_v7 : FVec Ideal S2x8192x512 .bf16) (ix3 b q w) = aV m c (ix4 b q h e) := by
  rw [V_v]
  pointwise
  congr 1
  have he := e.isLt
  congr 1
  · apply Fin.ext; show w.val / 128 = h.val; omega
  · apply Fin.ext; show w.val % 128 = e.val; omega

theorem ld_q0 (x : Vec Ideal S1x1x2x512x64 .bf16) (r : Fin 512) (d : Fin 64) :
    (View.ld x RQ0 : Vec Ideal S1x1x1x512x64 .bf16) (ix5 0 0 0 r d) = x (ix5 0 0 0 r d) := by pointwise
theorem ld_q1 (x : Vec Ideal S1x1x2x512x64 .bf16) (r : Fin 512) (d : Fin 64) :
    (View.ld x RQ1 : Vec Ideal S1x1x1x512x64 .bf16) (ix5 0 0 0 r d) = x (ix5 0 0 1 r d) := by pointwise

variable {m c}
variable (hQ : Real (aQ m c)) (hK : Real (aK m c)) (hV : Real (aV m c))
variable (t : Fin cfg0.N) (ht : t.val % 16 ≤ t.val / 16 % 16) (b : Fin 2) (h : Fin 4) (q : Fin 8192) (r : Fin 512) (e : Fin 128)
variable (hb : b.val = t.val / 1024 % 2) (hh : h.val = t.val / 256 % 4) (hq : q.val = t.val / 16 % 16 * 512 + r.val)

include hQ hK ht hb hh hq in
/-- A product of the staged query and key features. -/
theorem prod_at {X Y : Vec Ideal S1x1x2x512x64 .bf16} (hX : X = iblk m c 1 t) (hY : Y = iblk m c 2 t) (mp : Fin 2) (col : Fin 512) (d : Fin 64) :
    X (ix5 0 0 mp r d) * Y (ix5 0 0 mp col d)
      = ((EReal.toReal (aQ m c (ix5 b q h mp d)) * (1 / 8) * EReal.toReal (aK m c (ix5 b (pos (t.val % 16 * 512 + col.val)) h mp d)) : ℝ) : EReal) := by
  have hc := col.isLt
  rw [hX, hY, iblk_q m c t mp r d b h q hb hh hq, iblk_k m c t ht mp col d b h (pos (t.val % 16 * 512 + col.val)) hb hh
    (by show (t.val % 16 * 512 + col.val) % 8192 = _; omega), arr_q, arr_k, EReal.coe_mul, EReal.coe_mul, ← hQ.coe, ← hK.coe]

include hQ hK ht hb hh hq in
/-- The scores of the two maps. -/
theorem score0 (col : Fin 512) : score (View.ld (iblk m c 1 t : Vec Ideal S1x1x2x512x64 .bf16) RQ0) (View.ld (iblk m c 2 t : Vec Ideal S1x1x2x512x64 .bf16) RQ0) r col
    = ((qk (aQ m c) (aK m c) b h 0 q (t.val % 16 * 512 + col.val) : ℝ) : EReal) := by
  unfold score qk
  rw [coe_sum]
  refine Finset.sum_congr rfl fun d _ => ?_
  rw [ld_q0, ld_q0]
  exact prod_at hQ hK t ht b h q r hb hh hq rfl rfl 0 col d
include hQ hK ht hb hh hq in
theorem score1 (col : Fin 512) : score (View.ld (iblk m c 1 t : Vec Ideal S1x1x2x512x64 .bf16) RQ1) (View.ld (iblk m c 2 t : Vec Ideal S1x1x2x512x64 .bf16) RQ1) r col
    = ((qk (aQ m c) (aK m c) b h 1 q (t.val % 16 * 512 + col.val) : ℝ) : EReal) := by
  unfold score qk
  rw [coe_sum]
  refine Finset.sum_congr rfl fun d _ => ?_
  rw [ld_q1, ld_q1]
  exact prod_at hQ hK t ht b h q r hb hh hq rfl rfl 1 col d

include hV ht hb hh in
/-- The staged values. -/
theorem value_at (col : Fin 512) : (iblk m c 3 t : Vec Ideal S1x512x128 .bf16) (ix3 0 col e)
    = ((vl (aV m c) b h e (t.val % 16 * 512 + col.val) : ℝ) : EReal) := by
  have hc := col.isLt
  have he := e.isLt
  have hh' := h.isLt
  rw [iblk_v m c t ht col e b (pos (t.val % 16 * 512 + col.val)) ⟨h.val * 128 + e.val, by omega⟩ hb
    (by show (t.val % 16 * 512 + col.val) % 8192 = _; omega) (by show h.val * 128 + e.val = _; omega), arr_v m c _ _ _ h e rfl, vl, ← hV.coe]

/-- A row of points' state after `n` keys: both maps' row `r`, column `e`. -/
def PS.After (s : PS Ideal) (Q K : FVec Ideal SQ .f32) (W : FVec Ideal SV .f32) (b : Fin 2) (h : Fin 4) (q : Fin 8192) (r : Fin 512) (e : Fin 128) (n : ℕ) : Prop :=
  s.s0.After r e (qk Q K b h 0 q) (vl W b h e) n ∧ s.s1.After r e (qk Q K b h 1 q) (vl W b h e) n

include hQ hK hV hb hh hq in
/-- A point before the diagonal meets its 512 keys, -/
theorem stepAt_before (hlt : t.val % 16 < t.val / 16 % 16) {s : PS Ideal} (H : s.After (aQ m c) (aK m c) (aV m c) b h q r e (t.val % 16 * 512)) :
    (stepAt m c t s).After (aQ m c) (aK m c) (aV m c) b h q r e (t.val % 16 * 512 + 512) := by
  rw [stepAt, if_pos (by omega)]
  exact ⟨stepU_after H.1 (score0 hQ hK t (by omega) b h q r hb hh hq) (value_at hV t (by omega) b h e hb hh),
    stepU_after H.2 (score1 hQ hK t (by omega) b h q r hb hh hq) (value_at hV t (by omega) b h e hb hh)⟩
include hQ hK hV hb hh hq in
/-- and the diagonal's point its keys up to the query. -/
theorem stepAt_diag (hd : t.val % 16 = t.val / 16 % 16) {s : PS Ideal} (H : s.After (aQ m c) (aK m c) (aV m c) b h q r e (t.val % 16 * 512)) :
    (stepAt m c t s).After (aQ m c) (aK m c) (aV m c) b h q r e (q.val + 1) := by
  rw [stepAt, if_neg (by omega), if_pos hd.symm, show q.val + 1 = t.val % 16 * 512 + (r.val + 1) by omega]
  exact ⟨stepM_after H.1 (score0 hQ hK t (by omega) b h q r hb hh hq) (value_at hV t (by omega) b h e hb hh),
    stepM_after H.2 (score1 hQ hK t (by omega) b h q r hb hh hq) (value_at hV t (by omega) b h e hb hh)⟩

variable (i : Fin 16) (hqi : q.val = i.val * 512 + r.val)

include hQ hK hV hqi in
/-- Before point `j` up to the diagonal a row of points has met the keys below `512 j`; -/
theorem st_after (j : ℕ) (hj : j ≤ i.val) :
    (st m c ((b.val * 4 + h.val) * 16 + i.val) j).After (aQ m c) (aK m c) (aV m c) b h q r e (j * 512) := by
  have hb := b.isLt
  have hh := h.isLt
  have hi := i.isLt
  induction j with
  | zero => rw [Nat.zero_mul]; exact ⟨init_after r e _ _, init_after r e _ _⟩
  | succ j ih =>
    have hN : ((b.val * 4 + h.val) * 16 + i.val) * 16 + j < cfg0.N := by rw [show cfg0.N = 2048 from N_0]; omega
    show (if h' : ((b.val * 4 + h.val) * 16 + i.val) * 16 + j < cfg0.N then stepAt m c ⟨_, h'⟩ (st m c _ j) else _).After _ _ _ b h q r e _
    rw [dif_pos hN]
    have e16 : (⟨_, hN⟩ : Fin cfg0.N).val % 16 = j := by show (((b.val * 4 + h.val) * 16 + i.val) * 16 + j) % 16 = j; omega
    have := stepAt_before hQ hK hV ⟨_, hN⟩ b h q r e (by dsimp only; omega) (by dsimp only; omega) (by dsimp only; omega) (by dsimp only; omega)
      (s := st m c ((b.val * 4 + h.val) * 16 + i.val) j) (by rw [e16]; exact ih (by omega))
    rw [e16] at this
    rw [show (j + 1) * 512 = j * 512 + 512 by omega]
    exact this

include hQ hK hV hqi in
/-- after it, the keys up to the query. -/
theorem st_last :
    (st m c ((b.val * 4 + h.val) * 16 + i.val) (i.val + 1)).After (aQ m c) (aK m c) (aV m c) b h q r e (q.val + 1) := by
  have hb := b.isLt
  have hh := h.isLt
  have hi := i.isLt
  have hN : ((b.val * 4 + h.val) * 16 + i.val) * 16 + i.val < cfg0.N := by rw [show cfg0.N = 2048 from N_0]; omega
  show (if h' : ((b.val * 4 + h.val) * 16 + i.val) * 16 + i.val < cfg0.N then stepAt m c ⟨_, h'⟩ (st m c _ i.val) else _).After _ _ _ b h q r e _
  rw [dif_pos hN]
  have key : ∀ t : Fin cfg0.N, t.val = ((b.val * 4 + h.val) * 16 + i.val) * 16 + i.val →
      (stepAt m c t (st m c ((b.val * 4 + h.val) * 16 + i.val) i.val)).After (aQ m c) (aK m c) (aV m c) b h q r e (q.val + 1) := fun t ht => by
    have e16 : t.val % 16 = i.val := by omega
    have e17 : t.val / 16 = (b.val * 4 + h.val) * 16 + i.val := by omega
    have e18 : t.val / 256 = b.val * 4 + h.val := by omega
    have e19 : t.val / 1024 = b.val := by omega
    exact stepAt_diag hQ hK hV t b h q r e (by omega) (by omega) (by omega) (by omega)
      (by rw [e16]; exact st_after hQ hK hV b h q r e i hqi i.val le_rfl)
  exact key ⟨_, hN⟩ rfl

variable (hL : Real (aL m c))

include hQ hK hV hqi hL in
/-- So a row of points' output block holds the differential attention. -/
theorem rowOut_at : rowOut m c ((b.val * 4 + h.val) * 16 + i.val) (ix3 0 r e)
    = ((attn (aQ m c) (aK m c) (aV m c) (aL m c) b q h e : ℝ) : EReal) := by
  have hi := i.isLt
  unfold rowOut
  rw [show ((b.val * 4 + h.val) * 16 + i.val) % 16 + 1 = i.val + 1 by omega]
  have H := st_last hQ hK hV b h q r e i hqi
  exact out_at _ _ r e (Nat.succ_pos q.val) ((iblk_lam m c _).trans (hL.coe _)) H.1 H.2

include hQ hK hV hL in
/-- The kernel's result at an index. -/
theorem outArr_at (w : Fin 512) (hw : w.val = h.val * 128 + e.val) : outArr m c (ix3 b q w)
    = ((attn (aQ m c) (aK m c) (aV m c) (aL m c) b q h e : ℝ) : EReal) := by
  have hq := q.isLt
  have he := e.isLt
  have h1 : (⟨q.val % 512, Nat.mod_lt _ (by decide)⟩ : Fin 512).val = q.val % 512 := rfl
  have := rowOut_at hQ hK hV b h q ⟨q.val % 512, Nat.mod_lt _ (by decide)⟩ e ⟨q.val / 512, by omega⟩ (by dsimp only; omega) hL
  rw [← this]
  show rowOut m c ((b.val * 4 + w.val / 128) * 16 + q.val / 512) (ix3 0 ⟨q.val % 512, _⟩ ⟨w.val % 128, _⟩) = _
  congr 2
  · congr 2; omega
  · apply Fin.ext; show w.val % 128 = e.val; omega

end Cert.KernelIdeal.Diff

end
-- ==== Proof.RefValue.lean ====
/-
  What the reference's result holds, for real arguments: at every batch, query, head and column the differential
  attention.
-/
module

public import proofs.«01_k».proof.Proof.Gen.ReferenceIdeal.Run
public import proofs.«01_k».proof.Proof.Attn
public import Idealize.ShloMosaic.Lib.Tactic.CleanTypes

@[expose] public section

set_option maxRecDepth 16384

noncomputable section

namespace Cert.ReferenceIdeal.Value

open Cert.ReferenceIdeal Cert.ReferenceIdeal.Gen Cert.Soft
open Idealize.ShloMosaic Idealize.ShloMosaic.TcCoe
open scoped BigOperators

/-- The key is not past the query, as the reference's mask word. -/
def upTo (q k : Fin 8192) : BitVec 1 := IntOp.cmpi .sle (BitVec.ofNat 32 k.val) (BitVec.ofNat 32 q.val)

theorem select_upTo (q k : Fin 8192) (a b : EReal) : (Scalar.select (upTo q k) a b : EReal) = if k.val ≤ q.val then a else b := by
  have hk := k.isLt
  have hq := q.isLt
  have e : upTo q k = 1#1 ↔ k.val ≤ q.val := by
    unfold upTo
    rw [IntOp.cmpi_sle, BitVec.toInt_eq_toNat_of_lt (by rw [BitVec.toNat_ofNat]; omega),
      BitVec.toInt_eq_toNat_of_lt (by rw [BitVec.toNat_ofNat]; omega), BitVec.toNat_ofNat, BitVec.toNat_ofNat,
      Nat.mod_eq_of_lt (by omega), Nat.mod_eq_of_lt (by omega), Int.ofNat_le]
  unfold Scalar.select
  by_cases h : k.val ≤ q.val
  · rw [if_pos h]; exact if_pos (e.mpr h)
  · rw [if_neg h]; exact if_neg fun h' => h (e.mp h')

section
variable (Q K : FVec Ideal SQ .f32) (b : Fin 2) (h : Fin 4) (mp : Fin 2) (q : Fin 8192)

/-- A masked score of the reference, -/
def scoreR (k : Fin 8192) : EReal :=
  Scalar.select (upTo q k) ((∑ d : Fin 64, Q (ix5 b q h mp d) * K (ix5 b k h mp d)) * Ideal.ofBits .f32 0x3E000000#32) (Ideal.ofBits .f32 0xFF800000#32)
/-- the row's maximum, -/
def topR : EReal := max (Ideal.ofBits .f32 0xFF800000#32) (Finset.fold max (Ideal.ofBits .f32 0xFF800000#32) (scoreR Q K b h mp q) Finset.univ)
/-- and its masked softmax weight. -/
def probR (k : Fin 8192) : EReal :=
  Scalar.select (upTo q k) (Ideal.div (Ideal.exp (scoreR Q K b h mp q k - topR Q K b h mp q))
    (∑ d, Ideal.exp (scoreR Q K b h mp q d - topR Q K b h mp q))) 0
end

variable (m : (ℓ : Loc nD τ sig) → Buf (Elt Ideal) ℓ) (c : Dev nD)

/-- The arguments and the result. -/
abbrev rQ : FVec Ideal SQ .f32 := m ((c : Thread nD τ).loc main_arg0)
abbrev rK : FVec Ideal SQ .f32 := m ((c : Thread nD τ).loc main_arg1)
abbrev rV : FVec Ideal SV .f32 := m ((c : Thread nD τ).loc main_arg2)
abbrev rL : FVec Ideal SL .f32 := m ((c : Thread nD τ).loc main_arg3)
abbrev res : FVec Ideal S2x8192x512 .f32 := res_out0 m c

/-! The reference's arrays, one after the other, -/

/-- the mask over all scores, -/
def maskA : IVec S2x4x2x8192x8192 1 :=
  broadcastInDim S2x4x2x8192x8192 ![3, 4] bcast_S8192x8192_S2x4x2x8192x8192_3_4 (cmpi .sle (broadcastInDim S8192x8192 ![0, 1] bcast_S1x8192_S8192x8192_0_1 (broadcastInDim S1x8192 ![1] bcast_S8192_S1x8192_1 (iotaInDim S8192 32 0))) (broadcastInDim S8192x8192 ![0, 1] bcast_S8192x1_S8192x8192_0_1 (broadcastInDim S8192x1 ![0] bcast_S8192_S8192x1_0 (iotaInDim S8192 32 0))))

/-- the masked scores, -/
def scoreA (M : IVec S2x4x2x8192x8192 1) (Q K : FVec Ideal SQ .f32) : FVec Ideal S2x4x2x8192x8192 .f32 :=
  select M (mulf (Host.dotGeneral dot_S2x8192x4x2x64_S2x8192x4x2x64_S2x4x2x8192x8192_4_4_1_1_023_023 none Q K) (broadcastInDim S2x4x2x8192x8192 ![] bcast_S_S2x4x2x8192x8192 (constant S_ .f32 0x3E000000#32))) (broadcastInDim S2x4x2x8192x8192 ![] bcast_S_S2x4x2x8192x8192 (id (constant S_ .f32 0xFF800000#32)))

/-- their rows' maxima, -/
def maxA (S : FVec Ideal S2x4x2x8192x8192 .f32) : FVec Ideal S2x4x2x8192 .f32 :=
  Host.reduce FloatOps.maximumf S (constant S_ .f32 0xFF800000#32) reducesTo_S2x4x2x8192x8192_S2x4x2x8192_d4 h_S_

/-- the exponentials of the scores less their row's maximum, -/
def expA (S : FVec Ideal S2x4x2x8192x8192 .f32) (T : FVec Ideal S2x4x2x8192 .f32) : FVec Ideal S2x4x2x8192x8192 .f32 :=
  Host.exp (subf S (broadcastInDim S2x4x2x8192x8192 ![0, 1, 2, 3, 4] bcast_S2x4x2x8192x1_S2x4x2x8192x8192_0_1_2_3_4 (broadcastInDim S2x4x2x8192x1 ![0, 1, 2, 3] bcast_S2x4x2x8192_S2x4x2x8192x1_0_1_2_3 (maximumf (broadcastInDim S2x4x2x8192 ![] bcast_S_S2x4x2x8192 (constant S_ .f32 0xFF800000#32)) T))))

/-- the masked weights, -/
def probA (M : IVec S2x4x2x8192x8192 1) (E : FVec Ideal S2x4x2x8192x8192 .f32) : FVec Ideal S2x4x2x8192x8192 .f32 :=
  select M (Host.divf E (broadcastInDim S2x4x2x8192x8192 ![0, 1, 2, 3, 4] bcast_S2x4x2x8192x1_S2x4x2x8192x8192_0_1_2_3_4 (broadcastInDim S2x4x2x8192x1 ![0, 1, 2, 3] bcast_S2x4x2x8192_S2x4x2x8192x1_0_1_2_3 (Host.reduceAdd E (constant S_ .f32 0x00000000#32) reducesTo_S2x4x2x8192x8192_S2x4x2x8192_d4 h_S_)))) (broadcastInDim S2x4x2x8192x8192 ![] bcast_S_S2x4x2x8192x8192 (id (constant S_ .f32 0x00000000#32)))

/-- the difference of the two maps' weights, -/
def diffA (P : FVec Ideal S2x4x2x8192x8192 .f32) (L : FVec Ideal SL .f32) : FVec Ideal S2x4x8192x8192 .f32 :=
  subf (shapeCast _ (extractStridedSlice S2x4x1x8192x8192 ![0, 0, 0, 0, 0] P slices_S2x4x2x8192x8192_S2x4x1x8192x8192_0_0_0_0_0) shapeCasts_S2x4x1x8192x8192_S2x4x8192x8192) (mulf (broadcastInDim S2x4x8192x8192 ![0, 1, 2, 3] bcast_S1x1x1x1_S2x4x8192x8192_0_1_2_3 (broadcastInDim S1x1x1x1 ![3] bcast_S1_S1x1x1x1_3 L)) (shapeCast _ (extractStridedSlice S2x4x1x8192x8192 ![0, 0, 1, 0, 0] P slices_S2x4x2x8192x8192_S2x4x1x8192x8192_0_0_1_0_0) shapeCasts_S2x4x1x8192x8192_S2x4x8192x8192))

/-- and the weighted values. -/
def outA (A : FVec Ideal S2x4x8192x8192 .f32) (W : FVec Ideal SV .f32) : FVec Ideal S2x8192x512 .f32 :=
  shapeCast _ (transpose S2x8192x4x128 [0, 3, 1, 2] (Host.dotGeneral dot_S2x8192x4x128_S2x4x8192x8192_S2x4x128x8192_1_3_3_2_02_01 none W A) transposes_S2x4x128x8192_S2x8192x4x128_0_3_1_2) shapeCasts_S2x8192x4x128_S2x8192x512

/-- The result is the last of these arrays. -/
theorem res_eq : res m c = outA (diffA (probA maskA (expA (scoreA maskA (rQ m c) (rK m c)) (maxA (scoreA maskA (rQ m c) (rK m c))))) (rL m c)) (rV m c) := by
  unfold res res_out0 res_main_v32 outA diffA probA expA maxA scoreA maskA
  rfl

section
variable (b : Fin 2) (h : Fin 4) (mp : Fin 2) (q k : Fin 8192)

theorem maskA_at : maskA (ix5 b h mp q k) = upTo q k := by
  unfold maskA upTo; pointwise

theorem scoreA_at (M : IVec S2x4x2x8192x8192 1) (Q K : FVec Ideal SQ .f32) : scoreA M Q K (ix5 b h mp q k)
    = Scalar.select (M (ix5 b h mp q k)) ((∑ d : Fin 64, Q (ix5 b q h mp d) * K (ix5 b k h mp d)) * Ideal.ofBits .f32 0x3E000000#32) (Ideal.ofBits .f32 0xFF800000#32) := by
  unfold scoreA id; pointwise

omit b h mp q k in
/-- A maximum along the last of five axes, the sizes left general. -/
theorem rowMax {n0 n1 n2 n3 n4 : Nat} (x : FVec Ideal ⟨5, ![n0, n1, n2, n3, n4]⟩ .f32) (init : FVec Ideal ⟨0, ![]⟩ .f32)
    (hr : Shape.ReducesTo ⟨5, ![n0, n1, n2, n3, n4]⟩ [4] ⟨4, ![n0, n1, n2, n3]⟩) (hu : 0 < Shape.numel ⟨0, ![]⟩)
    (i0 : Fin n0) (i1 : Fin n1) (i2 : Fin n2) (i3 : Fin n3) (z : EReal) (hz : init (Shape.Idx.first hu) = z) :
    Host.reduce FloatOps.maximumf x init hr hu (ix4 i0 i1 i2 i3)
      = Finset.fold max z (fun d => x (ix5 i0 i1 i2 i3 d)) Finset.univ := by
  subst hz
  rw [Host.reduce_eq_fold]
  exact hr.fold_fiber_r5_a4 _ _ _ _

theorem maxA_at (S : FVec Ideal S2x4x2x8192x8192 .f32) : maxA S (ix4 b h mp q)
    = Finset.fold max (Ideal.ofBits .f32 0xFF800000#32) (fun d => S (ix5 b h mp q d)) Finset.univ :=
  rowMax S _ _ _ b h mp q _ rfl

theorem expA_at (S : FVec Ideal S2x4x2x8192x8192 .f32) (T : FVec Ideal S2x4x2x8192 .f32) : expA S T (ix5 b h mp q k)
    = Ideal.exp (S (ix5 b h mp q k) - max (Ideal.ofBits .f32 0xFF800000#32) (T (ix4 b h mp q))) := by
  unfold expA; pointwise

theorem probA_at (M : IVec S2x4x2x8192x8192 1) (E : FVec Ideal S2x4x2x8192x8192 .f32) : probA M E (ix5 b h mp q k)
    = Scalar.select (M (ix5 b h mp q k)) (Ideal.div (E (ix5 b h mp q k)) (∑ d, E (ix5 b h mp q d))) 0 := by
  unfold probA id; pointwise

theorem diffA_at (P : FVec Ideal S2x4x2x8192x8192 .f32) (L : FVec Ideal SL .f32) : diffA P L (ix4 b h q k)
    = P (ix5 b h 0 q k) - L (ix1 0) * P (ix5 b h 1 q k) := by
  unfold diffA; pointwise

theorem outA_at (A : FVec Ideal S2x4x8192x8192 .f32) (W : FVec Ideal SV .f32) (w : Fin 512) (e : Fin 128)
    (hh : ⟨w.val / 128, by omega⟩ = h) (he : ⟨w.val % 128, Nat.mod_lt _ (by decide)⟩ = e) :
    outA A W (ix3 b q w) = ∑ k : Fin 8192, W (ix4 b k h e) * A (ix4 b h q k) := by
  subst hh he
  unfold outA; pointwise
end

/-- The reference's result read at an index. -/
theorem res_at (b : Fin 2) (q : Fin 8192) (w : Fin 512) (h : Fin 4) (e : Fin 128) (hh : ⟨w.val / 128, by omega⟩ = h) (he : ⟨w.val % 128, Nat.mod_lt _ (by decide)⟩ = e) :
    res m c (ix3 b q w) = ∑ k : Fin 8192, rV m c (ix4 b k h e)
      * (probR (rQ m c) (rK m c) b h 0 q k - rL m c (ix1 0) * probR (rQ m c) (rK m c) b h 1 q k) := by
  rw [res_eq, outA_at b h q _ _ w e hh he]
  refine Finset.sum_congr rfl fun k _ => ?_
  rw [diffA_at, probA_at, probA_at]
  simp only [expA_at, maxA_at, scoreA_at, maskA_at]
  unfold probR topR scoreR
  rfl

/-- A masked score is the real score up to the query and minus infinity past it. -/
theorem scoreR_eq {Q K : FVec Ideal SQ .f32} (hQ : Soft.Real Q) (hK : Soft.Real K) (b : Fin 2) (h : Fin 4) (mp : Fin 2) (q k : Fin 8192) :
    scoreR Q K b h mp q k = if k.val ≤ q.val then ((qk Q K b h mp q k.val : ℝ) : EReal) else ⊥ := by
  have hp : pos k.val = k := Fin.ext (Nat.mod_eq_of_lt k.isLt)
  unfold scoreR
  rw [select_upTo, show Ideal.ofBits .f32 0xFF800000#32 = (⊥ : EReal) from by simp [Ideal.ofBits, Ideal.ieee],
    show Ideal.ofBits .f32 0x3E000000#32 = ((1 / 8 : ℝ) : EReal) from by simp [Ideal.ofBits, Ideal.ieee, -EReal.coe_mul]; norm_num]
  congr 1
  unfold qk
  rw [hp, Finset.sum_congr rfl fun d _ => show Q (ix5 b q h mp d) * K (ix5 b k h mp d)
      = ((EReal.toReal (Q (ix5 b q h mp d)) * EReal.toReal (K (ix5 b k h mp d)) : ℝ) : EReal) from by
    rw [EReal.coe_mul, ← hQ.coe, ← hK.coe], ← coe_sum, ← EReal.coe_mul, Finset.sum_mul]
  exact congrArg _ (Finset.sum_congr rfl fun d _ => by ring)

/-- A masked softmax weight is the real weight. -/
theorem probR_eq {Q K : FVec Ideal SQ .f32} (hQ : Soft.Real Q) (hK : Soft.Real K) (b : Fin 2) (h : Fin 4) (mp : Fin 2) (q k : Fin 8192) :
    probR Q K b h mp q k = ((if k.val ≤ q.val then _root_.Real.exp (qk Q K b h mp q k.val)
      / ∑ j ∈ Finset.range (q.val + 1), _root_.Real.exp (qk Q K b h mp q j) else 0 : ℝ) : EReal) := by
  unfold probR
  rw [select_upTo, show topR Q K b h mp q = Finset.fold max ⊥ (scoreR Q K b h mp q) Finset.univ from by
    unfold topR
    rw [show Ideal.ofBits .f32 0xFF800000#32 = (⊥ : EReal) from by simp [Ideal.ofBits, Ideal.ieee], max_eq_right bot_le]]
  exact softmax_row (qk Q K b h mp q) q.val q.isLt (scoreR Q K b h mp q) (scoreR_eq hQ hK b h mp q) k

variable {m c}

/-- The reference's result at an index. -/
theorem res_attn (hQ : Soft.Real (rQ m c)) (hK : Soft.Real (rK m c)) (hV : Soft.Real (rV m c)) (hL : Soft.Real (rL m c))
    (b : Fin 2) (q : Fin 8192) (w : Fin 512) (h : Fin 4) (e : Fin 128) (hw : w.val = h.val * 128 + e.val) :
    res m c (ix3 b q w) = ((attn (rQ m c) (rK m c) (rV m c) (rL m c) b q h e : ℝ) : EReal) := by
  have he := e.isLt
  rw [res_at m c b q w h e (Fin.ext (by show w.val / 128 = h.val; omega)) (Fin.ext (by show w.val % 128 = e.val; omega))]
  have hp : ∀ k : Fin 8192, pos k.val = k := fun k => Fin.ext (Nat.mod_eq_of_lt k.isLt)
  rw [Finset.sum_congr rfl fun k _ => show rV m c (ix4 b k h e)
        * (probR (rQ m c) (rK m c) b h 0 q k - rL m c (ix1 0) * probR (rQ m c) (rK m c) b h 1 q k)
      = ((if k.val < q.val + 1 then
            vl (rV m c) b h e k.val * (_root_.Real.exp (qk (rQ m c) (rK m c) b h 0 q k.val) / (∑ j ∈ Finset.range (q.val + 1), _root_.Real.exp (qk (rQ m c) (rK m c) b h 0 q j))
              - EReal.toReal (rL m c (ix1 0)) * (_root_.Real.exp (qk (rQ m c) (rK m c) b h 1 q k.val) / (∑ j ∈ Finset.range (q.val + 1), _root_.Real.exp (qk (rQ m c) (rK m c) b h 1 q j))))
          else 0 : ℝ) : EReal) from by
    rw [probR_eq hQ hK, probR_eq hQ hK, hL.coe (ix1 0), hV.coe (ix4 b k h e), ← EReal.coe_mul, ← EReal.coe_sub, ← EReal.coe_mul, EReal.toReal_coe]
    unfold vl
    rw [hp]
    by_cases hk : k.val ≤ q.val
    · rw [if_pos hk, if_pos hk, if_pos (by omega)]
    · rw [if_neg hk, if_neg hk, if_neg (by omega), mul_zero, sub_zero, mul_zero], ← coe_sum,
    sum_masked 8192 (q.val + 1) q.isLt fun k => vl (rV m c) b h e k * (_root_.Real.exp (qk (rQ m c) (rK m c) b h 0 q k) / (∑ j ∈ Finset.range (q.val + 1), _root_.Real.exp (qk (rQ m c) (rK m c) b h 0 q j))
              - EReal.toReal (rL m c (ix1 0)) * (_root_.Real.exp (qk (rQ m c) (rK m c) b h 1 q k) / (∑ j ∈ Finset.range (q.val + 1), _root_.Real.exp (qk (rQ m c) (rK m c) b h 1 q j))))]
  refine congrArg _ ?_
  unfold attn avg
  rw [Finset.sum_div, Finset.sum_div, Finset.mul_sum, ← Finset.sum_sub_distrib]
  exact Finset.sum_congr rfl fun k _ => by ring

end Cert.ReferenceIdeal.Value

end
-- ==== Proof.Pre.lean ====
/-
  What the precondition says at the extended reals: every element of every argument is a real number.
-/
module

public import proofs.«01_k».proof.Proof.Gen.Pre_finite
public import proofs.«01_k».proof.Proof.Attn
public import Idealize.ShloMosaic.Lib.ReduceAll
public import Idealize.ShloMosaic.PureOps.Ideal.Laws

@[expose] public section

namespace Cert.Pre_finite.Real

open Cert.Pre_finite Cert.Pre_finite.Gen Cert.Soft
open Idealize.ShloMosaic

/-- The scalar shape has one index. -/
theorem ix_subsingleton : Subsingleton S_.Idx := ⟨fun i j => funext fun a => a.elim0⟩

/-- An extended real whose absolute value is below infinity is a real number. -/
theorem real_of_lt (x : EReal) (h : Ideal.cmp .olt (max x (-x)) (Ideal.ofBits .f32 0x7F800000#32) = 1#1) : ∃ r : ℝ, x = (r : EReal) := by
  rw [show Ideal.ofBits .f32 0x7F800000#32 = (⊤ : EReal) from by simp [Ideal.ofBits, Ideal.ieee]] at h
  induction x with
  | bot => simp [Ideal.cmp] at h
  | top => simp [Ideal.cmp] at h
  | coe r => exact ⟨r, rfl⟩

/-- The precondition's test of one array, passed, says that its elements are real. -/
theorem real_of_all {S : Shape} {axes : List (Fin S.rank)} (X : FVec Ideal S .f32) (hb : S_.BroadcastsInDim S (![] : Fin 0 → Fin S.rank))
    (hr : S.ReducesTo axes S_) (hu : 0 < S_.numel)
    (h : Host.reduce IntOp.andi (cmpf .olt (Host.absf X) (broadcastInDim S ![] hb (constant S_ .f32 0x7F800000#32))) (constantI S_ 1 1#1) hr hu ix0 = 1#1) :
    Soft.Real X := fun i => by
  haveI := ix_subsingleton
  exact real_of_lt (X i) (Host.reduce_andi_all _ _ hr hu ix0 h i)

/-- The precondition says that all four arguments are real. -/
theorem real_args (Q K : FVec Ideal SQ .f32) (V : FVec Ideal SV .f32) (L : FVec Ideal SL .f32)
    (h : Cert.Pre_finite.fn (F := Ideal) Q K V L = fun _ => 1#1) : Soft.Real Q ∧ Soft.Real K ∧ Soft.Real V ∧ Soft.Real L := by
  have h0 := congrFun h ix0
  dsimp only [fn, fn_part1] at h0
  obtain ⟨h1, hL⟩ := IntOp.andi_eq_one.1 h0
  obtain ⟨h2, hV⟩ := IntOp.andi_eq_one.1 h1
  obtain ⟨hQ, hK⟩ := IntOp.andi_eq_one.1 h2
  exact ⟨real_of_all _ _ _ _ hQ, real_of_all _ _ _ _ hK, real_of_all _ _ _ _ hV, real_of_all _ _ _ _ hL⟩

end Cert.Pre_finite.Real

end
-- ==== Proof.HidRun.lean ====
module

public import proofs.«01_k».proof.Proof.Gen.HiddenIdeal.Value
public import Idealize.ShloMosaic.Lib.Pointwise

@[expose] public section

set_option maxRecDepth 16384

noncomputable section

namespace Cert.HiddenIdeal.Hid

open Cert.HiddenIdeal Cert.HiddenIdeal.Gen
open Idealize.ShloMosaic Idealize.ShloMosaic.TcCoe Idealize.SL.Sem

variable {F : FTy → Type} [FloatOps F]

/-- The transposed pages, page after page: row `128 p + q` holds the features of position `q` of page `p`. -/
def pages (x0 : Vec F S32x128x128 .f32) : Vec F S4096x128 .f32 := fun y =>
  x0 (ix3 ⟨(y 0).val / 128, by have := (y 0).isLt; show _ < 32; change _ < 4096 at this; omega⟩ ⟨(y 1).val, (y 1).isLt⟩ ⟨(y 0).val % 128, Nat.mod_lt _ (by decide)⟩)

/-- One page transposed. -/
def turned (v : Vec F S1x128x128 .f32) : Vec F S128x128 .f32 :=
  shapeCast S128x128 (transpose S128x128 [1, 0] (shapeCast S128x128 v shapeCasts_S1x128x128_S128x128) transposes_S128x128_p1_0_S128x128) shapeCasts_S128x128_S128x128

theorem turned_at (v : Vec F S1x128x128 .f32) (q k : Fin 128) : turned v (ix2 q k) = v (ix3 0 k q) := by
  unfold turned
  pointwise

variable (c : Dev nD) (arg1 : Memref sig .tc .vmem S32x128x128 .f32) (harg1 : arg1.IsWhole) (arg2 : Memref sig .tc .vmem S16x128x512 .bf16) (harg2 : arg2.IsWhole) (arg3 : Memref sig .tc .vmem S256x512 .f32) (harg3 : arg3.IsWhole) (arg4 : Memref sig .tc .vmem S4096x128 .f32) (harg4 : arg4.IsWhole)
  (x0 : Vec F S32x128x128 .f32) (x1 : Vec F S16x128x512 .bf16)

/-- The piece stored for page `p` is its part of the transposed pages. -/
theorem page_at (p o : Nat) (ho : o = p * 128) (inb : ∀ a, (![p, 0, 0] : Fin 3 → Nat) a + S1x128x128.size a ≤ S32x128x128.size a)
    (inb' : ∀ a, (![o, 0] : Fin 2 → Nat) a + S128x128.size a ≤ S4096x128.size a) (x : S128x128.Idx) :
    turned (View.readAt (Elt F) arg1.view (Rect.unit (s := S32x128x128) ![p, 0, 0] S1x128x128.size inb).toLoadRect (harg1.unread x0)) x
      = pages x0 ((Rect.unit (s := S4096x128) ![o, 0] S128x128.size inb').emb x) := by
  subst ho
  obtain ⟨q, k, rfl⟩ : ∃ q k : Fin 128, x = ix2 q k := ⟨x 0, x 1, by funext a; match a with | ⟨0, _⟩ => rfl | ⟨1, _⟩ => rfl⟩
  have hq := q.isLt
  rw [turned_at, View.readAt_eq_ld, Memref.IsWhole.read_unread]
  show x0 _ = x0 _
  congr 1
  funext a
  apply Fin.ext
  match a with
  | ⟨0, _⟩ => show p + 1 * 0 = (p * 128 + 1 * q.val) / 128; omega
  | ⟨1, _⟩ => show 0 + 1 * k.val = 0 + 1 * k.val; rfl
  | ⟨2, _⟩ => show 0 + 1 * q.val = (p * 128 + 1 * q.val) % 128; omega

/-- The scratch's pieces agree with the transposed pages, -/
theorem pieces_agree : ∀ p ∈ kernelRun0_A.sl.HS0_32 c arg1 harg1 x0, ∀ x : p.1.shape.Idx, p.2 x = pages x0 (p.1.emb x) := by
  unfold kernelRun0_A.sl.HS0_32
  refine List.forall_mem_cons.mpr ⟨page_at arg1 harg1 x0 31 3968 rfl inb_S32x128x128_S1x128x128_31_0_0 inb_S4096x128_S128x128_3968_0, ?_⟩
  refine List.forall_mem_cons.mpr ⟨page_at arg1 harg1 x0 30 3840 rfl inb_S32x128x128_S1x128x128_30_0_0 inb_S4096x128_S128x128_3840_0, ?_⟩
  refine List.forall_mem_cons.mpr ⟨page_at arg1 harg1 x0 29 3712 rfl inb_S32x128x128_S1x128x128_29_0_0 inb_S4096x128_S128x128_3712_0, ?_⟩
  refine List.forall_mem_cons.mpr ⟨page_at arg1 harg1 x0 28 3584 rfl inb_S32x128x128_S1x128x128_28_0_0 inb_S4096x128_S128x128_3584_0, ?_⟩
  refine List.forall_mem_cons.mpr ⟨page_at arg1 harg1 x0 27 3456 rfl inb_S32x128x128_S1x128x128_27_0_0 inb_S4096x128_S128x128_3456_0, ?_⟩
  refine List.forall_mem_cons.mpr ⟨page_at arg1 harg1 x0 26 3328 rfl inb_S32x128x128_S1x128x128_26_0_0 inb_S4096x128_S128x128_3328_0, ?_⟩
  refine List.forall_mem_cons.mpr ⟨page_at arg1 harg1 x0 25 3200 rfl inb_S32x128x128_S1x128x128_25_0_0 inb_S4096x128_S128x128_3200_0, ?_⟩
  refine List.forall_mem_cons.mpr ⟨page_at arg1 harg1 x0 24 3072 rfl inb_S32x128x128_S1x128x128_24_0_0 inb_S4096x128_S128x128_3072_0, ?_⟩
  refine List.forall_mem_cons.mpr ⟨page_at arg1 harg1 x0 23 2944 rfl inb_S32x128x128_S1x128x128_23_0_0 inb_S4096x128_S128x128_2944_0, ?_⟩
  refine List.forall_mem_cons.mpr ⟨page_at arg1 harg1 x0 22 2816 rfl inb_S32x128x128_S1x128x128_22_0_0 inb_S4096x128_S128x128_2816_0, ?_⟩
  refine List.forall_mem_cons.mpr ⟨page_at arg1 harg1 x0 21 2688 rfl inb_S32x128x128_S1x128x128_21_0_0 inb_S4096x128_S128x128_2688_0, ?_⟩
  refine List.forall_mem_cons.mpr ⟨page_at arg1 harg1 x0 20 2560 rfl inb_S32x128x128_S1x128x128_20_0_0 inb_S4096x128_S128x128_2560_0, ?_⟩
  refine List.forall_mem_cons.mpr ⟨page_at arg1 harg1 x0 19 2432 rfl inb_S32x128x128_S1x128x128_19_0_0 inb_S4096x128_S128x128_2432_0, ?_⟩
  refine List.forall_mem_cons.mpr ⟨page_at arg1 harg1 x0 18 2304 rfl inb_S32x128x128_S1x128x128_18_0_0 inb_S4096x128_S128x128_2304_0, ?_⟩
  refine List.forall_mem_cons.mpr ⟨page_at arg1 harg1 x0 17 2176 rfl inb_S32x128x128_S1x128x128_17_0_0 inb_S4096x128_S128x128_2176_0, ?_⟩
  refine List.forall_mem_cons.mpr ⟨page_at arg1 harg1 x0 16 2048 rfl inb_S32x128x128_S1x128x128_16_0_0 inb_S4096x128_S128x128_2048_0, ?_⟩
  refine List.forall_mem_cons.mpr ⟨page_at arg1 harg1 x0 15 1920 rfl inb_S32x128x128_S1x128x128_15_0_0 inb_S4096x128_S128x128_1920_0, ?_⟩
  refine List.forall_mem_cons.mpr ⟨page_at arg1 harg1 x0 14 1792 rfl inb_S32x128x128_S1x128x128_14_0_0 inb_S4096x128_S128x128_1792_0, ?_⟩
  refine List.forall_mem_cons.mpr ⟨page_at arg1 harg1 x0 13 1664 rfl inb_S32x128x128_S1x128x128_13_0_0 inb_S4096x128_S128x128_1664_0, ?_⟩
  refine List.forall_mem_cons.mpr ⟨page_at arg1 harg1 x0 12 1536 rfl inb_S32x128x128_S1x128x128_12_0_0 inb_S4096x128_S128x128_1536_0, ?_⟩
  refine List.forall_mem_cons.mpr ⟨page_at arg1 harg1 x0 11 1408 rfl inb_S32x128x128_S1x128x128_11_0_0 inb_S4096x128_S128x128_1408_0, ?_⟩
  refine List.forall_mem_cons.mpr ⟨page_at arg1 harg1 x0 10 1280 rfl inb_S32x128x128_S1x128x128_10_0_0 inb_S4096x128_S128x128_1280_0, ?_⟩
  refine List.forall_mem_cons.mpr ⟨page_at arg1 harg1 x0 9 1152 rfl inb_S32x128x128_S1x128x128_9_0_0 inb_S4096x128_S128x128_1152_0, ?_⟩
  refine List.forall_mem_cons.mpr ⟨page_at arg1 harg1 x0 8 1024 rfl inb_S32x128x128_S1x128x128_8_0_0 inb_S4096x128_S128x128_1024_0, ?_⟩
  refine List.forall_mem_cons.mpr ⟨page_at arg1 harg1 x0 7 896 rfl inb_S32x128x128_S1x128x128_7_0_0 inb_S4096x128_S128x128_896_0, ?_⟩
  refine List.forall_mem_cons.mpr ⟨page_at arg1 harg1 x0 6 768 rfl inb_S32x128x128_S1x128x128_6_0_0 inb_S4096x128_S128x128_768_0, ?_⟩
  refine List.forall_mem_cons.mpr ⟨page_at arg1 harg1 x0 5 640 rfl inb_S32x128x128_S1x128x128_5_0_0 inb_S4096x128_S128x128_640_0, ?_⟩
  refine List.forall_mem_cons.mpr ⟨page_at arg1 harg1 x0 4 512 rfl inb_S32x128x128_S1x128x128_4_0_0 inb_S4096x128_S128x128_512_0, ?_⟩
  refine List.forall_mem_cons.mpr ⟨page_at arg1 harg1 x0 3 384 rfl inb_S32x128x128_S1x128x128_3_0_0 inb_S4096x128_S128x128_384_0, ?_⟩
  refine List.forall_mem_cons.mpr ⟨page_at arg1 harg1 x0 2 256 rfl inb_S32x128x128_S1x128x128_2_0_0 inb_S4096x128_S128x128_256_0, ?_⟩
  refine List.forall_mem_cons.mpr ⟨page_at arg1 harg1 x0 1 128 rfl inb_S32x128x128_S1x128x128_1_0_0 inb_S4096x128_S128x128_128_0, ?_⟩
  refine List.forall_mem_cons.mpr ⟨page_at arg1 harg1 x0 0 0 rfl inb_S32x128x128_S1x128x128_0_0_0 inb_S4096x128_S128x128_0_0, ?_⟩
  exact List.forall_mem_nil _

/-- and cover the scratch. -/
theorem pieces_cover (y : S4096x128.Idx) : ∃ p ∈ kernelRun0_A.sl.HS0_32 c arg1 harg1 x0, y ∈ p.1.set :=
  View.cover_of_tiledL (kernelRun0_A.sl.HS0_32 c arg1 harg1 x0) S128x128.size (by sl_kernel_rfl) y

/-- Every sixteenth row of the scratch, from row `t`: token `t` of every run. -/
def every (x0 : Vec F S32x128x128 .f32) (t : Fin 16) : Vec F S256x128 .f32 := fun j =>
  pages x0 (ix2 ⟨t.val + 16 * (j 0).val, by have h : (j 0).val < 256 := (j 0).isLt; omega⟩ (j 1))

theorem every_eq (t : Fin 16) (inb : ∀ a : Fin 2, S256x128.size a = 0 ∨ (![t.val, 0] : Fin 2 → Nat) a + (![16, 1] : Fin 2 → Nat) a * (S256x128.size a - 1) < S4096x128.size a) :
    arg4.view.readCov (kernelRun0_A.sl.HS0_32 c arg1 harg1 x0) (⟨![t.val, 0], S256x128.size, ![16, 1], inb⟩ : LoadRect S4096x128) = every x0 t := by
  rw [View.readCov_eq_canon']
  funext j
  rw [View.canon_apply_of_pieces (pages x0) _ (pieces_agree c arg1 harg1 x0) _ (pieces_cover c arg1 harg1 x0 _)]
  unfold every
  congr 1
  funext a
  apply Fin.ext
  match a with
  | ⟨0, _⟩ => rfl
  | ⟨1, _⟩ => show 0 + 1 * (j 1).val = (j 1).val; omega

/-- Token `t`'s weights. -/
def slab (x1 : Vec F S16x128x512 .bf16) (t : Fin 16) : Vec F S1x128x512 .bf16 := fun j => x1 (ix3 t (j 1) (j 2))

theorem slab_eq (t : Fin 16) (inb : ∀ a, (![t.val, 0, 0] : Fin 3 → Nat) a + S1x128x512.size a ≤ S16x128x512.size a) :
    View.readAt (Elt F) arg2.view (Rect.unit (s := S16x128x512) ![t.val, 0, 0] S1x128x512.size inb).toLoadRect (harg2.unread x1) = slab x1 t := by
  rw [View.readAt_eq_ld, Memref.IsWhole.read_unread]
  funext j
  have h0 : (j 0).val < 1 := (j 0).isLt
  show x1 _ = x1 _
  congr 1
  funext a
  apply Fin.ext
  match a with
  | ⟨0, _⟩ => show t.val + 1 * (j 0).val = t.val; omega
  | ⟨1, _⟩ => show 0 + 1 * (j 1).val = (j 1).val; omega
  | ⟨2, _⟩ => show 0 + 1 * (j 2).val = (j 2).val; omega

/-- One token's product. -/
def prod (R : Vec F S256x128 .f32) (X : Vec F S1x128x512 .bf16) : FVec F S256x512 .f32 :=
  matmul dot_S256x128_S128x512_S256x512_1_0_0_1_n_n none (truncf .bf16 R bitsLt_bf16_f32) (shapeCast S128x512 X shapeCasts_S1x128x512_S128x512) (constant S256x512 .f32 0x00000000#32)

/-- The sum the body forms, token after token. -/
def total (R : Fin 16 → Vec F S256x128 .f32) (X : Fin 16 → Vec F S1x128x512 .bf16) : FVec F S256x512 .f32 :=
  addf (addf (addf (addf (addf (addf (addf (addf (addf (addf (addf (addf (addf (addf (addf (addf (broadcast S256x512 (Scalar.ofBits .f32 0x00000000#32)) (prod (R 0) (X 0))) (prod (R 1) (X 1))) (prod (R 2) (X 2))) (prod (R 3) (X 3))) (prod (R 4) (X 4))) (prod (R 5) (X 5))) (prod (R 6) (X 6))) (prod (R 7) (X 7))) (prod (R 8) (X 8))) (prod (R 9) (X 9))) (prod (R 10) (X 10))) (prod (R 11) (X 11))) (prod (R 12) (X 12))) (prod (R 13) (X 13))) (prod (R 14) (X 14))) (prod (R 15) (X 15))

/-- The body's values, over any rows and weights, are that sum. -/
theorem total_eq (R : Fin 16 → Vec F S256x128 .f32) (X : Fin 16 → Vec F S1x128x512 .bf16) :
    k0_pay1 (k0_pay40 (k0_pay37 (k0_pay34 (R 0) (X 0) (R 1) (X 1)) (k0_pay35 (R 2)) (k0_pay36 (X 2)) (R 3) (X 3) (R 4) (X 4) (R 5) (X 5) (R 6) (X 6)) (k0_pay38 (R 7)) (k0_pay39 (X 7)) (R 8) (X 8) (R 9) (X 9) (R 10) (X 10) (R 11) (X 11)) (k0_pay41 (R 12)) (k0_pay42 (X 12)) (R 13) (X 13) (R 14) (X 14) (R 15) (X 15) = total R X := rfl

/-- The body's output block is that sum. -/
theorem out_eq (i : grid0.Coords) : out0_A_2 c i arg1 harg1 arg2 harg2 arg3 harg3 arg4 harg4 x0 x1 = total (every x0) (slab x1) := by
  unfold out0_A_2
  rw [View.read_writes_junk_eq_canon]
  unfold kernelRun0_A
  dsimp only
  rw [View.canon_unit_zero (by funext a; match a with | ⟨0, _⟩ => rfl | ⟨1, _⟩ => rfl)]
  unfold kernelRun0_A.sl.r_12 kernelRun0_A.sl.r_13 kernelRun0_A.sl.r_14 kernelRun0_A.sl.r_9 kernelRun0_A.sl.r_10 kernelRun0_A.sl.r_11 kernelRun0_A.sl.r_6 kernelRun0_A.sl.r_7 kernelRun0_A.sl.r_8
  have r0 : kernelRun0_A.sl.v193 c arg1 harg1 arg4 x0 = every x0 0 := every_eq c arg1 harg1 arg4 x0 0 _
  have r1 : kernelRun0_A.sl.v199 c arg1 harg1 arg4 x0 = every x0 1 := every_eq c arg1 harg1 arg4 x0 1 _
  have r2 : kernelRun0_A.sl.v205 c arg1 harg1 arg4 x0 = every x0 2 := every_eq c arg1 harg1 arg4 x0 2 _
  have r3 : kernelRun0_A.sl.v211 c arg1 harg1 arg4 x0 = every x0 3 := every_eq c arg1 harg1 arg4 x0 3 _
  have r4 : kernelRun0_A.sl.v217 c arg1 harg1 arg4 x0 = every x0 4 := every_eq c arg1 harg1 arg4 x0 4 _
  have r5 : kernelRun0_A.sl.v223 c arg1 harg1 arg4 x0 = every x0 5 := every_eq c arg1 harg1 arg4 x0 5 _
  have r6 : kernelRun0_A.sl.v229 c arg1 harg1 arg4 x0 = every x0 6 := every_eq c arg1 harg1 arg4 x0 6 _
  have r7 : kernelRun0_A.sl.v235 c arg1 harg1 arg4 x0 = every x0 7 := every_eq c arg1 harg1 arg4 x0 7 _
  have r8 : kernelRun0_A.sl.v241 c arg1 harg1 arg4 x0 = every x0 8 := every_eq c arg1 harg1 arg4 x0 8 _
  have r9 : kernelRun0_A.sl.v247 c arg1 harg1 arg4 x0 = every x0 9 := every_eq c arg1 harg1 arg4 x0 9 _
  have r10 : kernelRun0_A.sl.v253 c arg1 harg1 arg4 x0 = every x0 10 := every_eq c arg1 harg1 arg4 x0 10 _
  have r11 : kernelRun0_A.sl.v259 c arg1 harg1 arg4 x0 = every x0 11 := every_eq c arg1 harg1 arg4 x0 11 _
  have r12 : kernelRun0_A.sl.v265 c arg1 harg1 arg4 x0 = every x0 12 := every_eq c arg1 harg1 arg4 x0 12 _
  have r13 : kernelRun0_A.sl.v271 c arg1 harg1 arg4 x0 = every x0 13 := every_eq c arg1 harg1 arg4 x0 13 _
  have r14 : kernelRun0_A.sl.v277 c arg1 harg1 arg4 x0 = every x0 14 := every_eq c arg1 harg1 arg4 x0 14 _
  have r15 : kernelRun0_A.sl.v283 c arg1 harg1 arg4 x0 = every x0 15 := every_eq c arg1 harg1 arg4 x0 15 _
  have s0 : View.readAt (Elt F) arg2.view (Rect.unit (s := S16x128x512) ![0, 0, 0] S1x128x512.size inb_S16x128x512_S1x128x512_0_0_0).toLoadRect (harg2.unread x1) = slab x1 0 := slab_eq arg2 harg2 x1 0 _
  have s1 : View.readAt (Elt F) arg2.view (Rect.unit (s := S16x128x512) ![1, 0, 0] S1x128x512.size inb_S16x128x512_S1x128x512_1_0_0).toLoadRect (harg2.unread x1) = slab x1 1 := slab_eq arg2 harg2 x1 1 _
  have s2 : View.readAt (Elt F) arg2.view (Rect.unit (s := S16x128x512) ![2, 0, 0] S1x128x512.size inb_S16x128x512_S1x128x512_2_0_0).toLoadRect (harg2.unread x1) = slab x1 2 := slab_eq arg2 harg2 x1 2 _
  have s3 : View.readAt (Elt F) arg2.view (Rect.unit (s := S16x128x512) ![3, 0, 0] S1x128x512.size inb_S16x128x512_S1x128x512_3_0_0).toLoadRect (harg2.unread x1) = slab x1 3 := slab_eq arg2 harg2 x1 3 _
  have s4 : View.readAt (Elt F) arg2.view (Rect.unit (s := S16x128x512) ![4, 0, 0] S1x128x512.size inb_S16x128x512_S1x128x512_4_0_0).toLoadRect (harg2.unread x1) = slab x1 4 := slab_eq arg2 harg2 x1 4 _
  have s5 : View.readAt (Elt F) arg2.view (Rect.unit (s := S16x128x512) ![5, 0, 0] S1x128x512.size inb_S16x128x512_S1x128x512_5_0_0).toLoadRect (harg2.unread x1) = slab x1 5 := slab_eq arg2 harg2 x1 5 _
  have s6 : View.readAt (Elt F) arg2.view (Rect.unit (s := S16x128x512) ![6, 0, 0] S1x128x512.size inb_S16x128x512_S1x128x512_6_0_0).toLoadRect (harg2.unread x1) = slab x1 6 := slab_eq arg2 harg2 x1 6 _
  have s7 : View.readAt (Elt F) arg2.view (Rect.unit (s := S16x128x512) ![7, 0, 0] S1x128x512.size inb_S16x128x512_S1x128x512_7_0_0).toLoadRect (harg2.unread x1) = slab x1 7 := slab_eq arg2 harg2 x1 7 _
  have s8 : View.readAt (Elt F) arg2.view (Rect.unit (s := S16x128x512) ![8, 0, 0] S1x128x512.size inb_S16x128x512_S1x128x512_8_0_0).toLoadRect (harg2.unread x1) = slab x1 8 := slab_eq arg2 harg2 x1 8 _
  have s9 : View.readAt (Elt F) arg2.view (Rect.unit (s := S16x128x512) ![9, 0, 0] S1x128x512.size inb_S16x128x512_S1x128x512_9_0_0).toLoadRect (harg2.unread x1) = slab x1 9 := slab_eq arg2 harg2 x1 9 _
  have s10 : View.readAt (Elt F) arg2.view (Rect.unit (s := S16x128x512) ![10, 0, 0] S1x128x512.size inb_S16x128x512_S1x128x512_10_0_0).toLoadRect (harg2.unread x1) = slab x1 10 := slab_eq arg2 harg2 x1 10 _
  have s11 : View.readAt (Elt F) arg2.view (Rect.unit (s := S16x128x512) ![11, 0, 0] S1x128x512.size inb_S16x128x512_S1x128x512_11_0_0).toLoadRect (harg2.unread x1) = slab x1 11 := slab_eq arg2 harg2 x1 11 _
  have s12 : View.readAt (Elt F) arg2.view (Rect.unit (s := S16x128x512) ![12, 0, 0] S1x128x512.size inb_S16x128x512_S1x128x512_12_0_0).toLoadRect (harg2.unread x1) = slab x1 12 := slab_eq arg2 harg2 x1 12 _
  have s13 : View.readAt (Elt F) arg2.view (Rect.unit (s := S16x128x512) ![13, 0, 0] ![1, 128, 512] inb_S16x128x512_S1x128x512_13_0_0).toLoadRect (harg2.unread x1) = slab x1 13 := slab_eq arg2 harg2 x1 13 _
  have s14 : View.readAt (Elt F) arg2.view (Rect.unit (s := S16x128x512) ![14, 0, 0] ![1, 128, 512] inb_S16x128x512_S1x128x512_14_0_0).toLoadRect (harg2.unread x1) = slab x1 14 := slab_eq arg2 harg2 x1 14 _
  have s15 : View.readAt (Elt F) arg2.view (Rect.unit (s := S16x128x512) ![15, 0, 0] ![1, 128, 512] inb_S16x128x512_S1x128x512_15_0_0).toLoadRect (harg2.unread x1) = slab x1 15 := slab_eq arg2 harg2 x1 15 _
  rw [r0, r1, r2, r3, r4, r5, r6, r7, r8, r9, r10, r11, r12, r13, r14, r15, s0, s1, s2, s3, s4, s5, s6, s7, s8, s9, s10, s11, s12, s13, s14, s15]
  exact total_eq (every x0) (slab x1)

end Cert.HiddenIdeal.Hid

end
-- ==== Proof.HidRef.lean ====
/-
  What the reference of the compression's hidden products holds: for every run of sixteen tokens of a page, every head
  and either half of the weights, the sum over the tokens and features of token times weight.
-/
module

public import proofs.«01_k».proof.Proof.Gen.HiddenReferenceIdeal.Run
public import Idealize.ShloMosaic.Lib.Pointwise

@[expose] public section

set_option maxRecDepth 16384

noncomputable section

namespace Cert.Hid

open Idealize.ShloMosaic
open scoped BigOperators

/-- The pages of tokens: page, position, head, feature; -/
abbrev SC : Shape := ⟨4, ![10240, 128, 2, 64]⟩
/-- and the weights: token and feature of a block of thirty-two tokens, hidden unit. -/
abbrev SW : Shape := ⟨2, ![2048, 128]⟩

/-- The hidden product of the tokens `16 s …` of page `p`, of head `g`, with half `a` of the weights' rows, at hidden
    unit `h`. -/
def hid (C : FVec Ideal SC .f32) (W : FVec Ideal SW .f32) (p : Fin 10240) (s : Fin 8) (g a : Fin 2) (h : Fin 128) : EReal :=
  ∑ t : Fin 16, ∑ d : Fin 64, C (ix4 p ⟨s.val * 16 + t.val, by omega⟩ g d) * W (ix2 ⟨a.val * 1024 + t.val * 64 + d.val, by omega⟩ h)

/-- A sum over a token's number and a feature, taken as one index. -/
theorem sum_pairs (f : Fin 1024 → EReal) :
    ∑ k : Fin 1024, f k = ∑ t : Fin 16, ∑ d : Fin 64, f ⟨t.val * 64 + d.val, by omega⟩ := by
  rw [← Fintype.sum_prod_type', ← (finProdFinEquiv (m := 16) (n := 64)).sum_comp]
  refine Finset.sum_congr rfl fun x _ => congrArg f (Fin.ext ?_)
  show x.2.val + 64 * x.1.val = x.1.val * 64 + x.2.val
  omega

end Cert.Hid

namespace Cert.HiddenReferenceIdeal.Value

open Cert.HiddenReferenceIdeal Cert.HiddenReferenceIdeal.Gen Cert.Hid
open Idealize.ShloMosaic Idealize.ShloMosaic.TcCoe Idealize.SL.Sem
open scoped BigOperators

/-- The tokens by run of sixteen and head, -/
def tokA (C : FVec Ideal SC .f32) : FVec Ideal S81920x2x1024 .f32 :=
  shapeCast _ (transpose S81920x2x16x64 [0, 2, 1, 3] (shapeCast _ C shapeCasts_S10240x128x2x64_S81920x16x2x64) transposes_S81920x16x2x64_S81920x2x16x64_0_2_1_3) shapeCasts_S81920x2x16x64_S81920x2x1024
/-- their products with the weights' first half, -/
def firstA (C : FVec Ideal SC .f32) (W : FVec Ideal SW .f32) : FVec Ideal S81920x2x128 .f32 :=
  Host.dotGeneral dot_S81920x2x1024_S1024x128_S81920x2x128_2_0_01_1_n_n none (tokA C) (extractStridedSlice S1024x128 ![0, 0] W slices_S2048x128_S1024x128_0_0)
/-- and their second, -/
def secondA (C : FVec Ideal SC .f32) (W : FVec Ideal SW .f32) : FVec Ideal S81920x2x128 .f32 :=
  Host.dotGeneral dot_S81920x2x1024_S1024x128_S81920x2x128_2_0_01_1_n_n none (tokA C) (extractStridedSlice S1024x128 ![1024, 0] W slices_S2048x128_S1024x128_1024_0)
/-- side by side. -/
def bothA (C : FVec Ideal SC .f32) (W : FVec Ideal SW .f32) : FVec Ideal S81920x512 .f32 :=
  shapeCast _ (concatenate S81920x2x256 2 [⟨S81920x2x128, firstA C W⟩, ⟨S81920x2x128, secondA C W⟩] concatenates_S81920x2x128_S81920x2x128_S81920x2x256_d2) shapeCasts_S81920x2x256_S81920x512

variable (C : FVec Ideal SC .f32) (W : FVec Ideal SW .f32) (p : Fin 10240) (s : Fin 8) (g a : Fin 2) (h : Fin 128)

/-- A token's feature, found in its page. -/
theorem tokA_at (r : Fin 81920) (t : Fin 16) (d : Fin 64) (hr : r.val = p.val * 8 + s.val) :
    tokA C (ix3 r g ⟨t.val * 64 + d.val, by omega⟩) = C (ix4 p ⟨s.val * 16 + t.val, by omega⟩ g d) := by
  have hs := s.isLt
  unfold tokA
  pointwise
  rw [show (⟨r.val / 8, by omega⟩ : Fin 10240) = p from Fin.ext (by dsimp only; omega),
    show (⟨r.val % 8 * 16 + t.val, by omega⟩ : Fin 128) = ⟨s.val * 16 + t.val, by omega⟩ from Fin.ext (by dsimp only; omega)]

/-- The products with the first half, -/
theorem firstA_at (r : Fin 81920) (hr : r.val = p.val * 8 + s.val) : firstA C W (ix3 r g h) = hid C W p s g 0 h := by
  unfold firstA
  pointwise
  rw [sum_pairs]
  unfold hid
  refine Finset.sum_congr rfl fun t _ => Finset.sum_congr rfl fun d _ => ?_
  rw [tokA_at C p s g r t d hr]
  congr 3
  apply Fin.ext
  show t.val * 64 + d.val = 0 * 1024 + t.val * 64 + d.val
  omega

/-- with the second, -/
theorem secondA_at (r : Fin 81920) (hr : r.val = p.val * 8 + s.val) : secondA C W (ix3 r g h) = hid C W p s g 1 h := by
  unfold secondA
  pointwise
  rw [sum_pairs]
  unfold hid
  refine Finset.sum_congr rfl fun t _ => Finset.sum_congr rfl fun d _ => ?_
  rw [tokA_at C p s g r t d hr]
  congr 3
  apply Fin.ext
  show _ = 1 * 1024 + t.val * 64 + d.val
  dsimp only
  omega

/-- and both. -/
theorem bothA_at (r : Fin 81920) (w : Fin 512) (hr : r.val = p.val * 8 + s.val) (hw : w.val = g.val * 256 + a.val * 128 + h.val) :
    bothA C W (ix2 r w) = hid C W p s g a h := by
  have hh := h.isLt
  have ha := a.isLt
  unfold bothA
  pointwise
  have hg : (⟨w.val / 256, by omega⟩ : Fin 2) = g := Fin.ext (by dsimp only; omega)
  by_cases ha0 : a.val = 0
  · rw [dif_pos (by omega)]
    refine (congrArg (firstA C W) ?_).trans ((firstA_at C W p s g h r hr).trans (congrArg (hid C W p s g · h) (Fin.ext ha0.symm)))
    exact congrArg₂ (ix3 r) hg (Fin.ext (by show w.val % 256 = h.val; omega))
  · rw [dif_neg (by omega)]
    refine (congrArg (secondA C W) ?_).trans ((secondA_at C W p s g h r hr).trans (congrArg (hid C W p s g · h) (Fin.ext (by show 1 = a.val; omega))))
    exact congrArg₂ (ix3 r) hg (Fin.ext (by show w.val % 256 - 128 = h.val; omega))

/-- The reference's run, its result named. -/
theorem run_both (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v8) = bothA (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  run m ρ

end Cert.HiddenReferenceIdeal.Value

end
-- ==== Proof.HidValue.lean ====
/-
  The compression's hidden products read element by element: the kernel's result holds, for every run of sixteen
  tokens, head and half of the weights, the sum over the tokens and features of token times weight.
-/
module

public import proofs.«01_k».proof.Proof.HidRun
public import proofs.«01_k».proof.Proof.HidRef

@[expose] public section

set_option maxRecDepth 16384

noncomputable section

namespace Cert.HiddenIdeal.Hid

open Cert.HiddenIdeal Cert.HiddenIdeal.Gen Cert.Hid
open Idealize.ShloMosaic Idealize.ShloMosaic.TcCoe Idealize.SL.Sem
open scoped BigOperators

/-! ## The block's sum -/

theorem prod_at (R : FVec Ideal S256x128 .f32) (X : FVec Ideal S1x128x512 .bf16) (j : Fin 256) (w : Fin 512) :
    prod (F := Ideal) R X (ix2 j w) = ∑ k : Fin 128, R (ix2 j k) * X (ix3 0 k w) := by
  unfold prod
  pointwise

/-- A sum over the sixteen tokens, written out. -/
theorem sum_sixteen (f : Fin 16 → EReal) :
    ∑ t : Fin 16, f t = f 0 + f 1 + f 2 + f 3 + f 4 + f 5 + f 6 + f 7 + f 8 + f 9 + f 10 + f 11 + f 12 + f 13 + f 14 + f 15 := by
  simp only [Fin.sum_univ_castSucc, Finset.univ_eq_empty, Finset.sum_empty, zero_add]
  rfl

theorem total_at (R : Fin 16 → FVec Ideal S256x128 .f32) (X : Fin 16 → FVec Ideal S1x128x512 .bf16) (j : Fin 256) (w : Fin 512) :
    total (F := Ideal) R X (ix2 j w) = ∑ t : Fin 16, ∑ k : Fin 128, R t (ix2 j k) * X t (ix3 0 k w) := by
  unfold total
  pointwise
  simp only [prod_at]
  exact (sum_sixteen fun t => ∑ k : Fin 128, R t (ix2 j k) * X t (ix3 0 k w)).symm

/-! ## The arrays the windows read -/

/-- The weights' halves by token and feature, side by side, -/
def wAB (W : FVec Ideal SW .f32) : FVec Ideal S16x64x256 .f32 :=
  concatenate S16x64x256 2 [⟨S16x64x128, shapeCast S16x64x128 (extractStridedSlice S1024x128 ![0, 0] W slices_S2048x128_S1024x128_0_0) shapeCasts_S1024x128_S16x64x128⟩,
    ⟨S16x64x128, shapeCast S16x64x128 (extractStridedSlice S1024x128 ![1024, 0] W slices_S2048x128_S1024x128_1024_0) shapeCasts_S1024x128_S16x64x128⟩] concatenates_S16x64x128_S16x64x128_S16x64x256_d2
/-- the identity over the heads, -/
def heads : FVec Ideal S2x2 .f32 :=
  uitofp .f32 (cmpi .eq (addi (iotaInDim S2x2 32 0) (broadcastInDim S2x2 ![] bcast_S_S2x2 (constantI S_ 32 0#32))) (iotaInDim S2x2 32 1))
/-- and the weights once on the diagonal for each head. -/
def wDiag (W : FVec Ideal SW .f32) : FVec Ideal S16x128x512 .bf16 :=
  truncf .bf16 (shapeCast S16x128x512 (mulf (broadcastInDim S16x2x64x2x256 ![0, 1, 2, 3, 4] bcast_S16x1x64x1x256_S16x2x64x2x256_0_1_2_3_4 (broadcastInDim S16x1x64x1x256 ![0, 2, 4] bcast_S16x64x256_S16x1x64x1x256_0_2_4 (wAB W)))
    (broadcastInDim S16x2x64x2x256 ![0, 1, 2, 3, 4] bcast_S1x2x1x2x1_S16x2x64x2x256_0_1_2_3_4 (broadcastInDim S1x2x1x2x1 ![1, 3] bcast_S2x2_S1x2x1x2x1_1_3 heads))) shapeCasts_S16x2x64x2x256_S16x128x512) bitsLt_bf16_f32
/-- The pages, feature-major. -/
def cPages (C : FVec Ideal SC .f32) : FVec Ideal S10240x128x128 .f32 :=
  shapeCast S10240x128x128 (transpose S10240x2x64x128 [0, 2, 3, 1] C transposes_S10240x128x2x64_S10240x2x64x128_0_2_3_1) shapeCasts_S10240x2x64x128_S10240x128x128

theorem cPages_at (C : FVec Ideal SC .f32) (p : Fin 10240) (k q : Fin 128) :
    cPages C (ix3 p k q) = C (ix4 p q ⟨k.val / 64, by omega⟩ ⟨k.val % 64, by omega⟩) := by
  unfold cPages
  pointwise

theorem heads_at (g g' : Fin 2) : heads (ix2 g g') = if g = g' then (1 : EReal) else 0 := by
  unfold heads
  pointwise
  fin_cases g <;> fin_cases g' <;> simp [IntOp.cmpi, IntOp.addi, FloatOps.uitofp]

theorem wAB_at (W : FVec Ideal SW .f32) (t : Fin 16) (d : Fin 64) (a : Fin 2) (h : Fin 128) :
    wAB W (ix3 t d ⟨a.val * 128 + h.val, by omega⟩) = W (ix2 ⟨a.val * 1024 + t.val * 64 + d.val, by omega⟩ h) := by
  have hh := h.isLt
  have ha := a.isLt
  unfold wAB
  pointwise
  by_cases ha0 : a.val = 0
  · rw [dif_pos (by omega)]
    exact congrArg W (congrArg₂ ix2 (Fin.ext (by show t.val * 64 + d.val = a.val * 1024 + t.val * 64 + d.val; omega)) (Fin.ext (by show a.val * 128 + h.val = h.val; omega)))
  · rw [dif_neg (by omega)]
    exact congrArg W (congrArg₂ ix2 (Fin.ext (by show 1024 + (t.val * 64 + d.val) = a.val * 1024 + t.val * 64 + d.val; omega)) (Fin.ext (by show a.val * 128 + h.val - 128 = h.val; omega)))

theorem wDiag_at (W : FVec Ideal SW .f32) (t : Fin 16) (k : Fin 128) (w : Fin 512) :
    wDiag W (ix3 t k w) = wAB W (ix3 t ⟨k.val % 64, by omega⟩ ⟨w.val % 256, by omega⟩) * heads (ix2 ⟨k.val / 64, by omega⟩ ⟨w.val / 256, by omega⟩) := by
  unfold wDiag
  pointwise

variable (m : (ℓ : Loc nD τ sig) → Buf (Elt Ideal) ℓ) (c : Dev nD)

/-- The pages given, -/
def aC : FVec Ideal SC .f32 := m ((c.tc : Thread nD τ).loc main_arg0)
/-- and the weights. -/
def aW : FVec Ideal SW .f32 := m ((c.tc : Thread nD τ).loc main_arg1)

theorem V_pages : V m c main_v1 = (cPages (aC m c) : FVec Ideal S10240x128x128 .f32) := by
  unfold V; simp only [hostOps0]; after_results_simp <;> rfl
theorem V_weights : V m c main_v19 = (wDiag (aW m c) : FVec Ideal S16x128x512 .bf16) := by
  unfold V; simp only [hostOps0]; after_results_simp <;> rfl

/-! ## The blocks -/

theorem index0 : ∀ t : Fin cfg0.N, win0_0.index t 0 = t.val ∧ win0_0.index t 1 = 0 ∧ win0_0.index t 2 = 0 :=
  (by decide +kernel : ∀ t : Fin grid0.N, win0_0.index t 0 = t.val ∧ win0_0.index t 1 = 0 ∧ win0_0.index t 2 = 0)
theorem index1 : ∀ t : Fin cfg0.N, win0_1.index t 0 = 0 ∧ win0_1.index t 1 = 0 ∧ win0_1.index t 2 = 0 :=
  (by decide +kernel : ∀ t : Fin grid0.N, win0_1.index t 0 = 0 ∧ win0_1.index t 1 = 0 ∧ win0_1.index t 2 = 0)
theorem index2 : ∀ t : Fin cfg0.N, win0_2.index t 0 = t.val ∧ win0_2.index t 1 = 0 :=
  (by decide +kernel : ∀ t : Fin grid0.N, win0_2.index t 0 = t.val ∧ win0_2.index t 1 = 0)

theorem iblk_pages (t : Fin cfg0.N) (x : Fin 32) (k q : Fin 128) (p : Fin 10240) (hp : p.val = t.val * 32 + x.val) :
    (iblk m c 0 t : Vec Ideal S32x128x128 .f32) (ix3 x k q) = cPages (aC m c) (ix3 p k q) := by
  unfold iblk
  rw [View.read_apply, ← V_pages]
  show V m c main_v1 _ = V m c main_v1 _
  congr 1
  obtain ⟨h0, h1, h2⟩ := index0 t
  funext a
  apply Fin.ext
  match a with
  | ⟨0, _⟩ => show win0_0.index t 0 * 32 + 1 * x.val = p.val; omega
  | ⟨1, _⟩ => show win0_0.index t 1 * 128 + 1 * k.val = k.val; omega
  | ⟨2, _⟩ => show win0_0.index t 2 * 128 + 1 * q.val = q.val; omega

theorem iblk_weights (t : Fin cfg0.N) (x : Fin 16) (k : Fin 128) (w : Fin 512) :
    (iblk m c 1 t : Vec Ideal S16x128x512 .bf16) (ix3 x k w) = wDiag (aW m c) (ix3 x k w) := by
  unfold iblk
  rw [View.read_apply, ← V_weights]
  show V m c main_v19 _ = V m c main_v19 _
  congr 1
  obtain ⟨h0, h1, h2⟩ := index1 t
  funext a
  apply Fin.ext
  match a with
  | ⟨0, _⟩ => show win0_1.index t 0 * 16 + 1 * x.val = x.val; omega
  | ⟨1, _⟩ => show win0_1.index t 1 * 128 + 1 * k.val = k.val; omega
  | ⟨2, _⟩ => show win0_1.index t 2 * 512 + 1 * w.val = w.val; omega

/-! ## The result array -/

/-- Element `w` of run `r`: over the sixteen tokens and the features of both heads, token times the weights' diagonal blocks. -/
def hidSum (C : FVec Ideal SC .f32) (W : FVec Ideal SW .f32) (r : Fin 81920) (w : Fin 512) : EReal :=
  ∑ t : Fin 16, ∑ k : Fin 128, cPages C (ix3 ⟨r.val / 8, by omega⟩ k ⟨r.val % 8 * 16 + t.val, by omega⟩) * wDiag W (ix3 t k w)

/-- The result array. -/
def hidArr : FVec Ideal S81920x512 .f32 := fun i => hidSum (aC m c) (aW m c) (i 0) (i 1)

/-- The block a point leaves, element by element. -/
theorem block_at (t : Fin cfg0.N) (j : Fin 256) (w : Fin 512) (r : Fin 81920) (hr : r.val = t.val * 256 + j.val) :
    total (F := Ideal) (every (iblk m c 0 t)) (slab (iblk m c 1 t)) (ix2 j w) = hidSum (aC m c) (aW m c) r w := by
  have hj := j.isLt
  rw [total_at]
  unfold hidSum
  refine Finset.sum_congr rfl fun x _ => Finset.sum_congr rfl fun k _ => ?_
  have hx := x.isLt
  refine congrArg₂ (· * ·) ?_ (iblk_weights m c t x k w)
  refine (iblk_pages m c t _ _ _ ⟨r.val / 8, by omega⟩ ?_).trans ?_
  · show r.val / 8 = t.val * 32 + (x.val + 16 * j.val) / 128; omega
  · exact congrArg (cPages (aC m c)) (congrArg₂ (ix3 _) rfl (Fin.ext (by show (x.val + 16 * j.val) % 128 = r.val % 8 * 16 + x.val; omega)))

/-- What a point writes back is its block of the result array. -/
theorem flushed_eq (t : Fin cfg0.N) (hf : (cfg0.win 2).flush t = true) :
    (dats m 0 c).flushed 2 t = ((cfg0.win 2).blk t).view.read (Elt Ideal) (hidArr m c) := by
  rw [Cert.HiddenIdeal.Value.flushed2_A, out_eq]
  funext j
  rw [View.read_apply]
  obtain ⟨h0, h1⟩ := index2 t
  have j0 : (j 0).val < 256 := (j 0).isLt
  have j1 : (j 1).val < 512 := (j 1).isLt
  have e0 : (((cfg0.win 2).blk t).view.emb j 0).val = win0_2.index t 0 * 256 + 1 * (j 0).val := rfl
  have e1 : (((cfg0.win 2).blk t).view.emb j 1).val = win0_2.index t 1 * 512 + 1 * (j 1).val := rfl
  refine Eq.trans (b := total (F := Ideal) (every (iblk m c 0 t)) (slab (iblk m c 1 t)) (ix2 ⟨(j 0).val, j0⟩ ⟨(j 1).val, j1⟩)) ?_ ?_
  · show total (F := Ideal) _ _ _ = total (F := Ideal) _ _ _
    congr 1
    funext a
    apply Fin.ext
    match a with
    | ⟨0, _⟩ => rfl
    | ⟨1, _⟩ => rfl
  · refine (block_at m c t _ _ (((cfg0.win 2).blk t).view.emb j 0) (by rw [e0, h0]; dsimp only; omega)).trans ?_
    show hidSum _ _ _ _ = hidSum _ _ _ _
    congr 1
    exact Fin.ext (by rw [e1, h1]; show (j 1).val = _; omega)

/-- So the output array ends at the result array. -/
theorem final_o : (dats m 0 c).arrAt 2 cfg0.N = hidArr m c :=
  (dats m 0 c).arrAt_eq_of_cover 2 (hidArr m c) (flushed_eq m c) fun i => by
    have i0 : (i 0 : Nat) < 81920 := (i 0).isLt
    have i1 : (i 1 : Nat) < 512 := (i 1).isLt
    have hN : (i 0).val / 256 < cfg0.N := by
      rw [show cfg0.N = 320 from N_0]; omega
    refine ⟨⟨_, hN⟩, flush0_2 _, ?_⟩
    obtain ⟨h0, h1⟩ := index2 ⟨_, hN⟩
    show i ∈ ((View.whole main_v20).slice (win0_2.rect ⟨_, hN⟩)).set
    rw [View.set_slice_whole, Rect.mem_set_unit]
    intro a
    match a with
    | ⟨0, _⟩ => show win0_2.index ⟨_, hN⟩ 0 * 256 ≤ (i 0 : Nat) ∧ (i 0 : Nat) < win0_2.index ⟨_, hN⟩ 0 * 256 + 256
                rw [h0]; dsimp only; omega
    | ⟨1, _⟩ => show win0_2.index ⟨_, hN⟩ 1 * 512 ≤ (i 1 : Nat) ∧ (i 1 : Nat) < win0_2.index ⟨_, hN⟩ 1 * 512 + 512
                rw [h1]; dsimp only; omega

/-! ## The result array holds the hidden products -/

/-- A sum over both heads' features. -/
theorem sum_heads (f : Fin 128 → EReal) :
    ∑ k : Fin 128, f k = ∑ g : Fin 2, ∑ d : Fin 64, f ⟨g.val * 64 + d.val, by omega⟩ := by
  rw [← Fintype.sum_prod_type', ← (finProdFinEquiv (m := 2) (n := 64)).sum_comp]
  refine Finset.sum_congr rfl fun x _ => congrArg f (Fin.ext ?_)
  show x.2.val + 64 * x.1.val = x.1.val * 64 + x.2.val
  omega

/-- A feature of head `g'` times the weights of head `g`: nothing unless the heads agree. -/
theorem term_at (C : FVec Ideal SC .f32) (W : FVec Ideal SW .f32) (p : Fin 10240) (q : Fin 128) (t : Fin 16) (g g' a : Fin 2) (d : Fin 64) (h : Fin 128)
    (w : Fin 512) (hw : w.val = g.val * 256 + a.val * 128 + h.val) :
    cPages C (ix3 p ⟨g'.val * 64 + d.val, by omega⟩ q) * wDiag W (ix3 t ⟨g'.val * 64 + d.val, by omega⟩ w)
      = if g' = g then C (ix4 p q g d) * W (ix2 ⟨a.val * 1024 + t.val * 64 + d.val, by omega⟩ h) else 0 := by
  have hh := h.isLt
  have ha := a.isLt
  have hd := d.isLt
  have hg : (⟨w.val / 256, by omega⟩ : Fin 2) = g := Fin.ext (by dsimp only; omega)
  have hg' : (⟨(g'.val * 64 + d.val) / 64, by omega⟩ : Fin 2) = g' := Fin.ext (by dsimp only; omega)
  have hd' : (⟨(g'.val * 64 + d.val) % 64, by omega⟩ : Fin 64) = d := Fin.ext (by dsimp only; omega)
  have hc : (⟨w.val % 256, by omega⟩ : Fin 256) = ⟨a.val * 128 + h.val, by omega⟩ := Fin.ext (by dsimp only; omega)
  rw [cPages_at, wDiag_at]
  dsimp only
  rw [hg, hg', hd', hc, wAB_at, heads_at]
  by_cases e : g' = g
  · subst e
    rw [if_pos rfl, if_pos rfl, mul_one]
  · rw [if_neg e, if_neg e, mul_zero, mul_zero]

theorem hidSum_at (C : FVec Ideal SC .f32) (W : FVec Ideal SW .f32) (p : Fin 10240) (s : Fin 8) (g a : Fin 2) (h : Fin 128)
    (r : Fin 81920) (w : Fin 512) (hr : r.val = p.val * 8 + s.val) (hw : w.val = g.val * 256 + a.val * 128 + h.val) :
    hidSum C W r w = hid C W p s g a h := by
  have hs := s.isLt
  unfold hidSum hid
  refine Finset.sum_congr rfl fun t _ => ?_
  rw [sum_heads]
  have hp : (⟨r.val / 8, by omega⟩ : Fin 10240) = p := Fin.ext (by dsimp only; omega)
  have hq : (⟨r.val % 8 * 16 + t.val, by omega⟩ : Fin 128) = ⟨s.val * 16 + t.val, by omega⟩ := Fin.ext (by dsimp only; omega)
  rw [hp, hq]
  simp only [term_at C W p _ t g _ a _ h w hw]
  rw [Finset.sum_eq_single g (fun g' _ e => by simp only [if_neg e, Finset.sum_const_zero]) (fun e => absurd (Finset.mem_univ g) e)]
  simp only [if_true]

/-- The run, read: the result at the result array, the arguments unchanged. -/
theorem run (ρ : Dev nD → PrngReg) : θ_run defs (onTc (τ := τ) (main (F := Ideal))) ⟨m, fun _ => 0, ρ⟩ fun r => ∀ c : Dev nD,
      r.2.mem ((c.tc : Thread nD τ).loc main_v20) = hidArr m c
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c).1.trans (final_o m c), (h c).2⟩) (Cert.HiddenIdeal.Value.run_blocks m ρ)

end Cert.HiddenIdeal.Hid

end
-- ==== Proof.FinalRef.lean ====
/-
  What the reference of the last norm holds: for every row of either group's stream, each element over the root of the
  row's mean square and the constant added to it, times its gain.
-/
module

public import proofs.«01_k».proof.Proof.Gen.FinalReferenceIdeal.Run
public import Idealize.ShloMosaic.Lib.Pointwise

@[expose] public section

set_option maxRecDepth 16384

noncomputable section

namespace Cert.Final

open Idealize.ShloMosaic
open scoped BigOperators

/-- The prompt's stream, -/
abbrev SP : Shape := ⟨3, ![2, 8192, 1024]⟩
/-- the sample's, -/
abbrev SS : Shape := ⟨3, ![128, 8, 1024]⟩
/-- and the gains. -/
abbrev SG : Shape := ⟨1, ![1024]⟩

/-- Element `j` of a row over the root of the row's mean square and the constant added to it, times the gain `w`. -/
def nrm (x : Fin 1024 → EReal) (w : EReal) (j : Fin 1024) : EReal :=
  x j * Ideal.rsqrt (Ideal.div (∑ k : Fin 1024, x k * x k) (Ideal.ofBits FTy.f32 0x44800000#32) + Ideal.ofBits FTy.f32 0x358637BD#32) * w

/-- Row `r` of both groups' rows, the prompt's before the sample's. -/
def row (H : FVec Ideal SP .f32) (S : FVec Ideal SS .f32) (r : Fin 17408) : Fin 1024 → EReal := fun j =>
  if h : r.val < 16384 then H (ix3 ⟨r.val / 8192, by omega⟩ ⟨r.val % 8192, Nat.mod_lt _ (by decide)⟩ j)
  else S (ix3 ⟨(r.val - 16384) / 8, by omega⟩ ⟨(r.val - 16384) % 8, Nat.mod_lt _ (by decide)⟩ j)

end Cert.Final

namespace Cert.FinalReferenceIdeal.Value

open Cert.FinalReferenceIdeal Cert.FinalReferenceIdeal.Gen Cert.Final
open Idealize.ShloMosaic Idealize.ShloMosaic.TcCoe Idealize.SL.Sem
open scoped BigOperators

/-- The prompt's rows, normed, -/
def promptA (H : FVec Ideal SP .f32) (G : FVec Ideal SG .f32) : FVec Ideal SP .f32 :=
  mulf (mulf H (broadcastInDim S2x8192x1024 ![0, 1, 2] bcast_S2x8192x1_S2x8192x1024_0_1_2 (Host.rsqrt (addf (Host.divf (broadcastInDim S2x8192x1 ![0, 1] bcast_S2x8192_S2x8192x1_0_1 (Host.reduceAdd (mulf H H) (constant S_ .f32 0x00000000#32) reducesTo_S2x8192x1024_S2x8192_d2 h_S_))
    (broadcastInDim S2x8192x1 ![] bcast_S_S2x8192x1 (constant S_ .f32 0x44800000#32))) (broadcastInDim S2x8192x1 ![] bcast_S_S2x8192x1 (constant S_ .f32 0x358637BD#32))))))
    (broadcastInDim S2x8192x1024 ![0, 1, 2] bcast_S1x1x1024_S2x8192x1024_0_1_2 (broadcastInDim S1x1x1024 ![2] bcast_S1024_S1x1x1024_2 G))
/-- the sample's, -/
def sampleA (S : FVec Ideal SS .f32) (G : FVec Ideal SG .f32) : FVec Ideal SS .f32 :=
  mulf (mulf S (broadcastInDim S128x8x1024 ![0, 1, 2] bcast_S128x8x1_S128x8x1024_0_1_2 (Host.rsqrt (addf (Host.divf (broadcastInDim S128x8x1 ![0, 1] bcast_S128x8_S128x8x1_0_1 (Host.reduceAdd (mulf S S) (constant S_ .f32 0x00000000#32) reducesTo_S128x8x1024_S128x8_d2 h_S_))
    (broadcastInDim S128x8x1 ![] bcast_S_S128x8x1 (constant S_ .f32 0x44800000#32))) (broadcastInDim S128x8x1 ![] bcast_S_S128x8x1 (constant S_ .f32 0x358637BD#32))))))
    (broadcastInDim S128x8x1024 ![0, 1, 2] bcast_S1x1x1024_S128x8x1024_0_1_2 (broadcastInDim S1x1x1024 ![2] bcast_S1024_S1x1x1024_2 G))
/-- and the rows of both. -/
def rowsA (H : FVec Ideal SP .f32) (S : FVec Ideal SS .f32) (G : FVec Ideal SG .f32) : FVec Ideal S17408x1024 .f32 :=
  concatenate S17408x1024 0 [⟨S16384x1024, shapeCast _ (promptA H G) shapeCasts_S2x8192x1024_S16384x1024⟩,
    ⟨S1024x1024, shapeCast _ (sampleA S G) shapeCasts_S128x8x1024_S1024x1024⟩] concatenates_S16384x1024_S1024x1024_S17408x1024_d0

variable (H : FVec Ideal SP .f32) (S : FVec Ideal SS .f32) (G : FVec Ideal SG .f32) (j : Fin 1024)

theorem promptA_at (b : Fin 2) (t : Fin 8192) :
    promptA H G (ix3 b t j) = nrm (fun k => H (ix3 b t k)) (G (ix1 j)) j := by
  unfold promptA
  pointwise
  rfl

theorem sampleA_at (b : Fin 128) (t : Fin 8) :
    sampleA S G (ix3 b t j) = nrm (fun k => S (ix3 b t k)) (G (ix1 j)) j := by
  unfold sampleA
  pointwise
  rfl

/-- Each row of the reference's result is the row's norm. -/
theorem rowsA_at (r : Fin 17408) : rowsA H S G (ix2 r j) = nrm (row H S r) (G (ix1 j)) j := by
  unfold rowsA
  pointwise
  by_cases h : r.val < 16384
  · rw [dif_pos h, promptA_at]
    refine congrArg (nrm · (G (ix1 j)) j) (funext fun k => ?_)
    unfold row
    rw [dif_pos h]
  · rw [dif_neg h, sampleA_at]
    refine congrArg (nrm · (G (ix1 j)) j) (funext fun k => ?_)
    unfold row
    rw [dif_neg h]

/-- The reference's run, its result named. -/
theorem run_rows (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v28) = rowsA (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  run m ρ

end Cert.FinalReferenceIdeal.Value

end
-- ==== Proof.FinalValue.lean ====
/-
  The last norm read element by element: the kernel's result holds, for every row of either group's stream, each element
  over the root of the row's mean square and the constant added to it, times its gain.
-/
module

public import proofs.«01_k».proof.Proof.Gen.FinalIdeal.Value
public import proofs.«01_k».proof.Proof.FinalRef

@[expose] public section

set_option maxRecDepth 16384

noncomputable section

namespace Cert.FinalIdeal.Norm

open Cert.FinalIdeal Cert.FinalIdeal.Gen Cert.Final
open Idealize.ShloMosaic Idealize.ShloMosaic.TcCoe Idealize.SL.Sem
open scoped BigOperators

/-- The block's payload: each row's norm. -/
theorem pay_at (X : FVec Ideal S512x1024 .f32) (G : FVec Ideal S1x1024 .f32) (q : Fin 512) (j : Fin 1024) :
    k0_pay1 (F := Ideal) X G (ix2 q j) = nrm (fun k => X (ix2 q k)) (G (ix2 0 j)) j := by
  unfold k0_pay1
  pointwise
  rfl

/-- The block a point leaves is that payload of its blocks. -/
theorem out_at (X : FVec Ideal S512x1024 .f32) (G : FVec Ideal S1x1024 .f32) (q : Fin 512) (j : Fin 1024) :
    out0_2 (F := Ideal) X G (ix2 q j) = nrm (fun k => X (ix2 q k)) (G (ix2 0 j)) j := by
  have h : (![0, 0] : Fin 2 → Nat) = fun _ => 0 := by funext a; fin_cases a <;> rfl
  unfold out0_2
  rw [View.canon_unit_zero h, View.ld_unit_zero h, View.ld_unit_zero h]
  exact pay_at X G q j

/-! ## The arrays the windows read -/

/-- Both groups' rows, -/
def joined (H : FVec Ideal SP .f32) (S : FVec Ideal SS .f32) : FVec Ideal S17408x1024 .f32 :=
  shapeCast S17408x1024 (broadcastInDim S1x17408x1024 ![1, 2] bcast_S17408x1024_S1x17408x1024_1_2
    (concatenate S17408x1024 0 [⟨S16384x1024, shapeCast S16384x1024 H shapeCasts_S2x8192x1024_S16384x1024⟩,
      ⟨S1024x1024, shapeCast S1024x1024 S shapeCasts_S128x8x1024_S1024x1024⟩] concatenates_S16384x1024_S1024x1024_S17408x1024_d0)) shapeCasts_S1x17408x1024_S17408x1024
/-- and the gains as a row. -/
def gains (G : FVec Ideal SG .f32) : FVec Ideal S1x1024 .f32 := shapeCast S1x1024 G shapeCasts_S1024_S1x1024

theorem joined_at (H : FVec Ideal SP .f32) (S : FVec Ideal SS .f32) (r : Fin 17408) (j : Fin 1024) : joined H S (ix2 r j) = row H S r j := by
  unfold joined
  pointwise
  rfl

theorem gains_at (G : FVec Ideal SG .f32) (j : Fin 1024) : gains G (ix2 0 j) = G (ix1 j) := by
  unfold gains
  pointwise

variable (m : (ℓ : Loc nD τ sig) → Buf (Elt Ideal) ℓ) (c : Dev nD)

/-- The prompt's stream, -/
def aH : FVec Ideal SP .f32 := m ((c.tc : Thread nD τ).loc main_arg0)
/-- the sample's, -/
def aS : FVec Ideal SS .f32 := m ((c.tc : Thread nD τ).loc main_arg1)
/-- and the gains. -/
def aG : FVec Ideal SG .f32 := m ((c.tc : Thread nD τ).loc main_arg2)

theorem V_joined : V m c main_v4 = (joined (aH m c) (aS m c) : FVec Ideal S17408x1024 .f32) := by
  unfold V; simp only [hostOps0]; after_results_simp <;> rfl
theorem V_gains : V m c main_v5 = (gains (aG m c) : FVec Ideal S1x1024 .f32) := by
  unfold V; simp only [hostOps0]; after_results_simp <;> rfl

/-! ## The blocks -/

theorem index0 : ∀ t : Fin cfg0.N, win0_0.index t 0 = t.val ∧ win0_0.index t 1 = 0 :=
  (by decide +kernel : ∀ t : Fin grid0.N, win0_0.index t 0 = t.val ∧ win0_0.index t 1 = 0)
theorem index1 : ∀ t : Fin cfg0.N, win0_1.index t 0 = 0 ∧ win0_1.index t 1 = 0 :=
  (by decide +kernel : ∀ t : Fin grid0.N, win0_1.index t 0 = 0 ∧ win0_1.index t 1 = 0)
theorem index2 : ∀ t : Fin cfg0.N, win0_2.index t 0 = t.val ∧ win0_2.index t 1 = 0 :=
  (by decide +kernel : ∀ t : Fin grid0.N, win0_2.index t 0 = t.val ∧ win0_2.index t 1 = 0)

theorem iblk_joined (t : Fin cfg0.N) (q : Fin 512) (k : Fin 1024) (r : Fin 17408) (hr : r.val = t.val * 512 + q.val) :
    (iblk m c 0 t : Vec Ideal S512x1024 .f32) (ix2 q k) = row (aH m c) (aS m c) r k := by
  unfold iblk
  rw [View.read_apply, ← joined_at (aH m c) (aS m c) r k, ← V_joined]
  show V m c main_v4 _ = V m c main_v4 _
  congr 1
  obtain ⟨h0, h1⟩ := index0 t
  funext a
  apply Fin.ext
  match a with
  | ⟨0, _⟩ => show win0_0.index t 0 * 512 + 1 * q.val = r.val; omega
  | ⟨1, _⟩ => show win0_0.index t 1 * 1024 + 1 * k.val = k.val; omega

theorem iblk_gains (t : Fin cfg0.N) (j : Fin 1024) :
    (iblk m c 1 t : Vec Ideal S1x1024 .f32) (ix2 0 j) = aG m c (ix1 j) := by
  unfold iblk
  rw [View.read_apply, ← gains_at (aG m c) j, ← V_gains]
  show V m c main_v5 _ = V m c main_v5 _
  congr 1
  obtain ⟨h0, h1⟩ := index1 t
  funext a
  apply Fin.ext
  match a with
  | ⟨0, _⟩ => show win0_1.index t 0 * 1 + 1 * 0 = 0; omega
  | ⟨1, _⟩ => show win0_1.index t 1 * 1024 + 1 * j.val = j.val; omega

/-! ## The result array -/

/-- The result array: each row's norm. -/
def normArr : FVec Ideal S17408x1024 .f32 := fun i => nrm (row (aH m c) (aS m c) (i 0)) (aG m c (ix1 (i 1))) (i 1)

/-- The block a point leaves, element by element. -/
theorem block_at (t : Fin cfg0.N) (q : Fin 512) (j : Fin 1024) (r : Fin 17408) (hr : r.val = t.val * 512 + q.val) :
    out0_2 (F := Ideal) (iblk m c 0 t) (iblk m c 1 t) (ix2 q j) = nrm (row (aH m c) (aS m c) r) (aG m c (ix1 j)) j := by
  rw [out_at, iblk_gains m c t j]
  exact congrArg (nrm · (aG m c (ix1 j)) j) (funext fun k => iblk_joined m c t q k r hr)

/-- What a point writes back is its block of the result array. -/
theorem flushed_eq (t : Fin cfg0.N) (hf : (cfg0.win 2).flush t = true) :
    (dats m 0 c).flushed 2 t = ((cfg0.win 2).blk t).view.read (Elt Ideal) (normArr m c) := by
  rw [Cert.FinalIdeal.Value.flushed2]
  funext j
  rw [View.read_apply]
  obtain ⟨h0, h1⟩ := index2 t
  have j0 : (j 0).val < 512 := (j 0).isLt
  have j1 : (j 1).val < 1024 := (j 1).isLt
  have e0 : (((cfg0.win 2).blk t).view.emb j 0).val = win0_2.index t 0 * 512 + 1 * (j 0).val := rfl
  have e1 : (((cfg0.win 2).blk t).view.emb j 1).val = win0_2.index t 1 * 1024 + 1 * (j 1).val := rfl
  refine Eq.trans (b := out0_2 (F := Ideal) (iblk m c 0 t) (iblk m c 1 t) (ix2 ⟨(j 0).val, j0⟩ ⟨(j 1).val, j1⟩)) ?_ ?_
  · show out0_2 (F := Ideal) _ _ _ = out0_2 (F := Ideal) _ _ _
    congr 1
    funext a
    apply Fin.ext
    match a with
    | ⟨0, _⟩ => rfl
    | ⟨1, _⟩ => rfl
  · refine (block_at m c t _ _ (((cfg0.win 2).blk t).view.emb j 0) (by rw [e0, h0]; dsimp only; omega)).trans ?_
    have ej : (⟨(j 1).val, j1⟩ : Fin 1024) = ((cfg0.win 2).blk t).view.emb j 1 := Fin.ext (by rw [e1, h1]; dsimp only; omega)
    exact congrArg (fun k : Fin 1024 => nrm (row (aH m c) (aS m c) (((cfg0.win 2).blk t).view.emb j 0)) (aG m c (ix1 k)) k) ej

/-- So the output array ends at the result array. -/
theorem final_o : (dats m 0 c).arrAt 2 cfg0.N = normArr m c :=
  (dats m 0 c).arrAt_eq_of_cover 2 (normArr m c) (flushed_eq m c) fun i => by
    have i0 : (i 0 : Nat) < 17408 := (i 0).isLt
    have i1 : (i 1 : Nat) < 1024 := (i 1).isLt
    have hN : (i 0).val / 512 < cfg0.N := by
      rw [show cfg0.N = 34 from N_0]; omega
    refine ⟨⟨_, hN⟩, flush0_2 _, ?_⟩
    obtain ⟨h0, h1⟩ := index2 ⟨_, hN⟩
    show i ∈ ((View.whole main_v6).slice (win0_2.rect ⟨_, hN⟩)).set
    rw [View.set_slice_whole, Rect.mem_set_unit]
    intro a
    match a with
    | ⟨0, _⟩ => show win0_2.index ⟨_, hN⟩ 0 * 512 ≤ (i 0 : Nat) ∧ (i 0 : Nat) < win0_2.index ⟨_, hN⟩ 0 * 512 + 512
                rw [h0]; dsimp only; omega
    | ⟨1, _⟩ => show win0_2.index ⟨_, hN⟩ 1 * 1024 ≤ (i 1 : Nat) ∧ (i 1 : Nat) < win0_2.index ⟨_, hN⟩ 1 * 1024 + 1024
                rw [h1]; dsimp only; omega

/-- The run, read: the result at the result array, the arguments unchanged. -/
theorem run (ρ : Dev nD → PrngReg) : θ_run defs (onTc (τ := τ) (main (F := Ideal))) ⟨m, fun _ => 0, ρ⟩ fun r => ∀ c : Dev nD,
      r.2.mem ((c.tc : Thread nD τ).loc main_v6) = normArr m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c).1.trans (final_o m c), (h c).2⟩) (Cert.FinalIdeal.Value.run_blocks m ρ)

end Cert.FinalIdeal.Norm

end
-- ==== Proof.ExpRef.lean ====
/-
  What the reference of the experts holds: for every token and column, the sum over the experts of the token's gate
  times the gelu of its product with the expert's first vector times the column of the expert's second.
-/
module

public import proofs.«01_k».proof.Proof.Gen.ExpertsReferenceIdeal.Run
public import Idealize.ShloMosaic.Lib.Pointwise

@[expose] public section

set_option maxRecDepth 16384

noncomputable section

namespace Cert.Exp

open Idealize.ShloMosaic
open scoped BigOperators

/-- The tokens, -/
abbrev SX : Shape := ⟨2, ![17408, 1024]⟩
/-- either vector of every expert, -/
abbrev SU : Shape := ⟨2, ![16384, 1024]⟩
/-- and the gates. -/
abbrev SM : Shape := ⟨2, ![17408, 16384]⟩

/-- The gelu, by the error function. -/
def gelu (x : EReal) : EReal :=
  Ideal.ofBits FTy.f32 0x3F000000#32 * x * (1 + Ideal.erf (x * Ideal.ofBits FTy.f32 0x3F3504F3#32))

/-- The same by the error function's complement. -/
theorem gelu_erfc (x : EReal) :
    Ideal.ofBits FTy.f32 0x3F000000#32 * x * Ideal.erfc (-x * Ideal.ofBits FTy.f32 0x3F3504F3#32) = gelu x := by
  unfold gelu
  rw [EReal.neg_mul, Ideal.erfc_neg]

/-- Expert `e`'s part in column `d` of token `t`. -/
def part (X : FVec Ideal SX .f32) (U V : FVec Ideal SU .f32) (M : FVec Ideal SM .f32) (t : Fin 17408) (d : Fin 1024) (e : Fin 16384) : EReal :=
  M (ix2 t e) * gelu (∑ k : Fin 1024, X (ix2 t k) * U (ix2 e k)) * V (ix2 e d)

end Cert.Exp

namespace Cert.ExpertsReferenceIdeal.Value

open Cert.ExpertsReferenceIdeal Cert.ExpertsReferenceIdeal.Gen Cert.Exp
open Idealize.ShloMosaic Idealize.ShloMosaic.TcCoe Idealize.SL.Sem
open scoped BigOperators

variable (X : FVec Ideal SX .f32) (U V : FVec Ideal SU .f32) (M : FVec Ideal SM .f32)

/-- The products with the first vectors, -/
def hA : FVec Ideal SM .f32 := Host.dotGeneral dot_S17408x1024_S16384x1024_S17408x16384_1_1_0_0_n_n none X U
/-- their gelus, -/
def actA : FVec Ideal SM .f32 :=
  mulf (mulf (broadcastInDim S17408x16384 ![] bcast_S_S17408x16384 (constant S_ .f32 0x3F000000#32)) (hA X U))
    (Host.erfc (mulf (Host.negf (hA X U)) (broadcastInDim S17408x16384 ![] bcast_S_S17408x16384 (constant S_ .f32 0x3F3504F3#32))))
/-- and the gated sum of the second vectors. -/
def mixA : FVec Ideal SX .f32 :=
  Host.dotGeneral dot_S17408x16384_S16384x1024_S17408x1024_1_0_0_1_n_n none (mulf M (actA X U)) V

theorem actA_at (t : Fin 17408) (e : Fin 16384) : actA X U (ix2 t e) = gelu (∑ k : Fin 1024, X (ix2 t k) * U (ix2 e k)) := by
  unfold actA hA
  pointwise
  exact gelu_erfc _

/-- Each element of the reference's result is the sum of the experts' parts. -/
theorem mixA_at (t : Fin 17408) (d : Fin 1024) : mixA X U V M (ix2 t d) = ∑ e : Fin 16384, part X U V M t d e := by
  unfold mixA
  pointwise
  simp only [actA_at]
  rfl

/-- The reference's run, its result named. -/
theorem run_mix (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v9) = mixA (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  run m ρ

end Cert.ExpertsReferenceIdeal.Value

end
-- ==== Proof.ExpValue.lean ====
/-
  The experts read element by element: the kernel's result holds, for every token and column, the sum over the experts
  of the token's gate times the gelu of its product with the expert's first vector times the column of the second.
-/
module

public import proofs.«01_k».proof.Proof.Gen.ExpertsIdeal.Value
public import proofs.«01_k».proof.Proof.ExpRef

@[expose] public section

set_option maxRecDepth 16384

noncomputable section

namespace Cert.ExpertsIdeal.Mix

open Cert.ExpertsIdeal Cert.ExpertsIdeal.Gen Cert.Exp
open Idealize.ShloMosaic Idealize.ShloMosaic.TcCoe Idealize.SL.Sem
open scoped BigOperators

/-- What a block of a thousand experts adds to a token's column. -/
def adds (X U : FVec Ideal S1024x1024 .bf16) (M V : FVec Ideal S1024x1024 .bf16) (q d : Fin 1024) : EReal :=
  ∑ e : Fin 1024, M (ix2 q e) * gelu (∑ k : Fin 1024, X (ix2 q k) * U (ix2 k e)) * V (ix2 e d)

theorem pay_at (X U M : FVec Ideal S1024x1024 .bf16) (A : FVec Ideal S1024x1024 .f32) (V : FVec Ideal S1024x1024 .bf16) (q d : Fin 1024) :
    k0_pay2 (F := Ideal) X U M A V (ix2 q d) = A (ix2 q d) + adds X U M V q d := by
  unfold k0_pay2 adds gelu
  pointwise
  rfl

theorem zero_at (q d : Fin 1024) : k0_pay1 (F := Ideal) (ix2 q d) = 0 := by
  unfold k0_pay1
  pointwise

/-! ## The arrays the windows read -/

/-- The tokens, -/
def toks (X : FVec Ideal SX .f32) : FVec Ideal S17408x1024 .bf16 := truncf .bf16 X bitsLt_bf16_f32
/-- the first vectors, a column each, -/
def firsts (U : FVec Ideal SU .f32) : FVec Ideal S1024x16384 .bf16 :=
  transpose S1024x16384 [1, 0] (truncf .bf16 U bitsLt_bf16_f32 : FVec Ideal S16384x1024 .bf16) transposes_S16384x1024_S1024x16384_1_0
/-- the second, -/
def seconds (V : FVec Ideal SU .f32) : FVec Ideal S16384x1024 .bf16 := truncf .bf16 V bitsLt_bf16_f32
/-- and the gates. -/
def gates (M : FVec Ideal SM .f32) : FVec Ideal S17408x16384 .bf16 := truncf .bf16 M bitsLt_bf16_f32

theorem toks_at (X : FVec Ideal SX .f32) (t : Fin 17408) (k : Fin 1024) : toks X (ix2 t k) = X (ix2 t k) := by
  unfold toks
  pointwise
theorem firsts_at (U : FVec Ideal SU .f32) (k : Fin 1024) (e : Fin 16384) : firsts U (ix2 k e) = U (ix2 e k) := by
  unfold firsts
  pointwise
theorem seconds_at (V : FVec Ideal SU .f32) (e : Fin 16384) (d : Fin 1024) : seconds V (ix2 e d) = V (ix2 e d) := by
  unfold seconds
  pointwise
theorem gates_at (M : FVec Ideal SM .f32) (t : Fin 17408) (e : Fin 16384) : gates M (ix2 t e) = M (ix2 t e) := by
  unfold gates
  pointwise

variable (m : (ℓ : Loc nD τ sig) → Buf (Elt Ideal) ℓ) (c : Dev nD)

/-- The tokens given, -/
def aX : FVec Ideal SX .f32 := m ((c.tc : Thread nD τ).loc main_arg0)
/-- the experts' first vectors, -/
def aU : FVec Ideal SU .f32 := m ((c.tc : Thread nD τ).loc main_arg1)
/-- their second -/
def aV : FVec Ideal SU .f32 := m ((c.tc : Thread nD τ).loc main_arg2)
/-- and the gates. -/
def aM : FVec Ideal SM .f32 := m ((c.tc : Thread nD τ).loc main_arg3)

theorem V_toks : V m c main_v0 = (toks (aX m c) : FVec Ideal S17408x1024 .bf16) := by
  unfold V; simp only [hostOps0]; after_results_simp <;> rfl
theorem V_firsts : V m c main_v2 = (firsts (aU m c) : FVec Ideal S1024x16384 .bf16) := by
  unfold V; simp only [hostOps0]; after_results_simp <;> rfl
theorem V_seconds : V m c main_v3 = (seconds (aV m c) : FVec Ideal S16384x1024 .bf16) := by
  unfold V; simp only [hostOps0]; after_results_simp <;> rfl
theorem V_gates : V m c main_v4 = (gates (aM m c) : FVec Ideal S17408x16384 .bf16) := by
  unfold V; simp only [hostOps0]; after_results_simp <;> rfl

/-! ## The blocks -/

theorem index0 : ∀ t : Fin cfg0.N, win0_0.index t 0 = t.val / 16 ∧ win0_0.index t 1 = 0 :=
  (by decide +kernel : ∀ t : Fin grid0.N, win0_0.index t 0 = t.val / 16 ∧ win0_0.index t 1 = 0)
theorem index1 : ∀ t : Fin cfg0.N, win0_1.index t 0 = 0 ∧ win0_1.index t 1 = t.val % 16 :=
  (by decide +kernel : ∀ t : Fin grid0.N, win0_1.index t 0 = 0 ∧ win0_1.index t 1 = t.val % 16)
theorem index2 : ∀ t : Fin cfg0.N, win0_2.index t 0 = t.val % 16 ∧ win0_2.index t 1 = 0 :=
  (by decide +kernel : ∀ t : Fin grid0.N, win0_2.index t 0 = t.val % 16 ∧ win0_2.index t 1 = 0)
theorem index3 : ∀ t : Fin cfg0.N, win0_3.index t 0 = t.val / 16 ∧ win0_3.index t 1 = t.val % 16 :=
  (by decide +kernel : ∀ t : Fin grid0.N, win0_3.index t 0 = t.val / 16 ∧ win0_3.index t 1 = t.val % 16)

theorem iblk_toks (n : Fin cfg0.N) (q k : Fin 1024) (t : Fin 17408) (ht : t.val = n.val / 16 * 1024 + q.val) :
    (iblk m c 0 n : Vec Ideal S1024x1024 .bf16) (ix2 q k) = aX m c (ix2 t k) := by
  unfold iblk
  rw [View.read_apply, ← toks_at (aX m c) t k, ← V_toks]
  show V m c main_v0 _ = V m c main_v0 _
  congr 1
  obtain ⟨h0, h1⟩ := index0 n
  funext a
  apply Fin.ext
  match a with
  | ⟨0, _⟩ => show win0_0.index n 0 * 1024 + 1 * q.val = t.val; omega
  | ⟨1, _⟩ => show win0_0.index n 1 * 1024 + 1 * k.val = k.val; omega

theorem iblk_firsts (n : Fin cfg0.N) (k e' : Fin 1024) (e : Fin 16384) (he : e.val = n.val % 16 * 1024 + e'.val) :
    (iblk m c 1 n : Vec Ideal S1024x1024 .bf16) (ix2 k e') = aU m c (ix2 e k) := by
  unfold iblk
  rw [View.read_apply, ← firsts_at (aU m c) k e, ← V_firsts]
  show V m c main_v2 _ = V m c main_v2 _
  congr 1
  obtain ⟨h0, h1⟩ := index1 n
  funext a
  apply Fin.ext
  match a with
  | ⟨0, _⟩ => show win0_1.index n 0 * 1024 + 1 * k.val = k.val; omega
  | ⟨1, _⟩ => show win0_1.index n 1 * 1024 + 1 * e'.val = e.val; omega

theorem iblk_seconds (n : Fin cfg0.N) (e' d : Fin 1024) (e : Fin 16384) (he : e.val = n.val % 16 * 1024 + e'.val) :
    (iblk m c 2 n : Vec Ideal S1024x1024 .bf16) (ix2 e' d) = aV m c (ix2 e d) := by
  unfold iblk
  rw [View.read_apply, ← seconds_at (aV m c) e d, ← V_seconds]
  show V m c main_v3 _ = V m c main_v3 _
  congr 1
  obtain ⟨h0, h1⟩ := index2 n
  funext a
  apply Fin.ext
  match a with
  | ⟨0, _⟩ => show win0_2.index n 0 * 1024 + 1 * e'.val = e.val; omega
  | ⟨1, _⟩ => show win0_2.index n 1 * 1024 + 1 * d.val = d.val; omega

theorem iblk_gates (n : Fin cfg0.N) (q e' : Fin 1024) (t : Fin 17408) (e : Fin 16384) (ht : t.val = n.val / 16 * 1024 + q.val)
    (he : e.val = n.val % 16 * 1024 + e'.val) :
    (iblk m c 3 n : Vec Ideal S1024x1024 .bf16) (ix2 q e') = aM m c (ix2 t e) := by
  unfold iblk
  rw [View.read_apply, ← gates_at (aM m c) t e, ← V_gates]
  show V m c main_v4 _ = V m c main_v4 _
  congr 1
  obtain ⟨h0, h1⟩ := index3 n
  funext a
  apply Fin.ext
  match a with
  | ⟨0, _⟩ => show win0_3.index n 0 * 1024 + 1 * q.val = t.val; omega
  | ⟨1, _⟩ => show win0_3.index n 1 * 1024 + 1 * e'.val = e.val; omega

/-! ## The result array -/

/-- What the point `n` adds to column `d` of its token `q` is the parts of its thousand experts. -/
theorem adds_at (n : Fin cfg0.N) (q d : Fin 1024) (t : Fin 17408) (ht : t.val = n.val / 16 * 1024 + q.val) :
    adds (iblk m c 0 n) (iblk m c 1 n) (iblk m c 3 n) (iblk m c 2 n) q d
      = ∑ e : Fin 1024, part (aX m c) (aU m c) (aV m c) (aM m c) t d ⟨n.val % 16 * 1024 + e.val, by omega⟩ := by
  unfold adds part
  refine Finset.sum_congr rfl fun e _ => ?_
  have hb : n.val % 16 * 1024 + e.val < 16384 := by omega
  rw [iblk_gates m c n q e t ⟨_, hb⟩ ht rfl, iblk_seconds m c n e d ⟨_, hb⟩ rfl]
  congr 3
  refine Finset.sum_congr rfl fun k _ => ?_
  rw [iblk_toks m c n q k t ht, iblk_firsts m c n k e ⟨_, hb⟩ rfl]

/-- What a point adds, at any number. -/
def addsN (n : Nat) (i : S1024x1024.Idx) : EReal :=
  if h : n < cfg0.N then adds (iblk m c 0 ⟨n, h⟩) (iblk m c 1 ⟨n, h⟩) (iblk m c 3 ⟨n, h⟩) (iblk m c 2 ⟨n, h⟩) (i 0) (i 1) else 0

theorem pay_any (X U M : FVec Ideal S1024x1024 .bf16) (A : FVec Ideal S1024x1024 .f32) (V : FVec Ideal S1024x1024 .bf16) (i : S1024x1024.Idx) :
    k0_pay2 (F := Ideal) X U M A V i = A i + adds X U M V (i 0) (i 1) := by
  obtain ⟨q, d, rfl⟩ : ∃ q d : Fin 1024, i = ix2 q d := ⟨i 0, i 1, by funext a; match a with | ⟨0, _⟩ => rfl | ⟨1, _⟩ => rfl⟩
  exact pay_at X U M A V q d

theorem zero_any (i : S1024x1024.Idx) : k0_pay1 (F := Ideal) i = 0 := by
  obtain ⟨q, d, rfl⟩ : ∃ q d : Fin 1024, i = ix2 q d := ⟨i 0, i 1, by funext a; match a with | ⟨0, _⟩ => rfl | ⟨1, _⟩ => rfl⟩
  exact zero_at q d

/-- The fold over a run of sixteen points is the sum of what they add. -/
theorem fold_at (b : Nat) (h : b + 15 < cfg0.N) (i : S1024x1024.Idx) :
    Pipeline.accAt (Cert.ExpertsIdeal.Value.reset4 m c) (Cert.ExpertsIdeal.Value.step4 m c) b 15 h i = ∑ s ∈ Finset.range 16, addsN m c (b + s) i := by
  have key := Pipeline.accAt_add_apply (Cert.ExpertsIdeal.Value.reset4 m c) (Cert.ExpertsIdeal.Value.step4 m c) (fun _ => (0 : EReal)) (addsN m c) b 15
    (fun hb j => by
      unfold Cert.ExpertsIdeal.Value.reset4 addsN
      rw [dif_pos hb, pay_any, zero_any])
    (fun n hn acc j _ _ => by
      unfold Cert.ExpertsIdeal.Value.step4 addsN
      rw [dif_pos hn, pay_any])
    15 (le_refl _) h i
  rw [key, zero_add]

/-- A sum over the experts, a thousand at a time. -/
theorem sum_blocks (f : Fin 16384 → EReal) :
    ∑ e : Fin 16384, f e = ∑ s : Fin 16, ∑ e : Fin 1024, f ⟨s.val * 1024 + e.val, by omega⟩ := by
  rw [← Fintype.sum_prod_type', ← (finProdFinEquiv (m := 16) (n := 1024)).sum_comp]
  refine Finset.sum_congr rfl fun x _ => congrArg f (Fin.ext ?_)
  show x.2.val + 1024 * x.1.val = x.1.val * 1024 + x.2.val
  omega

/-- Each element of the result array is the sum of the experts' parts. -/
theorem out_at (t : Fin 17408) (d : Fin 1024) :
    (Cert.ExpertsIdeal.Value.G4 m c : FVec Ideal S17408x1024 .f32) (ix2 t d) = ∑ e : Fin 16384, part (aX m c) (aU m c) (aV m c) (aM m c) t d e := by
  have ht := t.isLt
  have hd := d.isLt
  have hN : cfg0.N = 272 := N_0
  have hrun : Cert.ExpertsIdeal.Value.run4Of (ix2 t d : S17408x1024.Idx) = t.val / 1024 := by
    show 1 * (t.val / 1024 - 0) + 1 * (d.val / 1024 - 0) = t.val / 1024
    omega
  unfold Cert.ExpertsIdeal.Value.G4
  rw [dif_pos (by rw [hrun, hN]; omega), fold_at, sum_blocks]
  refine (Finset.sum_range (M := EReal) _).trans ?_
  refine Finset.sum_congr rfl fun s _ => ?_
  have hs := s.isLt
  have hn : 16 * Cert.ExpertsIdeal.Value.run4Of (ix2 t d : S17408x1024.Idx) + s.val < cfg0.N := by rw [hrun, hN]; omega
  unfold addsN
  rw [dif_pos hn]
  refine (adds_at m c ⟨_, hn⟩ ⟨t.val % 1024, Nat.mod_lt _ (by decide)⟩ ⟨d.val % 1024, Nat.mod_lt _ (by decide)⟩ t (by
    show t.val = (16 * Cert.ExpertsIdeal.Value.run4Of (ix2 t d : S17408x1024.Idx) + s.val) / 16 * 1024 + t.val % 1024
    rw [hrun]; omega)).trans ?_
  refine Finset.sum_congr rfl fun e _ => ?_
  have e1 : (⟨d.val % 1024, Nat.mod_lt _ (by decide)⟩ : Fin 1024) = d := Fin.ext (by dsimp only; omega)
  rw [e1]
  exact congrArg (part _ _ _ _ t d) (Fin.ext (by
    show (16 * Cert.ExpertsIdeal.Value.run4Of (ix2 t d : S17408x1024.Idx) + s.val) % 16 * 1024 + e.val = s.val * 1024 + e.val
    rw [hrun]; omega))

/-- The kernel's run, its result named. -/
theorem run (ρ : Dev nD → PrngReg) : θ_run defs (onTc (τ := τ) (main (F := Ideal))) ⟨m, fun _ => 0, ρ⟩ fun r => ∀ c : Dev nD,
      r.2.mem ((c.tc : Thread nD τ).loc main_v5) = Cert.ExpertsIdeal.Value.G4 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  Cert.ExpertsIdeal.Value.run m ρ

end Cert.ExpertsIdeal.Mix

end
-- ==== Proof.SelMath.lean ====
/-
  The compressed branch's attention with real scores: query `q` sees the compressed keys whose window ends at or before
  it, and takes the average of their values by the exponentials of their scores; a query that sees none takes zero.
-/
module

public import proofs.«01_k».proof.Proof.Attn

@[expose] public section

noncomputable section

namespace Cert.Soft

open Idealize.ShloMosaic
open scoped BigOperators

/-- How many compressed keys a query sees: key `n` covers the tokens `16 n … 16 n + 31`. -/
def seen (q : ℕ) : ℕ := (q + 1) / 16 - 1

theorem lt_seen (q n : ℕ) : n < seen q ↔ n * 16 + 31 ≤ q := by unfold seen; omega

theorem seen_le (q : Fin 8192) : seen q.val ≤ 511 := by
  have := q.isLt
  unfold seen; omega

/-- A key's weight: its exponential's share among the first `K` keys, zero past them. -/
def wt (x : ℕ → ℝ) (K n : ℕ) : ℝ := if n < K then _root_.Real.exp (x n) / ∑ k ∈ Finset.range K, _root_.Real.exp (x k) else 0

/-- A softmax whose scores past the first `K` keys are minus infinity, its weights past them dropped. -/
theorem wt_dropped {N : ℕ} (x : ℕ → ℝ) (K : ℕ) (hK : K ≤ N) (s : Fin N → EReal)
    (hs : ∀ c, s c = if c.val < K then ((x c.val : ℝ) : EReal) else ⊥) (c : Fin N) :
    (if c.val < K then Ideal.div (Ideal.exp (s c - Finset.fold max ⊥ s Finset.univ))
        (∑ d, Ideal.exp (s d - Finset.fold max ⊥ s Finset.univ)) else 0) = ((wt x K c.val : ℝ) : EReal) := by
  cases K with
  | zero => unfold wt; rw [if_neg (Nat.not_lt_zero _), if_neg (Nat.not_lt_zero _), EReal.coe_zero]
  | succ q =>
    have h := softmax_row x q hK s (fun c => by rw [hs c]; exact if_congr Nat.lt_succ_iff rfl rfl) c
    unfold wt
    refine Eq.trans (if_congr Nat.lt_succ_iff rfl rfl) (h.trans (congrArg _ ?_))
    exact (if_congr Nat.lt_succ_iff rfl rfl).symm

/-- A maximum over at least one real value and no infinite one is a real number. -/
theorem fold_real {N : ℕ} (c : Fin N) (s : Fin N → EReal) (hs : ∀ d, ∃ μ : ℝ, s d = (μ : EReal)) :
    ∃ ν : ℝ, Finset.fold max ⊥ s Finset.univ = (ν : EReal) := by
  classical
  obtain ⟨μ, hμ⟩ := hs c
  obtain ⟨ν, hν⟩ := max_fold_real Finset.univ μ s fun d => by
    obtain ⟨ξ, hξ⟩ := hs d
    rw [hξ]; exact EReal.coe_ne_top _
  refine ⟨ν, ?_⟩
  rw [← hν, ← hμ]
  exact (max_eq_right ((Finset.le_fold_max (s c)).mpr (Or.inr ⟨c, Finset.mem_univ c, le_rfl⟩))).symm

/-- A softmax whose scores past the first `K` keys are some other real number and whose exponentials past them are
    zero, multiplied by the sum's reciprocal where the sum is positive. -/
theorem wt_recip {N : ℕ} (x : ℕ → ℝ) (K : ℕ) (hK : K ≤ N) (s e : Fin N → EReal) (μ : ℝ)
    (hs : ∀ c, s c = if c.val < K then ((x c.val : ℝ) : EReal) else (μ : EReal))
    (he : ∀ c, e c = if c.val < K then Ideal.exp (s c - Finset.fold max ⊥ s Finset.univ) else 0) (c : Fin N) :
    e c * (if 0 < ∑ d, e d then Ideal.div 1 (∑ d, e d) else 0) = ((wt x K c.val : ℝ) : EReal) := by
  obtain ⟨ν, hν⟩ := fold_real c s fun d => by
    by_cases h : d.val < K
    · exact ⟨_, (hs d).trans (if_pos h)⟩
    · exact ⟨_, (hs d).trans (if_neg h)⟩
  have he' : ∀ d, e d = ((if d.val < K then _root_.Real.exp (x d.val - ν) else 0 : ℝ) : EReal) := fun d => by
    rw [he d, hν]
    by_cases h : d.val < K
    · rw [if_pos h, if_pos h, hs d, if_pos h, exp_sub_coe]
    · rw [if_neg h, if_neg h, EReal.coe_zero]
  have hsum : ∑ d, e d = ((∑ k ∈ Finset.range K, _root_.Real.exp (x k - ν) : ℝ) : EReal) := by
    rw [Finset.sum_congr rfl fun d _ => he' d, ← coe_sum, sum_masked N K hK fun k => _root_.Real.exp (x k - ν)]
  rw [hsum, he' c]
  unfold wt
  by_cases h : c.val < K
  · have hpos : 0 < ∑ k ∈ Finset.range K, _root_.Real.exp (x k - ν) := sum_pos x ν (by omega)
    rw [if_pos h, if_pos h, if_pos (by exact_mod_cast hpos), Ideal.div_coe hpos.ne', one_mul, ← EReal.coe_mul]
    refine congrArg _ ?_
    rw [mul_one_div, sum_shift, show x c.val - ν = x c.val + -ν from sub_eq_add_neg _ _, _root_.Real.exp_add]
    exact mul_div_mul_right _ _ (_root_.Real.exp_pos _).ne'
  · rw [if_neg h, if_neg h, EReal.coe_zero, zero_mul]

/-- The shapes of the queries and of the compressed keys and values. -/
abbrev SSQ : Shape := ⟨4, ![2, 8192, 8, 64]⟩
abbrev SSC : Shape := ⟨4, ![2, 511, 2, 64]⟩

/-- A compressed key given as a number. -/
def cpos (n : ℕ) : Fin 511 := ⟨n % 511, Nat.mod_lt _ (by decide)⟩
/-- The query head `r` of key head `g`. -/
def head (g : Fin 2) (r : Fin 4) : Fin 8 := ⟨g.val * 4 + r.val, by omega⟩

/-- A query's score against compressed key `n`: their inner product over eight. -/
def cqk (Q : FVec Ideal SSQ .f32) (K : FVec Ideal SSC .f32) (b g : Fin 2) (r : Fin 4) (q : Fin 8192) (n : ℕ) : ℝ :=
  ∑ d : Fin 64, EReal.toReal (Q (ix4 b q (head g r) d)) * (1 / 8) * EReal.toReal (K (ix4 b (cpos n) g d))

/-- The compressed branch's attention: real weights of values that may be infinite. -/
def cattn (Q : FVec Ideal SSQ .f32) (K V : FVec Ideal SSC .f32) (b g : Fin 2) (r : Fin 4) (q : Fin 8192) (e : Fin 64) : EReal :=
  ∑ n : Fin 511, ((wt (cqk Q K b g r q) (seen q.val) n.val : ℝ) : EReal) * V (ix4 b n g e)

end Cert.Soft

end
-- ==== Proof.SelBody.lean ====
/-
  The compressed branch's body read element by element: the block a grid point leaves holds, for each of its four query
  heads and 256 queries, the masked softmax of the block's scores applied to the block's values. The four heads' stores
  are one computation, named here once.
-/
module

public import proofs.«01_k».proof.Proof.Gen.SelectIdeal.Value
public import proofs.«01_k».proof.Proof.SelMath
public import Idealize.ShloMosaic.Lib.Pointwise

@[expose] public section

set_option maxRecDepth 16384

noncomputable section

namespace Cert.SelectIdeal.Sel

open Cert.SelectIdeal Cert.SelectIdeal.Gen Cert.Soft
open Idealize.ShloMosaic Idealize.ShloMosaic.TcCoe Idealize.SL.Sem
open scoped BigOperators

/-! ## One head's computation, one array after the other -/

/-- The masked scores, -/
def scK (M : IVec S256x512 1) (K : FVec Ideal S512x64 .bf16) (Q : FVec Ideal S256x64 .bf16) : FVec Ideal S256x512 .f32 :=
  select M (matmul dot_S256x64_S512x64_S256x512_1_1_0_0_n_n none Q K (constant S256x512 .f32 0x00000000#32)) (broadcast S256x512 (Scalar.ofBits .f32 0xF149F2CA#32))

/-- their masked exponentials, less the row's maximum, -/
def exK (M : IVec S256x512 1) (S : FVec Ideal S256x512 .f32) : FVec Ideal S256x512 .f32 :=
  select M (exp (subf S (broadcastTo S256x512 (shapeCast S256x1 (multiReduction .maximumf [1] S256 S 0xFF800000#32 reduces_S256x512_S256 (.inl rfl) rfl) shapeCasts_S256_S256x1) broadcasts_S256x1_S256x512))) (broadcast S256x512 (Scalar.ofBits .f32 0x00000000#32))

/-- the rows' sums, -/
def suK (E : FVec Ideal S256x512 .f32) : FVec Ideal S256x1 .f32 :=
  shapeCast S256x1 (multiReduction .add [1] S256 E 0x00000000#32 reduces_S256x512_S256 (.inl rfl) rfl) shapeCasts_S256_S256x1

/-- the weights, -/
def wtK (E : FVec Ideal S256x512 .f32) (L : FVec Ideal S256x1 .f32) : FVec Ideal S256x512 .f32 :=
  mulf E (broadcastTo S256x512 (select (cmpf .ogt L (broadcast S256x1 (Scalar.ofBits .f32 0x00000000#32))) (divf (broadcast S256x1 (Scalar.ofBits .f32 0x3F800000#32)) L) (broadcast S256x1 (Scalar.ofBits .f32 0x00000000#32))) broadcasts_S256x1_S256x512)

/-- and the weighted values. -/
def ouK (W : FVec Ideal S256x512 .f32) (V : FVec Ideal S512x64 .bf16) : FVec Ideal S1x1x1x256x64 .f32 :=
  shapeCast S1x1x1x256x64 (matmul dot_S256x512_S512x64_S256x64_1_0_0_1_n_n none (truncf .bf16 W bitsLt_bf16_f32) V (constant S256x64 .f32 0x00000000#32)) shapeCasts_S256x64_S1x1x1x256x64

/-- A head's weights from its mask, keys and queries. -/
def weK (M : IVec S256x512 1) (K : FVec Ideal S512x64 .bf16) (Q : FVec Ideal S256x64 .bf16) : FVec Ideal S256x512 .f32 :=
  wtK (exK M (scK M K Q)) (suK (exK M (scK M K Q)))

/-! Each store's payload is that computation. -/

section
variable (i : grid0.Coords) (x1 x2 : Vec Ideal S1x1x512x64 .bf16) (M : IVec S256x512 1) (K V : FVec Ideal S512x64 .bf16) (X : Vec Ideal S1x1x1x256x64 .bf16)

/-- A head's queries as a matrix. -/
def qs (X : Vec Ideal S1x1x1x256x64 .bf16) : FVec Ideal S256x64 .bf16 := shapeCast S256x64 X shapeCasts_S1x1x1x256x64_S256x64

theorem store0 : k0_pay11 V (k0_pay7 i x1 X) (k0_pay8 i x1 X) (k0_pay9 i x1 X) (Scalar.ofBits .f32 0x3F800000#32) = ouK (weK (k0_pay3 i) (k0_pay4 x1) (qs X)) V := by
  unfold k0_pay11 k0_pay10 k0_pay9 k0_pay8 k0_pay7 ouK weK wtK suK exK scK qs
  rfl
theorem store1 : k0_pay15 (k0_pay14 M K V X) = ouK (weK M K (qs X)) V := by
  unfold k0_pay15 k0_pay14 k0_pay13 ouK weK wtK suK exK scK qs
  rfl
theorem store2 : k0_pay17 M K V X = ouK (weK M K (qs X)) V := by
  unfold k0_pay17 k0_pay16 ouK weK wtK suK exK scK qs
  rfl
theorem store3 : k0_pay20 M K V X = ouK (weK M K (qs X)) V := by
  unfold k0_pay20 k0_pay19 ouK weK wtK suK exK scK qs
  rfl
end

/-! ## The arrays read at an index -/

section
variable (M : IVec S256x512 1) (K V : FVec Ideal S512x64 .bf16) (Q : FVec Ideal S256x64 .bf16) (S E W : FVec Ideal S256x512 .f32) (L : FVec Ideal S256x1 .f32)
variable (q : Fin 256) (n : Fin 512)

theorem scK_at : scK M K Q (ix2 q n) = Scalar.select (M (ix2 q n)) (∑ d : Fin 64, Q (ix2 q d) * K (ix2 n d)) (Ideal.ofBits .f32 0xF149F2CA#32) := by
  unfold scK; pointwise

theorem exK_at : exK M S (ix2 q n) = Scalar.select (M (ix2 q n)) (Ideal.exp (S (ix2 q n) - Finset.fold max ⊥ (fun d => S (ix2 q d)) Finset.univ)) 0 := by
  unfold exK; pointwise
  rw [show Ideal.ofBits .f32 0xFF800000#32 = (⊥ : EReal) from by simp [Ideal.ofBits, Ideal.ieee]]

theorem suK_at : suK E (ix2 q 0) = ∑ d, E (ix2 q d) := by
  unfold suK; pointwise

theorem wtK_at : wtK E L (ix2 q n) = E (ix2 q n) * (if 0 < L (ix2 q 0) then Ideal.div 1 (L (ix2 q 0)) else 0) := by
  unfold wtK; pointwise

theorem ouK_at (e : Fin 64) : ouK W V (ix5 0 0 0 q e) = ∑ n : Fin 512, W (ix2 q n) * V (ix2 n e) := by
  unfold ouK; pointwise

theorem pay4_at (x : Vec Ideal S1x1x512x64 .bf16) (d : Fin 64) : k0_pay4 x (ix2 n d) = x (ix4 0 0 n d) := by
  unfold k0_pay4; pointwise
theorem pay5_at (x : Vec Ideal S1x1x512x64 .bf16) (d : Fin 64) : k0_pay5 x (ix2 n d) = x (ix4 0 0 n d) := by
  unfold k0_pay5; pointwise
theorem qs_at (X : Vec Ideal S1x1x1x256x64 .bf16) (d : Fin 64) : qs X (ix2 q d) = X (ix5 0 0 0 q d) := by
  unfold qs; pointwise
end

/-- The query at row `q` of the block sees the compressed key, as the kernel's mask word. -/
theorem select_mask (i : grid0.Coords) (q : Fin 256) (n : Fin 512) (a b : EReal) (p : ℕ) (hp : p = (i 2).val * 256 + q.val) :
    (Scalar.select (k0_pay3 i (ix2 q n)) a b : EReal) = if n.val < seen p then a else b := by
  have hn := n.isLt
  have hq := q.isLt
  have hi : (i 2).val < 32 := (i 2).isLt
  have e0 : k0_pay3 i (ix2 q n) = IntOp.cmpi .sle (BitVec.ofNat 32 n.val * 16#32 + 31#32) (BitVec.ofNat 32 (i 2).val * 256#32 + BitVec.ofNat 32 q.val) := by
    unfold k0_pay3 k0_pay2; pointwise; rfl
  have e1 : (BitVec.ofNat 32 n.val * 16#32 + 31#32).toNat = n.val * 16 + 31 := by
    simp only [BitVec.toNat_add, BitVec.toNat_mul, BitVec.toNat_ofNat]; omega
  have e2 : (BitVec.ofNat 32 (i 2).val * 256#32 + BitVec.ofNat 32 q.val).toNat = p := by
    simp only [BitVec.toNat_add, BitVec.toNat_mul, BitVec.toNat_ofNat]; omega
  have e : k0_pay3 i (ix2 q n) = 1#1 ↔ n.val < seen p := by
    rw [e0, IntOp.cmpi_sle, BitVec.toInt_eq_toNat_of_lt (by rw [e1]; omega), BitVec.toInt_eq_toNat_of_lt (by rw [e2]; omega),
      e1, e2, Int.ofNat_le, lt_seen]
  unfold Scalar.select
  by_cases h : n.val < seen p
  · rw [if_pos h]; exact if_pos (e.mpr h)
  · rw [if_neg h]; exact if_neg fun h' => h (e.mp h')

/-! ## The block a point leaves -/

section
variable (i : grid0.Coords) (x0 : Vec Ideal S1x1x4x256x64 .bf16) (x1 x2 : Vec Ideal S1x1x512x64 .bf16) (x3 : Vec Ideal S512x128 .f32)

/-- Head `r`'s queries in the block. -/
def hq (r : Fin 4) : FVec Ideal S256x64 .bf16 := fun j => x0 (ix5 0 0 r (j 0) (j 1))

/-- The block left, index by index. -/
def left : Vec Ideal S1x1x4x256x64 .f32 := fun y =>
  ∑ n : Fin 512, weK (k0_pay3 i) (k0_pay4 x1) (hq x0 (y 2)) (ix2 (y 3) n) * x2 (ix4 0 0 n (y 4))

theorem hq_eq (r : Fin 4) (X : Vec Ideal S1x1x1x256x64 .bf16)
    (h : ∀ (q : Fin 256) (d : Fin 64), X (ix5 0 0 0 q d) = x0 (ix5 0 0 r q d)) : qs X = hq x0 r := by
  funext j
  obtain ⟨q, d, rfl⟩ : ∃ (q : Fin 256) (d : Fin 64), j = ix2 q d := ⟨j 0, j 1, by
    funext a
    match a with
    | ⟨0, _⟩ => rfl
    | ⟨1, _⟩ => rfl⟩
  rw [qs_at, h]
  rfl

theorem ld0 (q : Fin 256) (d : Fin 64) : View.ld x0 r0_1 (ix5 0 0 0 q d) = x0 (ix5 0 0 0 q d) := by
  show x0 _ = x0 _
  congr 1
  funext a
  apply Fin.ext
  match a with
  | ⟨0, _⟩ => rfl
  | ⟨1, _⟩ => rfl
  | ⟨2, _⟩ => rfl
  | ⟨3, _⟩ => show 0 + 1 * q.val = q.val; omega
  | ⟨4, _⟩ => show 0 + 1 * d.val = d.val; omega
theorem ld1 (q : Fin 256) (d : Fin 64) : View.ld x0 r0_2 (ix5 0 0 0 q d) = x0 (ix5 0 0 1 q d) := by
  show x0 _ = x0 _
  congr 1
  funext a
  apply Fin.ext
  match a with
  | ⟨0, _⟩ => rfl
  | ⟨1, _⟩ => rfl
  | ⟨2, _⟩ => rfl
  | ⟨3, _⟩ => show 0 + 1 * q.val = q.val; omega
  | ⟨4, _⟩ => show 0 + 1 * d.val = d.val; omega
theorem ld2 (q : Fin 256) (d : Fin 64) : View.ld x0 r0_3 (ix5 0 0 0 q d) = x0 (ix5 0 0 2 q d) := by
  show x0 _ = x0 _
  congr 1
  funext a
  apply Fin.ext
  match a with
  | ⟨0, _⟩ => rfl
  | ⟨1, _⟩ => rfl
  | ⟨2, _⟩ => rfl
  | ⟨3, _⟩ => show 0 + 1 * q.val = q.val; omega
  | ⟨4, _⟩ => show 0 + 1 * d.val = d.val; omega
theorem ld3 (q : Fin 256) (d : Fin 64) : View.ld x0 r0_4 (ix5 0 0 0 q d) = x0 (ix5 0 0 3 q d) := by
  show x0 _ = x0 _
  congr 1
  funext a
  apply Fin.ext
  match a with
  | ⟨0, _⟩ => rfl
  | ⟨1, _⟩ => rfl
  | ⟨2, _⟩ => rfl
  | ⟨3, _⟩ => show 0 + 1 * q.val = q.val; omega
  | ⟨4, _⟩ => show 0 + 1 * d.val = d.val; omega

/-- A head's store is its part of the block left. -/
theorem piece (r : Fin 4) (X : Vec Ideal S1x1x1x256x64 .bf16) (h : qs X = hq x0 r) (x : S1x1x1x256x64.Idx) (y : S1x1x4x256x64.Idx)
    (h2 : (y 2).val = r.val) (h3 : (y 3).val = (x 3).val) (h4 : (y 4).val = (x 4).val) :
    ouK (weK (k0_pay3 i) (k0_pay4 x1) (qs X)) (k0_pay5 x2) x = left i x0 x1 x2 y := by
  obtain ⟨q, e, rfl⟩ : ∃ (q : Fin 256) (e : Fin 64), x = ix5 0 0 0 q e := ⟨x 3, x 4, by
    funext a
    match a with
    | ⟨0, _⟩ => exact Fin.ext (Nat.lt_one_iff.mp (x 0).isLt)
    | ⟨1, _⟩ => exact Fin.ext (Nat.lt_one_iff.mp (x 1).isLt)
    | ⟨2, _⟩ => exact Fin.ext (Nat.lt_one_iff.mp (x 2).isLt)
    | ⟨3, _⟩ => rfl
    | ⟨4, _⟩ => rfl⟩
  have e2 : (y 2 : Fin 4) = r := Fin.ext h2
  have e3 : (y 3 : Fin 256) = q := Fin.ext h3
  have e4 : (y 4 : Fin 64) = e := Fin.ext h4
  rw [ouK_at, h]
  unfold left
  rw [e2, e3, e4]
  exact Finset.sum_congr rfl fun n _ => by rw [pay5_at]

theorem ld_whole (x : Vec Ideal S1x1x512x64 .bf16) : View.ld x r0_0 = x := by
  have h : (![0, 0, 0, 0] : Fin 4 → Nat) = fun _ => 0 := by funext a; fin_cases a <;> rfl
  exact View.ld_unit_zero h _ x

/-- The stores leave the block. -/
theorem out_eq : out0_4 i x0 x1 x2 x3 = left i x0 x1 x2 := by
  funext y
  unfold_out out0_4
  rw [ld_whole, ld_whole, store0, store1, store2, store3]
  refine View.canon_apply_of_pieces (left i x0 x1 x2) _ ?_ y (cover0_4 _ _ _ _ y)
  refine List.forall_mem_cons.mpr ⟨fun x => piece i x0 x1 x2 3 _ (hq_eq x0 3 _ (ld3 x0)) x _
    (by have h : (x 2).val < 1 := (x 2).isLt
        show 3 + 1 * (x 2).val = 3; omega)
    (by show 0 + 1 * (x 3).val = (x 3).val; omega) (by show 0 + 1 * (x 4).val = (x 4).val; omega), ?_⟩
  refine List.forall_mem_cons.mpr ⟨fun x => piece i x0 x1 x2 2 _ (hq_eq x0 2 _ (ld2 x0)) x _
    (by have h : (x 2).val < 1 := (x 2).isLt
        show 2 + 1 * (x 2).val = 2; omega)
    (by show 0 + 1 * (x 3).val = (x 3).val; omega) (by show 0 + 1 * (x 4).val = (x 4).val; omega), ?_⟩
  refine List.forall_mem_cons.mpr ⟨fun x => piece i x0 x1 x2 1 _ (hq_eq x0 1 _ (ld1 x0)) x _
    (by have h : (x 2).val < 1 := (x 2).isLt
        show 1 + 1 * (x 2).val = 1; omega)
    (by show 0 + 1 * (x 3).val = (x 3).val; omega) (by show 0 + 1 * (x 4).val = (x 4).val; omega), ?_⟩
  refine List.forall_mem_cons.mpr ⟨fun x => piece i x0 x1 x2 0 _ (hq_eq x0 0 _ (ld0 x0)) x _
    (by have h : (x 2).val < 1 := (x 2).isLt
        show 0 + 1 * (x 2).val = 0; omega)
    (by show 0 + 1 * (x 3).val = (x 3).val; omega) (by show 0 + 1 * (x 4).val = (x 4).val; omega), List.forall_mem_nil _⟩

end

/-- A block's rows: over a block whose scores are real where the query sees the key, the block left holds the values'
    sum by the real weights; the padding row's weight is zero. -/
theorem left_wt (i : grid0.Coords) (x0 : Vec Ideal S1x1x4x256x64 .bf16) (x1 x2 : Vec Ideal S1x1x512x64 .bf16)
    (r : Fin 4) (q : Fin 256) (e : Fin 64) (p : ℕ) (hp : p = (i 2).val * 256 + q.val) (x : ℕ → ℝ) (v : Fin 511 → EReal)
    (hx : ∀ n : Fin 512, n.val < seen p → ∑ d : Fin 64, x0 (ix5 0 0 r q d) * x1 (ix4 0 0 n d) = ((x n.val : ℝ) : EReal))
    (hv : ∀ n : Fin 511, x2 (ix4 0 0 n.castSucc e) = v n) :
    left i x0 x1 x2 (ix5 0 0 r q e) = ∑ n : Fin 511, ((wt x (seen p) n.val : ℝ) : EReal) * v n := by
  have hK : seen p ≤ 511 := by
    have := q.isLt
    have hi : (i 2).val < 32 := (i 2).isLt
    unfold seen; omega
  obtain ⟨μ, hμ⟩ : ∃ μ : ℝ, Ideal.ofBits .f32 0xF149F2CA#32 = (μ : EReal) := by
    simp [Ideal.ofBits, Ideal.ieee, -EReal.coe_mul]
    exact ⟨_, (EReal.coe_neg _).symm⟩
  have hs : ∀ n : Fin 512, scK (k0_pay3 i) (k0_pay4 x1) (hq x0 r) (ix2 q n) = if n.val < seen p then ((x n.val : ℝ) : EReal) else (μ : EReal) := fun n => by
    rw [scK_at, select_mask i q n _ _ p hp, hμ]
    by_cases h : n.val < seen p
    · rw [if_pos h, if_pos h, ← hx n h]
      exact Finset.sum_congr rfl fun d _ => by rw [pay4_at]; rfl
    · rw [if_neg h, if_neg h]
  have he : ∀ n : Fin 512, exK (k0_pay3 i) (scK (k0_pay3 i) (k0_pay4 x1) (hq x0 r)) (ix2 q n)
      = if n.val < seen p then Ideal.exp (scK (k0_pay3 i) (k0_pay4 x1) (hq x0 r) (ix2 q n)
          - Finset.fold max ⊥ (fun d => scK (k0_pay3 i) (k0_pay4 x1) (hq x0 r) (ix2 q d)) Finset.univ) else 0 := fun n => by
    rw [exK_at, select_mask i q n _ _ p hp]
  have hw : ∀ n : Fin 512, weK (k0_pay3 i) (k0_pay4 x1) (hq x0 r) (ix2 q n) = ((wt x (seen p) n.val : ℝ) : EReal) := fun n => by
    unfold weK
    rw [wtK_at, suK_at]
    exact wt_recip x (seen p) (by omega) _ (fun d => exK (k0_pay3 i) (scK (k0_pay3 i) (k0_pay4 x1) (hq x0 r)) (ix2 q d)) μ hs he n
  have hz : wt x (seen p) (Fin.last 511).val = 0 := if_neg (Nat.not_lt.mpr hK)
  refine (Finset.sum_congr rfl fun n _ => congrArg (· * x2 (ix4 0 0 n e)) (hw n)).trans ?_
  refine (Fin.sum_univ_castSucc (n := 511) _).trans ?_
  rw [hz, EReal.coe_zero, zero_mul, add_zero]
  exact Finset.sum_congr rfl fun n _ => by rw [hv n]; rfl

end Cert.SelectIdeal.Sel

end
-- ==== Proof.SelValue.lean ====
/-
  The compressed branch's kernel read element by element: its first result holds, at every batch, key head, query head,
  query and column, the attention over the compressed keys the query sees.
-/
module

public import proofs.«01_k».proof.Proof.SelBody
public import Idealize.ShloMosaic.Lib.KernelVsHost

@[expose] public section

set_option maxRecDepth 16384

noncomputable section

namespace Cert.SelectIdeal.Sel

open Cert.SelectIdeal Cert.SelectIdeal.Gen Cert.Soft
open Idealize.ShloMosaic Idealize.ShloMosaic.TcCoe Idealize.SL.Sem
open scoped BigOperators

/-! ## The arrays the windows read -/

/-- The scaled queries, laid out by key head and query head, -/
def queries (Q : FVec Ideal SSQ .f32) : FVec Ideal S2x2x4x8192x64 .bf16 :=
  transpose S2x2x4x8192x64 [0, 2, 3, 1, 4] (shapeCast S2x8192x2x4x64 (truncf .bf16 (mulf Q (broadcastInDim S2x8192x8x64 ![] bcast_S_S2x8192x8x64 (constant S_ .f32 0x3E000000#32))) bitsLt_bf16_f32) shapeCasts_S2x8192x8x64_S2x8192x2x4x64) transposes_S2x8192x2x4x64_S2x2x4x8192x64_0_2_3_1_4
/-- an array of 512 compressed keys or values, laid out by key head, -/
def laid (X : FVec Ideal S2x512x2x64 .f32) : FVec Ideal S2x2x512x64 .bf16 :=
  transpose S2x2x512x64 [0, 2, 1, 3] (truncf .bf16 X bitsLt_bf16_f32) transposes_S2x512x2x64_S2x2x512x64_0_2_1_3
/-- and the compressed keys or values with one row of zeros added, laid out so. -/
def padded (K : FVec Ideal SSC .f32) : FVec Ideal S2x2x512x64 .bf16 :=
  laid (pad S2x512x2x64 ![0, 0, 0, 0] ![0, 1, 0, 0] ![0, 0, 0, 0] K (sitofp .f32 (constantI S_ 32 0#32) : FVec Ideal S_ .f32) pads_S2x511x2x64_S2x512x2x64_000_010_000_000 h_S_)

theorem queries_at (Q : FVec Ideal SSQ .f32) (b g : Fin 2) (r : Fin 4) (q : Fin 8192) (d : Fin 64) :
    queries Q (ix5 b g r q d) = Q (ix4 b q (head g r) d) * Ideal.ofBits .f32 0x3E000000#32 := by
  unfold queries head
  pointwise

theorem laid_at (X : FVec Ideal S2x512x2x64 .f32) (b g : Fin 2) (n : Fin 512) (d : Fin 64) : laid X (ix4 b g n d) = X (ix4 b n g d) := by
  unfold laid
  pointwise

theorem padded_at (K : FVec Ideal SSC .f32) (b g : Fin 2) (n : Fin 512) (k : Fin 511) (h : k.val = n.val) (d : Fin 64) :
    padded K (ix4 b g n d) = K (ix4 b k g d) := by
  unfold padded
  rw [laid_at]
  refine pad_apply_of_inside _ _ _ _ _ _ _ _ (ix4 b k g d) fun a => ?_
  match a with
  | ⟨0, _⟩ => show b.val = 0 + b.val * (0 + 1); omega
  | ⟨1, _⟩ => show n.val = 0 + k.val * (0 + 1); omega
  | ⟨2, _⟩ => show g.val = 0 + g.val * (0 + 1); omega
  | ⟨3, _⟩ => show d.val = 0 + d.val * (0 + 1); omega

variable (m : (ℓ : Loc nD τ sig) → Buf (Elt Ideal) ℓ) (c : Dev nD)

/-- The queries, -/
abbrev aQ : FVec Ideal SSQ .f32 := m ((c.tc : Thread nD τ).loc main_arg0)
/-- the compressed keys, -/
abbrev aK : FVec Ideal SSC .f32 := m ((c.tc : Thread nD τ).loc main_arg1)
/-- and the compressed values. -/
abbrev aV : FVec Ideal SSC .f32 := m ((c.tc : Thread nD τ).loc main_arg2)

theorem V_q : V m c main_v4 = (queries (aQ m c) : FVec Ideal S2x2x4x8192x64 .bf16) := by
  unfold V
  simp only [List.flatten_cons, List.flatten_nil, List.cons_append, List.nil_append, List.append_nil, hostOps0, hostOps0_1, hostOps0_2, hostOps0_3, hostOps0_4, StableHlo.TRef.unary, StableHlo.TRef.binary, StableHlo.TRef.toBuf, StableHlo.TRef.ofBuf, cast_eq]
  after_results_simp <;> rfl
theorem V_k : V m c main_v7 = (padded (aK m c) : FVec Ideal S2x2x512x64 .bf16) := by
  unfold V
  simp only [List.flatten_cons, List.flatten_nil, List.cons_append, List.nil_append, List.append_nil, hostOps0, hostOps0_1, hostOps0_2, hostOps0_3, hostOps0_4, StableHlo.TRef.unary, StableHlo.TRef.binary, StableHlo.TRef.toBuf, StableHlo.TRef.ofBuf, cast_eq]
  after_results_simp <;> rfl
theorem V_v : V m c main_v10 = (padded (aV m c) : FVec Ideal S2x2x512x64 .bf16) := by
  unfold V
  simp only [List.flatten_cons, List.flatten_nil, List.cons_append, List.nil_append, List.append_nil, hostOps0, hostOps0_1, hostOps0_2, hostOps0_3, hostOps0_4, StableHlo.TRef.unary, StableHlo.TRef.binary, StableHlo.TRef.toBuf, StableHlo.TRef.ofBuf, cast_eq]
  after_results_simp <;> rfl

/-! ## The blocks -/

theorem index0 : ∀ t : Fin cfg0.N, win0_0.index t 0 = t.val / 64 ∧ win0_0.index t 1 = t.val / 32 % 2
    ∧ win0_0.index t 2 = 0 ∧ win0_0.index t 3 = t.val % 32 ∧ win0_0.index t 4 = 0 :=
  (by decide +kernel : ∀ t : Fin grid0.N, win0_0.index t 0 = t.val / 64 ∧ win0_0.index t 1 = t.val / 32 % 2
    ∧ win0_0.index t 2 = 0 ∧ win0_0.index t 3 = t.val % 32 ∧ win0_0.index t 4 = 0)
theorem index1 : ∀ t : Fin cfg0.N, win0_1.index t 0 = t.val / 64 ∧ win0_1.index t 1 = t.val / 32 % 2
    ∧ win0_1.index t 2 = 0 ∧ win0_1.index t 3 = 0 :=
  (by decide +kernel : ∀ t : Fin grid0.N, win0_1.index t 0 = t.val / 64 ∧ win0_1.index t 1 = t.val / 32 % 2
    ∧ win0_1.index t 2 = 0 ∧ win0_1.index t 3 = 0)
theorem index2 : ∀ t : Fin cfg0.N, win0_2.index t 0 = t.val / 64 ∧ win0_2.index t 1 = t.val / 32 % 2
    ∧ win0_2.index t 2 = 0 ∧ win0_2.index t 3 = 0 :=
  (by decide +kernel : ∀ t : Fin grid0.N, win0_2.index t 0 = t.val / 64 ∧ win0_2.index t 1 = t.val / 32 % 2
    ∧ win0_2.index t 2 = 0 ∧ win0_2.index t 3 = 0)
theorem index4 : ∀ t : Fin cfg0.N, win0_4.index t 0 = t.val / 64 ∧ win0_4.index t 1 = t.val / 32 % 2
    ∧ win0_4.index t 2 = 0 ∧ win0_4.index t 3 = t.val % 32 ∧ win0_4.index t 4 = 0 :=
  (by decide +kernel : ∀ t : Fin grid0.N, win0_4.index t 0 = t.val / 64 ∧ win0_4.index t 1 = t.val / 32 % 2
    ∧ win0_4.index t 2 = 0 ∧ win0_4.index t 3 = t.val % 32 ∧ win0_4.index t 4 = 0)
/-- The point's third coordinate. -/
theorem coord2 : ∀ t : Fin cfg0.N, (grid0.coords t 2).val = t.val % 32 :=
  (by decide +kernel : ∀ t : Fin grid0.N, (grid0.coords t 2).val = t.val % 32)

theorem iblk_q (t : Fin cfg0.N) (r : Fin 4) (q : Fin 256) (d : Fin 64) (b g : Fin 2) (p : Fin 8192)
    (hb : b.val = t.val / 64) (hg : g.val = t.val / 32 % 2) (hp : p.val = t.val % 32 * 256 + q.val) :
    (iblk m c 0 t : Vec Ideal S1x1x4x256x64 .bf16) (ix5 0 0 r q d) = queries (aQ m c) (ix5 b g r p d) := by
  unfold iblk
  rw [View.read_apply, ← V_q]
  show V m c main_v4 _ = V m c main_v4 _
  congr 1
  obtain ⟨h0, h1, h2, h3, h4⟩ := index0 t
  funext a
  apply Fin.ext
  match a with
  | ⟨0, _⟩ => show win0_0.index t 0 * 1 + 1 * 0 = b.val; omega
  | ⟨1, _⟩ => show win0_0.index t 1 * 1 + 1 * 0 = g.val; omega
  | ⟨2, _⟩ => show win0_0.index t 2 * 4 + 1 * r.val = r.val; omega
  | ⟨3, _⟩ => show win0_0.index t 3 * 256 + 1 * q.val = p.val; omega
  | ⟨4, _⟩ => show win0_0.index t 4 * 64 + 1 * d.val = d.val; omega

theorem iblk_k (t : Fin cfg0.N) (n : Fin 512) (d : Fin 64) (b g : Fin 2) (hb : b.val = t.val / 64) (hg : g.val = t.val / 32 % 2) :
    (iblk m c 1 t : Vec Ideal S1x1x512x64 .bf16) (ix4 0 0 n d) = padded (aK m c) (ix4 b g n d) := by
  unfold iblk
  rw [View.read_apply, ← V_k]
  show V m c main_v7 _ = V m c main_v7 _
  congr 1
  obtain ⟨h0, h1, h2, h3⟩ := index1 t
  funext a
  apply Fin.ext
  match a with
  | ⟨0, _⟩ => show win0_1.index t 0 * 1 + 1 * 0 = b.val; omega
  | ⟨1, _⟩ => show win0_1.index t 1 * 1 + 1 * 0 = g.val; omega
  | ⟨2, _⟩ => show win0_1.index t 2 * 512 + 1 * n.val = n.val; omega
  | ⟨3, _⟩ => show win0_1.index t 3 * 64 + 1 * d.val = d.val; omega

theorem iblk_v (t : Fin cfg0.N) (n : Fin 512) (d : Fin 64) (b g : Fin 2) (hb : b.val = t.val / 64) (hg : g.val = t.val / 32 % 2) :
    (iblk m c 2 t : Vec Ideal S1x1x512x64 .bf16) (ix4 0 0 n d) = padded (aV m c) (ix4 b g n d) := by
  unfold iblk
  rw [View.read_apply, ← V_v]
  show V m c main_v10 _ = V m c main_v10 _
  congr 1
  obtain ⟨h0, h1, h2, h3⟩ := index2 t
  funext a
  apply Fin.ext
  match a with
  | ⟨0, _⟩ => show win0_2.index t 0 * 1 + 1 * 0 = b.val; omega
  | ⟨1, _⟩ => show win0_2.index t 1 * 1 + 1 * 0 = g.val; omega
  | ⟨2, _⟩ => show win0_2.index t 2 * 512 + 1 * n.val = n.val; omega
  | ⟨3, _⟩ => show win0_2.index t 3 * 64 + 1 * d.val = d.val; omega

/-! ## The result array -/

/-- The result array: the attention at every index. -/
def attnArr : FVec Ideal S2x2x4x8192x64 .f32 := fun i =>
  cattn (aQ m c) (aK m c) (aV m c) (i 0) (i 1) (i 2) (i 3) (i 4)

variable {m c} (hQ : Soft.Real (aQ m c)) (hK : Soft.Real (aK m c))

include hQ hK in
/-- The block a point leaves, element by element. -/
theorem block_at (t : Fin cfg0.N) (r : Fin 4) (q : Fin 256) (e : Fin 64) (b g : Fin 2) (p : Fin 8192)
    (hb : b.val = t.val / 64) (hg : g.val = t.val / 32 % 2) (hp : p.val = t.val % 32 * 256 + q.val) :
    out0_4 (F := Ideal) (grid0.coords t) (iblk m c 0 t) (iblk m c 1 t) (iblk m c 2 t) (iblk m c 3 t) (ix5 0 0 r q e)
      = cattn (aQ m c) (aK m c) (aV m c) b g r p e := by
  rw [out_eq]
  unfold cattn
  have hs := seen_le p
  have hk : ∀ n : Fin 512, n.val < seen p.val → (cpos n.val).val = n.val := fun n h => Nat.mod_eq_of_lt (by omega)
  refine left_wt (grid0.coords t) _ _ _ r q e p.val (by rw [coord2 t]; exact hp) _ _ (fun n hn => ?_) (fun n => ?_)
  · unfold cqk
    rw [coe_sum]
    refine Finset.sum_congr rfl fun d _ => ?_
    rw [iblk_q m c t r q d b g p hb hg hp, iblk_k m c t n d b g hb hg, queries_at, padded_at _ b g n (cpos n.val) (hk n hn) d,
      show Ideal.ofBits .f32 0x3E000000#32 = ((1 / 8 : ℝ) : EReal) from by simp [Ideal.ofBits, Ideal.ieee, -EReal.coe_mul]; norm_num,
      EReal.coe_mul, EReal.coe_mul, ← hQ.coe, ← hK.coe]
  · rw [iblk_v m c t n.castSucc e b g hb hg, padded_at _ b g n.castSucc n rfl e]

include hQ hK in
/-- What a point writes back is its block of the result array. -/
theorem flushed_eq (t : Fin cfg0.N) (hf : (cfg0.win 4).flush t = true) :
    (dats m 0 c).flushed 4 t = ((cfg0.win 4).blk t).view.read (Elt Ideal) (attnArr m c) := by
  rw [Cert.SelectIdeal.Value.flushed4]
  funext j
  rw [View.read_apply]
  obtain ⟨h0, h1, h2, h3, h4⟩ := index4 t
  have j0 : (j 0).val < 1 := (j 0).isLt
  have j1 : (j 1).val < 1 := (j 1).isLt
  have j2 : (j 2).val < 4 := (j 2).isLt
  have j3 : (j 3).val < 256 := (j 3).isLt
  have j4 : (j 4).val < 64 := (j 4).isLt
  have e0 : (((cfg0.win 4).blk t).view.emb j 0).val = win0_4.index t 0 * 1 + 1 * (j 0).val := rfl
  have e1 : (((cfg0.win 4).blk t).view.emb j 1).val = win0_4.index t 1 * 1 + 1 * (j 1).val := rfl
  have e2 : (((cfg0.win 4).blk t).view.emb j 2).val = win0_4.index t 2 * 4 + 1 * (j 2).val := rfl
  have e3 : (((cfg0.win 4).blk t).view.emb j 3).val = win0_4.index t 3 * 256 + 1 * (j 3).val := rfl
  have e4 : (((cfg0.win 4).blk t).view.emb j 4).val = win0_4.index t 4 * 64 + 1 * (j 4).val := rfl
  refine Eq.trans (b := out0_4 (F := Ideal) (grid0.coords t) (iblk m c 0 t) (iblk m c 1 t) (iblk m c 2 t) (iblk m c 3 t)
    (ix5 0 0 ⟨(j 2).val, j2⟩ ⟨(j 3).val, j3⟩ ⟨(j 4).val, j4⟩)) ?_ ?_
  · show out0_4 (F := Ideal) _ _ _ _ _ _ = out0_4 (F := Ideal) _ _ _ _ _ _
    congr 1
    funext a
    apply Fin.ext
    match a with
    | ⟨0, _⟩ => show (j 0).val = 0; omega
    | ⟨1, _⟩ => show (j 1).val = 0; omega
    | ⟨2, _⟩ => rfl
    | ⟨3, _⟩ => rfl
    | ⟨4, _⟩ => rfl
  · have er : (⟨(j 2).val, j2⟩ : Fin 4) = ((cfg0.win 4).blk t).view.emb j 2 := Fin.ext (by rw [e2, h2]; dsimp only; omega)
    have ee : (⟨(j 4).val, j4⟩ : Fin 64) = ((cfg0.win 4).blk t).view.emb j 4 := Fin.ext (by rw [e4, h4]; dsimp only; omega)
    refine (block_at hQ hK t ⟨(j 2).val, j2⟩ ⟨(j 3).val, j3⟩ ⟨(j 4).val, j4⟩ (((cfg0.win 4).blk t).view.emb j 0) (((cfg0.win 4).blk t).view.emb j 1)
      (((cfg0.win 4).blk t).view.emb j 3) (by rw [e0, h0]; omega) (by rw [e1, h1]; omega) (by rw [e3, h3]; dsimp only; omega)).trans ?_
    rw [er, ee]
    rfl

include hQ hK in
/-- So the output array ends at the result array. -/
theorem final_o : (dats m 0 c).arrAt 4 cfg0.N = attnArr m c :=
  (dats m 0 c).arrAt_eq_of_cover 4 (attnArr m c) (flushed_eq hQ hK) fun i => by
    have i0 : (i 0 : Nat) < 2 := (i 0).isLt
    have i1 : (i 1 : Nat) < 2 := (i 1).isLt
    have i2 : (i 2 : Nat) < 4 := (i 2).isLt
    have i3 : (i 3 : Nat) < 8192 := (i 3).isLt
    have i4 : (i 4 : Nat) < 64 := (i 4).isLt
    have hN : ((i 0).val * 2 + (i 1).val) * 32 + (i 3).val / 256 < cfg0.N := by
      rw [show cfg0.N = 128 from N_0]; omega
    refine ⟨⟨_, hN⟩, flush0_4 _, ?_⟩
    obtain ⟨h0, h1, h2, h3, h4⟩ := index4 ⟨_, hN⟩
    show i ∈ ((View.whole main_v11_0).slice (win0_4.rect ⟨_, hN⟩)).set
    rw [View.set_slice_whole, Rect.mem_set_unit]
    intro a
    match a with
    | ⟨0, _⟩ => show win0_4.index ⟨_, hN⟩ 0 * 1 ≤ (i 0 : Nat) ∧ (i 0 : Nat) < win0_4.index ⟨_, hN⟩ 0 * 1 + 1
                rw [h0]; dsimp only; omega
    | ⟨1, _⟩ => show win0_4.index ⟨_, hN⟩ 1 * 1 ≤ (i 1 : Nat) ∧ (i 1 : Nat) < win0_4.index ⟨_, hN⟩ 1 * 1 + 1
                rw [h1]; dsimp only; omega
    | ⟨2, _⟩ => show win0_4.index ⟨_, hN⟩ 2 * 4 ≤ (i 2 : Nat) ∧ (i 2 : Nat) < win0_4.index ⟨_, hN⟩ 2 * 4 + 4
                rw [h2]; omega
    | ⟨3, _⟩ => show win0_4.index ⟨_, hN⟩ 3 * 256 ≤ (i 3 : Nat) ∧ (i 3 : Nat) < win0_4.index ⟨_, hN⟩ 3 * 256 + 256
                rw [h3]; dsimp only; omega
    | ⟨4, _⟩ => show win0_4.index ⟨_, hN⟩ 4 * 64 ≤ (i 4 : Nat) ∧ (i 4 : Nat) < win0_4.index ⟨_, hN⟩ 4 * 64 + 64
                rw [h4]; omega

/-- The run, read: over real queries and keys the result at the result array. -/
theorem run (m : (ℓ : Loc nD τ sig) → Buf (Elt Ideal) ℓ) (hreal : ∀ c : Dev nD, Soft.Real (aQ m c) ∧ Soft.Real (aK m c))
    (ρ : Dev nD → PrngReg) : θ_run defs (onTc (τ := τ) (main (F := Ideal))) ⟨m, fun _ => 0, ρ⟩ fun r => ∀ c : Dev nD,
      r.2.mem ((c.tc : Thread nD τ).loc main_v11_0) = attnArr m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c).1.trans (final_o (hreal c).1 (hreal c).2), (h c).2.2⟩) (Cert.SelectIdeal.Value.run_blocks m ρ)

end Cert.SelectIdeal.Sel

end
-- ==== Proof.SelRef.lean ====
/-
  What the compressed branch's reference holds, for real queries and keys: at every batch, key head, query head, query and
  column the attention over the compressed keys the query sees.
-/
module

public import proofs.«01_k».proof.Proof.Gen.SelectReferenceIdeal.Run
public import proofs.«01_k».proof.Proof.RefValue
public import proofs.«01_k».proof.Proof.SelMath

@[expose] public section

set_option maxRecDepth 16384

noncomputable section

namespace Cert.SelectReferenceIdeal.Sel

open Cert.SelectReferenceIdeal Cert.SelectReferenceIdeal.Gen Cert.SelectReferenceIdeal.Value Cert.Soft
open Idealize.ShloMosaic Idealize.ShloMosaic.TcCoe
open scoped BigOperators

/-- The query sees the compressed key, as the reference's mask word. -/
def seenW (q : Fin 8192) (n : Fin 511) : BitVec 1 :=
  IntOp.cmpi .sle (BitVec.ofNat 32 n.val * 16#32 + 32#32 - 1#32) (BitVec.ofNat 32 q.val)

theorem select_seen (q : Fin 8192) (n : Fin 511) (a b : EReal) : (Scalar.select (seenW q n) a b : EReal) = if n.val < seen q.val then a else b := by
  have hn := n.isLt
  have hq := q.isLt
  have e1 : (BitVec.ofNat 32 n.val * 16#32 + 32#32 - 1#32).toNat = n.val * 16 + 31 := by
    simp only [BitVec.toNat_sub, BitVec.toNat_add, BitVec.toNat_mul, BitVec.toNat_ofNat]; omega
  have e2 : (BitVec.ofNat 32 q.val).toNat = q.val := by rw [BitVec.toNat_ofNat]; omega
  have e : seenW q n = 1#1 ↔ n.val < seen q.val := by
    unfold seenW
    rw [IntOp.cmpi_sle, BitVec.toInt_eq_toNat_of_lt (by rw [e1]; omega), BitVec.toInt_eq_toNat_of_lt (by rw [e2]; omega),
      e1, e2, Int.ofNat_le, lt_seen]
  unfold Scalar.select
  by_cases h : n.val < seen q.val
  · rw [if_pos h]; exact if_pos (e.mpr h)
  · rw [if_neg h]; exact if_neg fun h' => h (e.mp h')

variable (m : (ℓ : Loc nD τ sig) → Buf (Elt Ideal) ℓ) (c : Dev nD)

/-- The arguments and the result. -/
abbrev rQ : FVec Ideal SSQ .f32 := m ((c : Thread nD τ).loc main_arg0)
abbrev rK : FVec Ideal SSC .f32 := m ((c : Thread nD τ).loc main_arg1)
abbrev rV : FVec Ideal SSC .f32 := m ((c : Thread nD τ).loc main_arg2)
abbrev res : FVec Ideal S2x2x4x8192x64 .f32 := res_out0 m c

/-! The reference's arrays, one after the other, -/

/-- the mask over all scores, -/
def maskA : IVec S2x8192x2x4x511 1 :=
  broadcastInDim S2x8192x2x4x511 ![0, 1, 2, 3, 4] bcast_S1x8192x1x1x511_S2x8192x2x4x511_0_1_2_3_4 (broadcastInDim S1x8192x1x1x511 ![1, 4] bcast_S8192x511_S1x8192x1x1x511_1_4 (cmpi .sle (broadcastInDim S8192x511 ![0, 1] bcast_S1x511_S8192x511_0_1 (broadcastInDim S1x511 ![1] bcast_S511_S1x511_1 (subi (addi (muli (iotaInDim S511 32 0) (broadcastInDim S511 ![] bcast_S_S511 (constantI S_ 32 16#32))) (broadcastInDim S511 ![] bcast_S_S511 (constantI S_ 32 32#32))) (broadcastInDim S511 ![] bcast_S_S511 (constantI S_ 32 1#32))))) (broadcastInDim S8192x511 ![0, 1] bcast_S8192x1_S8192x511_0_1 (broadcastInDim S8192x1 ![0] bcast_S8192_S8192x1_0 (iotaInDim S8192 32 0)))))

/-- the masked scores, -/
def scoreA (M : IVec S2x8192x2x4x511 1) (Q : FVec Ideal SSQ .f32) (K : FVec Ideal SSC .f32) : FVec Ideal S2x8192x2x4x511 .f32 :=
  select M (mulf (transpose S2x8192x2x4x511 [0, 3, 1, 4, 2] (Host.dotGeneral dot_S2x511x2x64_S2x8192x2x4x64_S2x2x511x8192x4_3_4_1_13_02_02 none K (shapeCast _ Q shapeCasts_S2x8192x8x64_S2x8192x2x4x64)) transposes_S2x2x511x8192x4_S2x8192x2x4x511_0_3_1_4_2) (broadcastInDim S2x8192x2x4x511 ![] bcast_S_S2x8192x2x4x511 (constant S_ .f32 0x3E000000#32))) (broadcastInDim S2x8192x2x4x511 ![] bcast_S_S2x8192x2x4x511 (id (constant S_ .f32 0xFF800000#32)))

/-- their rows' maxima, -/
def maxA (S : FVec Ideal S2x8192x2x4x511 .f32) : FVec Ideal S2x8192x2x4 .f32 :=
  Host.reduce FloatOps.maximumf S (constant S_ .f32 0xFF800000#32) reducesTo_S2x8192x2x4x511_S2x8192x2x4_d4 h_S_

/-- the exponentials of the scores less their row's maximum, -/
def expA (S : FVec Ideal S2x8192x2x4x511 .f32) (T : FVec Ideal S2x8192x2x4 .f32) : FVec Ideal S2x8192x2x4x511 .f32 :=
  Host.exp (subf S (broadcastInDim S2x8192x2x4x511 ![0, 1, 2, 3, 4] bcast_S2x8192x2x4x1_S2x8192x2x4x511_0_1_2_3_4 (broadcastInDim S2x8192x2x4x1 ![0, 1, 2, 3] bcast_S2x8192x2x4_S2x8192x2x4x1_0_1_2_3 (maximumf (broadcastInDim S2x8192x2x4 ![] bcast_S_S2x8192x2x4 (constant S_ .f32 0xFF800000#32)) T))))

/-- the masked weights, -/
def probA (M : IVec S2x8192x2x4x511 1) (E : FVec Ideal S2x8192x2x4x511 .f32) : FVec Ideal S2x8192x2x4x511 .f32 :=
  select M (Host.divf E (broadcastInDim S2x8192x2x4x511 ![0, 1, 2, 3, 4] bcast_S2x8192x2x4x1_S2x8192x2x4x511_0_1_2_3_4 (broadcastInDim S2x8192x2x4x1 ![0, 1, 2, 3] bcast_S2x8192x2x4_S2x8192x2x4x1_0_1_2_3 (Host.reduceAdd E (constant S_ .f32 0x00000000#32) reducesTo_S2x8192x2x4x511_S2x8192x2x4_d4 h_S_)))) (broadcastInDim S2x8192x2x4x511 ![] bcast_S_S2x8192x2x4x511 (id (constant S_ .f32 0x00000000#32)))

/-- and the weighted values. -/
def outA (P : FVec Ideal S2x8192x2x4x511 .f32) (W : FVec Ideal SSC .f32) : FVec Ideal S2x2x4x8192x64 .f32 :=
  transpose S2x2x4x8192x64 [0, 1, 4, 3, 2] (Host.dotGeneral dot_S2x511x2x64_S2x8192x2x4x511_S2x2x64x8192x4_1_4_3_13_02_02 none W P) transposes_S2x2x64x8192x4_S2x2x4x8192x64_0_1_4_3_2

/-- The result is the last of these arrays. -/
theorem res_eq : res m c = outA (probA maskA (expA (scoreA maskA (rQ m c) (rK m c)) (maxA (scoreA maskA (rQ m c) (rK m c))))) (rV m c) := by
  unfold res res_out0 res_main_v33 outA probA expA maxA scoreA maskA
  rfl

section
variable (b : Fin 2) (q : Fin 8192) (g : Fin 2) (r : Fin 4) (n : Fin 511)

theorem maskA_at : maskA (ix5 b q g r n) = seenW q n := by
  unfold maskA seenW; pointwise; rfl

theorem scoreA_at (M : IVec S2x8192x2x4x511 1) (Q : FVec Ideal SSQ .f32) (K : FVec Ideal SSC .f32) : scoreA M Q K (ix5 b q g r n)
    = Scalar.select (M (ix5 b q g r n)) ((∑ d : Fin 64, K (ix4 b n g d) * Q (ix4 b q (head g r) d)) * Ideal.ofBits .f32 0x3E000000#32) (Ideal.ofBits .f32 0xFF800000#32) := by
  unfold scoreA id head; pointwise

theorem maxA_at (S : FVec Ideal S2x8192x2x4x511 .f32) : maxA S (ix4 b q g r)
    = Finset.fold max (Ideal.ofBits .f32 0xFF800000#32) (fun d => S (ix5 b q g r d)) Finset.univ :=
  Cert.ReferenceIdeal.Value.rowMax S _ _ _ b q g r _ rfl

theorem expA_at (S : FVec Ideal S2x8192x2x4x511 .f32) (T : FVec Ideal S2x8192x2x4 .f32) : expA S T (ix5 b q g r n)
    = Ideal.exp (S (ix5 b q g r n) - max (Ideal.ofBits .f32 0xFF800000#32) (T (ix4 b q g r))) := by
  unfold expA; pointwise

theorem probA_at (M : IVec S2x8192x2x4x511 1) (E : FVec Ideal S2x8192x2x4x511 .f32) : probA M E (ix5 b q g r n)
    = Scalar.select (M (ix5 b q g r n)) (Ideal.div (E (ix5 b q g r n)) (∑ d, E (ix5 b q g r d))) 0 := by
  unfold probA id; pointwise

theorem outA_at (P : FVec Ideal S2x8192x2x4x511 .f32) (W : FVec Ideal SSC .f32) (e : Fin 64) : outA P W (ix5 b g r q e)
    = ∑ n : Fin 511, W (ix4 b n g e) * P (ix5 b q g r n) := by
  unfold outA; pointwise
end

section
variable {Q : FVec Ideal SSQ .f32} {K : FVec Ideal SSC .f32} (hQ : Soft.Real Q) (hK : Soft.Real K)
variable (b : Fin 2) (q : Fin 8192) (g : Fin 2) (r : Fin 4)

include hQ hK in
/-- A masked score is the real score where the query sees the key and minus infinity elsewhere. -/
theorem score_eq (n : Fin 511) : scoreA maskA Q K (ix5 b q g r n) = if n.val < seen q.val then ((cqk Q K b g r q n.val : ℝ) : EReal) else ⊥ := by
  have hp : cpos n.val = n := Fin.ext (Nat.mod_eq_of_lt n.isLt)
  rw [scoreA_at, maskA_at, select_seen, show Ideal.ofBits .f32 0xFF800000#32 = (⊥ : EReal) from by simp [Ideal.ofBits, Ideal.ieee],
    show Ideal.ofBits .f32 0x3E000000#32 = ((1 / 8 : ℝ) : EReal) from by simp [Ideal.ofBits, Ideal.ieee, -EReal.coe_mul]; norm_num]
  congr 1
  unfold cqk
  rw [hp, Finset.sum_congr rfl fun d _ => show K (ix4 b n g d) * Q (ix4 b q (head g r) d)
      = ((EReal.toReal (K (ix4 b n g d)) * EReal.toReal (Q (ix4 b q (head g r) d)) : ℝ) : EReal) from by
    rw [EReal.coe_mul, ← hQ.coe, ← hK.coe], ← coe_sum, ← EReal.coe_mul, Finset.sum_mul]
  exact congrArg _ (Finset.sum_congr rfl fun d _ => by ring)

include hQ hK in
/-- A masked softmax weight is the real weight. -/
theorem prob_eq (n : Fin 511) : probA maskA (expA (scoreA maskA Q K) (maxA (scoreA maskA Q K))) (ix5 b q g r n)
    = ((wt (cqk Q K b g r q) (seen q.val) n.val : ℝ) : EReal) := by
  rw [probA_at, maskA_at, select_seen]
  simp only [expA_at, maxA_at]
  rw [show Ideal.ofBits .f32 0xFF800000#32 = (⊥ : EReal) from by simp [Ideal.ofBits, Ideal.ieee], max_eq_right bot_le]
  exact wt_dropped (cqk Q K b g r q) (seen q.val) (seen_le q) (fun d => scoreA maskA Q K (ix5 b q g r d)) (score_eq hQ hK b q g r) n
end

variable {m c}

/-- The reference's result at an index. -/
theorem res_cattn (hQ : Soft.Real (rQ m c)) (hK : Soft.Real (rK m c)) (b g : Fin 2) (r : Fin 4) (q : Fin 8192) (e : Fin 64) :
    res m c (ix5 b g r q e) = cattn (rQ m c) (rK m c) (rV m c) b g r q e := by
  rw [res_eq, outA_at]
  unfold cattn
  exact Finset.sum_congr rfl fun n _ => by rw [mul_comm, prob_eq hQ hK b q g r n]

end Cert.SelectReferenceIdeal.Sel

end
-- ==== Proof.SelPre.lean ====
/-
  What the compressed branch's precondition says at the extended reals: every element of the queries and of the keys is
  a real number.
-/
module

public import proofs.«01_k».proof.Proof.Gen.Pre_finite3
public import proofs.«01_k».proof.Proof.Pre
public import proofs.«01_k».proof.Proof.SelMath

@[expose] public section

namespace Cert.Pre_finite3.Real

open Cert.Pre_finite3 Cert.Pre_finite3.Gen Cert.Soft
open Idealize.ShloMosaic

/-- The precondition says that the queries and the keys are real. -/
theorem real_args (Q : FVec Ideal SSQ .f32) (K V : FVec Ideal SSC .f32)
    (h : Cert.Pre_finite3.fn (F := Ideal) Q K V = fun _ => 1#1) : Soft.Real Q ∧ Soft.Real K := by
  have h0 := congrFun h ix0
  dsimp only [fn] at h0
  obtain ⟨hQ, hK⟩ := IntOp.andi_eq_one.1 h0
  exact ⟨Cert.Pre_finite.Real.real_of_all _ _ _ _ hQ, Cert.Pre_finite.Real.real_of_all _ _ _ _ hK⟩

end Cert.Pre_finite3.Real

end
-- ==== Proof.RouteMath.lean ====
/-
  An expert's number split into its two keys. The route kernel divides a chosen expert's number by 128, rounding down,
  and compares quotient and remainder with two keys; the reference compares the number itself. Both comparisons hold
  for the same numbers, negative ones included.
-/
module

public import Idealize.ShloMosaic.Lib.Pointwise
public import Idealize.ShloMosaic.Lib.WordCmp

@[expose] public section

noncomputable section

namespace Cert.Keys

open Idealize.ShloMosaic Idealize.ShloMosaic.WordCmp
open scoped BigOperators

/-- The quotient by 128 rounded down, as the kernel forms it from the quotient rounded toward zero, -/
def quotW (x : BitVec 32) : BitVec 32 :=
  Scalar.select (IntOp.andi (IntOp.cmpi .ne (IntOp.subi ((IntOp.cmpi .sgt x 0#32).setWidth 32) ((IntOp.cmpi .slt x 0#32).setWidth 32)) 1#32)
      (IntOp.cmpi .ne (IntOp.remsi .vector x 128#32) 0#32))
    (IntOp.subi (IntOp.divsi .vector x 128#32) 1#32) (IntOp.divsi .vector x 128#32)

/-- and the remainder of that quotient, as the kernel forms it. -/
def restW (x : BitVec 32) : BitVec 32 :=
  Scalar.select (IntOp.andi (IntOp.xori (IntOp.cmpi .slt (IntOp.remsi .vector x 128#32) 0#32) 0#1)
      (IntOp.cmpi .ne (IntOp.remsi .vector x 128#32) 0#32))
    (IntOp.addi (IntOp.remsi .vector x 128#32) 128#32) (IntOp.remsi .vector x 128#32)

theorem no_corner (x : BitVec 32) : ¬ IntOp.SDivCorner x 128#32 := by
  unfold IntOp.SDivCorner
  rintro (h | ⟨_, h⟩)
  · exact absurd h (by decide)
  · exact absurd h (by decide)

theorem rem_toInt (x : BitVec 32) : (IntOp.remsi .vector x 128#32).toInt = x.toInt.tmod 128 := by
  unfold IntOp.remsi
  rw [if_neg (no_corner x), BitVec.toInt_srem]
  rfl

theorem div_toInt (x : BitVec 32) : (IntOp.divsi .vector x 128#32).toInt = x.toInt.tdiv 128 := by
  unfold IntOp.divsi
  rw [if_neg (no_corner x), BitVec.toInt_sdiv_of_ne_or_ne _ _ (Or.inr (by decide))]
  rfl

theorem parts (n : ℤ) : (0 ≤ n ∧ n.tdiv 128 = n / 128 ∧ n.tmod 128 = n % 128)
    ∨ (n < 0 ∧ n.tdiv 128 = -((-n) / 128) ∧ n.tmod 128 = -((-n) % 128)) := by
  rcases Int.lt_or_le n 0 with h | h
  · refine Or.inr ⟨h, ?_, ?_⟩
    · rw [← Int.tdiv_eq_ediv_of_nonneg (by omega : 0 ≤ -n), Int.neg_tdiv, Int.neg_neg]
    · rw [← Int.tmod_eq_emod_of_nonneg (by omega : 0 ≤ -n), Int.neg_tmod, Int.neg_neg]
  · exact Or.inl ⟨h, Int.tdiv_eq_ediv_of_nonneg h, Int.tmod_eq_emod_of_nonneg h⟩

theorem zero_iff (r : BitVec 32) : r = 0#32 ↔ r.toInt = 0 := by
  rw [← BitVec.toInt_inj]; rfl

theorem pick_ne (r : BitVec 32) : IntOp.cmpi .ne r 0#32 = BitVec.ofBool (decide (r.toInt ≠ 0)) := by
  rw [cmpi_ne_eq]
  congr 1
  exact decide_eq_decide.mpr (not_congr (zero_iff r))

theorem bounds (x : BitVec 32) : -2147483648 ≤ x.toInt ∧ x.toInt < 2147483648 :=
  ⟨BitVec.le_toInt x, BitVec.toInt_lt⟩

theorem quotW_toInt (x : BitVec 32) : (quotW x).toInt = x.toInt / 128 := by
  have hb := bounds x
  have hd := div_toInt x
  have hr := rem_toInt x
  have hs : (IntOp.subi (IntOp.divsi .vector x 128#32) 1#32).toInt = (x.toInt.tdiv 128 - 1).bmod (2 ^ 32) := by
    show (IntOp.divsi .vector x 128#32 - 1#32).toInt = _
    rw [BitVec.toInt_sub, hd]; rfl
  unfold quotW
  rw [pick_ne, hr, cmpi_sgt_eq, cmpi_slt_eq]
  have z : (0#32).toInt = 0 := rfl
  rw [z]
  rcases parts x.toInt with ⟨h, e1, e2⟩ | ⟨h, e1, e2⟩
  · rw [decide_eq_false (by omega : ¬ x.toInt < 0)]
    by_cases hp : 0 < x.toInt
    · rw [decide_eq_true hp]
      cases decide (x.toInt.tmod 128 ≠ 0) <;> exact hd.trans e1
    · rw [decide_eq_false hp, decide_eq_false (by rw [e2]; omega)]
      exact hd.trans e1
  · rw [decide_eq_true h, decide_eq_false (by omega : ¬ 0 < x.toInt)]
    by_cases hm : x.toInt.tmod 128 = 0
    · rw [decide_eq_false (not_not.mpr hm)]
      refine hd.trans (e1.trans ?_)
      rw [e2] at hm
      omega
    · rw [decide_eq_true hm]
      refine hs.trans ?_
      rw [e1, Int.bmod_eq_of_le (by omega) (by omega)]
      rw [e2] at hm
      omega

theorem restW_toInt (x : BitVec 32) : (restW x).toInt = x.toInt % 128 := by
  have hb := bounds x
  have hr := rem_toInt x
  have hs : (IntOp.addi (IntOp.remsi .vector x 128#32) 128#32).toInt = (x.toInt.tmod 128 + 128).bmod (2 ^ 32) := by
    show (IntOp.remsi .vector x 128#32 + 128#32).toInt = _
    rw [BitVec.toInt_add, hr]; rfl
  unfold restW
  rw [pick_ne, cmpi_slt_eq, hr]
  have z : (0#32).toInt = 0 := rfl
  rw [z]
  rcases parts x.toInt with ⟨h, e1, e2⟩ | ⟨h, e1, e2⟩
  · rw [decide_eq_false (by rw [e2]; omega : ¬ x.toInt.tmod 128 < 0)]
    cases decide (x.toInt.tmod 128 ≠ 0) <;> exact hr.trans e2
  · by_cases hm : x.toInt.tmod 128 = 0
    · rw [decide_eq_false (not_not.mpr hm), decide_eq_false (by omega : ¬ x.toInt.tmod 128 < 0)]
      refine hr.trans (e2.trans ?_)
      rw [e2] at hm
      omega
    · rw [decide_eq_true hm, decide_eq_true (by rw [e2] at hm ⊢; omega : x.toInt.tmod 128 < 0)]
      refine hs.trans ?_
      rw [e2, Int.bmod_eq_of_le (by omega) (by omega)]
      rw [e2] at hm
      omega

theorem small_toInt (n : ℕ) (h : n < 16384) : (BitVec.ofNat 32 n).toInt = n := by
  rw [BitVec.toInt_eq_toNat_of_lt (by rw [BitVec.toNat_ofNat]; omega), BitVec.toNat_ofNat]
  omega

/-- Quotient and remainder are two keys exactly when the number is the keys' expert. -/
theorem keys_iff (x : BitVec 32) (a b : Fin 128) :
    (quotW x = BitVec.ofNat 32 a.val ∧ restW x = BitVec.ofNat 32 b.val) ↔ x = BitVec.ofNat 32 (a.val * 128 + b.val) := by
  have ha := a.isLt
  have hb := b.isLt
  rw [← BitVec.toInt_inj, ← BitVec.toInt_inj, ← BitVec.toInt_inj, quotW_toInt, restW_toInt, small_toInt _ (by omega), small_toInt _ (by omega),
    small_toInt _ (by omega)]
  push_cast
  omega

/-- An expert's gate: the sum of the gates whose expert it is. -/
def gate (e : Fin 128 → BitVec 32) (g : Fin 128 → EReal) (n : ℕ) : EReal := ∑ j : Fin 128, if e j = BitVec.ofNat 32 n then g j else 0

/-- The kernel's sum of products is that gate. -/
theorem gate_eq (e : Fin 128 → BitVec 32) (g : Fin 128 → EReal) (a b : Fin 128) :
    (∑ j : Fin 128, (Scalar.select (IntOp.cmpi .eq (quotW (e j)) (BitVec.ofNat 32 a.val)) (g j) 0 : EReal)
      * (Scalar.select (IntOp.cmpi .eq (restW (e j)) (BitVec.ofNat 32 b.val)) 1 0 : EReal)) = gate e g (a.val * 128 + b.val) := by
  unfold gate
  refine Finset.sum_congr rfl fun j _ => ?_
  rw [cmpi_eq_eq, cmpi_eq_eq]
  have hk := keys_iff (e j) a b
  by_cases h : e j = BitVec.ofNat 32 (a.val * 128 + b.val)
  · obtain ⟨h1, h2⟩ := hk.mpr h
    rw [if_pos h, decide_eq_true h1, decide_eq_true h2]
    exact mul_one _
  · rw [if_neg h]
    by_cases h1 : quotW (e j) = BitVec.ofNat 32 a.val
    · rw [decide_eq_false fun h2 => h (hk.mp ⟨h1, h2⟩)]
      exact mul_zero _
    · rw [decide_eq_false h1]
      exact zero_mul _

end Cert.Keys

end
-- ==== Proof.RouteBody.lean ====
/-
  The route kernel's body read element by element: every row of a block holds the gates of all experts for its token.
  A trip of the loop forms eight rows, one product of key comparisons each, and stores them 128 experts at a time.
-/
module

public import proofs.«01_k».proof.Proof.Gen.RouteIdeal.Value
public import proofs.«01_k».proof.Proof.RouteMath
public import Idealize.ShloMosaic.Lib.Pointwise

@[expose] public section

set_option maxRecDepth 16384

noncomputable section

namespace Cert.RouteIdeal.Rt

open Cert.RouteIdeal Cert.RouteIdeal.Gen Cert.Keys
open Idealize.ShloMosaic Idealize.ShloMosaic.TcCoe Idealize.SL.Sem
open scoped BigOperators

/-! ## One token's computation -/

/-- The first keys, -/
def quot (E : IVec S1x128 32) : IVec S1x128 32 :=
  select (andi (cmpi .ne (subi (extui 32 (cmpi .sgt E (broadcast S1x128 0#32)) natLt_1_32) (extui 32 (cmpi .slt E (broadcast S1x128 0#32)) natLt_1_32))
      (broadcast S1x128 (Scalar.subi (Scalar.extui (Scalar.cmpi .sgt 128#32 0#32)) (Scalar.extui (Scalar.cmpi .slt 128#32 0#32)))))
      (cmpi .ne (remsi E (broadcast S1x128 128#32)) (broadcast S1x128 0#32)))
    (subi (divsi E (broadcast S1x128 128#32)) (broadcast S1x128 1#32)) (divsi E (broadcast S1x128 128#32))

/-- the divisor of the second keys, -/
def dv : BitVec 32 := Scalar.select (Scalar.cmpi .eq 128#32 0#32) 1#32 128#32

/-- the second keys, -/
def rest (E : IVec S1x128 32) : IVec S1x128 32 :=
  select (andi (xori (cmpi .slt (remsi E (broadcast S1x128 dv)) (broadcast S1x128 0#32)) (broadcastTo S1x128 (broadcast S1x128 (Scalar.cmpi .slt dv 0#32)) broadcasts_S1x128_S1x128))
      (cmpi .ne (remsi E (broadcast S1x128 dv)) (broadcast S1x128 0#32)))
    (addi (remsi E (broadcast S1x128 dv)) (broadcast S1x128 dv)) (remsi E (broadcast S1x128 dv))

/-- the gates under their first key, -/
def lhs (v0 : IVec S128x128 32) (E : IVec S1x128 32) (G : FVec Ideal S1x128 .f32) : FVec Ideal S128x128 .bf16 :=
  truncf .bf16 (select (cmpi .eq (broadcastTo S128x128 (quot E) broadcasts_S1x128_S128x128) v0)
    (broadcastTo S128x128 (shapeCast S1x128 G shapeCasts_S1x128_S1x128) broadcasts_S1x128_S128x128)
    (broadcast S128x128 (Scalar.ofBits .f32 0x00000000#32))) bitsLt_bf16_f32

/-- the ones under the second key, -/
def rhs (v0 : IVec S128x128 32) (E : IVec S1x128 32) : FVec Ideal S128x128 .bf16 :=
  truncf .bf16 (select (cmpi .eq (broadcastTo S128x128 (rest E) broadcasts_S1x128_S128x128) v0)
    (broadcast S128x128 (Scalar.ofBits .f32 0x3F800000#32 : Ideal .f32))
    (broadcast S128x128 (Scalar.ofBits .f32 0x00000000#32))) bitsLt_bf16_f32

/-- and their product over the chosen pairs. -/
def one (v0 : IVec S128x128 32) (E : IVec S1x128 32) (G : FVec Ideal S1x128 .f32) : FVec Ideal S128x128 .f32 :=
  matmul dot_S128x128_S128x128_S128x128_1_1_0_0_n_n none (lhs v0 E G) (rhs v0 E) (constant S128x128 .f32 0x00000000#32)

/-- Eight tokens' products, laid out by first key. -/
def stack (R : Fin 8 → FVec Ideal S128x128 .f32) : FVec Ideal S128x8x128 .f32 :=
  transpose S128x8x128 [1, 0, 2] (concatenate S8x128x128 0 [⟨S1x128x128, shapeCast S1x128x128 (R 0) shapeCasts_S128x128_S1x128x128⟩,
    ⟨S1x128x128, shapeCast S1x128x128 (R 1) shapeCasts_S128x128_S1x128x128⟩, ⟨S1x128x128, shapeCast S1x128x128 (R 2) shapeCasts_S128x128_S1x128x128⟩,
    ⟨S1x128x128, shapeCast S1x128x128 (R 3) shapeCasts_S128x128_S1x128x128⟩, ⟨S1x128x128, shapeCast S1x128x128 (R 4) shapeCasts_S128x128_S1x128x128⟩,
    ⟨S1x128x128, shapeCast S1x128x128 (R 5) shapeCasts_S128x128_S1x128x128⟩, ⟨S1x128x128, shapeCast S1x128x128 (R 6) shapeCasts_S128x128_S1x128x128⟩,
    ⟨S1x128x128, shapeCast S1x128x128 (R 7) shapeCasts_S128x128_S1x128x128⟩]
    concatenates_S1x128x128_S1x128x128_S1x128x128_S1x128x128_S1x128x128_S1x128x128_S1x128x128_S1x128x128_S8x128x128_d0) transposes_S8x128x128_p1_0_2_S128x8x128

/-! ## The arrays read at an index -/

theorem quot_at (E : IVec S1x128 32) (j : Fin 128) : quot E (ix2 0 j) = quotW (E (ix2 0 j)) := rfl

theorem rest_at (E : IVec S1x128 32) (j : Fin 128) : rest E (ix2 0 j) = restW (E (ix2 0 j)) := rfl

theorem lhs_at (v0 : IVec S128x128 32) (E : IVec S1x128 32) (G : FVec Ideal S1x128 .f32) (a j : Fin 128) :
    lhs v0 E G (ix2 a j) = (Scalar.select (IntOp.cmpi .eq (quotW (E (ix2 0 j))) (v0 (ix2 a j))) (G (ix2 0 j)) 0 : EReal) := by
  rw [← quot_at]
  unfold lhs
  generalize quot E = Q
  pointwise

theorem rhs_at (v0 : IVec S128x128 32) (E : IVec S1x128 32) (b j : Fin 128) :
    rhs v0 E (ix2 b j) = (Scalar.select (IntOp.cmpi .eq (restW (E (ix2 0 j))) (v0 (ix2 b j))) 1 0 : EReal) := by
  rw [← rest_at]
  unfold rhs
  generalize rest E = Q
  pointwise

theorem one_at (v0 : IVec S128x128 32) (h0 : ∀ a j : Fin 128, v0 (ix2 a j) = BitVec.ofNat 32 a.val) (E : IVec S1x128 32) (G : FVec Ideal S1x128 .f32) (a b : Fin 128) :
    one v0 E G (ix2 a b) = gate (fun j => E (ix2 0 j)) (fun j => G (ix2 0 j)) (a.val * 128 + b.val) := by
  rw [← gate_eq]
  have e : one v0 E G (ix2 a b) = ∑ j : Fin 128, lhs v0 E G (ix2 a j) * rhs v0 E (ix2 b j) := by
    unfold one
    generalize lhs v0 E G = L
    generalize rhs v0 E = R
    pointwise
  rw [e]
  refine Finset.sum_congr rfl fun j _ => ?_
  rw [lhs_at, rhs_at, h0, h0]

theorem stack_at (R : Fin 8 → FVec Ideal S128x128 .f32) (a b : Fin 128) (s : Fin 8) : stack R (ix3 a s b) = R s (ix2 a b) := by
  unfold stack
  fin_cases s <;> pointwise

/-- One store's rows. -/
theorem page_at (W : FVec Ideal S128x8x128 .f32) (o : Fin 128) (h : S128x8x128.Slices ![o.val, 0, 0] S1x8x128) (s : Fin 8) (b : Fin 128) :
    (truncf .bf16 (shapeCast S8x128 (extractStridedSlice S1x8x128 ![o.val, 0, 0] W h) shapeCasts_S1x8x128_S8x128) bitsLt_bf16_f32 : FVec Ideal S8x128 .bf16) (ix2 s b) = W (ix3 o s b) := by
  pointwise

/-! ## A trip's stores -/

section
variable (c : Dev nD) (i : grid0.Coords) (arg1 : Memref sig .tc .vmem S256x128 .i32) (harg1 : arg1.IsWhole) (arg2 : Memref sig .tc .vmem S256x128 .f32) (harg2 : arg2.IsWhole)
  (arg3 : Memref sig .tc .vmem S256x16384 .bf16) (harg3 : arg3.IsWhole)
variable (v0 : IVec S128x128 32) (X1 : BufTy.Contents (Elt Ideal) arg1.view.ty) (X2 : BufTy.Contents (Elt Ideal) arg2.view.ty) (k : Fin k0_t1_loop.trips)

/-- The pairs a trip reads for its row `s`, -/
def eRow (s : Fin 8) : IVec S1x128 32 :=
  View.readAt (Elt Ideal) arg1.view (Rect.unit (s := S256x128) (k0_off1 k (BitVec.ofNat 32 s.val)) S1x128.size (k0_off1_inb k s)).toLoadRect X1
/-- and their gates. -/
def gRow (s : Fin 8) : FVec Ideal S1x128 .f32 :=
  View.readAt (Elt Ideal) arg2.view (Rect.unit (s := S256x128) (k0_off1 k (BitVec.ofNat 32 s.val)) S1x128.size (k0_off1_inb k s)).toLoadRect X2

/-- The trip's array is the eight tokens' products. -/
theorem stack_eq : trip_k0_t1.sl.r_37 (F := Ideal) arg1 arg2 v0 X1 X2 k = stack fun s => one v0 (eRow arg1 X1 k s) (gRow arg2 X2 k s) := rfl
end

/-- The block: every token's gates, expert by expert. -/
def left (x0 : Vec Ideal S256x128 .i32) (x1 : Vec Ideal S256x128 .f32) : Vec Ideal S256x16384 .bf16 := fun y =>
  gate (fun j => x0 (ix2 (y 0) j)) (fun j => x1 (ix2 (y 0) j)) (y 1).val

theorem row_of : ∀ (k : Fin k0_t1_loop.trips) (s : Fin 8), k0_off1 k (BitVec.ofNat 32 s.val) 0 = k.val * 8 + s.val := by decide +kernel

theorem row_start : ∀ k : Fin k0_t1_loop.trips, k0_off2 k 0 = k.val * 8 := by decide +kernel

section
variable (c : Dev nD) (i : grid0.Coords) (arg1 : Memref sig .tc .vmem S256x128 .i32) (harg1 : arg1.IsWhole) (arg2 : Memref sig .tc .vmem S256x128 .f32) (harg2 : arg2.IsWhole)
  (arg3 : Memref sig .tc .vmem S256x16384 .bf16) (harg3 : arg3.IsWhole)
variable (v0 : IVec S128x128 32) (h0 : ∀ a j : Fin 128, v0 (ix2 a j) = BitVec.ofNat 32 a.val)
variable (x0 : Vec Ideal S256x128 .i32) (x1 : Vec Ideal S256x128 .f32) (k : Fin k0_t1_loop.trips)

theorem eRow_at (s : Fin 8) (r : Fin 256) (hr : r.val = k.val * 8 + s.val) (j : Fin 128) :
    eRow arg1 (harg1.unread x0) k s (ix2 0 j) = x0 (ix2 r j) := by
  unfold eRow
  rw [View.readAt_eq_ld, Memref.IsWhole.read_unread]
  show x0 _ = x0 _
  congr 1
  funext a
  apply Fin.ext
  match a with
  | ⟨0, _⟩ => show k0_off1 k (BitVec.ofNat 32 s.val) 0 + 1 * 0 = r.val; rw [row_of]; omega
  | ⟨1, _⟩ => show 0 + 1 * j.val = j.val; omega

theorem gRow_at (s : Fin 8) (r : Fin 256) (hr : r.val = k.val * 8 + s.val) (j : Fin 128) :
    gRow arg2 (harg2.unread x1) k s (ix2 0 j) = x1 (ix2 r j) := by
  unfold gRow
  rw [View.readAt_eq_ld, Memref.IsWhole.read_unread]
  show x1 _ = x1 _
  congr 1
  funext a
  apply Fin.ext
  match a with
  | ⟨0, _⟩ => show k0_off1 k (BitVec.ofNat 32 s.val) 0 + 1 * 0 = r.val; rw [row_of]; omega
  | ⟨1, _⟩ => show 0 + 1 * j.val = j.val; omega

include h0 in
/-- One store agrees with the block. -/
theorem piece_at (o : Fin 128) (off : Fin 2 → Nat) (hr : off 0 = k0_off2 k 0) (hc : off 1 = o.val * 128)
    (inb : ∀ a, off a + S8x128.size a ≤ S256x16384.size a) (h : S128x8x128.Slices ![o.val, 0, 0] S1x8x128) (pay : FVec Ideal S8x128 .bf16)
    (hp : pay = truncf .bf16 (shapeCast S8x128 (extractStridedSlice S1x8x128 ![o.val, 0, 0] (trip_k0_t1.sl.r_37 (F := Ideal) arg1 arg2 v0 (harg1.unread x0) (harg2.unread x1) k) h) shapeCasts_S1x8x128_S8x128) bitsLt_bf16_f32) :
    ∀ x : S8x128.Idx, pay x = left x0 x1 ((Rect.unit (s := S256x16384) off S8x128.size inb).emb x) := by
  intro x
  obtain ⟨s, b, rfl⟩ : ∃ (s : Fin 8) (b : Fin 128), x = ix2 s b := ⟨x 0, x 1, by funext a; match a with | ⟨0, _⟩ => rfl | ⟨1, _⟩ => rfl⟩
  rw [hp, page_at, stack_eq, stack_at, one_at v0 h0]
  unfold left
  have e0 : ((Rect.unit (s := S256x16384) off S8x128.size inb).emb (ix2 s b) 0).val = k.val * 8 + s.val := by
    show off 0 + 1 * s.val = _; rw [hr, row_start]; omega
  have e1 : ((Rect.unit (s := S256x16384) off S8x128.size inb).emb (ix2 s b) 1).val = o.val * 128 + b.val := by
    show off 1 + 1 * b.val = _; rw [hc]; omega
  rw [e1]
  congr 1
  · funext j; exact eRow_at arg1 harg1 x0 k s _ e0 j
  · funext j; exact gRow_at arg2 harg2 x1 k s _ e0 j

include h0 in
/-- A trip's stores agree with the block, -/
theorem trip_agree : ∀ p ∈ (trip_k0_t1 (F := Ideal) Variants.none c none i arg1 harg1 arg2 harg2 arg3 harg3 v0 (harg1.unread x0) (harg2.unread x1) k).1,
    ∀ x : p.1.shape.Idx, p.2 x = left x0 x1 (p.1.emb x) := by
  unfold trip_k0_t1
  dsimp only
  refine List.forall_mem_cons.mpr ⟨piece_at arg1 harg1 arg2 harg2 v0 h0 x0 x1 k 127 (k0_off129 k) rfl rfl (k0_off129_inb k) slices_S128x8x128_o127_0_0_S1x8x128 _ rfl, ?_⟩
  refine List.forall_mem_cons.mpr ⟨piece_at arg1 harg1 arg2 harg2 v0 h0 x0 x1 k 126 (k0_off128 k) rfl rfl (k0_off128_inb k) slices_S128x8x128_o126_0_0_S1x8x128 _ rfl, ?_⟩
  refine List.forall_mem_cons.mpr ⟨piece_at arg1 harg1 arg2 harg2 v0 h0 x0 x1 k 125 (k0_off127 k) rfl rfl (k0_off127_inb k) slices_S128x8x128_o125_0_0_S1x8x128 _ rfl, ?_⟩
  refine List.forall_mem_cons.mpr ⟨piece_at arg1 harg1 arg2 harg2 v0 h0 x0 x1 k 124 (k0_off126 k) rfl rfl (k0_off126_inb k) slices_S128x8x128_o124_0_0_S1x8x128 _ rfl, ?_⟩
  refine List.forall_mem_cons.mpr ⟨piece_at arg1 harg1 arg2 harg2 v0 h0 x0 x1 k 123 (k0_off125 k) rfl rfl (k0_off125_inb k) slices_S128x8x128_o123_0_0_S1x8x128 _ rfl, ?_⟩
  refine List.forall_mem_cons.mpr ⟨piece_at arg1 harg1 arg2 harg2 v0 h0 x0 x1 k 122 (k0_off124 k) rfl rfl (k0_off124_inb k) slices_S128x8x128_o122_0_0_S1x8x128 _ rfl, ?_⟩
  refine List.forall_mem_cons.mpr ⟨piece_at arg1 harg1 arg2 harg2 v0 h0 x0 x1 k 121 (k0_off123 k) rfl rfl (k0_off123_inb k) slices_S128x8x128_o121_0_0_S1x8x128 _ rfl, ?_⟩
  refine List.forall_mem_cons.mpr ⟨piece_at arg1 harg1 arg2 harg2 v0 h0 x0 x1 k 120 (k0_off122 k) rfl rfl (k0_off122_inb k) slices_S128x8x128_o120_0_0_S1x8x128 _ rfl, ?_⟩
  refine List.forall_mem_cons.mpr ⟨piece_at arg1 harg1 arg2 harg2 v0 h0 x0 x1 k 119 (k0_off121 k) rfl rfl (k0_off121_inb k) slices_S128x8x128_o119_0_0_S1x8x128 _ rfl, ?_⟩
  refine List.forall_mem_cons.mpr ⟨piece_at arg1 harg1 arg2 harg2 v0 h0 x0 x1 k 118 (k0_off120 k) rfl rfl (k0_off120_inb k) slices_S128x8x128_o118_0_0_S1x8x128 _ rfl, ?_⟩
  refine List.forall_mem_cons.mpr ⟨piece_at arg1 harg1 arg2 harg2 v0 h0 x0 x1 k 117 (k0_off119 k) rfl rfl (k0_off119_inb k) slices_S128x8x128_o117_0_0_S1x8x128 _ rfl, ?_⟩
  refine List.forall_mem_cons.mpr ⟨piece_at arg1 harg1 arg2 harg2 v0 h0 x0 x1 k 116 (k0_off118 k) rfl rfl (k0_off118_inb k) slices_S128x8x128_o116_0_0_S1x8x128 _ rfl, ?_⟩
  refine List.forall_mem_cons.mpr ⟨piece_at arg1 harg1 arg2 harg2 v0 h0 x0 x1 k 115 (k0_off117 k) rfl rfl (k0_off117_inb k) slices_S128x8x128_o115_0_0_S1x8x128 _ rfl, ?_⟩
  refine List.forall_mem_cons.mpr ⟨piece_at arg1 harg1 arg2 harg2 v0 h0 x0 x1 k 114 (k0_off116 k) rfl rfl (k0_off116_inb k) slices_S128x8x128_o114_0_0_S1x8x128 _ rfl, ?_⟩
  refine List.forall_mem_cons.mpr ⟨piece_at arg1 harg1 arg2 harg2 v0 h0 x0 x1 k 113 (k0_off115 k) rfl rfl (k0_off115_inb k) slices_S128x8x128_o113_0_0_S1x8x128 _ rfl, ?_⟩
  refine List.forall_mem_cons.mpr ⟨piece_at arg1 harg1 arg2 harg2 v0 h0 x0 x1 k 112 (k0_off114 k) rfl rfl (k0_off114_inb k) slices_S128x8x128_o112_0_0_S1x8x128 _ rfl, ?_⟩
  refine List.forall_mem_cons.mpr ⟨piece_at arg1 harg1 arg2 harg2 v0 h0 x0 x1 k 111 (k0_off113 k) rfl rfl (k0_off113_inb k) slices_S128x8x128_o111_0_0_S1x8x128 _ rfl, ?_⟩
  refine List.forall_mem_cons.mpr ⟨piece_at arg1 harg1 arg2 harg2 v0 h0 x0 x1 k 110 (k0_off112 k) rfl rfl (k0_off112_inb k) slices_S128x8x128_o110_0_0_S1x8x128 _ rfl, ?_⟩
  refine List.forall_mem_cons.mpr ⟨piece_at arg1 harg1 arg2 harg2 v0 h0 x0 x1 k 109 (k0_off111 k) rfl rfl (k0_off111_inb k) slices_S128x8x128_o109_0_0_S1x8x128 _ rfl, ?_⟩
  refine List.forall_mem_cons.mpr ⟨piece_at arg1 harg1 arg2 harg2 v0 h0 x0 x1 k 108 (k0_off110 k) rfl rfl (k0_off110_inb k) slices_S128x8x128_o108_0_0_S1x8x128 _ rfl, ?_⟩
  refine List.forall_mem_cons.mpr ⟨piece_at arg1 harg1 arg2 harg2 v0 h0 x0 x1 k 107 (k0_off109 k) rfl rfl (k0_off109_inb k) slices_S128x8x128_o107_0_0_S1x8x128 _ rfl, ?_⟩
  refine List.forall_mem_cons.mpr ⟨piece_at arg1 harg1 arg2 harg2 v0 h0 x0 x1 k 106 (k0_off108 k) rfl rfl (k0_off108_inb k) slices_S128x8x128_o106_0_0_S1x8x128 _ rfl, ?_⟩
  refine List.forall_mem_cons.mpr ⟨piece_at arg1 harg1 arg2 harg2 v0 h0 x0 x1 k 105 (k0_off107 k) rfl rfl (k0_off107_inb k) slices_S128x8x128_o105_0_0_S1x8x128 _ rfl, ?_⟩
  refine List.forall_mem_cons.mpr ⟨piece_at arg1 harg1 arg2 harg2 v0 h0 x0 x1 k 104 (k0_off106 k) rfl rfl (k0_off106_inb k) slices_S128x8x128_o104_0_0_S1x8x128 _ rfl, ?_⟩
  refine List.forall_mem_cons.mpr ⟨piece_at arg1 harg1 arg2 harg2 v0 h0 x0 x1 k 103 (k0_off105 k) rfl rfl (k0_off105_inb k) slices_S128x8x128_o103_0_0_S1x8x128 _ rfl, ?_⟩
  refine List.forall_mem_cons.mpr ⟨piece_at arg1 harg1 arg2 harg2 v0 h0 x0 x1 k 102 (k0_off104 k) rfl rfl (k0_off104_inb k) slices_S128x8x128_o102_0_0_S1x8x128 _ rfl, ?_⟩
  refine List.forall_mem_cons.mpr ⟨piece_at arg1 harg1 arg2 harg2 v0 h0 x0 x1 k 101 (k0_off103 k) rfl rfl (k0_off103_inb k) slices_S128x8x128_o101_0_0_S1x8x128 _ rfl, ?_⟩
  refine List.forall_mem_cons.mpr ⟨piece_at arg1 harg1 arg2 harg2 v0 h0 x0 x1 k 100 (k0_off102 k) rfl rfl (k0_off102_inb k) slices_S128x8x128_o100_0_0_S1x8x128 _ rfl, ?_⟩
  refine List.forall_mem_cons.mpr ⟨piece_at arg1 harg1 arg2 harg2 v0 h0 x0 x1 k 99 (k0_off101 k) rfl rfl (k0_off101_inb k) slices_S128x8x128_o99_0_0_S1x8x128 _ rfl, ?_⟩
  refine List.forall_mem_cons.mpr ⟨piece_at arg1 harg1 arg2 harg2 v0 h0 x0 x1 k 98 (k0_off100 k) rfl rfl (k0_off100_inb k) slices_S128x8x128_o98_0_0_S1x8x128 _ rfl, ?_⟩
  refine List.forall_mem_cons.mpr ⟨piece_at arg1 harg1 arg2 harg2 v0 h0 x0 x1 k 97 (k0_off99 k) rfl rfl (k0_off99_inb k) slices_S128x8x128_o97_0_0_S1x8x128 _ rfl, ?_⟩
  refine List.forall_mem_cons.mpr ⟨piece_at arg1 harg1 arg2 harg2 v0 h0 x0 x1 k 96 (k0_off98 k) rfl rfl (k0_off98_inb k) slices_S128x8x128_o96_0_0_S1x8x128 _ rfl, ?_⟩
  refine List.forall_mem_cons.mpr ⟨piece_at arg1 harg1 arg2 harg2 v0 h0 x0 x1 k 95 (k0_off97 k) rfl rfl (k0_off97_inb k) slices_S128x8x128_o95_0_0_S1x8x128 _ rfl, ?_⟩
  refine List.forall_mem_cons.mpr ⟨piece_at arg1 harg1 arg2 harg2 v0 h0 x0 x1 k 94 (k0_off96 k) rfl rfl (k0_off96_inb k) slices_S128x8x128_o94_0_0_S1x8x128 _ rfl, ?_⟩
  refine List.forall_mem_cons.mpr ⟨piece_at arg1 harg1 arg2 harg2 v0 h0 x0 x1 k 93 (k0_off95 k) rfl rfl (k0_off95_inb k) slices_S128x8x128_o93_0_0_S1x8x128 _ rfl, ?_⟩
  refine List.forall_mem_cons.mpr ⟨piece_at arg1 harg1 arg2 harg2 v0 h0 x0 x1 k 92 (k0_off94 k) rfl rfl (k0_off94_inb k) slices_S128x8x128_o92_0_0_S1x8x128 _ rfl, ?_⟩
  refine List.forall_mem_cons.mpr ⟨piece_at arg1 harg1 arg2 harg2 v0 h0 x0 x1 k 91 (k0_off93 k) rfl rfl (k0_off93_inb k) slices_S128x8x128_o91_0_0_S1x8x128 _ rfl, ?_⟩
  refine List.forall_mem_cons.mpr ⟨piece_at arg1 harg1 arg2 harg2 v0 h0 x0 x1 k 90 (k0_off92 k) rfl rfl (k0_off92_inb k) slices_S128x8x128_o90_0_0_S1x8x128 _ rfl, ?_⟩
  refine List.forall_mem_cons.mpr ⟨piece_at arg1 harg1 arg2 harg2 v0 h0 x0 x1 k 89 (k0_off91 k) rfl rfl (k0_off91_inb k) slices_S128x8x128_o89_0_0_S1x8x128 _ rfl, ?_⟩
  refine List.forall_mem_cons.mpr ⟨piece_at arg1 harg1 arg2 harg2 v0 h0 x0 x1 k 88 (k0_off90 k) rfl rfl (k0_off90_inb k) slices_S128x8x128_o88_0_0_S1x8x128 _ rfl, ?_⟩
  refine List.forall_mem_cons.mpr ⟨piece_at arg1 harg1 arg2 harg2 v0 h0 x0 x1 k 87 (k0_off89 k) rfl rfl (k0_off89_inb k) slices_S128x8x128_o87_0_0_S1x8x128 _ rfl, ?_⟩
  refine List.forall_mem_cons.mpr ⟨piece_at arg1 harg1 arg2 harg2 v0 h0 x0 x1 k 86 (k0_off88 k) rfl rfl (k0_off88_inb k) slices_S128x8x128_o86_0_0_S1x8x128 _ rfl, ?_⟩
  refine List.forall_mem_cons.mpr ⟨piece_at arg1 harg1 arg2 harg2 v0 h0 x0 x1 k 85 (k0_off87 k) rfl rfl (k0_off87_inb k) slices_S128x8x128_o85_0_0_S1x8x128 _ rfl, ?_⟩
  refine List.forall_mem_cons.mpr ⟨piece_at arg1 harg1 arg2 harg2 v0 h0 x0 x1 k 84 (k0_off86 k) rfl rfl (k0_off86_inb k) slices_S128x8x128_o84_0_0_S1x8x128 _ rfl, ?_⟩
  refine List.forall_mem_cons.mpr ⟨piece_at arg1 harg1 arg2 harg2 v0 h0 x0 x1 k 83 (k0_off85 k) rfl rfl (k0_off85_inb k) slices_S128x8x128_o83_0_0_S1x8x128 _ rfl, ?_⟩
  refine List.forall_mem_cons.mpr ⟨piece_at arg1 harg1 arg2 harg2 v0 h0 x0 x1 k 82 (k0_off84 k) rfl rfl (k0_off84_inb k) slices_S128x8x128_o82_0_0_S1x8x128 _ rfl, ?_⟩
  refine List.forall_mem_cons.mpr ⟨piece_at arg1 harg1 arg2 harg2 v0 h0 x0 x1 k 81 (k0_off83 k) rfl rfl (k0_off83_inb k) slices_S128x8x128_o81_0_0_S1x8x128 _ rfl, ?_⟩
  refine List.forall_mem_cons.mpr ⟨piece_at arg1 harg1 arg2 harg2 v0 h0 x0 x1 k 80 (k0_off82 k) rfl rfl (k0_off82_inb k) slices_S128x8x128_o80_0_0_S1x8x128 _ rfl, ?_⟩
  refine List.forall_mem_cons.mpr ⟨piece_at arg1 harg1 arg2 harg2 v0 h0 x0 x1 k 79 (k0_off81 k) rfl rfl (k0_off81_inb k) slices_S128x8x128_o79_0_0_S1x8x128 _ rfl, ?_⟩
  refine List.forall_mem_cons.mpr ⟨piece_at arg1 harg1 arg2 harg2 v0 h0 x0 x1 k 78 (k0_off80 k) rfl rfl (k0_off80_inb k) slices_S128x8x128_o78_0_0_S1x8x128 _ rfl, ?_⟩
  refine List.forall_mem_cons.mpr ⟨piece_at arg1 harg1 arg2 harg2 v0 h0 x0 x1 k 77 (k0_off79 k) rfl rfl (k0_off79_inb k) slices_S128x8x128_o77_0_0_S1x8x128 _ rfl, ?_⟩
  refine List.forall_mem_cons.mpr ⟨piece_at arg1 harg1 arg2 harg2 v0 h0 x0 x1 k 76 (k0_off78 k) rfl rfl (k0_off78_inb k) slices_S128x8x128_o76_0_0_S1x8x128 _ rfl, ?_⟩
  refine List.forall_mem_cons.mpr ⟨piece_at arg1 harg1 arg2 harg2 v0 h0 x0 x1 k 75 (k0_off77 k) rfl rfl (k0_off77_inb k) slices_S128x8x128_o75_0_0_S1x8x128 _ rfl, ?_⟩
  refine List.forall_mem_cons.mpr ⟨piece_at arg1 harg1 arg2 harg2 v0 h0 x0 x1 k 74 (k0_off76 k) rfl rfl (k0_off76_inb k) slices_S128x8x128_o74_0_0_S1x8x128 _ rfl, ?_⟩
  refine List.forall_mem_cons.mpr ⟨piece_at arg1 harg1 arg2 harg2 v0 h0 x0 x1 k 73 (k0_off75 k) rfl rfl (k0_off75_inb k) slices_S128x8x128_o73_0_0_S1x8x128 _ rfl, ?_⟩
  refine List.forall_mem_cons.mpr ⟨piece_at arg1 harg1 arg2 harg2 v0 h0 x0 x1 k 72 (k0_off74 k) rfl rfl (k0_off74_inb k) slices_S128x8x128_o72_0_0_S1x8x128 _ rfl, ?_⟩
  refine List.forall_mem_cons.mpr ⟨piece_at arg1 harg1 arg2 harg2 v0 h0 x0 x1 k 71 (k0_off73 k) rfl rfl (k0_off73_inb k) slices_S128x8x128_o71_0_0_S1x8x128 _ rfl, ?_⟩
  refine List.forall_mem_cons.mpr ⟨piece_at arg1 harg1 arg2 harg2 v0 h0 x0 x1 k 70 (k0_off72 k) rfl rfl (k0_off72_inb k) slices_S128x8x128_o70_0_0_S1x8x128 _ rfl, ?_⟩
  refine List.forall_mem_cons.mpr ⟨piece_at arg1 harg1 arg2 harg2 v0 h0 x0 x1 k 69 (k0_off71 k) rfl rfl (k0_off71_inb k) slices_S128x8x128_o69_0_0_S1x8x128 _ rfl, ?_⟩
  refine List.forall_mem_cons.mpr ⟨piece_at arg1 harg1 arg2 harg2 v0 h0 x0 x1 k 68 (k0_off70 k) rfl rfl (k0_off70_inb k) slices_S128x8x128_o68_0_0_S1x8x128 _ rfl, ?_⟩
  refine List.forall_mem_cons.mpr ⟨piece_at arg1 harg1 arg2 harg2 v0 h0 x0 x1 k 67 (k0_off69 k) rfl rfl (k0_off69_inb k) slices_S128x8x128_o67_0_0_S1x8x128 _ rfl, ?_⟩
  refine List.forall_mem_cons.mpr ⟨piece_at arg1 harg1 arg2 harg2 v0 h0 x0 x1 k 66 (k0_off68 k) rfl rfl (k0_off68_inb k) slices_S128x8x128_o66_0_0_S1x8x128 _ rfl, ?_⟩
  refine List.forall_mem_cons.mpr ⟨piece_at arg1 harg1 arg2 harg2 v0 h0 x0 x1 k 65 (k0_off67 k) rfl rfl (k0_off67_inb k) slices_S128x8x128_o65_0_0_S1x8x128 _ rfl, ?_⟩
  refine List.forall_mem_cons.mpr ⟨piece_at arg1 harg1 arg2 harg2 v0 h0 x0 x1 k 64 (k0_off66 k) rfl rfl (k0_off66_inb k) slices_S128x8x128_o64_0_0_S1x8x128 _ rfl, ?_⟩
  refine List.forall_mem_cons.mpr ⟨piece_at arg1 harg1 arg2 harg2 v0 h0 x0 x1 k 63 (k0_off65 k) rfl rfl (k0_off65_inb k) slices_S128x8x128_o63_0_0_S1x8x128 _ rfl, ?_⟩
  refine List.forall_mem_cons.mpr ⟨piece_at arg1 harg1 arg2 harg2 v0 h0 x0 x1 k 62 (k0_off64 k) rfl rfl (k0_off64_inb k) slices_S128x8x128_o62_0_0_S1x8x128 _ rfl, ?_⟩
  refine List.forall_mem_cons.mpr ⟨piece_at arg1 harg1 arg2 harg2 v0 h0 x0 x1 k 61 (k0_off63 k) rfl rfl (k0_off63_inb k) slices_S128x8x128_o61_0_0_S1x8x128 _ rfl, ?_⟩
  refine List.forall_mem_cons.mpr ⟨piece_at arg1 harg1 arg2 harg2 v0 h0 x0 x1 k 60 (k0_off62 k) rfl rfl (k0_off62_inb k) slices_S128x8x128_o60_0_0_S1x8x128 _ rfl, ?_⟩
  refine List.forall_mem_cons.mpr ⟨piece_at arg1 harg1 arg2 harg2 v0 h0 x0 x1 k 59 (k0_off61 k) rfl rfl (k0_off61_inb k) slices_S128x8x128_o59_0_0_S1x8x128 _ rfl, ?_⟩
  refine List.forall_mem_cons.mpr ⟨piece_at arg1 harg1 arg2 harg2 v0 h0 x0 x1 k 58 (k0_off60 k) rfl rfl (k0_off60_inb k) slices_S128x8x128_o58_0_0_S1x8x128 _ rfl, ?_⟩
  refine List.forall_mem_cons.mpr ⟨piece_at arg1 harg1 arg2 harg2 v0 h0 x0 x1 k 57 (k0_off59 k) rfl rfl (k0_off59_inb k) slices_S128x8x128_o57_0_0_S1x8x128 _ rfl, ?_⟩
  refine List.forall_mem_cons.mpr ⟨piece_at arg1 harg1 arg2 harg2 v0 h0 x0 x1 k 56 (k0_off58 k) rfl rfl (k0_off58_inb k) slices_S128x8x128_o56_0_0_S1x8x128 _ rfl, ?_⟩
  refine List.forall_mem_cons.mpr ⟨piece_at arg1 harg1 arg2 harg2 v0 h0 x0 x1 k 55 (k0_off57 k) rfl rfl (k0_off57_inb k) slices_S128x8x128_o55_0_0_S1x8x128 _ rfl, ?_⟩
  refine List.forall_mem_cons.mpr ⟨piece_at arg1 harg1 arg2 harg2 v0 h0 x0 x1 k 54 (k0_off56 k) rfl rfl (k0_off56_inb k) slices_S128x8x128_o54_0_0_S1x8x128 _ rfl, ?_⟩
  refine List.forall_mem_cons.mpr ⟨piece_at arg1 harg1 arg2 harg2 v0 h0 x0 x1 k 53 (k0_off55 k) rfl rfl (k0_off55_inb k) slices_S128x8x128_o53_0_0_S1x8x128 _ rfl, ?_⟩
  refine List.forall_mem_cons.mpr ⟨piece_at arg1 harg1 arg2 harg2 v0 h0 x0 x1 k 52 (k0_off54 k) rfl rfl (k0_off54_inb k) slices_S128x8x128_o52_0_0_S1x8x128 _ rfl, ?_⟩
  refine List.forall_mem_cons.mpr ⟨piece_at arg1 harg1 arg2 harg2 v0 h0 x0 x1 k 51 (k0_off53 k) rfl rfl (k0_off53_inb k) slices_S128x8x128_o51_0_0_S1x8x128 _ rfl, ?_⟩
  refine List.forall_mem_cons.mpr ⟨piece_at arg1 harg1 arg2 harg2 v0 h0 x0 x1 k 50 (k0_off52 k) rfl rfl (k0_off52_inb k) slices_S128x8x128_o50_0_0_S1x8x128 _ rfl, ?_⟩
  refine List.forall_mem_cons.mpr ⟨piece_at arg1 harg1 arg2 harg2 v0 h0 x0 x1 k 49 (k0_off51 k) rfl rfl (k0_off51_inb k) slices_S128x8x128_o49_0_0_S1x8x128 _ rfl, ?_⟩
  refine List.forall_mem_cons.mpr ⟨piece_at arg1 harg1 arg2 harg2 v0 h0 x0 x1 k 48 (k0_off50 k) rfl rfl (k0_off50_inb k) slices_S128x8x128_o48_0_0_S1x8x128 _ rfl, ?_⟩
  refine List.forall_mem_cons.mpr ⟨piece_at arg1 harg1 arg2 harg2 v0 h0 x0 x1 k 47 (k0_off49 k) rfl rfl (k0_off49_inb k) slices_S128x8x128_o47_0_0_S1x8x128 _ rfl, ?_⟩
  refine List.forall_mem_cons.mpr ⟨piece_at arg1 harg1 arg2 harg2 v0 h0 x0 x1 k 46 (k0_off48 k) rfl rfl (k0_off48_inb k) slices_S128x8x128_o46_0_0_S1x8x128 _ rfl, ?_⟩
  refine List.forall_mem_cons.mpr ⟨piece_at arg1 harg1 arg2 harg2 v0 h0 x0 x1 k 45 (k0_off47 k) rfl rfl (k0_off47_inb k) slices_S128x8x128_o45_0_0_S1x8x128 _ rfl, ?_⟩
  refine List.forall_mem_cons.mpr ⟨piece_at arg1 harg1 arg2 harg2 v0 h0 x0 x1 k 44 (k0_off46 k) rfl rfl (k0_off46_inb k) slices_S128x8x128_o44_0_0_S1x8x128 _ rfl, ?_⟩
  refine List.forall_mem_cons.mpr ⟨piece_at arg1 harg1 arg2 harg2 v0 h0 x0 x1 k 43 (k0_off45 k) rfl rfl (k0_off45_inb k) slices_S128x8x128_o43_0_0_S1x8x128 _ rfl, ?_⟩
  refine List.forall_mem_cons.mpr ⟨piece_at arg1 harg1 arg2 harg2 v0 h0 x0 x1 k 42 (k0_off44 k) rfl rfl (k0_off44_inb k) slices_S128x8x128_o42_0_0_S1x8x128 _ rfl, ?_⟩
  refine List.forall_mem_cons.mpr ⟨piece_at arg1 harg1 arg2 harg2 v0 h0 x0 x1 k 41 (k0_off43 k) rfl rfl (k0_off43_inb k) slices_S128x8x128_o41_0_0_S1x8x128 _ rfl, ?_⟩
  refine List.forall_mem_cons.mpr ⟨piece_at arg1 harg1 arg2 harg2 v0 h0 x0 x1 k 40 (k0_off42 k) rfl rfl (k0_off42_inb k) slices_S128x8x128_o40_0_0_S1x8x128 _ rfl, ?_⟩
  refine List.forall_mem_cons.mpr ⟨piece_at arg1 harg1 arg2 harg2 v0 h0 x0 x1 k 39 (k0_off41 k) rfl rfl (k0_off41_inb k) slices_S128x8x128_o39_0_0_S1x8x128 _ rfl, ?_⟩
  refine List.forall_mem_cons.mpr ⟨piece_at arg1 harg1 arg2 harg2 v0 h0 x0 x1 k 38 (k0_off40 k) rfl rfl (k0_off40_inb k) slices_S128x8x128_o38_0_0_S1x8x128 _ rfl, ?_⟩
  refine List.forall_mem_cons.mpr ⟨piece_at arg1 harg1 arg2 harg2 v0 h0 x0 x1 k 37 (k0_off39 k) rfl rfl (k0_off39_inb k) slices_S128x8x128_o37_0_0_S1x8x128 _ rfl, ?_⟩
  refine List.forall_mem_cons.mpr ⟨piece_at arg1 harg1 arg2 harg2 v0 h0 x0 x1 k 36 (k0_off38 k) rfl rfl (k0_off38_inb k) slices_S128x8x128_o36_0_0_S1x8x128 _ rfl, ?_⟩
  refine List.forall_mem_cons.mpr ⟨piece_at arg1 harg1 arg2 harg2 v0 h0 x0 x1 k 35 (k0_off37 k) rfl rfl (k0_off37_inb k) slices_S128x8x128_o35_0_0_S1x8x128 _ rfl, ?_⟩
  refine List.forall_mem_cons.mpr ⟨piece_at arg1 harg1 arg2 harg2 v0 h0 x0 x1 k 34 (k0_off36 k) rfl rfl (k0_off36_inb k) slices_S128x8x128_o34_0_0_S1x8x128 _ rfl, ?_⟩
  refine List.forall_mem_cons.mpr ⟨piece_at arg1 harg1 arg2 harg2 v0 h0 x0 x1 k 33 (k0_off35 k) rfl rfl (k0_off35_inb k) slices_S128x8x128_o33_0_0_S1x8x128 _ rfl, ?_⟩
  refine List.forall_mem_cons.mpr ⟨piece_at arg1 harg1 arg2 harg2 v0 h0 x0 x1 k 32 (k0_off34 k) rfl rfl (k0_off34_inb k) slices_S128x8x128_o32_0_0_S1x8x128 _ rfl, ?_⟩
  refine List.forall_mem_cons.mpr ⟨piece_at arg1 harg1 arg2 harg2 v0 h0 x0 x1 k 31 (k0_off33 k) rfl rfl (k0_off33_inb k) slices_S128x8x128_o31_0_0_S1x8x128 _ rfl, ?_⟩
  refine List.forall_mem_cons.mpr ⟨piece_at arg1 harg1 arg2 harg2 v0 h0 x0 x1 k 30 (k0_off32 k) rfl rfl (k0_off32_inb k) slices_S128x8x128_o30_0_0_S1x8x128 _ rfl, ?_⟩
  refine List.forall_mem_cons.mpr ⟨piece_at arg1 harg1 arg2 harg2 v0 h0 x0 x1 k 29 (k0_off31 k) rfl rfl (k0_off31_inb k) slices_S128x8x128_o29_0_0_S1x8x128 _ rfl, ?_⟩
  refine List.forall_mem_cons.mpr ⟨piece_at arg1 harg1 arg2 harg2 v0 h0 x0 x1 k 28 (k0_off30 k) rfl rfl (k0_off30_inb k) slices_S128x8x128_o28_0_0_S1x8x128 _ rfl, ?_⟩
  refine List.forall_mem_cons.mpr ⟨piece_at arg1 harg1 arg2 harg2 v0 h0 x0 x1 k 27 (k0_off29 k) rfl rfl (k0_off29_inb k) slices_S128x8x128_o27_0_0_S1x8x128 _ rfl, ?_⟩
  refine List.forall_mem_cons.mpr ⟨piece_at arg1 harg1 arg2 harg2 v0 h0 x0 x1 k 26 (k0_off28 k) rfl rfl (k0_off28_inb k) slices_S128x8x128_o26_0_0_S1x8x128 _ rfl, ?_⟩
  refine List.forall_mem_cons.mpr ⟨piece_at arg1 harg1 arg2 harg2 v0 h0 x0 x1 k 25 (k0_off27 k) rfl rfl (k0_off27_inb k) slices_S128x8x128_o25_0_0_S1x8x128 _ rfl, ?_⟩
  refine List.forall_mem_cons.mpr ⟨piece_at arg1 harg1 arg2 harg2 v0 h0 x0 x1 k 24 (k0_off26 k) rfl rfl (k0_off26_inb k) slices_S128x8x128_o24_0_0_S1x8x128 _ rfl, ?_⟩
  refine List.forall_mem_cons.mpr ⟨piece_at arg1 harg1 arg2 harg2 v0 h0 x0 x1 k 23 (k0_off25 k) rfl rfl (k0_off25_inb k) slices_S128x8x128_o23_0_0_S1x8x128 _ rfl, ?_⟩
  refine List.forall_mem_cons.mpr ⟨piece_at arg1 harg1 arg2 harg2 v0 h0 x0 x1 k 22 (k0_off24 k) rfl rfl (k0_off24_inb k) slices_S128x8x128_o22_0_0_S1x8x128 _ rfl, ?_⟩
  refine List.forall_mem_cons.mpr ⟨piece_at arg1 harg1 arg2 harg2 v0 h0 x0 x1 k 21 (k0_off23 k) rfl rfl (k0_off23_inb k) slices_S128x8x128_o21_0_0_S1x8x128 _ rfl, ?_⟩
  refine List.forall_mem_cons.mpr ⟨piece_at arg1 harg1 arg2 harg2 v0 h0 x0 x1 k 20 (k0_off22 k) rfl rfl (k0_off22_inb k) slices_S128x8x128_o20_0_0_S1x8x128 _ rfl, ?_⟩
  refine List.forall_mem_cons.mpr ⟨piece_at arg1 harg1 arg2 harg2 v0 h0 x0 x1 k 19 (k0_off21 k) rfl rfl (k0_off21_inb k) slices_S128x8x128_o19_0_0_S1x8x128 _ rfl, ?_⟩
  refine List.forall_mem_cons.mpr ⟨piece_at arg1 harg1 arg2 harg2 v0 h0 x0 x1 k 18 (k0_off20 k) rfl rfl (k0_off20_inb k) slices_S128x8x128_o18_0_0_S1x8x128 _ rfl, ?_⟩
  refine List.forall_mem_cons.mpr ⟨piece_at arg1 harg1 arg2 harg2 v0 h0 x0 x1 k 17 (k0_off19 k) rfl rfl (k0_off19_inb k) slices_S128x8x128_o17_0_0_S1x8x128 _ rfl, ?_⟩
  refine List.forall_mem_cons.mpr ⟨piece_at arg1 harg1 arg2 harg2 v0 h0 x0 x1 k 16 (k0_off18 k) rfl rfl (k0_off18_inb k) slices_S128x8x128_o16_0_0_S1x8x128 _ rfl, ?_⟩
  refine List.forall_mem_cons.mpr ⟨piece_at arg1 harg1 arg2 harg2 v0 h0 x0 x1 k 15 (k0_off17 k) rfl rfl (k0_off17_inb k) slices_S128x8x128_o15_0_0_S1x8x128 _ rfl, ?_⟩
  refine List.forall_mem_cons.mpr ⟨piece_at arg1 harg1 arg2 harg2 v0 h0 x0 x1 k 14 (k0_off16 k) rfl rfl (k0_off16_inb k) slices_S128x8x128_o14_0_0_S1x8x128 _ rfl, ?_⟩
  refine List.forall_mem_cons.mpr ⟨piece_at arg1 harg1 arg2 harg2 v0 h0 x0 x1 k 13 (k0_off15 k) rfl rfl (k0_off15_inb k) slices_S128x8x128_o13_0_0_S1x8x128 _ rfl, ?_⟩
  refine List.forall_mem_cons.mpr ⟨piece_at arg1 harg1 arg2 harg2 v0 h0 x0 x1 k 12 (k0_off14 k) rfl rfl (k0_off14_inb k) slices_S128x8x128_o12_0_0_S1x8x128 _ rfl, ?_⟩
  refine List.forall_mem_cons.mpr ⟨piece_at arg1 harg1 arg2 harg2 v0 h0 x0 x1 k 11 (k0_off13 k) rfl rfl (k0_off13_inb k) slices_S128x8x128_o11_0_0_S1x8x128 _ rfl, ?_⟩
  refine List.forall_mem_cons.mpr ⟨piece_at arg1 harg1 arg2 harg2 v0 h0 x0 x1 k 10 (k0_off12 k) rfl rfl (k0_off12_inb k) slices_S128x8x128_o10_0_0_S1x8x128 _ rfl, ?_⟩
  refine List.forall_mem_cons.mpr ⟨piece_at arg1 harg1 arg2 harg2 v0 h0 x0 x1 k 9 (k0_off11 k) rfl rfl (k0_off11_inb k) slices_S128x8x128_o9_0_0_S1x8x128 _ rfl, ?_⟩
  refine List.forall_mem_cons.mpr ⟨piece_at arg1 harg1 arg2 harg2 v0 h0 x0 x1 k 8 (k0_off10 k) rfl rfl (k0_off10_inb k) slices_S128x8x128_o8_0_0_S1x8x128 _ rfl, ?_⟩
  refine List.forall_mem_cons.mpr ⟨piece_at arg1 harg1 arg2 harg2 v0 h0 x0 x1 k 7 (k0_off9 k) rfl rfl (k0_off9_inb k) slices_S128x8x128_o7_0_0_S1x8x128 _ rfl, ?_⟩
  refine List.forall_mem_cons.mpr ⟨piece_at arg1 harg1 arg2 harg2 v0 h0 x0 x1 k 6 (k0_off8 k) rfl rfl (k0_off8_inb k) slices_S128x8x128_o6_0_0_S1x8x128 _ rfl, ?_⟩
  refine List.forall_mem_cons.mpr ⟨piece_at arg1 harg1 arg2 harg2 v0 h0 x0 x1 k 5 (k0_off7 k) rfl rfl (k0_off7_inb k) slices_S128x8x128_o5_0_0_S1x8x128 _ rfl, ?_⟩
  refine List.forall_mem_cons.mpr ⟨piece_at arg1 harg1 arg2 harg2 v0 h0 x0 x1 k 4 (k0_off6 k) rfl rfl (k0_off6_inb k) slices_S128x8x128_o4_0_0_S1x8x128 _ rfl, ?_⟩
  refine List.forall_mem_cons.mpr ⟨piece_at arg1 harg1 arg2 harg2 v0 h0 x0 x1 k 3 (k0_off5 k) rfl rfl (k0_off5_inb k) slices_S128x8x128_o3_0_0_S1x8x128 _ rfl, ?_⟩
  refine List.forall_mem_cons.mpr ⟨piece_at arg1 harg1 arg2 harg2 v0 h0 x0 x1 k 2 (k0_off4 k) rfl rfl (k0_off4_inb k) slices_S128x8x128_o2_0_0_S1x8x128 _ rfl, ?_⟩
  refine List.forall_mem_cons.mpr ⟨piece_at arg1 harg1 arg2 harg2 v0 h0 x0 x1 k 1 (k0_off3 k) rfl rfl (k0_off3_inb k) slices_S128x8x128_o1_0_0_S1x8x128 _ rfl, ?_⟩
  refine List.forall_mem_cons.mpr ⟨piece_at arg1 harg1 arg2 harg2 v0 h0 x0 x1 k 0 (k0_off2 k) rfl rfl (k0_off2_inb k) slices_S128x8x128_o0_0_0_S1x8x128 _ rfl, ?_⟩
  exact List.forall_mem_nil _

include h0 in
/-- so do those of the trips before any, -/
theorem trips_agree (n : ℕ) : ∀ p ∈ pb_k0_t1 (F := Ideal) Variants.none c none i arg1 harg1 arg2 harg2 arg3 harg3 v0 (harg1.unread x0) (harg2.unread x1) n,
    ∀ x : p.1.shape.Idx, p.2 x = left x0 x1 (p.1.emb x) := by
  induction n with
  | zero => rw [pb_k0_t1.eq_1]; exact List.forall_mem_nil _
  | succ n ih =>
    rw [pb_k0_t1.eq_2]
    unfold pb_k0_t1Step
    split
    · rename_i hn
      intro p hp
      rcases List.mem_append.mp hp with hp | hp
      · exact trip_agree c i arg1 harg1 arg2 harg2 arg3 harg3 v0 h0 x0 x1 ⟨n, hn⟩ p hp
      · exact ih p hp
    · exact ih
end

section
variable (c : Dev nD) (i : grid0.Coords) (arg1 : Memref sig .tc .vmem S256x128 .i32) (harg1 : arg1.IsWhole) (arg2 : Memref sig .tc .vmem S256x128 .f32) (harg2 : arg2.IsWhole)
  (arg3 : Memref sig .tc .vmem S256x16384 .bf16) (harg3 : arg3.IsWhole) (x0 : Vec Ideal S256x128 .i32) (x1 : Vec Ideal S256x128 .f32)

/-- the rows' numbers being the first keys', -/
theorem iota_at (a j : Fin 128) : kernelRun0_A.sl.v0 (ix2 a j) = BitVec.ofNat 32 a.val := by
  unfold kernelRun0_A.sl.v0
  pointwise

/-- and the body leaves the block. -/
theorem out_eq : out0_A_2 (F := Ideal) c i arg1 harg1 arg2 harg2 arg3 harg3 x0 x1 = left x0 x1 := by
  unfold out0_A_2
  rw [View.read_writes_junk_eq_canon]
  funext y
  refine View.canon_apply_of_pieces (left x0 x1) _ ?_ y (cover0_A_2 c i arg1 harg1 arg2 harg2 arg3 harg3 x0 x1 y)
  unfold kernelRun0_A
  dsimp only
  exact trips_agree c i arg1 harg1 arg2 harg2 arg3 harg3 _ iota_at x0 x1 _
end

end Cert.RouteIdeal.Rt

end
-- ==== Proof.RouteValue.lean ====
/-
  The route kernel read element by element: its result holds, at every token and expert, the sum of the gates of the
  token's chosen pairs that name the expert.
-/
module

public import proofs.«01_k».proof.Proof.RouteBody
public import Idealize.ShloMosaic.Lib.KernelVsHost

@[expose] public section

set_option maxRecDepth 16384

noncomputable section

namespace Cert.RouteIdeal.Rt

open Cert.RouteIdeal Cert.RouteIdeal.Gen Cert.Keys
open Idealize.ShloMosaic Idealize.ShloMosaic.TcCoe Idealize.SL.Sem
open scoped BigOperators

variable (m : (ℓ : Loc nD τ sig) → Buf (Elt Ideal) ℓ) (c : Dev nD)

/-- The chosen pairs' experts, -/
abbrev aE : IVec S17408x128 32 := m ((c.tc : Thread nD τ).loc main_arg0)
/-- and their gates. -/
abbrev aG : FVec Ideal S17408x128 .f32 := m ((c.tc : Thread nD τ).loc main_arg1)

/-! ## The blocks -/

theorem index0 : ∀ t : Fin cfg0.N, win0_0.index t 0 = t.val ∧ win0_0.index t 1 = 0 :=
  (by decide +kernel : ∀ t : Fin grid0.N, win0_0.index t 0 = t.val ∧ win0_0.index t 1 = 0)
theorem index1 : ∀ t : Fin cfg0.N, win0_1.index t 0 = t.val ∧ win0_1.index t 1 = 0 :=
  (by decide +kernel : ∀ t : Fin grid0.N, win0_1.index t 0 = t.val ∧ win0_1.index t 1 = 0)
theorem index2 : ∀ t : Fin cfg0.N, win0_2.index t 0 = t.val ∧ win0_2.index t 1 = 0 :=
  (by decide +kernel : ∀ t : Fin grid0.N, win0_2.index t 0 = t.val ∧ win0_2.index t 1 = 0)

theorem iblk_e (t : Fin cfg0.N) (q : Fin 256) (j : Fin 128) (p : Fin 17408) (hp : p.val = t.val * 256 + q.val) :
    (iblk m c 0 t : Vec Ideal S256x128 .i32) (ix2 q j) = aE m c (ix2 p j) := by
  unfold iblk
  rw [View.read_apply]
  show m ((c.tc : Thread nD τ).loc main_arg0) _ = m ((c.tc : Thread nD τ).loc main_arg0) _
  congr 1
  obtain ⟨h0, h1⟩ := index0 t
  funext a
  apply Fin.ext
  match a with
  | ⟨0, _⟩ => show win0_0.index t 0 * 256 + 1 * q.val = p.val; omega
  | ⟨1, _⟩ => show win0_0.index t 1 * 128 + 1 * j.val = j.val; omega

theorem iblk_g (t : Fin cfg0.N) (q : Fin 256) (j : Fin 128) (p : Fin 17408) (hp : p.val = t.val * 256 + q.val) :
    (iblk m c 1 t : Vec Ideal S256x128 .f32) (ix2 q j) = aG m c (ix2 p j) := by
  unfold iblk
  rw [View.read_apply]
  show m ((c.tc : Thread nD τ).loc main_arg1) _ = m ((c.tc : Thread nD τ).loc main_arg1) _
  congr 1
  obtain ⟨h0, h1⟩ := index1 t
  funext a
  apply Fin.ext
  match a with
  | ⟨0, _⟩ => show win0_1.index t 0 * 256 + 1 * q.val = p.val; omega
  | ⟨1, _⟩ => show win0_1.index t 1 * 128 + 1 * j.val = j.val; omega

/-! ## The result array -/

/-- The result array: every token's gate for every expert. -/
def gateArr : FVec Ideal S17408x16384 .bf16 := fun i =>
  gate (fun j => aE m c (ix2 (i 0) j)) (fun j => aG m c (ix2 (i 0) j)) (i 1).val

variable {m c}

/-- What a point writes back is its block of the result array. -/
theorem flushed_eq (t : Fin cfg0.N) (hf : (cfg0.win 2).flush t = true) :
    (dats m 0 c).flushed 2 t = ((cfg0.win 2).blk t).view.read (Elt Ideal) (gateArr m c) := by
  rw [Cert.RouteIdeal.Value.flushed2_A, out_eq]
  funext j
  rw [View.read_apply]
  obtain ⟨h0, h1⟩ := index2 t
  have j0 : (j 0).val < 256 := (j 0).isLt
  have j1 : (j 1).val < 16384 := (j 1).isLt
  have e0 : (((cfg0.win 2).blk t).view.emb j 0).val = win0_2.index t 0 * 256 + 1 * (j 0).val := rfl
  have e1 : (((cfg0.win 2).blk t).view.emb j 1).val = win0_2.index t 1 * 16384 + 1 * (j 1).val := rfl
  show left (iblk m c 0 t) (iblk m c 1 t) (ix2 ⟨(j 0).val, j0⟩ ⟨(j 1).val, j1⟩) = gateArr m c (((cfg0.win 2).blk t).view.emb j)
  unfold left gateArr
  congr 1
  · funext l
    exact iblk_e m c t ⟨(j 0).val, j0⟩ l _ (by rw [e0, h0]; dsimp only; omega)
  · funext l
    exact iblk_g m c t ⟨(j 0).val, j0⟩ l _ (by rw [e0, h0]; dsimp only; omega)
  · show (j 1).val = _
    rw [e1, h1]; omega

/-- So the output array ends at the result array. -/
theorem final_o : (dats m 0 c).arrAt 2 cfg0.N = gateArr m c :=
  (dats m 0 c).arrAt_eq_of_cover 2 (gateArr m c) flushed_eq fun i => by
    have i0 : (i 0 : Nat) < 17408 := (i 0).isLt
    have i1 : (i 1 : Nat) < 16384 := (i 1).isLt
    have hN : (i 0).val / 256 < cfg0.N := by
      rw [show cfg0.N = 68 from N_0]; omega
    refine ⟨⟨_, hN⟩, flush0_2 _, ?_⟩
    obtain ⟨h0, h1⟩ := index2 ⟨_, hN⟩
    show i ∈ ((View.whole main_v0).slice (win0_2.rect ⟨_, hN⟩)).set
    rw [View.set_slice_whole, Rect.mem_set_unit]
    intro a
    match a with
    | ⟨0, _⟩ => show win0_2.index ⟨_, hN⟩ 0 * 256 ≤ (i 0 : Nat) ∧ (i 0 : Nat) < win0_2.index ⟨_, hN⟩ 0 * 256 + 256
                rw [h0]; dsimp only; omega
    | ⟨1, _⟩ => show win0_2.index ⟨_, hN⟩ 1 * 16384 ≤ (i 1 : Nat) ∧ (i 1 : Nat) < win0_2.index ⟨_, hN⟩ 1 * 16384 + 16384
                rw [h1]; omega

/-- The run, read: the result at the result array. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v0) = gateArr m c
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c).1.trans final_o, (h c).2⟩) (Cert.RouteIdeal.Value.run_blocks m ρ)

end Cert.RouteIdeal.Rt

end
-- ==== Proof.RouteRef.lean ====
/-
  The route's reference read element by element: the gates summed over the chosen pairs naming an expert.
-/
module

public import proofs.«01_k».proof.Proof.Gen.RouteReferenceIdeal.Run
public import proofs.«01_k».proof.Proof.RouteMath
public import Idealize.ShloMosaic.Lib.Pointwise

@[expose] public section

set_option maxRecDepth 16384

noncomputable section

namespace Cert.RouteReferenceIdeal.Rt

open Cert.RouteReferenceIdeal Cert.RouteReferenceIdeal.Gen Cert.Keys
open Idealize.ShloMosaic Idealize.ShloMosaic.TcCoe Idealize.SL.Sem
open scoped BigOperators

/-- The reference's result. -/
def refArr (E : IVec S17408x128 32) (G : FVec Ideal S17408x128 .f32) : FVec Ideal S17408x16384 .bf16 :=
  truncf .bf16 (Host.reduceAdd (select (cmpi .eq (broadcastInDim S17408x128x16384 ![0, 1, 2] bcast_S17408x128x1_S17408x128x16384_0_1_2 (broadcastInDim S17408x128x1 ![0, 1] bcast_S17408x128_S17408x128x1_0_1 E)) (broadcastInDim S17408x128x16384 ![0, 1, 2] bcast_S1x1x16384_S17408x128x16384_0_1_2 (broadcastInDim S1x1x16384 ![2] bcast_S16384_S1x1x16384_2 (iotaInDim S16384 32 0)))) (broadcastInDim S17408x128x16384 ![0, 1, 2] bcast_S17408x128x1_S17408x128x16384_0_1_2 (broadcastInDim S17408x128x1 ![0, 1] bcast_S17408x128_S17408x128x1_0_1 G)) (broadcastInDim S17408x128x16384 ![] bcast_S_S17408x128x16384 (id (constant S_ .f32 0x00000000#32)))) (constant S_ .f32 0x00000000#32) reducesTo_S17408x128x16384_S17408x16384_d1 h_S_) bitsLt_bf16_f32

theorem refArr_at (E : IVec S17408x128 32) (G : FVec Ideal S17408x128 .f32) (t : Fin 17408) (n : Fin 16384) :
    refArr E G (ix2 t n) = gate (fun j => E (ix2 t j)) (fun j => G (ix2 t j)) n.val := by
  have e : refArr E G (ix2 t n) = ∑ j : Fin 128, (Scalar.select (IntOp.cmpi .eq (E (ix2 t j)) (BitVec.ofNat 32 n.val)) (G (ix2 t j)) 0 : EReal) := by
    unfold refArr
    simp only [id_eq]
    pointwise
  rw [e]
  unfold gate
  refine Finset.sum_congr rfl fun j _ => ?_
  rw [WordCmp.cmpi_eq_eq]
  by_cases h : E (ix2 t j) = BitVec.ofNat 32 n.val
  · rw [if_pos h, decide_eq_true h]; rfl
  · rw [if_neg h, decide_eq_false h]; rfl

end Cert.RouteReferenceIdeal.Rt

end
-- ==== Proof.lean ====
/-
  The proof of the certificate's claim: for each of five calls, the frames of the kernel, its idealization and the
  reference, and the equality of the idealized kernel's result with the idealized reference's.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.Hidden
public import proofs.«01_k».proof.Proof.Gen.Hidden.Skeleton
public import proofs.«01_k».proof.Proof.Gen.Hidden.Launch
public import proofs.«01_k».proof.Proof.Gen.Hidden.Points
public import proofs.«01_k».proof.Proof.Gen.Hidden.Frame
public import proofs.«01_k».proof.Proof.Gen.HiddenIdeal
public import proofs.«01_k».proof.Proof.Gen.HiddenIdeal.Skeleton
public import proofs.«01_k».proof.Proof.Gen.HiddenIdeal.Launch
public import proofs.«01_k».proof.Proof.Gen.HiddenIdeal.Points
public import proofs.«01_k».proof.Proof.Gen.HiddenIdeal.Frame
public import proofs.«01_k».proof.Proof.Gen.HiddenIdeal.Value
public import proofs.«01_k».proof.Proof.Gen.HiddenReferenceIdeal
public import proofs.«01_k».proof.Proof.Gen.HiddenReferenceIdeal.Run
public import proofs.«01_k».proof.Proof.Gen.Final
public import proofs.«01_k».proof.Proof.Gen.Final.Skeleton
public import proofs.«01_k».proof.Proof.Gen.Final.Launch
public import proofs.«01_k».proof.Proof.Gen.Final.Points
public import proofs.«01_k».proof.Proof.Gen.Final.Frame
public import proofs.«01_k».proof.Proof.Gen.FinalIdeal
public import proofs.«01_k».proof.Proof.Gen.FinalIdeal.Skeleton
public import proofs.«01_k».proof.Proof.Gen.FinalIdeal.Launch
public import proofs.«01_k».proof.Proof.Gen.FinalIdeal.Points
public import proofs.«01_k».proof.Proof.Gen.FinalIdeal.Frame
public import proofs.«01_k».proof.Proof.Gen.FinalIdeal.Value
public import proofs.«01_k».proof.Proof.Gen.FinalReferenceIdeal
public import proofs.«01_k».proof.Proof.Gen.FinalReferenceIdeal.Run
public import proofs.«01_k».proof.Proof.Gen.Experts
public import proofs.«01_k».proof.Proof.Gen.Experts.Skeleton
public import proofs.«01_k».proof.Proof.Gen.Experts.Launch
public import proofs.«01_k».proof.Proof.Gen.Experts.Points
public import proofs.«01_k».proof.Proof.Gen.Experts.Frame
public import proofs.«01_k».proof.Proof.Gen.ExpertsIdeal
public import proofs.«01_k».proof.Proof.Gen.ExpertsIdeal.Skeleton
public import proofs.«01_k».proof.Proof.Gen.ExpertsIdeal.Launch
public import proofs.«01_k».proof.Proof.Gen.ExpertsIdeal.Points
public import proofs.«01_k».proof.Proof.Gen.ExpertsIdeal.Frame
public import proofs.«01_k».proof.Proof.Gen.ExpertsIdeal.Value
public import proofs.«01_k».proof.Proof.Gen.ExpertsReferenceIdeal
public import proofs.«01_k».proof.Proof.Gen.ExpertsReferenceIdeal.Run
public import proofs.«01_k».proof.Proof.Gen.Select
public import proofs.«01_k».proof.Proof.Gen.Select.Skeleton
public import proofs.«01_k».proof.Proof.Gen.Select.Launch
public import proofs.«01_k».proof.Proof.Gen.Select.Points
public import proofs.«01_k».proof.Proof.Gen.Select.Frame
public import proofs.«01_k».proof.Proof.Gen.SelectIdeal
public import proofs.«01_k».proof.Proof.Gen.SelectIdeal.Skeleton
public import proofs.«01_k».proof.Proof.Gen.SelectIdeal.Launch
public import proofs.«01_k».proof.Proof.Gen.SelectIdeal.Points
public import proofs.«01_k».proof.Proof.Gen.SelectIdeal.Frame
public import proofs.«01_k».proof.Proof.Gen.SelectIdeal.Value
public import proofs.«01_k».proof.Proof.Gen.SelectReferenceIdeal
public import proofs.«01_k».proof.Proof.Gen.SelectReferenceIdeal.Run
public import proofs.«01_k».proof.Proof.Gen.Route
public import proofs.«01_k».proof.Proof.Gen.Route.Skeleton
public import proofs.«01_k».proof.Proof.Gen.Route.Launch
public import proofs.«01_k».proof.Proof.Gen.Route.Points
public import proofs.«01_k».proof.Proof.Gen.Route.Frame
public import proofs.«01_k».proof.Proof.Gen.RouteIdeal
public import proofs.«01_k».proof.Proof.Gen.RouteIdeal.Skeleton
public import proofs.«01_k».proof.Proof.Gen.RouteIdeal.Launch
public import proofs.«01_k».proof.Proof.Gen.RouteIdeal.Points
public import proofs.«01_k».proof.Proof.Gen.RouteIdeal.Frame
public import proofs.«01_k».proof.Proof.Gen.RouteIdeal.Value
public import proofs.«01_k».proof.Proof.Gen.RouteReferenceIdeal
public import proofs.«01_k».proof.Proof.Gen.RouteReferenceIdeal.Run
public import proofs.«01_k».proof.Proof.Gen.Pre_finite3
public import proofs.«01_k».proof.Proof.Gen.Pre_finite
public import proofs.«01_k».proof.Proof.Bits
public import proofs.«01_k».proof.Proof.Value
public import proofs.«01_k».proof.Proof.RefValue
public import proofs.«01_k».proof.Proof.Pre
public import proofs.«01_k».proof.Proof.HidValue
public import proofs.«01_k».proof.Proof.HidRef
public import proofs.«01_k».proof.Proof.FinalValue
public import proofs.«01_k».proof.Proof.FinalRef
public import proofs.«01_k».proof.Proof.ExpValue
public import proofs.«01_k».proof.Proof.ExpRef
public import proofs.«01_k».proof.Proof.SelValue
public import proofs.«01_k».proof.Proof.SelRef
public import proofs.«01_k».proof.Proof.SelPre
public import proofs.«01_k».proof.Proof.RouteValue
public import proofs.«01_k».proof.Proof.RouteRef
public import Idealize.ShloMosaic.Lib.Quiescent
public import Idealize.ShloMosaic.Adequacy
public import Idealize.ShloMosaic.Init

@[expose] public section

noncomputable section

namespace Cert.Proof

open Idealize.ShloMosaic Idealize.SL.Sem Idealize.ShloMosaic.TcCoe

/-- The reference ends with its arguments unchanged and every counter at zero (it has no counter). -/
theorem frame_reference (m : (ℓ : Loc Cert.ReferenceIdeal.nD Cert.ReferenceIdeal.τ Cert.ReferenceIdeal.sig) → Buf (Elt Ideal) ℓ)
    (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0) :=
  (θ_run _ _ _).mono (fun _ h => ⟨fun c => (h c).2, sem_eq_zero_of_no_sems rfl _⟩) (Cert.ReferenceIdeal.Value.run m g)

/-- For real arguments that agree, the kernel's result array is the reference's: both hold the differential attention. -/
theorem results_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD)
    (h0 : Cert.ReferenceIdeal.Value.rQ m' c = Cert.KernelIdeal.Diff.aQ m c) (h1 : Cert.ReferenceIdeal.Value.rK m' c = Cert.KernelIdeal.Diff.aK m c)
    (h2 : Cert.ReferenceIdeal.Value.rV m' c = Cert.KernelIdeal.Diff.aV m c) (h3 : Cert.ReferenceIdeal.Value.rL m' c = Cert.KernelIdeal.Diff.aL m c)
    (hQ : Soft.Real (Cert.KernelIdeal.Diff.aQ m c)) (hK : Soft.Real (Cert.KernelIdeal.Diff.aK m c))
    (hV : Soft.Real (Cert.KernelIdeal.Diff.aV m c)) (hL : Soft.Real (Cert.KernelIdeal.Diff.aL m c)) :
    Cert.ReferenceIdeal.Value.res m' c = Cert.KernelIdeal.Diff.outArr m c := by
  funext i
  obtain ⟨b, q, w, rfl⟩ : ∃ (b : Fin 2) (q : Fin 8192) (w : Fin 512), i = ix3 b q w := ⟨i 0, i 1, i 2, by funext a; match a with | ⟨0, _⟩ => rfl | ⟨1, _⟩ => rfl | ⟨2, _⟩ => rfl⟩
  have hw := w.isLt
  have e : w.val = (⟨w.val / 128, by omega⟩ : Fin 4).val * 128 + (⟨w.val % 128, Nat.mod_lt _ (by decide)⟩ : Fin 128).val := by
    dsimp only; omega
  rw [Cert.ReferenceIdeal.Value.res_attn (h0 ▸ hQ) (h1 ▸ hK) (h2 ▸ hV) (h3 ▸ hL) b q w _ _ e, h0, h1, h2, h3]
  exact (Cert.KernelIdeal.Diff.outArr_at hQ hK hV b _ q _ hL w e).symm

/-- The idealized kernel and the idealized reference, from real arguments that agree, end with equal results. -/
theorem equal : Cert.algebraic_KernelIdeal_ReferenceIdeal_pre_finite (hKernelIdeal := Cert.KernelIdeal.Gen.facts)
    (hReferenceIdeal := Cert.ReferenceIdeal.Gen.facts) (hPre_finite := Cert.Pre_finite.Gen.facts) := by
  intro m g m' g' hp ha
  refine ⟨fun c => Cert.KernelIdeal.Diff.outArr m c, Cert.KernelIdeal.Diff.run m g, ?_⟩
  refine (θ_run _ _ _).mono (fun _ h c => ⟨(h c).1.trans ?_, (h c).2⟩) (Cert.ReferenceIdeal.Value.run m' g')
  obtain ⟨hQ, hK, hV, hL⟩ := Cert.Pre_finite.Real.real_args _ _ _ _ (hp c)
  exact results_eq m m' c (ha c).1 (ha c).2.1 (ha c).2.2.1 (ha c).2.2.2 hQ hK hV hL

/-- The reference of the hidden products likewise ends with its arguments unchanged and every counter at zero. -/
theorem frame_hidden_reference (m : (ℓ : Loc Cert.HiddenReferenceIdeal.nD Cert.HiddenReferenceIdeal.τ Cert.HiddenReferenceIdeal.sig) → Buf (Elt Ideal) ℓ)
    (g : Dev Cert.HiddenReferenceIdeal.nD → PrngReg) :
    θ_run (Cert.HiddenReferenceIdeal.defs (F := Ideal)) (onTc (τ := Cert.HiddenReferenceIdeal.τ) (Cert.HiddenReferenceIdeal.main (F := Ideal))) ⟨m, fun _ => 0, g⟩ (fun r => (∀ c : Dev Cert.HiddenReferenceIdeal.nD,
      r.2.mem ((c.tc : Thread Cert.HiddenReferenceIdeal.nD Cert.HiddenReferenceIdeal.τ).loc Cert.HiddenReferenceIdeal.main_arg0) = m ((c.tc : Thread Cert.HiddenReferenceIdeal.nD Cert.HiddenReferenceIdeal.τ).loc Cert.HiddenReferenceIdeal.main_arg0)
      ∧ r.2.mem ((c.tc : Thread Cert.HiddenReferenceIdeal.nD Cert.HiddenReferenceIdeal.τ).loc Cert.HiddenReferenceIdeal.main_arg1) = m ((c.tc : Thread Cert.HiddenReferenceIdeal.nD Cert.HiddenReferenceIdeal.τ).loc Cert.HiddenReferenceIdeal.main_arg1))
      ∧ r.2.sem = fun _ => 0) :=
  (θ_run _ _ _).mono (fun _ h => ⟨fun c => (h c).2, sem_eq_zero_of_no_sems rfl _⟩) (Cert.HiddenReferenceIdeal.Value.run_both m g)

/-- The kernel's and the reference's arrays of hidden products agree, whatever the pages and weights. -/
theorem hidden_eq (m : (ℓ : Loc Cert.HiddenIdeal.nD Cert.HiddenIdeal.τ Cert.HiddenIdeal.sig) → Buf (Elt Ideal) ℓ) (c : Dev Cert.HiddenIdeal.nD)
    (C : FVec Ideal Cert.Hid.SC .f32) (W : FVec Ideal Cert.Hid.SW .f32) (h0 : C = Cert.HiddenIdeal.Hid.aC m c) (h1 : W = Cert.HiddenIdeal.Hid.aW m c) :
    Cert.HiddenReferenceIdeal.Value.bothA C W = Cert.HiddenIdeal.Hid.hidArr m c := by
  subst h0 h1
  funext i
  obtain ⟨r, w, rfl⟩ : ∃ (r : Fin 81920) (w : Fin 512), i = ix2 r w := ⟨i 0, i 1, by funext a; match a with | ⟨0, _⟩ => rfl | ⟨1, _⟩ => rfl⟩
  have hr : r.val = (⟨r.val / 8, by omega⟩ : Fin 10240).val * 8 + (⟨r.val % 8, by omega⟩ : Fin 8).val := by dsimp only; omega
  have hw : w.val = (⟨w.val / 256, by omega⟩ : Fin 2).val * 256 + (⟨w.val % 256 / 128, by omega⟩ : Fin 2).val * 128 + (⟨w.val % 128, by omega⟩ : Fin 128).val := by
    dsimp only; omega
  rw [Cert.HiddenReferenceIdeal.Value.bothA_at _ _ _ _ _ _ _ r w hr hw]
  exact (Cert.HiddenIdeal.Hid.hidSum_at _ _ _ _ _ _ _ r w hr hw).symm

/-- The idealized kernel and the idealized reference of the hidden products, from arguments that agree, end with equal results. -/
theorem equal_hidden : Cert.algebraic_HiddenIdeal_HiddenReferenceIdeal (hHiddenIdeal := Cert.HiddenIdeal.Gen.facts)
    (hHiddenReferenceIdeal := Cert.HiddenReferenceIdeal.Gen.facts) := by
  intro m g m' g' _ ha
  refine ⟨fun c => Cert.HiddenIdeal.Hid.hidArr m c, Cert.HiddenIdeal.Hid.run m g, ?_⟩
  refine (θ_run _ _ _).mono (fun _ h c => ⟨(h c).1.trans ?_, (h c).2⟩) (Cert.HiddenReferenceIdeal.Value.run_both m' g')
  exact hidden_eq m c _ _ (ha c).1 (ha c).2

/-- The last norm's reference too ends with its arguments unchanged and every counter at zero. -/
theorem frame_final_reference (m : (ℓ : Loc Cert.FinalReferenceIdeal.nD Cert.FinalReferenceIdeal.τ Cert.FinalReferenceIdeal.sig) → Buf (Elt Ideal) ℓ)
    (g : Dev Cert.FinalReferenceIdeal.nD → PrngReg) :
    θ_run (Cert.FinalReferenceIdeal.defs (F := Ideal)) (onTc (τ := Cert.FinalReferenceIdeal.τ) (Cert.FinalReferenceIdeal.main (F := Ideal))) ⟨m, fun _ => 0, g⟩ (fun r => (∀ c : Dev Cert.FinalReferenceIdeal.nD,
      r.2.mem ((c.tc : Thread Cert.FinalReferenceIdeal.nD Cert.FinalReferenceIdeal.τ).loc Cert.FinalReferenceIdeal.main_arg0) = m ((c.tc : Thread Cert.FinalReferenceIdeal.nD Cert.FinalReferenceIdeal.τ).loc Cert.FinalReferenceIdeal.main_arg0)
      ∧ r.2.mem ((c.tc : Thread Cert.FinalReferenceIdeal.nD Cert.FinalReferenceIdeal.τ).loc Cert.FinalReferenceIdeal.main_arg1) = m ((c.tc : Thread Cert.FinalReferenceIdeal.nD Cert.FinalReferenceIdeal.τ).loc Cert.FinalReferenceIdeal.main_arg1)
      ∧ r.2.mem ((c.tc : Thread Cert.FinalReferenceIdeal.nD Cert.FinalReferenceIdeal.τ).loc Cert.FinalReferenceIdeal.main_arg2) = m ((c.tc : Thread Cert.FinalReferenceIdeal.nD Cert.FinalReferenceIdeal.τ).loc Cert.FinalReferenceIdeal.main_arg2))
      ∧ r.2.sem = fun _ => 0) :=
  (θ_run _ _ _).mono (fun _ h => ⟨fun c => (h c).2, sem_eq_zero_of_no_sems rfl _⟩) (Cert.FinalReferenceIdeal.Value.run_rows m g)

/-- The kernel's and the reference's normed rows agree, whatever the streams and gains. -/
theorem final_eq (m : (ℓ : Loc Cert.FinalIdeal.nD Cert.FinalIdeal.τ Cert.FinalIdeal.sig) → Buf (Elt Ideal) ℓ) (c : Dev Cert.FinalIdeal.nD)
    (H : FVec Ideal Cert.Final.SP .f32) (S : FVec Ideal Cert.Final.SS .f32) (G : FVec Ideal Cert.Final.SG .f32)
    (h0 : H = Cert.FinalIdeal.Norm.aH m c) (h1 : S = Cert.FinalIdeal.Norm.aS m c) (h2 : G = Cert.FinalIdeal.Norm.aG m c) :
    Cert.FinalReferenceIdeal.Value.rowsA H S G = Cert.FinalIdeal.Norm.normArr m c := by
  subst h0 h1 h2
  funext i
  obtain ⟨r, j, rfl⟩ : ∃ (r : Fin 17408) (j : Fin 1024), i = ix2 r j := ⟨i 0, i 1, by funext a; match a with | ⟨0, _⟩ => rfl | ⟨1, _⟩ => rfl⟩
  exact Cert.FinalReferenceIdeal.Value.rowsA_at _ _ _ j r

/-- The idealized kernel and the idealized reference of the last norm, from arguments that agree, end with equal results. -/
theorem equal_final : Cert.algebraic_FinalIdeal_FinalReferenceIdeal (hFinalIdeal := Cert.FinalIdeal.Gen.facts)
    (hFinalReferenceIdeal := Cert.FinalReferenceIdeal.Gen.facts) := by
  intro m g m' g' _ ha
  refine ⟨fun c => Cert.FinalIdeal.Norm.normArr m c, Cert.FinalIdeal.Norm.run m g, ?_⟩
  refine (θ_run _ _ _).mono (fun _ h c => ⟨(h c).1.trans ?_, (h c).2⟩) (Cert.FinalReferenceIdeal.Value.run_rows m' g')
  exact final_eq m c _ _ _ (ha c).1 (ha c).2.1 (ha c).2.2

/-- The experts' reference too ends with its arguments unchanged and every counter at zero. -/
theorem frame_experts_reference (m : (ℓ : Loc Cert.ExpertsReferenceIdeal.nD Cert.ExpertsReferenceIdeal.τ Cert.ExpertsReferenceIdeal.sig) → Buf (Elt Ideal) ℓ)
    (g : Dev Cert.ExpertsReferenceIdeal.nD → PrngReg) :
    θ_run (Cert.ExpertsReferenceIdeal.defs (F := Ideal)) (onTc (τ := Cert.ExpertsReferenceIdeal.τ) (Cert.ExpertsReferenceIdeal.main (F := Ideal))) ⟨m, fun _ => 0, g⟩ (fun r => (∀ c : Dev Cert.ExpertsReferenceIdeal.nD,
      r.2.mem ((c.tc : Thread Cert.ExpertsReferenceIdeal.nD Cert.ExpertsReferenceIdeal.τ).loc Cert.ExpertsReferenceIdeal.main_arg0) = m ((c.tc : Thread Cert.ExpertsReferenceIdeal.nD Cert.ExpertsReferenceIdeal.τ).loc Cert.ExpertsReferenceIdeal.main_arg0)
      ∧ r.2.mem ((c.tc : Thread Cert.ExpertsReferenceIdeal.nD Cert.ExpertsReferenceIdeal.τ).loc Cert.ExpertsReferenceIdeal.main_arg1) = m ((c.tc : Thread Cert.ExpertsReferenceIdeal.nD Cert.ExpertsReferenceIdeal.τ).loc Cert.ExpertsReferenceIdeal.main_arg1)
      ∧ r.2.mem ((c.tc : Thread Cert.ExpertsReferenceIdeal.nD Cert.ExpertsReferenceIdeal.τ).loc Cert.ExpertsReferenceIdeal.main_arg2) = m ((c.tc : Thread Cert.ExpertsReferenceIdeal.nD Cert.ExpertsReferenceIdeal.τ).loc Cert.ExpertsReferenceIdeal.main_arg2)
      ∧ r.2.mem ((c.tc : Thread Cert.ExpertsReferenceIdeal.nD Cert.ExpertsReferenceIdeal.τ).loc Cert.ExpertsReferenceIdeal.main_arg3) = m ((c.tc : Thread Cert.ExpertsReferenceIdeal.nD Cert.ExpertsReferenceIdeal.τ).loc Cert.ExpertsReferenceIdeal.main_arg3))
      ∧ r.2.sem = fun _ => 0) :=
  (θ_run _ _ _).mono (fun _ h => ⟨fun c => (h c).2, sem_eq_zero_of_no_sems rfl _⟩) (Cert.ExpertsReferenceIdeal.Value.run_mix m g)

/-- The kernel's and the reference's sums over the experts agree, whatever the tokens, vectors and gates. -/
theorem experts_eq (m : (ℓ : Loc Cert.ExpertsIdeal.nD Cert.ExpertsIdeal.τ Cert.ExpertsIdeal.sig) → Buf (Elt Ideal) ℓ) (c : Dev Cert.ExpertsIdeal.nD)
    (X : FVec Ideal Cert.Exp.SX .f32) (U V : FVec Ideal Cert.Exp.SU .f32) (M : FVec Ideal Cert.Exp.SM .f32)
    (h0 : X = Cert.ExpertsIdeal.Mix.aX m c) (h1 : U = Cert.ExpertsIdeal.Mix.aU m c) (h2 : V = Cert.ExpertsIdeal.Mix.aV m c)
    (h3 : M = Cert.ExpertsIdeal.Mix.aM m c) :
    Cert.ExpertsReferenceIdeal.Value.mixA X U V M = Cert.ExpertsIdeal.Value.G4 m c := by
  subst h0 h1 h2 h3
  funext i
  obtain ⟨t, d, rfl⟩ : ∃ (t : Fin 17408) (d : Fin 1024), i = ix2 t d := ⟨i 0, i 1, by funext a; match a with | ⟨0, _⟩ => rfl | ⟨1, _⟩ => rfl⟩
  exact (Cert.ExpertsReferenceIdeal.Value.mixA_at _ _ _ _ t d).trans (Cert.ExpertsIdeal.Mix.out_at m c t d).symm

/-- The idealized kernel and the idealized reference of the experts, from arguments that agree, end with equal results. -/
theorem equal_experts : Cert.algebraic_ExpertsIdeal_ExpertsReferenceIdeal (hExpertsIdeal := Cert.ExpertsIdeal.Gen.facts)
    (hExpertsReferenceIdeal := Cert.ExpertsReferenceIdeal.Gen.facts) := by
  intro m g m' g' _ ha
  refine ⟨fun c => Cert.ExpertsIdeal.Value.G4 m c, Cert.ExpertsIdeal.Mix.run m g, ?_⟩
  refine (θ_run _ _ _).mono (fun _ h c => ⟨(h c).1.trans ?_, (h c).2⟩) (Cert.ExpertsReferenceIdeal.Value.run_mix m' g')
  exact experts_eq m c _ _ _ _ (ha c).1 (ha c).2.1 (ha c).2.2.1 (ha c).2.2.2

/-- The compressed branch's reference too ends with its arguments unchanged and every counter at zero. -/
theorem frame_select_reference (m : (ℓ : Loc Cert.SelectReferenceIdeal.nD Cert.SelectReferenceIdeal.τ Cert.SelectReferenceIdeal.sig) → Buf (Elt Ideal) ℓ)
    (g : Dev Cert.SelectReferenceIdeal.nD → PrngReg) :
    θ_run (Cert.SelectReferenceIdeal.defs (F := Ideal)) (onTc (τ := Cert.SelectReferenceIdeal.τ) (Cert.SelectReferenceIdeal.main (F := Ideal))) ⟨m, fun _ => 0, g⟩ (fun r => (∀ c : Dev Cert.SelectReferenceIdeal.nD,
      r.2.mem ((c.tc : Thread Cert.SelectReferenceIdeal.nD Cert.SelectReferenceIdeal.τ).loc Cert.SelectReferenceIdeal.main_arg0) = m ((c.tc : Thread Cert.SelectReferenceIdeal.nD Cert.SelectReferenceIdeal.τ).loc Cert.SelectReferenceIdeal.main_arg0)
      ∧ r.2.mem ((c.tc : Thread Cert.SelectReferenceIdeal.nD Cert.SelectReferenceIdeal.τ).loc Cert.SelectReferenceIdeal.main_arg1) = m ((c.tc : Thread Cert.SelectReferenceIdeal.nD Cert.SelectReferenceIdeal.τ).loc Cert.SelectReferenceIdeal.main_arg1)
      ∧ r.2.mem ((c.tc : Thread Cert.SelectReferenceIdeal.nD Cert.SelectReferenceIdeal.τ).loc Cert.SelectReferenceIdeal.main_arg2) = m ((c.tc : Thread Cert.SelectReferenceIdeal.nD Cert.SelectReferenceIdeal.τ).loc Cert.SelectReferenceIdeal.main_arg2))
      ∧ r.2.sem = fun _ => 0) :=
  (θ_run _ _ _).mono (fun _ h => ⟨fun c => (h c).2, sem_eq_zero_of_no_sems rfl _⟩) (Cert.SelectReferenceIdeal.Value.run m g)

/-- For arguments that agree, of real queries and keys, the kernel's result array is the reference's: both hold the attention over the
    compressed keys each query sees. -/
theorem select_eq (m : (ℓ : Loc Cert.SelectIdeal.nD Cert.SelectIdeal.τ Cert.SelectIdeal.sig) → Buf (Elt Ideal) ℓ)
    (m' : (ℓ : Loc Cert.SelectReferenceIdeal.nD Cert.SelectReferenceIdeal.τ Cert.SelectReferenceIdeal.sig) → Buf (Elt Ideal) ℓ)
    (c : Dev Cert.SelectIdeal.nD)
    (h0 : Cert.SelectReferenceIdeal.Sel.rQ m' c = Cert.SelectIdeal.Sel.aQ m c) (h1 : Cert.SelectReferenceIdeal.Sel.rK m' c = Cert.SelectIdeal.Sel.aK m c)
    (h2 : Cert.SelectReferenceIdeal.Sel.rV m' c = Cert.SelectIdeal.Sel.aV m c)
    (hQ : Soft.Real (Cert.SelectIdeal.Sel.aQ m c)) (hK : Soft.Real (Cert.SelectIdeal.Sel.aK m c)) :
    Cert.SelectReferenceIdeal.Sel.res m' c = Cert.SelectIdeal.Sel.attnArr m c := by
  funext i
  obtain ⟨b, g, r, q, e, rfl⟩ : ∃ (b g : Fin 2) (r : Fin 4) (q : Fin 8192) (e : Fin 64), i = ix5 b g r q e :=
    ⟨i 0, i 1, i 2, i 3, i 4, by funext a; match a with | ⟨0, _⟩ => rfl | ⟨1, _⟩ => rfl | ⟨2, _⟩ => rfl | ⟨3, _⟩ => rfl | ⟨4, _⟩ => rfl⟩
  rw [Cert.SelectReferenceIdeal.Sel.res_cattn (h0 ▸ hQ) (h1 ▸ hK) b g r q e, h0, h1, h2]
  rfl

/-- The idealized kernel and the idealized reference of the compressed branch, from arguments that agree, of real queries and keys, end with
    equal results. -/
theorem equal_select : Cert.algebraic_SelectIdeal_SelectReferenceIdeal_pre_finite3 (hSelectIdeal := Cert.SelectIdeal.Gen.facts)
    (hSelectReferenceIdeal := Cert.SelectReferenceIdeal.Gen.facts) (hPre_finite3 := Cert.Pre_finite3.Gen.facts) := by
  intro m g m' g' hp ha
  have hreal : ∀ c : Dev Cert.SelectIdeal.nD, Soft.Real (Cert.SelectIdeal.Sel.aQ m c) ∧ Soft.Real (Cert.SelectIdeal.Sel.aK m c) :=
    fun c => Cert.Pre_finite3.Real.real_args _ _ _ (hp c)
  refine ⟨fun c => Cert.SelectIdeal.Sel.attnArr m c, Cert.SelectIdeal.Sel.run m hreal g, ?_⟩
  refine (θ_run _ _ _).mono (fun _ h c => ⟨(h c).1.trans ?_, (h c).2⟩) (Cert.SelectReferenceIdeal.Value.run m' g')
  exact select_eq m m' c (ha c).1 (ha c).2.1 (ha c).2.2 (hreal c).1 (hreal c).2

/-- The route's reference too ends with its arguments unchanged and every counter at zero. -/
theorem frame_route_reference (m : (ℓ : Loc Cert.RouteReferenceIdeal.nD Cert.RouteReferenceIdeal.τ Cert.RouteReferenceIdeal.sig) → Buf (Elt Ideal) ℓ)
    (g : Dev Cert.RouteReferenceIdeal.nD → PrngReg) :
    θ_run (Cert.RouteReferenceIdeal.defs (F := Ideal)) (onTc (τ := Cert.RouteReferenceIdeal.τ) (Cert.RouteReferenceIdeal.main (F := Ideal))) ⟨m, fun _ => 0, g⟩ (fun r => (∀ c : Dev Cert.RouteReferenceIdeal.nD,
      r.2.mem ((c.tc : Thread Cert.RouteReferenceIdeal.nD Cert.RouteReferenceIdeal.τ).loc Cert.RouteReferenceIdeal.main_arg0) = m ((c.tc : Thread Cert.RouteReferenceIdeal.nD Cert.RouteReferenceIdeal.τ).loc Cert.RouteReferenceIdeal.main_arg0)
      ∧ r.2.mem ((c.tc : Thread Cert.RouteReferenceIdeal.nD Cert.RouteReferenceIdeal.τ).loc Cert.RouteReferenceIdeal.main_arg1) = m ((c.tc : Thread Cert.RouteReferenceIdeal.nD Cert.RouteReferenceIdeal.τ).loc Cert.RouteReferenceIdeal.main_arg1))
      ∧ r.2.sem = fun _ => 0) :=
  (θ_run _ _ _).mono (fun _ h => ⟨fun c => (h c).2, sem_eq_zero_of_no_sems rfl _⟩) (Cert.RouteReferenceIdeal.Value.run m g)

/-- The kernel's and the reference's gates agree, whatever the pairs' experts and gates. -/
theorem route_eq (m : (ℓ : Loc Cert.RouteIdeal.nD Cert.RouteIdeal.τ Cert.RouteIdeal.sig) → Buf (Elt Ideal) ℓ) (c : Dev Cert.RouteIdeal.nD)
    (E : IVec Cert.RouteIdeal.S17408x128 32) (G : FVec Ideal Cert.RouteIdeal.S17408x128 .f32)
    (h0 : E = Cert.RouteIdeal.Rt.aE m c) (h1 : G = Cert.RouteIdeal.Rt.aG m c) :
    Cert.RouteReferenceIdeal.Rt.refArr E G = Cert.RouteIdeal.Rt.gateArr m c := by
  subst h0 h1
  funext i
  obtain ⟨t, n, rfl⟩ : ∃ (t : Fin 17408) (n : Fin 16384), i = ix2 t n := ⟨i 0, i 1, by funext a; match a with | ⟨0, _⟩ => rfl | ⟨1, _⟩ => rfl⟩
  exact Cert.RouteReferenceIdeal.Rt.refArr_at _ _ t n

/-- The idealized kernel and the idealized reference of the route, from arguments that agree, end with equal results. -/
theorem equal_route : Cert.algebraic_RouteIdeal_RouteReferenceIdeal (hRouteIdeal := Cert.RouteIdeal.Gen.facts)
    (hRouteReferenceIdeal := Cert.RouteReferenceIdeal.Gen.facts) := by
  intro m g m' g' _ ha
  refine ⟨fun c => Cert.RouteIdeal.Rt.gateArr m c, Cert.RouteIdeal.Rt.run m g, ?_⟩
  refine (θ_run _ _ _).mono (fun _ h c => ⟨(h c).1.trans ?_, (h c).2⟩) (Cert.RouteReferenceIdeal.Value.run m' g')
  exact route_eq m c _ _ (ha c).1 (ha c).2

/-- Every claim of the certificate. -/
theorem claim : Cert.Claim :=
  ⟨Cert.Kernel.Gen.facts, Cert.KernelIdeal.Gen.facts, Cert.ReferenceIdeal.Gen.facts, Cert.Hidden.Gen.facts, Cert.HiddenIdeal.Gen.facts,
    Cert.HiddenReferenceIdeal.Gen.facts, Cert.Final.Gen.facts, Cert.FinalIdeal.Gen.facts, Cert.FinalReferenceIdeal.Gen.facts,
    Cert.Experts.Gen.facts, Cert.ExpertsIdeal.Gen.facts, Cert.ExpertsReferenceIdeal.Gen.facts,
    Cert.Select.Gen.facts, Cert.SelectIdeal.Gen.facts, Cert.SelectReferenceIdeal.Gen.facts,
    Cert.Route.Gen.facts, Cert.RouteIdeal.Gen.facts, Cert.RouteReferenceIdeal.Gen.facts, Cert.Pre_finite.Gen.facts, Cert.Pre_finite3.Gen.facts,
    Cert.Kernel.Diff.frame, fun m g _ => Cert.KernelIdeal.Diff.frame m g, fun m g _ => Cert.KernelIdeal.Diff.frame m g,
    fun m g _ => frame_reference m g, fun m g _ => frame_reference m g,
    fun m g _ => Cert.Hidden.Gen.frame m g, fun m g _ => Cert.HiddenIdeal.Gen.frame m g, fun m g _ => frame_hidden_reference m g,
    fun m g _ => Cert.Final.Gen.frame m g, fun m g _ => Cert.FinalIdeal.Gen.frame m g, fun m g _ => frame_final_reference m g,
    fun m g _ => Cert.Experts.Gen.frame m g, fun m g _ => Cert.ExpertsIdeal.Gen.frame m g, fun m g _ => frame_experts_reference m g,
    fun m g _ => Cert.Select.Gen.frame m g, fun m g _ => Cert.SelectIdeal.Gen.frame m g, fun m g _ => Cert.SelectIdeal.Gen.frame m g,
    fun m g _ => frame_select_reference m g, fun m g _ => frame_select_reference m g,
    fun m g _ => Cert.Route.Gen.frame m g, fun m g _ => Cert.RouteIdeal.Gen.frame m g, fun m g _ => frame_route_reference m g,
    trivial, equal, trivial, equal_hidden, trivial, equal_final, trivial, equal_experts, trivial, equal_select,
    trivial, equal_route⟩

end Cert.Proof

end
